-- ==== Defs.lean ====
def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossRefIdeal (m : (ℓ : Loc Cert.OutLossRefIdeal.nD Cert.OutLossRefIdeal.τ Cert.OutLossRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attn [hPre_finite_attn : Cert.Pre_finite_attn.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attn.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_finite_attn.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.1 = (fun _ => 1#1)
    ∧ (Cert.Pre_finite_attn.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attn [hPre_finite_attn : Cert.Pre_finite_attn.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attn.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_finite_attn.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.1 = (fun _ => 1#1)
    ∧ (Cert.Pre_finite_attn.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2 = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_finite_bwd [hPre_finite_bwd : Cert.Pre_finite_bwd.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.2.2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.2.2.2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.2.2.2.2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.2.2.2.2.2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.2.2.2.2.2.2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.2.2.2.2.2.2.2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.2.2.2.2.2.2.2.2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.2.2.2.2.2.2.2.2.2.2.1 = (fun _ => 1#1)
    ∧ (Cert.Pre_finite_bwd.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12)) (m ((c.tc : Thread Cert.BwdInIdeal.nD Cert.BwdInIdeal.τ).loc Cert.BwdInIdeal.main_arg13)) (m ((c.tc : Thread Cert.BwdInIdeal.nD Cert.BwdInIdeal.τ).loc Cert.BwdInIdeal.main_arg14)) (m ((c.tc : Thread Cert.BwdInIdeal.nD Cert.BwdInIdeal.τ).loc Cert.BwdInIdeal.main_arg15)) (m ((c.tc : Thread Cert.BwdInIdeal.nD Cert.BwdInIdeal.τ).loc Cert.BwdInIdeal.main_arg16))).2.2.2.2.2.2.2.2.2.2.2.2.2.2 = (fun _ => 1#1)

def Pre_BwdInRefIdeal (m : (ℓ : Loc Cert.BwdInRefIdeal.nD Cert.BwdInRefIdeal.τ Cert.BwdInRefIdeal.sig) → Buf (Elt Ideal) ℓ) : Prop :=
  True

def Pre_BwdInRefIdeal_finite_bwd [hPre_finite_bwd : Cert.Pre_finite_bwd.Facts] (m : (ℓ : Loc Cert.BwdInRefIdeal.nD Cert.BwdInRefIdeal.τ Cert.BwdInRefIdeal.sig) → Buf (Elt Ideal) ℓ) : Prop :=
  ∀ c : Dev Cert.BwdInRefIdeal.nD,
    (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.2.2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.2.2.2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.2.2.2.2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.2.2.2.2.2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.2.2.2.2.2.2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.2.2.2.2.2.2.2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.2.2.2.2.2.2.2.2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.2.2.2.2.2.2.2.2.2.2.1 = (fun _ => 1#1)
    ∧ (Cert.Pre_finite_bwd.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12)) (m ((c.tc : Thread Cert.BwdInRefIdeal.nD Cert.BwdInRefIdeal.τ).loc Cert.BwdInRefIdeal.main_arg13)) (m ((c.tc : Thread Cert.BwdInRefIdeal.nD Cert.BwdInRefIdeal.τ).loc Cert.BwdInRefIdeal.main_arg14)) (m ((c.tc : Thread Cert.BwdInRefIdeal.nD Cert.BwdInRefIdeal.τ).loc Cert.BwdInRefIdeal.main_arg15)) (m ((c.tc : Thread Cert.BwdInRefIdeal.nD Cert.BwdInRefIdeal.τ).loc Cert.BwdInRefIdeal.main_arg16))).2.2.2.2.2.2.2.2.2.2.2.2.2.2 = (fun _ => 1#1)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4)
      ∧ r.2.mem ((c.tc : Thread Cert.OutLoss.nD Cert.OutLoss.τ).loc Cert.OutLoss.main_arg5) = m ((c.tc : Thread Cert.OutLoss.nD Cert.OutLoss.τ).loc Cert.OutLoss.main_arg5)
      ∧ r.2.mem ((c.tc : Thread Cert.OutLoss.nD Cert.OutLoss.τ).loc Cert.OutLoss.main_arg6) = m ((c.tc : Thread Cert.OutLoss.nD Cert.OutLoss.τ).loc Cert.OutLoss.main_arg6))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
      ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5)
      ∧ r.2.mem ((c.tc : Thread Cert.OutLossIdeal.nD Cert.OutLossIdeal.τ).loc Cert.OutLossIdeal.main_arg6) = m ((c.tc : Thread Cert.OutLossIdeal.nD Cert.OutLossIdeal.τ).loc Cert.OutLossIdeal.main_arg6))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4)
      ∧ r.2.mem ((c.tc : Thread Cert.OutLossRefIdeal.nD Cert.OutLossRefIdeal.τ).loc Cert.OutLossRefIdeal.main_arg5) = m ((c.tc : Thread Cert.OutLossRefIdeal.nD Cert.OutLossRefIdeal.τ).loc Cert.OutLossRefIdeal.main_arg5)
      ∧ r.2.mem ((c.tc : Thread Cert.OutLossRefIdeal.nD Cert.OutLossRefIdeal.τ).loc Cert.OutLossRefIdeal.main_arg6) = m ((c.tc : Thread Cert.OutLossRefIdeal.nD Cert.OutLossRefIdeal.τ).loc Cert.OutLossRefIdeal.main_arg6))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_attn [hAttnFwdIdeal : Cert.AttnFwdIdeal.Facts] [hPre_finite_attn : Cert.Pre_finite_attn.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attn m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite_attn [hAttnFwdRefIdeal : Cert.AttnFwdRefIdeal.Facts] [hPre_finite_attn : Cert.Pre_finite_attn.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attn m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4)
      ∧ r.2.mem ((c.tc : Thread Cert.ConvFwd.nD Cert.ConvFwd.τ).loc Cert.ConvFwd.main_arg5) = m ((c.tc : Thread Cert.ConvFwd.nD Cert.ConvFwd.τ).loc Cert.ConvFwd.main_arg5))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
      ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4)
      ∧ r.2.mem ((c.tc : Thread Cert.ConvFwdRefIdeal.nD Cert.ConvFwdRefIdeal.τ).loc Cert.ConvFwdRefIdeal.main_arg5) = m ((c.tc : Thread Cert.ConvFwdRefIdeal.nD Cert.ConvFwdRefIdeal.τ).loc Cert.ConvFwdRefIdeal.main_arg5))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11)
      ∧ r.2.mem ((c.tc : Thread Cert.Adam.nD Cert.Adam.τ).loc Cert.Adam.main_arg12) = m ((c.tc : Thread Cert.Adam.nD Cert.Adam.τ).loc Cert.Adam.main_arg12)
      ∧ r.2.mem ((c.tc : Thread Cert.Adam.nD Cert.Adam.τ).loc Cert.Adam.main_arg13) = m ((c.tc : Thread Cert.Adam.nD Cert.Adam.τ).loc Cert.Adam.main_arg13)
      ∧ r.2.mem ((c.tc : Thread Cert.Adam.nD Cert.Adam.τ).loc Cert.Adam.main_arg14) = m ((c.tc : Thread Cert.Adam.nD Cert.Adam.τ).loc Cert.Adam.main_arg14)
      ∧ r.2.mem ((c.tc : Thread Cert.Adam.nD Cert.Adam.τ).loc Cert.Adam.main_arg15) = m ((c.tc : Thread Cert.Adam.nD Cert.Adam.τ).loc Cert.Adam.main_arg15)
      ∧ r.2.mem ((c.tc : Thread Cert.Adam.nD Cert.Adam.τ).loc Cert.Adam.main_arg16) = m ((c.tc : Thread Cert.Adam.nD Cert.Adam.τ).loc Cert.Adam.main_arg16)
      ∧ r.2.mem ((c.tc : Thread Cert.Adam.nD Cert.Adam.τ).loc Cert.Adam.main_arg17) = m ((c.tc : Thread Cert.Adam.nD Cert.Adam.τ).loc Cert.Adam.main_arg17)
      ∧ r.2.mem ((c.tc : Thread Cert.Adam.nD Cert.Adam.τ).loc Cert.Adam.main_arg18) = m ((c.tc : Thread Cert.Adam.nD Cert.Adam.τ).loc Cert.Adam.main_arg18)
      ∧ r.2.mem ((c.tc : Thread Cert.Adam.nD Cert.Adam.τ).loc Cert.Adam.main_arg19) = m ((c.tc : Thread Cert.Adam.nD Cert.Adam.τ).loc Cert.Adam.main_arg19)
      ∧ r.2.mem ((c.tc : Thread Cert.Adam.nD Cert.Adam.τ).loc Cert.Adam.main_arg20) = m ((c.tc : Thread Cert.Adam.nD Cert.Adam.τ).loc Cert.Adam.main_arg20)
      ∧ r.2.mem ((c.tc : Thread Cert.Adam.nD Cert.Adam.τ).loc Cert.Adam.main_arg21) = m ((c.tc : Thread Cert.Adam.nD Cert.Adam.τ).loc Cert.Adam.main_arg21)
      ∧ r.2.mem ((c.tc : Thread Cert.Adam.nD Cert.Adam.τ).loc Cert.Adam.main_arg22) = m ((c.tc : Thread Cert.Adam.nD Cert.Adam.τ).loc Cert.Adam.main_arg22)
      ∧ r.2.mem ((c.tc : Thread Cert.Adam.nD Cert.Adam.τ).loc Cert.Adam.main_arg23) = m ((c.tc : Thread Cert.Adam.nD Cert.Adam.τ).loc Cert.Adam.main_arg23)
      ∧ r.2.mem ((c.tc : Thread Cert.Adam.nD Cert.Adam.τ).loc Cert.Adam.main_arg24) = m ((c.tc : Thread Cert.Adam.nD Cert.Adam.τ).loc Cert.Adam.main_arg24)
      ∧ r.2.mem ((c.tc : Thread Cert.Adam.nD Cert.Adam.τ).loc Cert.Adam.main_arg25) = m ((c.tc : Thread Cert.Adam.nD Cert.Adam.τ).loc Cert.Adam.main_arg25)
      ∧ r.2.mem ((c.tc : Thread Cert.Adam.nD Cert.Adam.τ).loc Cert.Adam.main_arg26) = m ((c.tc : Thread Cert.Adam.nD Cert.Adam.τ).loc Cert.Adam.main_arg26)
      ∧ r.2.mem ((c.tc : Thread Cert.Adam.nD Cert.Adam.τ).loc Cert.Adam.main_arg27) = m ((c.tc : Thread Cert.Adam.nD Cert.Adam.τ).loc Cert.Adam.main_arg27)
      ∧ r.2.mem ((c.tc : Thread Cert.Adam.nD Cert.Adam.τ).loc Cert.Adam.main_arg28) = m ((c.tc : Thread Cert.Adam.nD Cert.Adam.τ).loc Cert.Adam.main_arg28)
      ∧ r.2.mem ((c.tc : Thread Cert.Adam.nD Cert.Adam.τ).loc Cert.Adam.main_arg29) = m ((c.tc : Thread Cert.Adam.nD Cert.Adam.τ).loc Cert.Adam.main_arg29)
      ∧ r.2.mem ((c.tc : Thread Cert.Adam.nD Cert.Adam.τ).loc Cert.Adam.main_arg30) = m ((c.tc : Thread Cert.Adam.nD Cert.Adam.τ).loc Cert.Adam.main_arg30)
      ∧ r.2.mem ((c.tc : Thread Cert.Adam.nD Cert.Adam.τ).loc Cert.Adam.main_arg31) = m ((c.tc : Thread Cert.Adam.nD Cert.Adam.τ).loc Cert.Adam.main_arg31)
      ∧ r.2.mem ((c.tc : Thread Cert.Adam.nD Cert.Adam.τ).loc Cert.Adam.main_arg32) = m ((c.tc : Thread Cert.Adam.nD Cert.Adam.τ).loc Cert.Adam.main_arg32)
      ∧ r.2.mem ((c.tc : Thread Cert.Adam.nD Cert.Adam.τ).loc Cert.Adam.main_arg33) = m ((c.tc : Thread Cert.Adam.nD Cert.Adam.τ).loc Cert.Adam.main_arg33)
      ∧ r.2.mem ((c.tc : Thread Cert.Adam.nD Cert.Adam.τ).loc Cert.Adam.main_arg34) = m ((c.tc : Thread Cert.Adam.nD Cert.Adam.τ).loc Cert.Adam.main_arg34)
      ∧ r.2.mem ((c.tc : Thread Cert.Adam.nD Cert.Adam.τ).loc Cert.Adam.main_arg35) = m ((c.tc : Thread Cert.Adam.nD Cert.Adam.τ).loc Cert.Adam.main_arg35)
      ∧ r.2.mem ((c.tc : Thread Cert.Adam.nD Cert.Adam.τ).loc Cert.Adam.main_arg36) = m ((c.tc : Thread Cert.Adam.nD Cert.Adam.τ).loc Cert.Adam.main_arg36)
      ∧ r.2.mem ((c.tc : Thread Cert.Adam.nD Cert.Adam.τ).loc Cert.Adam.main_arg37) = m ((c.tc : Thread Cert.Adam.nD Cert.Adam.τ).loc Cert.Adam.main_arg37)
      ∧ r.2.mem ((c.tc : Thread Cert.Adam.nD Cert.Adam.τ).loc Cert.Adam.main_arg38) = m ((c.tc : Thread Cert.Adam.nD Cert.Adam.τ).loc Cert.Adam.main_arg38)
      ∧ r.2.mem ((c.tc : Thread Cert.Adam.nD Cert.Adam.τ).loc Cert.Adam.main_arg39) = m ((c.tc : Thread Cert.Adam.nD Cert.Adam.τ).loc Cert.Adam.main_arg39)
      ∧ r.2.mem ((c.tc : Thread Cert.Adam.nD Cert.Adam.τ).loc Cert.Adam.main_arg40) = m ((c.tc : Thread Cert.Adam.nD Cert.Adam.τ).loc Cert.Adam.main_arg40)
      ∧ r.2.mem ((c.tc : Thread Cert.Adam.nD Cert.Adam.τ).loc Cert.Adam.main_arg41) = m ((c.tc : Thread Cert.Adam.nD Cert.Adam.τ).loc Cert.Adam.main_arg41)
      ∧ r.2.mem ((c.tc : Thread Cert.Adam.nD Cert.Adam.τ).loc Cert.Adam.main_arg42) = m ((c.tc : Thread Cert.Adam.nD Cert.Adam.τ).loc Cert.Adam.main_arg42)
      ∧ r.2.mem ((c.tc : Thread Cert.Adam.nD Cert.Adam.τ).loc Cert.Adam.main_arg43) = m ((c.tc : Thread Cert.Adam.nD Cert.Adam.τ).loc Cert.Adam.main_arg43)
      ∧ r.2.mem ((c.tc : Thread Cert.Adam.nD Cert.Adam.τ).loc Cert.Adam.main_arg44) = m ((c.tc : Thread Cert.Adam.nD Cert.Adam.τ).loc Cert.Adam.main_arg44)
      ∧ r.2.mem ((c.tc : Thread Cert.Adam.nD Cert.Adam.τ).loc Cert.Adam.main_arg45) = m ((c.tc : Thread Cert.Adam.nD Cert.Adam.τ).loc Cert.Adam.main_arg45)
      ∧ r.2.mem ((c.tc : Thread Cert.Adam.nD Cert.Adam.τ).loc Cert.Adam.main_arg46) = m ((c.tc : Thread Cert.Adam.nD Cert.Adam.τ).loc Cert.Adam.main_arg46)
      ∧ r.2.mem ((c.tc : Thread Cert.Adam.nD Cert.Adam.τ).loc Cert.Adam.main_arg47) = m ((c.tc : Thread Cert.Adam.nD Cert.Adam.τ).loc Cert.Adam.main_arg47))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
      ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
      ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
      ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
      ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
      ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
      ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
      ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
      ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
      ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
      ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
      ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
      ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
      ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
      ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
      ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
      ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27)
      ∧ r.2.mem ((c.tc : Thread Cert.AdamIdeal.nD Cert.AdamIdeal.τ).loc Cert.AdamIdeal.main_arg28) = m ((c.tc : Thread Cert.AdamIdeal.nD Cert.AdamIdeal.τ).loc Cert.AdamIdeal.main_arg28)
      ∧ r.2.mem ((c.tc : Thread Cert.AdamIdeal.nD Cert.AdamIdeal.τ).loc Cert.AdamIdeal.main_arg29) = m ((c.tc : Thread Cert.AdamIdeal.nD Cert.AdamIdeal.τ).loc Cert.AdamIdeal.main_arg29)
      ∧ r.2.mem ((c.tc : Thread Cert.AdamIdeal.nD Cert.AdamIdeal.τ).loc Cert.AdamIdeal.main_arg30) = m ((c.tc : Thread Cert.AdamIdeal.nD Cert.AdamIdeal.τ).loc Cert.AdamIdeal.main_arg30)
      ∧ r.2.mem ((c.tc : Thread Cert.AdamIdeal.nD Cert.AdamIdeal.τ).loc Cert.AdamIdeal.main_arg31) = m ((c.tc : Thread Cert.AdamIdeal.nD Cert.AdamIdeal.τ).loc Cert.AdamIdeal.main_arg31)
      ∧ r.2.mem ((c.tc : Thread Cert.AdamIdeal.nD Cert.AdamIdeal.τ).loc Cert.AdamIdeal.main_arg32) = m ((c.tc : Thread Cert.AdamIdeal.nD Cert.AdamIdeal.τ).loc Cert.AdamIdeal.main_arg32)
      ∧ r.2.mem ((c.tc : Thread Cert.AdamIdeal.nD Cert.AdamIdeal.τ).loc Cert.AdamIdeal.main_arg33) = m ((c.tc : Thread Cert.AdamIdeal.nD Cert.AdamIdeal.τ).loc Cert.AdamIdeal.main_arg33)
      ∧ r.2.mem ((c.tc : Thread Cert.AdamIdeal.nD Cert.AdamIdeal.τ).loc Cert.AdamIdeal.main_arg34) = m ((c.tc : Thread Cert.AdamIdeal.nD Cert.AdamIdeal.τ).loc Cert.AdamIdeal.main_arg34)
      ∧ r.2.mem ((c.tc : Thread Cert.AdamIdeal.nD Cert.AdamIdeal.τ).loc Cert.AdamIdeal.main_arg35) = m ((c.tc : Thread Cert.AdamIdeal.nD Cert.AdamIdeal.τ).loc Cert.AdamIdeal.main_arg35)
      ∧ r.2.mem ((c.tc : Thread Cert.AdamIdeal.nD Cert.AdamIdeal.τ).loc Cert.AdamIdeal.main_arg36) = m ((c.tc : Thread Cert.AdamIdeal.nD Cert.AdamIdeal.τ).loc Cert.AdamIdeal.main_arg36)
      ∧ r.2.mem ((c.tc : Thread Cert.AdamIdeal.nD Cert.AdamIdeal.τ).loc Cert.AdamIdeal.main_arg37) = m ((c.tc : Thread Cert.AdamIdeal.nD Cert.AdamIdeal.τ).loc Cert.AdamIdeal.main_arg37)
      ∧ r.2.mem ((c.tc : Thread Cert.AdamIdeal.nD Cert.AdamIdeal.τ).loc Cert.AdamIdeal.main_arg38) = m ((c.tc : Thread Cert.AdamIdeal.nD Cert.AdamIdeal.τ).loc Cert.AdamIdeal.main_arg38)
      ∧ r.2.mem ((c.tc : Thread Cert.AdamIdeal.nD Cert.AdamIdeal.τ).loc Cert.AdamIdeal.main_arg39) = m ((c.tc : Thread Cert.AdamIdeal.nD Cert.AdamIdeal.τ).loc Cert.AdamIdeal.main_arg39)
      ∧ r.2.mem ((c.tc : Thread Cert.AdamIdeal.nD Cert.AdamIdeal.τ).loc Cert.AdamIdeal.main_arg40) = m ((c.tc : Thread Cert.AdamIdeal.nD Cert.AdamIdeal.τ).loc Cert.AdamIdeal.main_arg40)
      ∧ r.2.mem ((c.tc : Thread Cert.AdamIdeal.nD Cert.AdamIdeal.τ).loc Cert.AdamIdeal.main_arg41) = m ((c.tc : Thread Cert.AdamIdeal.nD Cert.AdamIdeal.τ).loc Cert.AdamIdeal.main_arg41)
      ∧ r.2.mem ((c.tc : Thread Cert.AdamIdeal.nD Cert.AdamIdeal.τ).loc Cert.AdamIdeal.main_arg42) = m ((c.tc : Thread Cert.AdamIdeal.nD Cert.AdamIdeal.τ).loc Cert.AdamIdeal.main_arg42)
      ∧ r.2.mem ((c.tc : Thread Cert.AdamIdeal.nD Cert.AdamIdeal.τ).loc Cert.AdamIdeal.main_arg43) = m ((c.tc : Thread Cert.AdamIdeal.nD Cert.AdamIdeal.τ).loc Cert.AdamIdeal.main_arg43)
      ∧ r.2.mem ((c.tc : Thread Cert.AdamIdeal.nD Cert.AdamIdeal.τ).loc Cert.AdamIdeal.main_arg44) = m ((c.tc : Thread Cert.AdamIdeal.nD Cert.AdamIdeal.τ).loc Cert.AdamIdeal.main_arg44)
      ∧ r.2.mem ((c.tc : Thread Cert.AdamIdeal.nD Cert.AdamIdeal.τ).loc Cert.AdamIdeal.main_arg45) = m ((c.tc : Thread Cert.AdamIdeal.nD Cert.AdamIdeal.τ).loc Cert.AdamIdeal.main_arg45)
      ∧ r.2.mem ((c.tc : Thread Cert.AdamIdeal.nD Cert.AdamIdeal.τ).loc Cert.AdamIdeal.main_arg46) = m ((c.tc : Thread Cert.AdamIdeal.nD Cert.AdamIdeal.τ).loc Cert.AdamIdeal.main_arg46)
      ∧ r.2.mem ((c.tc : Thread Cert.AdamIdeal.nD Cert.AdamIdeal.τ).loc Cert.AdamIdeal.main_arg47) = m ((c.tc : Thread Cert.AdamIdeal.nD Cert.AdamIdeal.τ).loc Cert.AdamIdeal.main_arg47))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7)
      ∧ r.2.mem ((c.tc : Thread Cert.AdamRefIdeal.nD Cert.AdamRefIdeal.τ).loc Cert.AdamRefIdeal.main_arg8) = m ((c.tc : Thread Cert.AdamRefIdeal.nD Cert.AdamRefIdeal.τ).loc Cert.AdamRefIdeal.main_arg8)
      ∧ r.2.mem ((c.tc : Thread Cert.AdamRefIdeal.nD Cert.AdamRefIdeal.τ).loc Cert.AdamRefIdeal.main_arg9) = m ((c.tc : Thread Cert.AdamRefIdeal.nD Cert.AdamRefIdeal.τ).loc Cert.AdamRefIdeal.main_arg9)
      ∧ r.2.mem ((c.tc : Thread Cert.AdamRefIdeal.nD Cert.AdamRefIdeal.τ).loc Cert.AdamRefIdeal.main_arg10) = m ((c.tc : Thread Cert.AdamRefIdeal.nD Cert.AdamRefIdeal.τ).loc Cert.AdamRefIdeal.main_arg10)
      ∧ r.2.mem ((c.tc : Thread Cert.AdamRefIdeal.nD Cert.AdamRefIdeal.τ).loc Cert.AdamRefIdeal.main_arg11) = m ((c.tc : Thread Cert.AdamRefIdeal.nD Cert.AdamRefIdeal.τ).loc Cert.AdamRefIdeal.main_arg11)
      ∧ r.2.mem ((c.tc : Thread Cert.AdamRefIdeal.nD Cert.AdamRefIdeal.τ).loc Cert.AdamRefIdeal.main_arg12) = m ((c.tc : Thread Cert.AdamRefIdeal.nD Cert.AdamRefIdeal.τ).loc Cert.AdamRefIdeal.main_arg12)
      ∧ r.2.mem ((c.tc : Thread Cert.AdamRefIdeal.nD Cert.AdamRefIdeal.τ).loc Cert.AdamRefIdeal.main_arg13) = m ((c.tc : Thread Cert.AdamRefIdeal.nD Cert.AdamRefIdeal.τ).loc Cert.AdamRefIdeal.main_arg13)
      ∧ r.2.mem ((c.tc : Thread Cert.AdamRefIdeal.nD Cert.AdamRefIdeal.τ).loc Cert.AdamRefIdeal.main_arg14) = m ((c.tc : Thread Cert.AdamRefIdeal.nD Cert.AdamRefIdeal.τ).loc Cert.AdamRefIdeal.main_arg14)
      ∧ r.2.mem ((c.tc : Thread Cert.AdamRefIdeal.nD Cert.AdamRefIdeal.τ).loc Cert.AdamRefIdeal.main_arg15) = m ((c.tc : Thread Cert.AdamRefIdeal.nD Cert.AdamRefIdeal.τ).loc Cert.AdamRefIdeal.main_arg15)
      ∧ r.2.mem ((c.tc : Thread Cert.AdamRefIdeal.nD Cert.AdamRefIdeal.τ).loc Cert.AdamRefIdeal.main_arg16) = m ((c.tc : Thread Cert.AdamRefIdeal.nD Cert.AdamRefIdeal.τ).loc Cert.AdamRefIdeal.main_arg16)
      ∧ r.2.mem ((c.tc : Thread Cert.AdamRefIdeal.nD Cert.AdamRefIdeal.τ).loc Cert.AdamRefIdeal.main_arg17) = m ((c.tc : Thread Cert.AdamRefIdeal.nD Cert.AdamRefIdeal.τ).loc Cert.AdamRefIdeal.main_arg17)
      ∧ r.2.mem ((c.tc : Thread Cert.AdamRefIdeal.nD Cert.AdamRefIdeal.τ).loc Cert.AdamRefIdeal.main_arg18) = m ((c.tc : Thread Cert.AdamRefIdeal.nD Cert.AdamRefIdeal.τ).loc Cert.AdamRefIdeal.main_arg18)
      ∧ r.2.mem ((c.tc : Thread Cert.AdamRefIdeal.nD Cert.AdamRefIdeal.τ).loc Cert.AdamRefIdeal.main_arg19) = m ((c.tc : Thread Cert.AdamRefIdeal.nD Cert.AdamRefIdeal.τ).loc Cert.AdamRefIdeal.main_arg19)
      ∧ r.2.mem ((c.tc : Thread Cert.AdamRefIdeal.nD Cert.AdamRefIdeal.τ).loc Cert.AdamRefIdeal.main_arg20) = m ((c.tc : Thread Cert.AdamRefIdeal.nD Cert.AdamRefIdeal.τ).loc Cert.AdamRefIdeal.main_arg20)
      ∧ r.2.mem ((c.tc : Thread Cert.AdamRefIdeal.nD Cert.AdamRefIdeal.τ).loc Cert.AdamRefIdeal.main_arg21) = m ((c.tc : Thread Cert.AdamRefIdeal.nD Cert.AdamRefIdeal.τ).loc Cert.AdamRefIdeal.main_arg21)
      ∧ r.2.mem ((c.tc : Thread Cert.AdamRefIdeal.nD Cert.AdamRefIdeal.τ).loc Cert.AdamRefIdeal.main_arg22) = m ((c.tc : Thread Cert.AdamRefIdeal.nD Cert.AdamRefIdeal.τ).loc Cert.AdamRefIdeal.main_arg22)
      ∧ r.2.mem ((c.tc : Thread Cert.AdamRefIdeal.nD Cert.AdamRefIdeal.τ).loc Cert.AdamRefIdeal.main_arg23) = m ((c.tc : Thread Cert.AdamRefIdeal.nD Cert.AdamRefIdeal.τ).loc Cert.AdamRefIdeal.main_arg23)
      ∧ r.2.mem ((c.tc : Thread Cert.AdamRefIdeal.nD Cert.AdamRefIdeal.τ).loc Cert.AdamRefIdeal.main_arg24) = m ((c.tc : Thread Cert.AdamRefIdeal.nD Cert.AdamRefIdeal.τ).loc Cert.AdamRefIdeal.main_arg24)
      ∧ r.2.mem ((c.tc : Thread Cert.AdamRefIdeal.nD Cert.AdamRefIdeal.τ).loc Cert.AdamRefIdeal.main_arg25) = m ((c.tc : Thread Cert.AdamRefIdeal.nD Cert.AdamRefIdeal.τ).loc Cert.AdamRefIdeal.main_arg25)
      ∧ r.2.mem ((c.tc : Thread Cert.AdamRefIdeal.nD Cert.AdamRefIdeal.τ).loc Cert.AdamRefIdeal.main_arg26) = m ((c.tc : Thread Cert.AdamRefIdeal.nD Cert.AdamRefIdeal.τ).loc Cert.AdamRefIdeal.main_arg26)
      ∧ r.2.mem ((c.tc : Thread Cert.AdamRefIdeal.nD Cert.AdamRefIdeal.τ).loc Cert.AdamRefIdeal.main_arg27) = m ((c.tc : Thread Cert.AdamRefIdeal.nD Cert.AdamRefIdeal.τ).loc Cert.AdamRefIdeal.main_arg27)
      ∧ r.2.mem ((c.tc : Thread Cert.AdamRefIdeal.nD Cert.AdamRefIdeal.τ).loc Cert.AdamRefIdeal.main_arg28) = m ((c.tc : Thread Cert.AdamRefIdeal.nD Cert.AdamRefIdeal.τ).loc Cert.AdamRefIdeal.main_arg28)
      ∧ r.2.mem ((c.tc : Thread Cert.AdamRefIdeal.nD Cert.AdamRefIdeal.τ).loc Cert.AdamRefIdeal.main_arg29) = m ((c.tc : Thread Cert.AdamRefIdeal.nD Cert.AdamRefIdeal.τ).loc Cert.AdamRefIdeal.main_arg29)
      ∧ r.2.mem ((c.tc : Thread Cert.AdamRefIdeal.nD Cert.AdamRefIdeal.τ).loc Cert.AdamRefIdeal.main_arg30) = m ((c.tc : Thread Cert.AdamRefIdeal.nD Cert.AdamRefIdeal.τ).loc Cert.AdamRefIdeal.main_arg30)
      ∧ r.2.mem ((c.tc : Thread Cert.AdamRefIdeal.nD Cert.AdamRefIdeal.τ).loc Cert.AdamRefIdeal.main_arg31) = m ((c.tc : Thread Cert.AdamRefIdeal.nD Cert.AdamRefIdeal.τ).loc Cert.AdamRefIdeal.main_arg31)
      ∧ r.2.mem ((c.tc : Thread Cert.AdamRefIdeal.nD Cert.AdamRefIdeal.τ).loc Cert.AdamRefIdeal.main_arg32) = m ((c.tc : Thread Cert.AdamRefIdeal.nD Cert.AdamRefIdeal.τ).loc Cert.AdamRefIdeal.main_arg32)
      ∧ r.2.mem ((c.tc : Thread Cert.AdamRefIdeal.nD Cert.AdamRefIdeal.τ).loc Cert.AdamRefIdeal.main_arg33) = m ((c.tc : Thread Cert.AdamRefIdeal.nD Cert.AdamRefIdeal.τ).loc Cert.AdamRefIdeal.main_arg33)
      ∧ r.2.mem ((c.tc : Thread Cert.AdamRefIdeal.nD Cert.AdamRefIdeal.τ).loc Cert.AdamRefIdeal.main_arg34) = m ((c.tc : Thread Cert.AdamRefIdeal.nD Cert.AdamRefIdeal.τ).loc Cert.AdamRefIdeal.main_arg34)
      ∧ r.2.mem ((c.tc : Thread Cert.AdamRefIdeal.nD Cert.AdamRefIdeal.τ).loc Cert.AdamRefIdeal.main_arg35) = m ((c.tc : Thread Cert.AdamRefIdeal.nD Cert.AdamRefIdeal.τ).loc Cert.AdamRefIdeal.main_arg35)
      ∧ r.2.mem ((c.tc : Thread Cert.AdamRefIdeal.nD Cert.AdamRefIdeal.τ).loc Cert.AdamRefIdeal.main_arg36) = m ((c.tc : Thread Cert.AdamRefIdeal.nD Cert.AdamRefIdeal.τ).loc Cert.AdamRefIdeal.main_arg36)
      ∧ r.2.mem ((c.tc : Thread Cert.AdamRefIdeal.nD Cert.AdamRefIdeal.τ).loc Cert.AdamRefIdeal.main_arg37) = m ((c.tc : Thread Cert.AdamRefIdeal.nD Cert.AdamRefIdeal.τ).loc Cert.AdamRefIdeal.main_arg37)
      ∧ r.2.mem ((c.tc : Thread Cert.AdamRefIdeal.nD Cert.AdamRefIdeal.τ).loc Cert.AdamRefIdeal.main_arg38) = m ((c.tc : Thread Cert.AdamRefIdeal.nD Cert.AdamRefIdeal.τ).loc Cert.AdamRefIdeal.main_arg38)
      ∧ r.2.mem ((c.tc : Thread Cert.AdamRefIdeal.nD Cert.AdamRefIdeal.τ).loc Cert.AdamRefIdeal.main_arg39) = m ((c.tc : Thread Cert.AdamRefIdeal.nD Cert.AdamRefIdeal.τ).loc Cert.AdamRefIdeal.main_arg39)
      ∧ r.2.mem ((c.tc : Thread Cert.AdamRefIdeal.nD Cert.AdamRefIdeal.τ).loc Cert.AdamRefIdeal.main_arg40) = m ((c.tc : Thread Cert.AdamRefIdeal.nD Cert.AdamRefIdeal.τ).loc Cert.AdamRefIdeal.main_arg40)
      ∧ r.2.mem ((c.tc : Thread Cert.AdamRefIdeal.nD Cert.AdamRefIdeal.τ).loc Cert.AdamRefIdeal.main_arg41) = m ((c.tc : Thread Cert.AdamRefIdeal.nD Cert.AdamRefIdeal.τ).loc Cert.AdamRefIdeal.main_arg41)
      ∧ r.2.mem ((c.tc : Thread Cert.AdamRefIdeal.nD Cert.AdamRefIdeal.τ).loc Cert.AdamRefIdeal.main_arg42) = m ((c.tc : Thread Cert.AdamRefIdeal.nD Cert.AdamRefIdeal.τ).loc Cert.AdamRefIdeal.main_arg42)
      ∧ r.2.mem ((c.tc : Thread Cert.AdamRefIdeal.nD Cert.AdamRefIdeal.τ).loc Cert.AdamRefIdeal.main_arg43) = m ((c.tc : Thread Cert.AdamRefIdeal.nD Cert.AdamRefIdeal.τ).loc Cert.AdamRefIdeal.main_arg43)
      ∧ r.2.mem ((c.tc : Thread Cert.AdamRefIdeal.nD Cert.AdamRefIdeal.τ).loc Cert.AdamRefIdeal.main_arg44) = m ((c.tc : Thread Cert.AdamRefIdeal.nD Cert.AdamRefIdeal.τ).loc Cert.AdamRefIdeal.main_arg44)
      ∧ r.2.mem ((c.tc : Thread Cert.AdamRefIdeal.nD Cert.AdamRefIdeal.τ).loc Cert.AdamRefIdeal.main_arg45) = m ((c.tc : Thread Cert.AdamRefIdeal.nD Cert.AdamRefIdeal.τ).loc Cert.AdamRefIdeal.main_arg45)
      ∧ r.2.mem ((c.tc : Thread Cert.AdamRefIdeal.nD Cert.AdamRefIdeal.τ).loc Cert.AdamRefIdeal.main_arg46) = m ((c.tc : Thread Cert.AdamRefIdeal.nD Cert.AdamRefIdeal.τ).loc Cert.AdamRefIdeal.main_arg46)
      ∧ r.2.mem ((c.tc : Thread Cert.AdamRefIdeal.nD Cert.AdamRefIdeal.τ).loc Cert.AdamRefIdeal.main_arg47) = m ((c.tc : Thread Cert.AdamRefIdeal.nD Cert.AdamRefIdeal.τ).loc Cert.AdamRefIdeal.main_arg47))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5)
      ∧ r.2.mem ((c.tc : Thread Cert.BwdIn.nD Cert.BwdIn.τ).loc Cert.BwdIn.main_arg6) = m ((c.tc : Thread Cert.BwdIn.nD Cert.BwdIn.τ).loc Cert.BwdIn.main_arg6)
      ∧ r.2.mem ((c.tc : Thread Cert.BwdIn.nD Cert.BwdIn.τ).loc Cert.BwdIn.main_arg7) = m ((c.tc : Thread Cert.BwdIn.nD Cert.BwdIn.τ).loc Cert.BwdIn.main_arg7)
      ∧ r.2.mem ((c.tc : Thread Cert.BwdIn.nD Cert.BwdIn.τ).loc Cert.BwdIn.main_arg8) = m ((c.tc : Thread Cert.BwdIn.nD Cert.BwdIn.τ).loc Cert.BwdIn.main_arg8)
      ∧ r.2.mem ((c.tc : Thread Cert.BwdIn.nD Cert.BwdIn.τ).loc Cert.BwdIn.main_arg9) = m ((c.tc : Thread Cert.BwdIn.nD Cert.BwdIn.τ).loc Cert.BwdIn.main_arg9)
      ∧ r.2.mem ((c.tc : Thread Cert.BwdIn.nD Cert.BwdIn.τ).loc Cert.BwdIn.main_arg10) = m ((c.tc : Thread Cert.BwdIn.nD Cert.BwdIn.τ).loc Cert.BwdIn.main_arg10)
      ∧ r.2.mem ((c.tc : Thread Cert.BwdIn.nD Cert.BwdIn.τ).loc Cert.BwdIn.main_arg11) = m ((c.tc : Thread Cert.BwdIn.nD Cert.BwdIn.τ).loc Cert.BwdIn.main_arg11)
      ∧ r.2.mem ((c.tc : Thread Cert.BwdIn.nD Cert.BwdIn.τ).loc Cert.BwdIn.main_arg12) = m ((c.tc : Thread Cert.BwdIn.nD Cert.BwdIn.τ).loc Cert.BwdIn.main_arg12)
      ∧ r.2.mem ((c.tc : Thread Cert.BwdIn.nD Cert.BwdIn.τ).loc Cert.BwdIn.main_arg13) = m ((c.tc : Thread Cert.BwdIn.nD Cert.BwdIn.τ).loc Cert.BwdIn.main_arg13)
      ∧ r.2.mem ((c.tc : Thread Cert.BwdIn.nD Cert.BwdIn.τ).loc Cert.BwdIn.main_arg14) = m ((c.tc : Thread Cert.BwdIn.nD Cert.BwdIn.τ).loc Cert.BwdIn.main_arg14)
      ∧ r.2.mem ((c.tc : Thread Cert.BwdIn.nD Cert.BwdIn.τ).loc Cert.BwdIn.main_arg15) = m ((c.tc : Thread Cert.BwdIn.nD Cert.BwdIn.τ).loc Cert.BwdIn.main_arg15)
      ∧ r.2.mem ((c.tc : Thread Cert.BwdIn.nD Cert.BwdIn.τ).loc Cert.BwdIn.main_arg16) = m ((c.tc : Thread Cert.BwdIn.nD Cert.BwdIn.τ).loc Cert.BwdIn.main_arg16))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
      ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7)
      ∧ r.2.mem ((c.tc : Thread Cert.BwdInIdeal.nD Cert.BwdInIdeal.τ).loc Cert.BwdInIdeal.main_arg8) = m ((c.tc : Thread Cert.BwdInIdeal.nD Cert.BwdInIdeal.τ).loc Cert.BwdInIdeal.main_arg8)
      ∧ r.2.mem ((c.tc : Thread Cert.BwdInIdeal.nD Cert.BwdInIdeal.τ).loc Cert.BwdInIdeal.main_arg9) = m ((c.tc : Thread Cert.BwdInIdeal.nD Cert.BwdInIdeal.τ).loc Cert.BwdInIdeal.main_arg9)
      ∧ r.2.mem ((c.tc : Thread Cert.BwdInIdeal.nD Cert.BwdInIdeal.τ).loc Cert.BwdInIdeal.main_arg10) = m ((c.tc : Thread Cert.BwdInIdeal.nD Cert.BwdInIdeal.τ).loc Cert.BwdInIdeal.main_arg10)
      ∧ r.2.mem ((c.tc : Thread Cert.BwdInIdeal.nD Cert.BwdInIdeal.τ).loc Cert.BwdInIdeal.main_arg11) = m ((c.tc : Thread Cert.BwdInIdeal.nD Cert.BwdInIdeal.τ).loc Cert.BwdInIdeal.main_arg11)
      ∧ r.2.mem ((c.tc : Thread Cert.BwdInIdeal.nD Cert.BwdInIdeal.τ).loc Cert.BwdInIdeal.main_arg12) = m ((c.tc : Thread Cert.BwdInIdeal.nD Cert.BwdInIdeal.τ).loc Cert.BwdInIdeal.main_arg12)
      ∧ r.2.mem ((c.tc : Thread Cert.BwdInIdeal.nD Cert.BwdInIdeal.τ).loc Cert.BwdInIdeal.main_arg13) = m ((c.tc : Thread Cert.BwdInIdeal.nD Cert.BwdInIdeal.τ).loc Cert.BwdInIdeal.main_arg13)
      ∧ r.2.mem ((c.tc : Thread Cert.BwdInIdeal.nD Cert.BwdInIdeal.τ).loc Cert.BwdInIdeal.main_arg14) = m ((c.tc : Thread Cert.BwdInIdeal.nD Cert.BwdInIdeal.τ).loc Cert.BwdInIdeal.main_arg14)
      ∧ r.2.mem ((c.tc : Thread Cert.BwdInIdeal.nD Cert.BwdInIdeal.τ).loc Cert.BwdInIdeal.main_arg15) = m ((c.tc : Thread Cert.BwdInIdeal.nD Cert.BwdInIdeal.τ).loc Cert.BwdInIdeal.main_arg15)
      ∧ r.2.mem ((c.tc : Thread Cert.BwdInIdeal.nD Cert.BwdInIdeal.τ).loc Cert.BwdInIdeal.main_arg16) = m ((c.tc : Thread Cert.BwdInIdeal.nD Cert.BwdInIdeal.τ).loc Cert.BwdInIdeal.main_arg16))
      ∧ r.2.sem = fun _ => 0)

def quiescent_BwdInIdeal_pre_finite_bwd [hBwdInIdeal : Cert.BwdInIdeal.Facts] [hPre_finite_bwd : Cert.Pre_finite_bwd.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_finite_bwd m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
      ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7)
      ∧ r.2.mem ((c.tc : Thread Cert.BwdInIdeal.nD Cert.BwdInIdeal.τ).loc Cert.BwdInIdeal.main_arg8) = m ((c.tc : Thread Cert.BwdInIdeal.nD Cert.BwdInIdeal.τ).loc Cert.BwdInIdeal.main_arg8)
      ∧ r.2.mem ((c.tc : Thread Cert.BwdInIdeal.nD Cert.BwdInIdeal.τ).loc Cert.BwdInIdeal.main_arg9) = m ((c.tc : Thread Cert.BwdInIdeal.nD Cert.BwdInIdeal.τ).loc Cert.BwdInIdeal.main_arg9)
      ∧ r.2.mem ((c.tc : Thread Cert.BwdInIdeal.nD Cert.BwdInIdeal.τ).loc Cert.BwdInIdeal.main_arg10) = m ((c.tc : Thread Cert.BwdInIdeal.nD Cert.BwdInIdeal.τ).loc Cert.BwdInIdeal.main_arg10)
      ∧ r.2.mem ((c.tc : Thread Cert.BwdInIdeal.nD Cert.BwdInIdeal.τ).loc Cert.BwdInIdeal.main_arg11) = m ((c.tc : Thread Cert.BwdInIdeal.nD Cert.BwdInIdeal.τ).loc Cert.BwdInIdeal.main_arg11)
      ∧ r.2.mem ((c.tc : Thread Cert.BwdInIdeal.nD Cert.BwdInIdeal.τ).loc Cert.BwdInIdeal.main_arg12) = m ((c.tc : Thread Cert.BwdInIdeal.nD Cert.BwdInIdeal.τ).loc Cert.BwdInIdeal.main_arg12)
      ∧ r.2.mem ((c.tc : Thread Cert.BwdInIdeal.nD Cert.BwdInIdeal.τ).loc Cert.BwdInIdeal.main_arg13) = m ((c.tc : Thread Cert.BwdInIdeal.nD Cert.BwdInIdeal.τ).loc Cert.BwdInIdeal.main_arg13)
      ∧ r.2.mem ((c.tc : Thread Cert.BwdInIdeal.nD Cert.BwdInIdeal.τ).loc Cert.BwdInIdeal.main_arg14) = m ((c.tc : Thread Cert.BwdInIdeal.nD Cert.BwdInIdeal.τ).loc Cert.BwdInIdeal.main_arg14)
      ∧ r.2.mem ((c.tc : Thread Cert.BwdInIdeal.nD Cert.BwdInIdeal.τ).loc Cert.BwdInIdeal.main_arg15) = m ((c.tc : Thread Cert.BwdInIdeal.nD Cert.BwdInIdeal.τ).loc Cert.BwdInIdeal.main_arg15)
      ∧ r.2.mem ((c.tc : Thread Cert.BwdInIdeal.nD Cert.BwdInIdeal.τ).loc Cert.BwdInIdeal.main_arg16) = m ((c.tc : Thread Cert.BwdInIdeal.nD Cert.BwdInIdeal.τ).loc Cert.BwdInIdeal.main_arg16))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6)
      ∧ r.2.mem ((c.tc : Thread Cert.BwdInRefIdeal.nD Cert.BwdInRefIdeal.τ).loc Cert.BwdInRefIdeal.main_arg7) = m ((c.tc : Thread Cert.BwdInRefIdeal.nD Cert.BwdInRefIdeal.τ).loc Cert.BwdInRefIdeal.main_arg7)
      ∧ r.2.mem ((c.tc : Thread Cert.BwdInRefIdeal.nD Cert.BwdInRefIdeal.τ).loc Cert.BwdInRefIdeal.main_arg8) = m ((c.tc : Thread Cert.BwdInRefIdeal.nD Cert.BwdInRefIdeal.τ).loc Cert.BwdInRefIdeal.main_arg8)
      ∧ r.2.mem ((c.tc : Thread Cert.BwdInRefIdeal.nD Cert.BwdInRefIdeal.τ).loc Cert.BwdInRefIdeal.main_arg9) = m ((c.tc : Thread Cert.BwdInRefIdeal.nD Cert.BwdInRefIdeal.τ).loc Cert.BwdInRefIdeal.main_arg9)
      ∧ r.2.mem ((c.tc : Thread Cert.BwdInRefIdeal.nD Cert.BwdInRefIdeal.τ).loc Cert.BwdInRefIdeal.main_arg10) = m ((c.tc : Thread Cert.BwdInRefIdeal.nD Cert.BwdInRefIdeal.τ).loc Cert.BwdInRefIdeal.main_arg10)
      ∧ r.2.mem ((c.tc : Thread Cert.BwdInRefIdeal.nD Cert.BwdInRefIdeal.τ).loc Cert.BwdInRefIdeal.main_arg11) = m ((c.tc : Thread Cert.BwdInRefIdeal.nD Cert.BwdInRefIdeal.τ).loc Cert.BwdInRefIdeal.main_arg11)
      ∧ r.2.mem ((c.tc : Thread Cert.BwdInRefIdeal.nD Cert.BwdInRefIdeal.τ).loc Cert.BwdInRefIdeal.main_arg12) = m ((c.tc : Thread Cert.BwdInRefIdeal.nD Cert.BwdInRefIdeal.τ).loc Cert.BwdInRefIdeal.main_arg12)
      ∧ r.2.mem ((c.tc : Thread Cert.BwdInRefIdeal.nD Cert.BwdInRefIdeal.τ).loc Cert.BwdInRefIdeal.main_arg13) = m ((c.tc : Thread Cert.BwdInRefIdeal.nD Cert.BwdInRefIdeal.τ).loc Cert.BwdInRefIdeal.main_arg13)
      ∧ r.2.mem ((c.tc : Thread Cert.BwdInRefIdeal.nD Cert.BwdInRefIdeal.τ).loc Cert.BwdInRefIdeal.main_arg14) = m ((c.tc : Thread Cert.BwdInRefIdeal.nD Cert.BwdInRefIdeal.τ).loc Cert.BwdInRefIdeal.main_arg14)
      ∧ r.2.mem ((c.tc : Thread Cert.BwdInRefIdeal.nD Cert.BwdInRefIdeal.τ).loc Cert.BwdInRefIdeal.main_arg15) = m ((c.tc : Thread Cert.BwdInRefIdeal.nD Cert.BwdInRefIdeal.τ).loc Cert.BwdInRefIdeal.main_arg15)
      ∧ r.2.mem ((c.tc : Thread Cert.BwdInRefIdeal.nD Cert.BwdInRefIdeal.τ).loc Cert.BwdInRefIdeal.main_arg16) = m ((c.tc : Thread Cert.BwdInRefIdeal.nD Cert.BwdInRefIdeal.τ).loc Cert.BwdInRefIdeal.main_arg16))
      ∧ r.2.sem = fun _ => 0)

def quiescent_BwdInRefIdeal_pre_finite_bwd [hBwdInRefIdeal : Cert.BwdInRefIdeal.Facts] [hPre_finite_bwd : Cert.Pre_finite_bwd.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal_finite_bwd m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6)
      ∧ r.2.mem ((c.tc : Thread Cert.BwdInRefIdeal.nD Cert.BwdInRefIdeal.τ).loc Cert.BwdInRefIdeal.main_arg7) = m ((c.tc : Thread Cert.BwdInRefIdeal.nD Cert.BwdInRefIdeal.τ).loc Cert.BwdInRefIdeal.main_arg7)
      ∧ r.2.mem ((c.tc : Thread Cert.BwdInRefIdeal.nD Cert.BwdInRefIdeal.τ).loc Cert.BwdInRefIdeal.main_arg8) = m ((c.tc : Thread Cert.BwdInRefIdeal.nD Cert.BwdInRefIdeal.τ).loc Cert.BwdInRefIdeal.main_arg8)
      ∧ r.2.mem ((c.tc : Thread Cert.BwdInRefIdeal.nD Cert.BwdInRefIdeal.τ).loc Cert.BwdInRefIdeal.main_arg9) = m ((c.tc : Thread Cert.BwdInRefIdeal.nD Cert.BwdInRefIdeal.τ).loc Cert.BwdInRefIdeal.main_arg9)
      ∧ r.2.mem ((c.tc : Thread Cert.BwdInRefIdeal.nD Cert.BwdInRefIdeal.τ).loc Cert.BwdInRefIdeal.main_arg10) = m ((c.tc : Thread Cert.BwdInRefIdeal.nD Cert.BwdInRefIdeal.τ).loc Cert.BwdInRefIdeal.main_arg10)
      ∧ r.2.mem ((c.tc : Thread Cert.BwdInRefIdeal.nD Cert.BwdInRefIdeal.τ).loc Cert.BwdInRefIdeal.main_arg11) = m ((c.tc : Thread Cert.BwdInRefIdeal.nD Cert.BwdInRefIdeal.τ).loc Cert.BwdInRefIdeal.main_arg11)
      ∧ r.2.mem ((c.tc : Thread Cert.BwdInRefIdeal.nD Cert.BwdInRefIdeal.τ).loc Cert.BwdInRefIdeal.main_arg12) = m ((c.tc : Thread Cert.BwdInRefIdeal.nD Cert.BwdInRefIdeal.τ).loc Cert.BwdInRefIdeal.main_arg12)
      ∧ r.2.mem ((c.tc : Thread Cert.BwdInRefIdeal.nD Cert.BwdInRefIdeal.τ).loc Cert.BwdInRefIdeal.main_arg13) = m ((c.tc : Thread Cert.BwdInRefIdeal.nD Cert.BwdInRefIdeal.τ).loc Cert.BwdInRefIdeal.main_arg13)
      ∧ r.2.mem ((c.tc : Thread Cert.BwdInRefIdeal.nD Cert.BwdInRefIdeal.τ).loc Cert.BwdInRefIdeal.main_arg14) = m ((c.tc : Thread Cert.BwdInRefIdeal.nD Cert.BwdInRefIdeal.τ).loc Cert.BwdInRefIdeal.main_arg14)
      ∧ r.2.mem ((c.tc : Thread Cert.BwdInRefIdeal.nD Cert.BwdInRefIdeal.τ).loc Cert.BwdInRefIdeal.main_arg15) = m ((c.tc : Thread Cert.BwdInRefIdeal.nD Cert.BwdInRefIdeal.τ).loc Cert.BwdInRefIdeal.main_arg15)
      ∧ r.2.mem ((c.tc : Thread Cert.BwdInRefIdeal.nD Cert.BwdInRefIdeal.τ).loc Cert.BwdInRefIdeal.main_arg16) = m ((c.tc : Thread Cert.BwdInRefIdeal.nD Cert.BwdInRefIdeal.τ).loc Cert.BwdInRefIdeal.main_arg16))
      ∧ r.2.sem = fun _ => 0)

def preserves_OutLoss_OutLossIdeal : Prop :=
  True

def algebraic_OutLossIdeal_OutLossRefIdeal [hOutLossIdeal : Cert.OutLossIdeal.Facts] [hOutLossRefIdeal : Cert.OutLossRefIdeal.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)
      ∧ m' ((c.tc : Thread Cert.OutLossRefIdeal.nD Cert.OutLossRefIdeal.τ).loc Cert.OutLossRefIdeal.main_arg5) = m ((c.tc : Thread Cert.OutLossIdeal.nD Cert.OutLossIdeal.τ).loc Cert.OutLossIdeal.main_arg5)
      ∧ m' ((c.tc : Thread Cert.OutLossRefIdeal.nD Cert.OutLossRefIdeal.τ).loc Cert.OutLossRefIdeal.main_arg6) = m ((c.tc : Thread Cert.OutLossIdeal.nD Cert.OutLossIdeal.τ).loc Cert.OutLossIdeal.main_arg6)) →
    ∃ (v0 : (c : Dev Cert.OutLossIdeal.nD) → Buf (Elt Ideal) ((c.tc : Thread Cert.OutLossIdeal.nD Cert.OutLossIdeal.τ).loc Cert.OutLossIdeal.main_v0_0)) (v1 : (c : Dev Cert.OutLossIdeal.nD) → Buf (Elt Ideal) ((c.tc : Thread Cert.OutLossIdeal.nD Cert.OutLossIdeal.τ).loc Cert.OutLossIdeal.main_v0_1)) (v2 : (c : Dev Cert.OutLossIdeal.nD) → Buf (Elt Ideal) ((c.tc : Thread Cert.OutLossIdeal.nD Cert.OutLossIdeal.τ).loc Cert.OutLossIdeal.main_v0_2)) (v3 : (c : Dev Cert.OutLossIdeal.nD) → Buf (Elt Ideal) ((c.tc : Thread Cert.OutLossIdeal.nD Cert.OutLossIdeal.τ).loc Cert.OutLossIdeal.main_v0_3)) (v4 : (c : Dev Cert.OutLossIdeal.nD) → Buf (Elt Ideal) ((c.tc : Thread Cert.OutLossIdeal.nD Cert.OutLossIdeal.τ).loc Cert.OutLossIdeal.main_v0_4)) (v5 : (c : Dev Cert.OutLossIdeal.nD) → Buf (Elt Ideal) ((c.tc : Thread Cert.OutLossIdeal.nD Cert.OutLossIdeal.τ).loc Cert.OutLossIdeal.main_v0_5)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v0_0) = v0 c
          ∧ r.2.mem ((c.tc : Thread Cert.OutLossIdeal.nD Cert.OutLossIdeal.τ).loc Cert.OutLossIdeal.main_v0_1) = v1 c
          ∧ r.2.mem ((c.tc : Thread Cert.OutLossIdeal.nD Cert.OutLossIdeal.τ).loc Cert.OutLossIdeal.main_v0_2) = v2 c
          ∧ r.2.mem ((c.tc : Thread Cert.OutLossIdeal.nD Cert.OutLossIdeal.τ).loc Cert.OutLossIdeal.main_v0_3) = v3 c
          ∧ r.2.mem ((c.tc : Thread Cert.OutLossIdeal.nD Cert.OutLossIdeal.τ).loc Cert.OutLossIdeal.main_v0_4) = v4 c
          ∧ r.2.mem ((c.tc : Thread Cert.OutLossIdeal.nD Cert.OutLossIdeal.τ).loc Cert.OutLossIdeal.main_v0_5) = v5 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
          ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5)
          ∧ r.2.mem ((c.tc : Thread Cert.OutLossIdeal.nD Cert.OutLossIdeal.τ).loc Cert.OutLossIdeal.main_arg6) = m ((c.tc : Thread Cert.OutLossIdeal.nD Cert.OutLossIdeal.τ).loc Cert.OutLossIdeal.main_arg6))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v26) = v0 c
          ∧ r.2.mem ((c.tc : Thread Cert.OutLossRefIdeal.nD Cert.OutLossRefIdeal.τ).loc Cert.OutLossRefIdeal.main_v35) = v1 c
          ∧ r.2.mem ((c.tc : Thread Cert.OutLossRefIdeal.nD Cert.OutLossRefIdeal.τ).loc Cert.OutLossRefIdeal.main_v36) = v2 c
          ∧ r.2.mem ((c.tc : Thread Cert.OutLossRefIdeal.nD Cert.OutLossRefIdeal.τ).loc Cert.OutLossRefIdeal.main_v33) = v3 c
          ∧ r.2.mem ((c.tc : Thread Cert.OutLossRefIdeal.nD Cert.OutLossRefIdeal.τ).loc Cert.OutLossRefIdeal.main_v37) = v4 c
          ∧ r.2.mem ((c.tc : Thread Cert.OutLossRefIdeal.nD Cert.OutLossRefIdeal.τ).loc Cert.OutLossRefIdeal.main_v31) = v5 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4)
          ∧ r.2.mem ((c.tc : Thread Cert.OutLossRefIdeal.nD Cert.OutLossRefIdeal.τ).loc Cert.OutLossRefIdeal.main_arg5) = m' ((c.tc : Thread Cert.OutLossRefIdeal.nD Cert.OutLossRefIdeal.τ).loc Cert.OutLossRefIdeal.main_arg5)
          ∧ r.2.mem ((c.tc : Thread Cert.OutLossRefIdeal.nD Cert.OutLossRefIdeal.τ).loc Cert.OutLossRefIdeal.main_arg6) = m' ((c.tc : Thread Cert.OutLossRefIdeal.nD Cert.OutLossRefIdeal.τ).loc Cert.OutLossRefIdeal.main_arg6))

def preserves_AttnFwd_AttnFwdIdeal : Prop :=
  IdealRules.named_const.Statement Cert.AttnFwdIdeal.κ "mask" .f32 0xF149F2CA#32 ⊥

def algebraic_AttnFwdIdeal_AttnFwdRefIdeal_pre_finite_attn [hAttnFwdIdeal : Cert.AttnFwdIdeal.Facts] [hAttnFwdRefIdeal : Cert.AttnFwdRefIdeal.Facts] [hPre_finite_attn : Cert.Pre_finite_attn.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attn m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v68) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)
      ∧ m' ((c.tc : Thread Cert.ConvFwdRefIdeal.nD Cert.ConvFwdRefIdeal.τ).loc Cert.ConvFwdRefIdeal.main_arg5) = m ((c.tc : Thread Cert.ConvFwdIdeal.nD Cert.ConvFwdIdeal.τ).loc Cert.ConvFwdIdeal.main_arg5)) →
    ∃ (v0 : (c : Dev Cert.ConvFwdIdeal.nD) → Buf (Elt Ideal) ((c.tc : Thread Cert.ConvFwdIdeal.nD Cert.ConvFwdIdeal.τ).loc Cert.ConvFwdIdeal.main_v0_0)) (v1 : (c : Dev Cert.ConvFwdIdeal.nD) → Buf (Elt Ideal) ((c.tc : Thread Cert.ConvFwdIdeal.nD Cert.ConvFwdIdeal.τ).loc Cert.ConvFwdIdeal.main_v0_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0_0) = v0 c
          ∧ r.2.mem ((c.tc : Thread Cert.ConvFwdIdeal.nD Cert.ConvFwdIdeal.τ).loc Cert.ConvFwdIdeal.main_v0_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
          ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v220) = v0 c
          ∧ r.2.mem ((c.tc : Thread Cert.ConvFwdRefIdeal.nD Cert.ConvFwdRefIdeal.τ).loc Cert.ConvFwdRefIdeal.main_v245) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4)
          ∧ r.2.mem ((c.tc : Thread Cert.ConvFwdRefIdeal.nD Cert.ConvFwdRefIdeal.τ).loc Cert.ConvFwdRefIdeal.main_arg5) = m' ((c.tc : Thread Cert.ConvFwdRefIdeal.nD Cert.ConvFwdRefIdeal.τ).loc Cert.ConvFwdRefIdeal.main_arg5))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)
      ∧ m' ((c.tc : Thread Cert.AdamRefIdeal.nD Cert.AdamRefIdeal.τ).loc Cert.AdamRefIdeal.main_arg8) = m ((c.tc : Thread Cert.AdamIdeal.nD Cert.AdamIdeal.τ).loc Cert.AdamIdeal.main_arg8)
      ∧ m' ((c.tc : Thread Cert.AdamRefIdeal.nD Cert.AdamRefIdeal.τ).loc Cert.AdamRefIdeal.main_arg9) = m ((c.tc : Thread Cert.AdamIdeal.nD Cert.AdamIdeal.τ).loc Cert.AdamIdeal.main_arg9)
      ∧ m' ((c.tc : Thread Cert.AdamRefIdeal.nD Cert.AdamRefIdeal.τ).loc Cert.AdamRefIdeal.main_arg10) = m ((c.tc : Thread Cert.AdamIdeal.nD Cert.AdamIdeal.τ).loc Cert.AdamIdeal.main_arg10)
      ∧ m' ((c.tc : Thread Cert.AdamRefIdeal.nD Cert.AdamRefIdeal.τ).loc Cert.AdamRefIdeal.main_arg11) = m ((c.tc : Thread Cert.AdamIdeal.nD Cert.AdamIdeal.τ).loc Cert.AdamIdeal.main_arg11)
      ∧ m' ((c.tc : Thread Cert.AdamRefIdeal.nD Cert.AdamRefIdeal.τ).loc Cert.AdamRefIdeal.main_arg12) = m ((c.tc : Thread Cert.AdamIdeal.nD Cert.AdamIdeal.τ).loc Cert.AdamIdeal.main_arg12)
      ∧ m' ((c.tc : Thread Cert.AdamRefIdeal.nD Cert.AdamRefIdeal.τ).loc Cert.AdamRefIdeal.main_arg13) = m ((c.tc : Thread Cert.AdamIdeal.nD Cert.AdamIdeal.τ).loc Cert.AdamIdeal.main_arg13)
      ∧ m' ((c.tc : Thread Cert.AdamRefIdeal.nD Cert.AdamRefIdeal.τ).loc Cert.AdamRefIdeal.main_arg14) = m ((c.tc : Thread Cert.AdamIdeal.nD Cert.AdamIdeal.τ).loc Cert.AdamIdeal.main_arg14)
      ∧ m' ((c.tc : Thread Cert.AdamRefIdeal.nD Cert.AdamRefIdeal.τ).loc Cert.AdamRefIdeal.main_arg15) = m ((c.tc : Thread Cert.AdamIdeal.nD Cert.AdamIdeal.τ).loc Cert.AdamIdeal.main_arg15)
      ∧ m' ((c.tc : Thread Cert.AdamRefIdeal.nD Cert.AdamRefIdeal.τ).loc Cert.AdamRefIdeal.main_arg16) = m ((c.tc : Thread Cert.AdamIdeal.nD Cert.AdamIdeal.τ).loc Cert.AdamIdeal.main_arg16)
      ∧ m' ((c.tc : Thread Cert.AdamRefIdeal.nD Cert.AdamRefIdeal.τ).loc Cert.AdamRefIdeal.main_arg17) = m ((c.tc : Thread Cert.AdamIdeal.nD Cert.AdamIdeal.τ).loc Cert.AdamIdeal.main_arg17)
      ∧ m' ((c.tc : Thread Cert.AdamRefIdeal.nD Cert.AdamRefIdeal.τ).loc Cert.AdamRefIdeal.main_arg18) = m ((c.tc : Thread Cert.AdamIdeal.nD Cert.AdamIdeal.τ).loc Cert.AdamIdeal.main_arg18)
      ∧ m' ((c.tc : Thread Cert.AdamRefIdeal.nD Cert.AdamRefIdeal.τ).loc Cert.AdamRefIdeal.main_arg19) = m ((c.tc : Thread Cert.AdamIdeal.nD Cert.AdamIdeal.τ).loc Cert.AdamIdeal.main_arg19)
      ∧ m' ((c.tc : Thread Cert.AdamRefIdeal.nD Cert.AdamRefIdeal.τ).loc Cert.AdamRefIdeal.main_arg20) = m ((c.tc : Thread Cert.AdamIdeal.nD Cert.AdamIdeal.τ).loc Cert.AdamIdeal.main_arg20)
      ∧ m' ((c.tc : Thread Cert.AdamRefIdeal.nD Cert.AdamRefIdeal.τ).loc Cert.AdamRefIdeal.main_arg21) = m ((c.tc : Thread Cert.AdamIdeal.nD Cert.AdamIdeal.τ).loc Cert.AdamIdeal.main_arg21)
      ∧ m' ((c.tc : Thread Cert.AdamRefIdeal.nD Cert.AdamRefIdeal.τ).loc Cert.AdamRefIdeal.main_arg22) = m ((c.tc : Thread Cert.AdamIdeal.nD Cert.AdamIdeal.τ).loc Cert.AdamIdeal.main_arg22)
      ∧ m' ((c.tc : Thread Cert.AdamRefIdeal.nD Cert.AdamRefIdeal.τ).loc Cert.AdamRefIdeal.main_arg23) = m ((c.tc : Thread Cert.AdamIdeal.nD Cert.AdamIdeal.τ).loc Cert.AdamIdeal.main_arg23)
      ∧ m' ((c.tc : Thread Cert.AdamRefIdeal.nD Cert.AdamRefIdeal.τ).loc Cert.AdamRefIdeal.main_arg24) = m ((c.tc : Thread Cert.AdamIdeal.nD Cert.AdamIdeal.τ).loc Cert.AdamIdeal.main_arg24)
      ∧ m' ((c.tc : Thread Cert.AdamRefIdeal.nD Cert.AdamRefIdeal.τ).loc Cert.AdamRefIdeal.main_arg25) = m ((c.tc : Thread Cert.AdamIdeal.nD Cert.AdamIdeal.τ).loc Cert.AdamIdeal.main_arg25)
      ∧ m' ((c.tc : Thread Cert.AdamRefIdeal.nD Cert.AdamRefIdeal.τ).loc Cert.AdamRefIdeal.main_arg26) = m ((c.tc : Thread Cert.AdamIdeal.nD Cert.AdamIdeal.τ).loc Cert.AdamIdeal.main_arg26)
      ∧ m' ((c.tc : Thread Cert.AdamRefIdeal.nD Cert.AdamRefIdeal.τ).loc Cert.AdamRefIdeal.main_arg27) = m ((c.tc : Thread Cert.AdamIdeal.nD Cert.AdamIdeal.τ).loc Cert.AdamIdeal.main_arg27)
      ∧ m' ((c.tc : Thread Cert.AdamRefIdeal.nD Cert.AdamRefIdeal.τ).loc Cert.AdamRefIdeal.main_arg28) = m ((c.tc : Thread Cert.AdamIdeal.nD Cert.AdamIdeal.τ).loc Cert.AdamIdeal.main_arg28)
      ∧ m' ((c.tc : Thread Cert.AdamRefIdeal.nD Cert.AdamRefIdeal.τ).loc Cert.AdamRefIdeal.main_arg29) = m ((c.tc : Thread Cert.AdamIdeal.nD Cert.AdamIdeal.τ).loc Cert.AdamIdeal.main_arg29)
      ∧ m' ((c.tc : Thread Cert.AdamRefIdeal.nD Cert.AdamRefIdeal.τ).loc Cert.AdamRefIdeal.main_arg30) = m ((c.tc : Thread Cert.AdamIdeal.nD Cert.AdamIdeal.τ).loc Cert.AdamIdeal.main_arg30)
      ∧ m' ((c.tc : Thread Cert.AdamRefIdeal.nD Cert.AdamRefIdeal.τ).loc Cert.AdamRefIdeal.main_arg31) = m ((c.tc : Thread Cert.AdamIdeal.nD Cert.AdamIdeal.τ).loc Cert.AdamIdeal.main_arg31)
      ∧ m' ((c.tc : Thread Cert.AdamRefIdeal.nD Cert.AdamRefIdeal.τ).loc Cert.AdamRefIdeal.main_arg32) = m ((c.tc : Thread Cert.AdamIdeal.nD Cert.AdamIdeal.τ).loc Cert.AdamIdeal.main_arg32)
      ∧ m' ((c.tc : Thread Cert.AdamRefIdeal.nD Cert.AdamRefIdeal.τ).loc Cert.AdamRefIdeal.main_arg33) = m ((c.tc : Thread Cert.AdamIdeal.nD Cert.AdamIdeal.τ).loc Cert.AdamIdeal.main_arg33)
      ∧ m' ((c.tc : Thread Cert.AdamRefIdeal.nD Cert.AdamRefIdeal.τ).loc Cert.AdamRefIdeal.main_arg34) = m ((c.tc : Thread Cert.AdamIdeal.nD Cert.AdamIdeal.τ).loc Cert.AdamIdeal.main_arg34)
      ∧ m' ((c.tc : Thread Cert.AdamRefIdeal.nD Cert.AdamRefIdeal.τ).loc Cert.AdamRefIdeal.main_arg35) = m ((c.tc : Thread Cert.AdamIdeal.nD Cert.AdamIdeal.τ).loc Cert.AdamIdeal.main_arg35)
      ∧ m' ((c.tc : Thread Cert.AdamRefIdeal.nD Cert.AdamRefIdeal.τ).loc Cert.AdamRefIdeal.main_arg36) = m ((c.tc : Thread Cert.AdamIdeal.nD Cert.AdamIdeal.τ).loc Cert.AdamIdeal.main_arg36)
      ∧ m' ((c.tc : Thread Cert.AdamRefIdeal.nD Cert.AdamRefIdeal.τ).loc Cert.AdamRefIdeal.main_arg37) = m ((c.tc : Thread Cert.AdamIdeal.nD Cert.AdamIdeal.τ).loc Cert.AdamIdeal.main_arg37)
      ∧ m' ((c.tc : Thread Cert.AdamRefIdeal.nD Cert.AdamRefIdeal.τ).loc Cert.AdamRefIdeal.main_arg38) = m ((c.tc : Thread Cert.AdamIdeal.nD Cert.AdamIdeal.τ).loc Cert.AdamIdeal.main_arg38)
      ∧ m' ((c.tc : Thread Cert.AdamRefIdeal.nD Cert.AdamRefIdeal.τ).loc Cert.AdamRefIdeal.main_arg39) = m ((c.tc : Thread Cert.AdamIdeal.nD Cert.AdamIdeal.τ).loc Cert.AdamIdeal.main_arg39)
      ∧ m' ((c.tc : Thread Cert.AdamRefIdeal.nD Cert.AdamRefIdeal.τ).loc Cert.AdamRefIdeal.main_arg40) = m ((c.tc : Thread Cert.AdamIdeal.nD Cert.AdamIdeal.τ).loc Cert.AdamIdeal.main_arg40)
      ∧ m' ((c.tc : Thread Cert.AdamRefIdeal.nD Cert.AdamRefIdeal.τ).loc Cert.AdamRefIdeal.main_arg41) = m ((c.tc : Thread Cert.AdamIdeal.nD Cert.AdamIdeal.τ).loc Cert.AdamIdeal.main_arg41)
      ∧ m' ((c.tc : Thread Cert.AdamRefIdeal.nD Cert.AdamRefIdeal.τ).loc Cert.AdamRefIdeal.main_arg42) = m ((c.tc : Thread Cert.AdamIdeal.nD Cert.AdamIdeal.τ).loc Cert.AdamIdeal.main_arg42)
      ∧ m' ((c.tc : Thread Cert.AdamRefIdeal.nD Cert.AdamRefIdeal.τ).loc Cert.AdamRefIdeal.main_arg43) = m ((c.tc : Thread Cert.AdamIdeal.nD Cert.AdamIdeal.τ).loc Cert.AdamIdeal.main_arg43)
      ∧ m' ((c.tc : Thread Cert.AdamRefIdeal.nD Cert.AdamRefIdeal.τ).loc Cert.AdamRefIdeal.main_arg44) = m ((c.tc : Thread Cert.AdamIdeal.nD Cert.AdamIdeal.τ).loc Cert.AdamIdeal.main_arg44)
      ∧ m' ((c.tc : Thread Cert.AdamRefIdeal.nD Cert.AdamRefIdeal.τ).loc Cert.AdamRefIdeal.main_arg45) = m ((c.tc : Thread Cert.AdamIdeal.nD Cert.AdamIdeal.τ).loc Cert.AdamIdeal.main_arg45)
      ∧ m' ((c.tc : Thread Cert.AdamRefIdeal.nD Cert.AdamRefIdeal.τ).loc Cert.AdamRefIdeal.main_arg46) = m ((c.tc : Thread Cert.AdamIdeal.nD Cert.AdamIdeal.τ).loc Cert.AdamIdeal.main_arg46)
      ∧ m' ((c.tc : Thread Cert.AdamRefIdeal.nD Cert.AdamRefIdeal.τ).loc Cert.AdamRefIdeal.main_arg47) = m ((c.tc : Thread Cert.AdamIdeal.nD Cert.AdamIdeal.τ).loc Cert.AdamIdeal.main_arg47)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)) (v4 : (c : Dev Cert.AdamIdeal.nD) → Buf (Elt Ideal) ((c.tc : Thread Cert.AdamIdeal.nD Cert.AdamIdeal.τ).loc Cert.AdamIdeal.main_v0_4)) (v5 : (c : Dev Cert.AdamIdeal.nD) → Buf (Elt Ideal) ((c.tc : Thread Cert.AdamIdeal.nD Cert.AdamIdeal.τ).loc Cert.AdamIdeal.main_v0_5)) (v6 : (c : Dev Cert.AdamIdeal.nD) → Buf (Elt Ideal) ((c.tc : Thread Cert.AdamIdeal.nD Cert.AdamIdeal.τ).loc Cert.AdamIdeal.main_v0_6)) (v7 : (c : Dev Cert.AdamIdeal.nD) → Buf (Elt Ideal) ((c.tc : Thread Cert.AdamIdeal.nD Cert.AdamIdeal.τ).loc Cert.AdamIdeal.main_v0_7)) (v8 : (c : Dev Cert.AdamIdeal.nD) → Buf (Elt Ideal) ((c.tc : Thread Cert.AdamIdeal.nD Cert.AdamIdeal.τ).loc Cert.AdamIdeal.main_v0_8)) (v9 : (c : Dev Cert.AdamIdeal.nD) → Buf (Elt Ideal) ((c.tc : Thread Cert.AdamIdeal.nD Cert.AdamIdeal.τ).loc Cert.AdamIdeal.main_v0_9)) (v10 : (c : Dev Cert.AdamIdeal.nD) → Buf (Elt Ideal) ((c.tc : Thread Cert.AdamIdeal.nD Cert.AdamIdeal.τ).loc Cert.AdamIdeal.main_v0_10)) (v11 : (c : Dev Cert.AdamIdeal.nD) → Buf (Elt Ideal) ((c.tc : Thread Cert.AdamIdeal.nD Cert.AdamIdeal.τ).loc Cert.AdamIdeal.main_v0_11)) (v12 : (c : Dev Cert.AdamIdeal.nD) → Buf (Elt Ideal) ((c.tc : Thread Cert.AdamIdeal.nD Cert.AdamIdeal.τ).loc Cert.AdamIdeal.main_v0_12)) (v13 : (c : Dev Cert.AdamIdeal.nD) → Buf (Elt Ideal) ((c.tc : Thread Cert.AdamIdeal.nD Cert.AdamIdeal.τ).loc Cert.AdamIdeal.main_v0_13)) (v14 : (c : Dev Cert.AdamIdeal.nD) → Buf (Elt Ideal) ((c.tc : Thread Cert.AdamIdeal.nD Cert.AdamIdeal.τ).loc Cert.AdamIdeal.main_v0_14)) (v15 : (c : Dev Cert.AdamIdeal.nD) → Buf (Elt Ideal) ((c.tc : Thread Cert.AdamIdeal.nD Cert.AdamIdeal.τ).loc Cert.AdamIdeal.main_v0_15)) (v16 : (c : Dev Cert.AdamIdeal.nD) → Buf (Elt Ideal) ((c.tc : Thread Cert.AdamIdeal.nD Cert.AdamIdeal.τ).loc Cert.AdamIdeal.main_v0_16)) (v17 : (c : Dev Cert.AdamIdeal.nD) → Buf (Elt Ideal) ((c.tc : Thread Cert.AdamIdeal.nD Cert.AdamIdeal.τ).loc Cert.AdamIdeal.main_v0_17)) (v18 : (c : Dev Cert.AdamIdeal.nD) → Buf (Elt Ideal) ((c.tc : Thread Cert.AdamIdeal.nD Cert.AdamIdeal.τ).loc Cert.AdamIdeal.main_v0_18)) (v19 : (c : Dev Cert.AdamIdeal.nD) → Buf (Elt Ideal) ((c.tc : Thread Cert.AdamIdeal.nD Cert.AdamIdeal.τ).loc Cert.AdamIdeal.main_v0_19)) (v20 : (c : Dev Cert.AdamIdeal.nD) → Buf (Elt Ideal) ((c.tc : Thread Cert.AdamIdeal.nD Cert.AdamIdeal.τ).loc Cert.AdamIdeal.main_v0_20)) (v21 : (c : Dev Cert.AdamIdeal.nD) → Buf (Elt Ideal) ((c.tc : Thread Cert.AdamIdeal.nD Cert.AdamIdeal.τ).loc Cert.AdamIdeal.main_v0_21)) (v22 : (c : Dev Cert.AdamIdeal.nD) → Buf (Elt Ideal) ((c.tc : Thread Cert.AdamIdeal.nD Cert.AdamIdeal.τ).loc Cert.AdamIdeal.main_v0_22)) (v23 : (c : Dev Cert.AdamIdeal.nD) → Buf (Elt Ideal) ((c.tc : Thread Cert.AdamIdeal.nD Cert.AdamIdeal.τ).loc Cert.AdamIdeal.main_v0_23)) (v24 : (c : Dev Cert.AdamIdeal.nD) → Buf (Elt Ideal) ((c.tc : Thread Cert.AdamIdeal.nD Cert.AdamIdeal.τ).loc Cert.AdamIdeal.main_v0_24)) (v25 : (c : Dev Cert.AdamIdeal.nD) → Buf (Elt Ideal) ((c.tc : Thread Cert.AdamIdeal.nD Cert.AdamIdeal.τ).loc Cert.AdamIdeal.main_v0_25)) (v26 : (c : Dev Cert.AdamIdeal.nD) → Buf (Elt Ideal) ((c.tc : Thread Cert.AdamIdeal.nD Cert.AdamIdeal.τ).loc Cert.AdamIdeal.main_v0_26)) (v27 : (c : Dev Cert.AdamIdeal.nD) → Buf (Elt Ideal) ((c.tc : Thread Cert.AdamIdeal.nD Cert.AdamIdeal.τ).loc Cert.AdamIdeal.main_v0_27)) (v28 : (c : Dev Cert.AdamIdeal.nD) → Buf (Elt Ideal) ((c.tc : Thread Cert.AdamIdeal.nD Cert.AdamIdeal.τ).loc Cert.AdamIdeal.main_v0_28)) (v29 : (c : Dev Cert.AdamIdeal.nD) → Buf (Elt Ideal) ((c.tc : Thread Cert.AdamIdeal.nD Cert.AdamIdeal.τ).loc Cert.AdamIdeal.main_v0_29)) (v30 : (c : Dev Cert.AdamIdeal.nD) → Buf (Elt Ideal) ((c.tc : Thread Cert.AdamIdeal.nD Cert.AdamIdeal.τ).loc Cert.AdamIdeal.main_v0_30)) (v31 : (c : Dev Cert.AdamIdeal.nD) → Buf (Elt Ideal) ((c.tc : Thread Cert.AdamIdeal.nD Cert.AdamIdeal.τ).loc Cert.AdamIdeal.main_v0_31)) (v32 : (c : Dev Cert.AdamIdeal.nD) → Buf (Elt Ideal) ((c.tc : Thread Cert.AdamIdeal.nD Cert.AdamIdeal.τ).loc Cert.AdamIdeal.main_v0_32)) (v33 : (c : Dev Cert.AdamIdeal.nD) → Buf (Elt Ideal) ((c.tc : Thread Cert.AdamIdeal.nD Cert.AdamIdeal.τ).loc Cert.AdamIdeal.main_v0_33)) (v34 : (c : Dev Cert.AdamIdeal.nD) → Buf (Elt Ideal) ((c.tc : Thread Cert.AdamIdeal.nD Cert.AdamIdeal.τ).loc Cert.AdamIdeal.main_v0_34)) (v35 : (c : Dev Cert.AdamIdeal.nD) → Buf (Elt Ideal) ((c.tc : Thread Cert.AdamIdeal.nD Cert.AdamIdeal.τ).loc Cert.AdamIdeal.main_v0_35)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_v0_4) = v4 c
          ∧ r.2.mem ((c.tc : Thread Cert.AdamIdeal.nD Cert.AdamIdeal.τ).loc Cert.AdamIdeal.main_v0_5) = v5 c
          ∧ r.2.mem ((c.tc : Thread Cert.AdamIdeal.nD Cert.AdamIdeal.τ).loc Cert.AdamIdeal.main_v0_6) = v6 c
          ∧ r.2.mem ((c.tc : Thread Cert.AdamIdeal.nD Cert.AdamIdeal.τ).loc Cert.AdamIdeal.main_v0_7) = v7 c
          ∧ r.2.mem ((c.tc : Thread Cert.AdamIdeal.nD Cert.AdamIdeal.τ).loc Cert.AdamIdeal.main_v0_8) = v8 c
          ∧ r.2.mem ((c.tc : Thread Cert.AdamIdeal.nD Cert.AdamIdeal.τ).loc Cert.AdamIdeal.main_v0_9) = v9 c
          ∧ r.2.mem ((c.tc : Thread Cert.AdamIdeal.nD Cert.AdamIdeal.τ).loc Cert.AdamIdeal.main_v0_10) = v10 c
          ∧ r.2.mem ((c.tc : Thread Cert.AdamIdeal.nD Cert.AdamIdeal.τ).loc Cert.AdamIdeal.main_v0_11) = v11 c
          ∧ r.2.mem ((c.tc : Thread Cert.AdamIdeal.nD Cert.AdamIdeal.τ).loc Cert.AdamIdeal.main_v0_12) = v12 c
          ∧ r.2.mem ((c.tc : Thread Cert.AdamIdeal.nD Cert.AdamIdeal.τ).loc Cert.AdamIdeal.main_v0_13) = v13 c
          ∧ r.2.mem ((c.tc : Thread Cert.AdamIdeal.nD Cert.AdamIdeal.τ).loc Cert.AdamIdeal.main_v0_14) = v14 c
          ∧ r.2.mem ((c.tc : Thread Cert.AdamIdeal.nD Cert.AdamIdeal.τ).loc Cert.AdamIdeal.main_v0_15) = v15 c
          ∧ r.2.mem ((c.tc : Thread Cert.AdamIdeal.nD Cert.AdamIdeal.τ).loc Cert.AdamIdeal.main_v0_16) = v16 c
          ∧ r.2.mem ((c.tc : Thread Cert.AdamIdeal.nD Cert.AdamIdeal.τ).loc Cert.AdamIdeal.main_v0_17) = v17 c
          ∧ r.2.mem ((c.tc : Thread Cert.AdamIdeal.nD Cert.AdamIdeal.τ).loc Cert.AdamIdeal.main_v0_18) = v18 c
          ∧ r.2.mem ((c.tc : Thread Cert.AdamIdeal.nD Cert.AdamIdeal.τ).loc Cert.AdamIdeal.main_v0_19) = v19 c
          ∧ r.2.mem ((c.tc : Thread Cert.AdamIdeal.nD Cert.AdamIdeal.τ).loc Cert.AdamIdeal.main_v0_20) = v20 c
          ∧ r.2.mem ((c.tc : Thread Cert.AdamIdeal.nD Cert.AdamIdeal.τ).loc Cert.AdamIdeal.main_v0_21) = v21 c
          ∧ r.2.mem ((c.tc : Thread Cert.AdamIdeal.nD Cert.AdamIdeal.τ).loc Cert.AdamIdeal.main_v0_22) = v22 c
          ∧ r.2.mem ((c.tc : Thread Cert.AdamIdeal.nD Cert.AdamIdeal.τ).loc Cert.AdamIdeal.main_v0_23) = v23 c
          ∧ r.2.mem ((c.tc : Thread Cert.AdamIdeal.nD Cert.AdamIdeal.τ).loc Cert.AdamIdeal.main_v0_24) = v24 c
          ∧ r.2.mem ((c.tc : Thread Cert.AdamIdeal.nD Cert.AdamIdeal.τ).loc Cert.AdamIdeal.main_v0_25) = v25 c
          ∧ r.2.mem ((c.tc : Thread Cert.AdamIdeal.nD Cert.AdamIdeal.τ).loc Cert.AdamIdeal.main_v0_26) = v26 c
          ∧ r.2.mem ((c.tc : Thread Cert.AdamIdeal.nD Cert.AdamIdeal.τ).loc Cert.AdamIdeal.main_v0_27) = v27 c
          ∧ r.2.mem ((c.tc : Thread Cert.AdamIdeal.nD Cert.AdamIdeal.τ).loc Cert.AdamIdeal.main_v0_28) = v28 c
          ∧ r.2.mem ((c.tc : Thread Cert.AdamIdeal.nD Cert.AdamIdeal.τ).loc Cert.AdamIdeal.main_v0_29) = v29 c
          ∧ r.2.mem ((c.tc : Thread Cert.AdamIdeal.nD Cert.AdamIdeal.τ).loc Cert.AdamIdeal.main_v0_30) = v30 c
          ∧ r.2.mem ((c.tc : Thread Cert.AdamIdeal.nD Cert.AdamIdeal.τ).loc Cert.AdamIdeal.main_v0_31) = v31 c
          ∧ r.2.mem ((c.tc : Thread Cert.AdamIdeal.nD Cert.AdamIdeal.τ).loc Cert.AdamIdeal.main_v0_32) = v32 c
          ∧ r.2.mem ((c.tc : Thread Cert.AdamIdeal.nD Cert.AdamIdeal.τ).loc Cert.AdamIdeal.main_v0_33) = v33 c
          ∧ r.2.mem ((c.tc : Thread Cert.AdamIdeal.nD Cert.AdamIdeal.τ).loc Cert.AdamIdeal.main_v0_34) = v34 c
          ∧ r.2.mem ((c.tc : Thread Cert.AdamIdeal.nD Cert.AdamIdeal.τ).loc Cert.AdamIdeal.main_v0_35) = v35 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
          ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
          ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
          ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
          ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
          ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
          ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
          ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
          ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
          ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
          ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
          ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
          ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
          ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
          ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
          ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
          ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27)
          ∧ r.2.mem ((c.tc : Thread Cert.AdamIdeal.nD Cert.AdamIdeal.τ).loc Cert.AdamIdeal.main_arg28) = m ((c.tc : Thread Cert.AdamIdeal.nD Cert.AdamIdeal.τ).loc Cert.AdamIdeal.main_arg28)
          ∧ r.2.mem ((c.tc : Thread Cert.AdamIdeal.nD Cert.AdamIdeal.τ).loc Cert.AdamIdeal.main_arg29) = m ((c.tc : Thread Cert.AdamIdeal.nD Cert.AdamIdeal.τ).loc Cert.AdamIdeal.main_arg29)
          ∧ r.2.mem ((c.tc : Thread Cert.AdamIdeal.nD Cert.AdamIdeal.τ).loc Cert.AdamIdeal.main_arg30) = m ((c.tc : Thread Cert.AdamIdeal.nD Cert.AdamIdeal.τ).loc Cert.AdamIdeal.main_arg30)
          ∧ r.2.mem ((c.tc : Thread Cert.AdamIdeal.nD Cert.AdamIdeal.τ).loc Cert.AdamIdeal.main_arg31) = m ((c.tc : Thread Cert.AdamIdeal.nD Cert.AdamIdeal.τ).loc Cert.AdamIdeal.main_arg31)
          ∧ r.2.mem ((c.tc : Thread Cert.AdamIdeal.nD Cert.AdamIdeal.τ).loc Cert.AdamIdeal.main_arg32) = m ((c.tc : Thread Cert.AdamIdeal.nD Cert.AdamIdeal.τ).loc Cert.AdamIdeal.main_arg32)
          ∧ r.2.mem ((c.tc : Thread Cert.AdamIdeal.nD Cert.AdamIdeal.τ).loc Cert.AdamIdeal.main_arg33) = m ((c.tc : Thread Cert.AdamIdeal.nD Cert.AdamIdeal.τ).loc Cert.AdamIdeal.main_arg33)
          ∧ r.2.mem ((c.tc : Thread Cert.AdamIdeal.nD Cert.AdamIdeal.τ).loc Cert.AdamIdeal.main_arg34) = m ((c.tc : Thread Cert.AdamIdeal.nD Cert.AdamIdeal.τ).loc Cert.AdamIdeal.main_arg34)
          ∧ r.2.mem ((c.tc : Thread Cert.AdamIdeal.nD Cert.AdamIdeal.τ).loc Cert.AdamIdeal.main_arg35) = m ((c.tc : Thread Cert.AdamIdeal.nD Cert.AdamIdeal.τ).loc Cert.AdamIdeal.main_arg35)
          ∧ r.2.mem ((c.tc : Thread Cert.AdamIdeal.nD Cert.AdamIdeal.τ).loc Cert.AdamIdeal.main_arg36) = m ((c.tc : Thread Cert.AdamIdeal.nD Cert.AdamIdeal.τ).loc Cert.AdamIdeal.main_arg36)
          ∧ r.2.mem ((c.tc : Thread Cert.AdamIdeal.nD Cert.AdamIdeal.τ).loc Cert.AdamIdeal.main_arg37) = m ((c.tc : Thread Cert.AdamIdeal.nD Cert.AdamIdeal.τ).loc Cert.AdamIdeal.main_arg37)
          ∧ r.2.mem ((c.tc : Thread Cert.AdamIdeal.nD Cert.AdamIdeal.τ).loc Cert.AdamIdeal.main_arg38) = m ((c.tc : Thread Cert.AdamIdeal.nD Cert.AdamIdeal.τ).loc Cert.AdamIdeal.main_arg38)
          ∧ r.2.mem ((c.tc : Thread Cert.AdamIdeal.nD Cert.AdamIdeal.τ).loc Cert.AdamIdeal.main_arg39) = m ((c.tc : Thread Cert.AdamIdeal.nD Cert.AdamIdeal.τ).loc Cert.AdamIdeal.main_arg39)
          ∧ r.2.mem ((c.tc : Thread Cert.AdamIdeal.nD Cert.AdamIdeal.τ).loc Cert.AdamIdeal.main_arg40) = m ((c.tc : Thread Cert.AdamIdeal.nD Cert.AdamIdeal.τ).loc Cert.AdamIdeal.main_arg40)
          ∧ r.2.mem ((c.tc : Thread Cert.AdamIdeal.nD Cert.AdamIdeal.τ).loc Cert.AdamIdeal.main_arg41) = m ((c.tc : Thread Cert.AdamIdeal.nD Cert.AdamIdeal.τ).loc Cert.AdamIdeal.main_arg41)
          ∧ r.2.mem ((c.tc : Thread Cert.AdamIdeal.nD Cert.AdamIdeal.τ).loc Cert.AdamIdeal.main_arg42) = m ((c.tc : Thread Cert.AdamIdeal.nD Cert.AdamIdeal.τ).loc Cert.AdamIdeal.main_arg42)
          ∧ r.2.mem ((c.tc : Thread Cert.AdamIdeal.nD Cert.AdamIdeal.τ).loc Cert.AdamIdeal.main_arg43) = m ((c.tc : Thread Cert.AdamIdeal.nD Cert.AdamIdeal.τ).loc Cert.AdamIdeal.main_arg43)
          ∧ r.2.mem ((c.tc : Thread Cert.AdamIdeal.nD Cert.AdamIdeal.τ).loc Cert.AdamIdeal.main_arg44) = m ((c.tc : Thread Cert.AdamIdeal.nD Cert.AdamIdeal.τ).loc Cert.AdamIdeal.main_arg44)
          ∧ r.2.mem ((c.tc : Thread Cert.AdamIdeal.nD Cert.AdamIdeal.τ).loc Cert.AdamIdeal.main_arg45) = m ((c.tc : Thread Cert.AdamIdeal.nD Cert.AdamIdeal.τ).loc Cert.AdamIdeal.main_arg45)
          ∧ r.2.mem ((c.tc : Thread Cert.AdamIdeal.nD Cert.AdamIdeal.τ).loc Cert.AdamIdeal.main_arg46) = m ((c.tc : Thread Cert.AdamIdeal.nD Cert.AdamIdeal.τ).loc Cert.AdamIdeal.main_arg46)
          ∧ r.2.mem ((c.tc : Thread Cert.AdamIdeal.nD Cert.AdamIdeal.τ).loc Cert.AdamIdeal.main_arg47) = m ((c.tc : Thread Cert.AdamIdeal.nD Cert.AdamIdeal.τ).loc Cert.AdamIdeal.main_arg47))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v47) = v1 c
          ∧ r.2.mem ((c.tc : Thread Cert.AdamRefIdeal.nD Cert.AdamRefIdeal.τ).loc Cert.AdamRefIdeal.main_v71) = v2 c
          ∧ r.2.mem ((c.tc : Thread Cert.AdamRefIdeal.nD Cert.AdamRefIdeal.τ).loc Cert.AdamRefIdeal.main_v95) = v3 c
          ∧ r.2.mem ((c.tc : Thread Cert.AdamRefIdeal.nD Cert.AdamRefIdeal.τ).loc Cert.AdamRefIdeal.main_v119) = v4 c
          ∧ r.2.mem ((c.tc : Thread Cert.AdamRefIdeal.nD Cert.AdamRefIdeal.τ).loc Cert.AdamRefIdeal.main_v143) = v5 c
          ∧ r.2.mem ((c.tc : Thread Cert.AdamRefIdeal.nD Cert.AdamRefIdeal.τ).loc Cert.AdamRefIdeal.main_v167) = v6 c
          ∧ r.2.mem ((c.tc : Thread Cert.AdamRefIdeal.nD Cert.AdamRefIdeal.τ).loc Cert.AdamRefIdeal.main_v191) = v7 c
          ∧ r.2.mem ((c.tc : Thread Cert.AdamRefIdeal.nD Cert.AdamRefIdeal.τ).loc Cert.AdamRefIdeal.main_v215) = v8 c
          ∧ r.2.mem ((c.tc : Thread Cert.AdamRefIdeal.nD Cert.AdamRefIdeal.τ).loc Cert.AdamRefIdeal.main_v239) = v9 c
          ∧ r.2.mem ((c.tc : Thread Cert.AdamRefIdeal.nD Cert.AdamRefIdeal.τ).loc Cert.AdamRefIdeal.main_v263) = v10 c
          ∧ r.2.mem ((c.tc : Thread Cert.AdamRefIdeal.nD Cert.AdamRefIdeal.τ).loc Cert.AdamRefIdeal.main_v287) = v11 c
          ∧ r.2.mem ((c.tc : Thread Cert.AdamRefIdeal.nD Cert.AdamRefIdeal.τ).loc Cert.AdamRefIdeal.main_v4) = v12 c
          ∧ r.2.mem ((c.tc : Thread Cert.AdamRefIdeal.nD Cert.AdamRefIdeal.τ).loc Cert.AdamRefIdeal.main_v28) = v13 c
          ∧ r.2.mem ((c.tc : Thread Cert.AdamRefIdeal.nD Cert.AdamRefIdeal.τ).loc Cert.AdamRefIdeal.main_v52) = v14 c
          ∧ r.2.mem ((c.tc : Thread Cert.AdamRefIdeal.nD Cert.AdamRefIdeal.τ).loc Cert.AdamRefIdeal.main_v76) = v15 c
          ∧ r.2.mem ((c.tc : Thread Cert.AdamRefIdeal.nD Cert.AdamRefIdeal.τ).loc Cert.AdamRefIdeal.main_v100) = v16 c
          ∧ r.2.mem ((c.tc : Thread Cert.AdamRefIdeal.nD Cert.AdamRefIdeal.τ).loc Cert.AdamRefIdeal.main_v124) = v17 c
          ∧ r.2.mem ((c.tc : Thread Cert.AdamRefIdeal.nD Cert.AdamRefIdeal.τ).loc Cert.AdamRefIdeal.main_v148) = v18 c
          ∧ r.2.mem ((c.tc : Thread Cert.AdamRefIdeal.nD Cert.AdamRefIdeal.τ).loc Cert.AdamRefIdeal.main_v172) = v19 c
          ∧ r.2.mem ((c.tc : Thread Cert.AdamRefIdeal.nD Cert.AdamRefIdeal.τ).loc Cert.AdamRefIdeal.main_v196) = v20 c
          ∧ r.2.mem ((c.tc : Thread Cert.AdamRefIdeal.nD Cert.AdamRefIdeal.τ).loc Cert.AdamRefIdeal.main_v220) = v21 c
          ∧ r.2.mem ((c.tc : Thread Cert.AdamRefIdeal.nD Cert.AdamRefIdeal.τ).loc Cert.AdamRefIdeal.main_v244) = v22 c
          ∧ r.2.mem ((c.tc : Thread Cert.AdamRefIdeal.nD Cert.AdamRefIdeal.τ).loc Cert.AdamRefIdeal.main_v268) = v23 c
          ∧ r.2.mem ((c.tc : Thread Cert.AdamRefIdeal.nD Cert.AdamRefIdeal.τ).loc Cert.AdamRefIdeal.main_v10) = v24 c
          ∧ r.2.mem ((c.tc : Thread Cert.AdamRefIdeal.nD Cert.AdamRefIdeal.τ).loc Cert.AdamRefIdeal.main_v34) = v25 c
          ∧ r.2.mem ((c.tc : Thread Cert.AdamRefIdeal.nD Cert.AdamRefIdeal.τ).loc Cert.AdamRefIdeal.main_v58) = v26 c
          ∧ r.2.mem ((c.tc : Thread Cert.AdamRefIdeal.nD Cert.AdamRefIdeal.τ).loc Cert.AdamRefIdeal.main_v82) = v27 c
          ∧ r.2.mem ((c.tc : Thread Cert.AdamRefIdeal.nD Cert.AdamRefIdeal.τ).loc Cert.AdamRefIdeal.main_v106) = v28 c
          ∧ r.2.mem ((c.tc : Thread Cert.AdamRefIdeal.nD Cert.AdamRefIdeal.τ).loc Cert.AdamRefIdeal.main_v130) = v29 c
          ∧ r.2.mem ((c.tc : Thread Cert.AdamRefIdeal.nD Cert.AdamRefIdeal.τ).loc Cert.AdamRefIdeal.main_v154) = v30 c
          ∧ r.2.mem ((c.tc : Thread Cert.AdamRefIdeal.nD Cert.AdamRefIdeal.τ).loc Cert.AdamRefIdeal.main_v178) = v31 c
          ∧ r.2.mem ((c.tc : Thread Cert.AdamRefIdeal.nD Cert.AdamRefIdeal.τ).loc Cert.AdamRefIdeal.main_v202) = v32 c
          ∧ r.2.mem ((c.tc : Thread Cert.AdamRefIdeal.nD Cert.AdamRefIdeal.τ).loc Cert.AdamRefIdeal.main_v226) = v33 c
          ∧ r.2.mem ((c.tc : Thread Cert.AdamRefIdeal.nD Cert.AdamRefIdeal.τ).loc Cert.AdamRefIdeal.main_v250) = v34 c
          ∧ r.2.mem ((c.tc : Thread Cert.AdamRefIdeal.nD Cert.AdamRefIdeal.τ).loc Cert.AdamRefIdeal.main_v274) = v35 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7)
          ∧ r.2.mem ((c.tc : Thread Cert.AdamRefIdeal.nD Cert.AdamRefIdeal.τ).loc Cert.AdamRefIdeal.main_arg8) = m' ((c.tc : Thread Cert.AdamRefIdeal.nD Cert.AdamRefIdeal.τ).loc Cert.AdamRefIdeal.main_arg8)
          ∧ r.2.mem ((c.tc : Thread Cert.AdamRefIdeal.nD Cert.AdamRefIdeal.τ).loc Cert.AdamRefIdeal.main_arg9) = m' ((c.tc : Thread Cert.AdamRefIdeal.nD Cert.AdamRefIdeal.τ).loc Cert.AdamRefIdeal.main_arg9)
          ∧ r.2.mem ((c.tc : Thread Cert.AdamRefIdeal.nD Cert.AdamRefIdeal.τ).loc Cert.AdamRefIdeal.main_arg10) = m' ((c.tc : Thread Cert.AdamRefIdeal.nD Cert.AdamRefIdeal.τ).loc Cert.AdamRefIdeal.main_arg10)
          ∧ r.2.mem ((c.tc : Thread Cert.AdamRefIdeal.nD Cert.AdamRefIdeal.τ).loc Cert.AdamRefIdeal.main_arg11) = m' ((c.tc : Thread Cert.AdamRefIdeal.nD Cert.AdamRefIdeal.τ).loc Cert.AdamRefIdeal.main_arg11)
          ∧ r.2.mem ((c.tc : Thread Cert.AdamRefIdeal.nD Cert.AdamRefIdeal.τ).loc Cert.AdamRefIdeal.main_arg12) = m' ((c.tc : Thread Cert.AdamRefIdeal.nD Cert.AdamRefIdeal.τ).loc Cert.AdamRefIdeal.main_arg12)
          ∧ r.2.mem ((c.tc : Thread Cert.AdamRefIdeal.nD Cert.AdamRefIdeal.τ).loc Cert.AdamRefIdeal.main_arg13) = m' ((c.tc : Thread Cert.AdamRefIdeal.nD Cert.AdamRefIdeal.τ).loc Cert.AdamRefIdeal.main_arg13)
          ∧ r.2.mem ((c.tc : Thread Cert.AdamRefIdeal.nD Cert.AdamRefIdeal.τ).loc Cert.AdamRefIdeal.main_arg14) = m' ((c.tc : Thread Cert.AdamRefIdeal.nD Cert.AdamRefIdeal.τ).loc Cert.AdamRefIdeal.main_arg14)
          ∧ r.2.mem ((c.tc : Thread Cert.AdamRefIdeal.nD Cert.AdamRefIdeal.τ).loc Cert.AdamRefIdeal.main_arg15) = m' ((c.tc : Thread Cert.AdamRefIdeal.nD Cert.AdamRefIdeal.τ).loc Cert.AdamRefIdeal.main_arg15)
          ∧ r.2.mem ((c.tc : Thread Cert.AdamRefIdeal.nD Cert.AdamRefIdeal.τ).loc Cert.AdamRefIdeal.main_arg16) = m' ((c.tc : Thread Cert.AdamRefIdeal.nD Cert.AdamRefIdeal.τ).loc Cert.AdamRefIdeal.main_arg16)
          ∧ r.2.mem ((c.tc : Thread Cert.AdamRefIdeal.nD Cert.AdamRefIdeal.τ).loc Cert.AdamRefIdeal.main_arg17) = m' ((c.tc : Thread Cert.AdamRefIdeal.nD Cert.AdamRefIdeal.τ).loc Cert.AdamRefIdeal.main_arg17)
          ∧ r.2.mem ((c.tc : Thread Cert.AdamRefIdeal.nD Cert.AdamRefIdeal.τ).loc Cert.AdamRefIdeal.main_arg18) = m' ((c.tc : Thread Cert.AdamRefIdeal.nD Cert.AdamRefIdeal.τ).loc Cert.AdamRefIdeal.main_arg18)
          ∧ r.2.mem ((c.tc : Thread Cert.AdamRefIdeal.nD Cert.AdamRefIdeal.τ).loc Cert.AdamRefIdeal.main_arg19) = m' ((c.tc : Thread Cert.AdamRefIdeal.nD Cert.AdamRefIdeal.τ).loc Cert.AdamRefIdeal.main_arg19)
          ∧ r.2.mem ((c.tc : Thread Cert.AdamRefIdeal.nD Cert.AdamRefIdeal.τ).loc Cert.AdamRefIdeal.main_arg20) = m' ((c.tc : Thread Cert.AdamRefIdeal.nD Cert.AdamRefIdeal.τ).loc Cert.AdamRefIdeal.main_arg20)
          ∧ r.2.mem ((c.tc : Thread Cert.AdamRefIdeal.nD Cert.AdamRefIdeal.τ).loc Cert.AdamRefIdeal.main_arg21) = m' ((c.tc : Thread Cert.AdamRefIdeal.nD Cert.AdamRefIdeal.τ).loc Cert.AdamRefIdeal.main_arg21)
          ∧ r.2.mem ((c.tc : Thread Cert.AdamRefIdeal.nD Cert.AdamRefIdeal.τ).loc Cert.AdamRefIdeal.main_arg22) = m' ((c.tc : Thread Cert.AdamRefIdeal.nD Cert.AdamRefIdeal.τ).loc Cert.AdamRefIdeal.main_arg22)
          ∧ r.2.mem ((c.tc : Thread Cert.AdamRefIdeal.nD Cert.AdamRefIdeal.τ).loc Cert.AdamRefIdeal.main_arg23) = m' ((c.tc : Thread Cert.AdamRefIdeal.nD Cert.AdamRefIdeal.τ).loc Cert.AdamRefIdeal.main_arg23)
          ∧ r.2.mem ((c.tc : Thread Cert.AdamRefIdeal.nD Cert.AdamRefIdeal.τ).loc Cert.AdamRefIdeal.main_arg24) = m' ((c.tc : Thread Cert.AdamRefIdeal.nD Cert.AdamRefIdeal.τ).loc Cert.AdamRefIdeal.main_arg24)
          ∧ r.2.mem ((c.tc : Thread Cert.AdamRefIdeal.nD Cert.AdamRefIdeal.τ).loc Cert.AdamRefIdeal.main_arg25) = m' ((c.tc : Thread Cert.AdamRefIdeal.nD Cert.AdamRefIdeal.τ).loc Cert.AdamRefIdeal.main_arg25)
          ∧ r.2.mem ((c.tc : Thread Cert.AdamRefIdeal.nD Cert.AdamRefIdeal.τ).loc Cert.AdamRefIdeal.main_arg26) = m' ((c.tc : Thread Cert.AdamRefIdeal.nD Cert.AdamRefIdeal.τ).loc Cert.AdamRefIdeal.main_arg26)
          ∧ r.2.mem ((c.tc : Thread Cert.AdamRefIdeal.nD Cert.AdamRefIdeal.τ).loc Cert.AdamRefIdeal.main_arg27) = m' ((c.tc : Thread Cert.AdamRefIdeal.nD Cert.AdamRefIdeal.τ).loc Cert.AdamRefIdeal.main_arg27)
          ∧ r.2.mem ((c.tc : Thread Cert.AdamRefIdeal.nD Cert.AdamRefIdeal.τ).loc Cert.AdamRefIdeal.main_arg28) = m' ((c.tc : Thread Cert.AdamRefIdeal.nD Cert.AdamRefIdeal.τ).loc Cert.AdamRefIdeal.main_arg28)
          ∧ r.2.mem ((c.tc : Thread Cert.AdamRefIdeal.nD Cert.AdamRefIdeal.τ).loc Cert.AdamRefIdeal.main_arg29) = m' ((c.tc : Thread Cert.AdamRefIdeal.nD Cert.AdamRefIdeal.τ).loc Cert.AdamRefIdeal.main_arg29)
          ∧ r.2.mem ((c.tc : Thread Cert.AdamRefIdeal.nD Cert.AdamRefIdeal.τ).loc Cert.AdamRefIdeal.main_arg30) = m' ((c.tc : Thread Cert.AdamRefIdeal.nD Cert.AdamRefIdeal.τ).loc Cert.AdamRefIdeal.main_arg30)
          ∧ r.2.mem ((c.tc : Thread Cert.AdamRefIdeal.nD Cert.AdamRefIdeal.τ).loc Cert.AdamRefIdeal.main_arg31) = m' ((c.tc : Thread Cert.AdamRefIdeal.nD Cert.AdamRefIdeal.τ).loc Cert.AdamRefIdeal.main_arg31)
          ∧ r.2.mem ((c.tc : Thread Cert.AdamRefIdeal.nD Cert.AdamRefIdeal.τ).loc Cert.AdamRefIdeal.main_arg32) = m' ((c.tc : Thread Cert.AdamRefIdeal.nD Cert.AdamRefIdeal.τ).loc Cert.AdamRefIdeal.main_arg32)
          ∧ r.2.mem ((c.tc : Thread Cert.AdamRefIdeal.nD Cert.AdamRefIdeal.τ).loc Cert.AdamRefIdeal.main_arg33) = m' ((c.tc : Thread Cert.AdamRefIdeal.nD Cert.AdamRefIdeal.τ).loc Cert.AdamRefIdeal.main_arg33)
          ∧ r.2.mem ((c.tc : Thread Cert.AdamRefIdeal.nD Cert.AdamRefIdeal.τ).loc Cert.AdamRefIdeal.main_arg34) = m' ((c.tc : Thread Cert.AdamRefIdeal.nD Cert.AdamRefIdeal.τ).loc Cert.AdamRefIdeal.main_arg34)
          ∧ r.2.mem ((c.tc : Thread Cert.AdamRefIdeal.nD Cert.AdamRefIdeal.τ).loc Cert.AdamRefIdeal.main_arg35) = m' ((c.tc : Thread Cert.AdamRefIdeal.nD Cert.AdamRefIdeal.τ).loc Cert.AdamRefIdeal.main_arg35)
          ∧ r.2.mem ((c.tc : Thread Cert.AdamRefIdeal.nD Cert.AdamRefIdeal.τ).loc Cert.AdamRefIdeal.main_arg36) = m' ((c.tc : Thread Cert.AdamRefIdeal.nD Cert.AdamRefIdeal.τ).loc Cert.AdamRefIdeal.main_arg36)
          ∧ r.2.mem ((c.tc : Thread Cert.AdamRefIdeal.nD Cert.AdamRefIdeal.τ).loc Cert.AdamRefIdeal.main_arg37) = m' ((c.tc : Thread Cert.AdamRefIdeal.nD Cert.AdamRefIdeal.τ).loc Cert.AdamRefIdeal.main_arg37)
          ∧ r.2.mem ((c.tc : Thread Cert.AdamRefIdeal.nD Cert.AdamRefIdeal.τ).loc Cert.AdamRefIdeal.main_arg38) = m' ((c.tc : Thread Cert.AdamRefIdeal.nD Cert.AdamRefIdeal.τ).loc Cert.AdamRefIdeal.main_arg38)
          ∧ r.2.mem ((c.tc : Thread Cert.AdamRefIdeal.nD Cert.AdamRefIdeal.τ).loc Cert.AdamRefIdeal.main_arg39) = m' ((c.tc : Thread Cert.AdamRefIdeal.nD Cert.AdamRefIdeal.τ).loc Cert.AdamRefIdeal.main_arg39)
          ∧ r.2.mem ((c.tc : Thread Cert.AdamRefIdeal.nD Cert.AdamRefIdeal.τ).loc Cert.AdamRefIdeal.main_arg40) = m' ((c.tc : Thread Cert.AdamRefIdeal.nD Cert.AdamRefIdeal.τ).loc Cert.AdamRefIdeal.main_arg40)
          ∧ r.2.mem ((c.tc : Thread Cert.AdamRefIdeal.nD Cert.AdamRefIdeal.τ).loc Cert.AdamRefIdeal.main_arg41) = m' ((c.tc : Thread Cert.AdamRefIdeal.nD Cert.AdamRefIdeal.τ).loc Cert.AdamRefIdeal.main_arg41)
          ∧ r.2.mem ((c.tc : Thread Cert.AdamRefIdeal.nD Cert.AdamRefIdeal.τ).loc Cert.AdamRefIdeal.main_arg42) = m' ((c.tc : Thread Cert.AdamRefIdeal.nD Cert.AdamRefIdeal.τ).loc Cert.AdamRefIdeal.main_arg42)
          ∧ r.2.mem ((c.tc : Thread Cert.AdamRefIdeal.nD Cert.AdamRefIdeal.τ).loc Cert.AdamRefIdeal.main_arg43) = m' ((c.tc : Thread Cert.AdamRefIdeal.nD Cert.AdamRefIdeal.τ).loc Cert.AdamRefIdeal.main_arg43)
          ∧ r.2.mem ((c.tc : Thread Cert.AdamRefIdeal.nD Cert.AdamRefIdeal.τ).loc Cert.AdamRefIdeal.main_arg44) = m' ((c.tc : Thread Cert.AdamRefIdeal.nD Cert.AdamRefIdeal.τ).loc Cert.AdamRefIdeal.main_arg44)
          ∧ r.2.mem ((c.tc : Thread Cert.AdamRefIdeal.nD Cert.AdamRefIdeal.τ).loc Cert.AdamRefIdeal.main_arg45) = m' ((c.tc : Thread Cert.AdamRefIdeal.nD Cert.AdamRefIdeal.τ).loc Cert.AdamRefIdeal.main_arg45)
          ∧ r.2.mem ((c.tc : Thread Cert.AdamRefIdeal.nD Cert.AdamRefIdeal.τ).loc Cert.AdamRefIdeal.main_arg46) = m' ((c.tc : Thread Cert.AdamRefIdeal.nD Cert.AdamRefIdeal.τ).loc Cert.AdamRefIdeal.main_arg46)
          ∧ r.2.mem ((c.tc : Thread Cert.AdamRefIdeal.nD Cert.AdamRefIdeal.τ).loc Cert.AdamRefIdeal.main_arg47) = m' ((c.tc : Thread Cert.AdamRefIdeal.nD Cert.AdamRefIdeal.τ).loc Cert.AdamRefIdeal.main_arg47))

def preserves_BwdIn_BwdInIdeal : Prop :=
  True

def algebraic_BwdInIdeal_BwdInRefIdeal_pre_finite_bwd [hBwdInIdeal : Cert.BwdInIdeal.Facts] [hBwdInRefIdeal : Cert.BwdInRefIdeal.Facts] [hPre_finite_bwd : Cert.Pre_finite_bwd.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal_finite_bwd m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)
      ∧ m' ((c.tc : Thread Cert.BwdInRefIdeal.nD Cert.BwdInRefIdeal.τ).loc Cert.BwdInRefIdeal.main_arg5) = m ((c.tc : Thread Cert.BwdInIdeal.nD Cert.BwdInIdeal.τ).loc Cert.BwdInIdeal.main_arg5)
      ∧ m' ((c.tc : Thread Cert.BwdInRefIdeal.nD Cert.BwdInRefIdeal.τ).loc Cert.BwdInRefIdeal.main_arg6) = m ((c.tc : Thread Cert.BwdInIdeal.nD Cert.BwdInIdeal.τ).loc Cert.BwdInIdeal.main_arg6)
      ∧ m' ((c.tc : Thread Cert.BwdInRefIdeal.nD Cert.BwdInRefIdeal.τ).loc Cert.BwdInRefIdeal.main_arg7) = m ((c.tc : Thread Cert.BwdInIdeal.nD Cert.BwdInIdeal.τ).loc Cert.BwdInIdeal.main_arg7)
      ∧ m' ((c.tc : Thread Cert.BwdInRefIdeal.nD Cert.BwdInRefIdeal.τ).loc Cert.BwdInRefIdeal.main_arg8) = m ((c.tc : Thread Cert.BwdInIdeal.nD Cert.BwdInIdeal.τ).loc Cert.BwdInIdeal.main_arg8)
      ∧ m' ((c.tc : Thread Cert.BwdInRefIdeal.nD Cert.BwdInRefIdeal.τ).loc Cert.BwdInRefIdeal.main_arg9) = m ((c.tc : Thread Cert.BwdInIdeal.nD Cert.BwdInIdeal.τ).loc Cert.BwdInIdeal.main_arg9)
      ∧ m' ((c.tc : Thread Cert.BwdInRefIdeal.nD Cert.BwdInRefIdeal.τ).loc Cert.BwdInRefIdeal.main_arg10) = m ((c.tc : Thread Cert.BwdInIdeal.nD Cert.BwdInIdeal.τ).loc Cert.BwdInIdeal.main_arg10)
      ∧ m' ((c.tc : Thread Cert.BwdInRefIdeal.nD Cert.BwdInRefIdeal.τ).loc Cert.BwdInRefIdeal.main_arg11) = m ((c.tc : Thread Cert.BwdInIdeal.nD Cert.BwdInIdeal.τ).loc Cert.BwdInIdeal.main_arg11)
      ∧ m' ((c.tc : Thread Cert.BwdInRefIdeal.nD Cert.BwdInRefIdeal.τ).loc Cert.BwdInRefIdeal.main_arg12) = m ((c.tc : Thread Cert.BwdInIdeal.nD Cert.BwdInIdeal.τ).loc Cert.BwdInIdeal.main_arg12)
      ∧ m' ((c.tc : Thread Cert.BwdInRefIdeal.nD Cert.BwdInRefIdeal.τ).loc Cert.BwdInRefIdeal.main_arg13) = m ((c.tc : Thread Cert.BwdInIdeal.nD Cert.BwdInIdeal.τ).loc Cert.BwdInIdeal.main_arg13)
      ∧ m' ((c.tc : Thread Cert.BwdInRefIdeal.nD Cert.BwdInRefIdeal.τ).loc Cert.BwdInRefIdeal.main_arg14) = m ((c.tc : Thread Cert.BwdInIdeal.nD Cert.BwdInIdeal.τ).loc Cert.BwdInIdeal.main_arg14)
      ∧ m' ((c.tc : Thread Cert.BwdInRefIdeal.nD Cert.BwdInRefIdeal.τ).loc Cert.BwdInRefIdeal.main_arg15) = m ((c.tc : Thread Cert.BwdInIdeal.nD Cert.BwdInIdeal.τ).loc Cert.BwdInIdeal.main_arg15)
      ∧ m' ((c.tc : Thread Cert.BwdInRefIdeal.nD Cert.BwdInRefIdeal.τ).loc Cert.BwdInRefIdeal.main_arg16) = m ((c.tc : Thread Cert.BwdInIdeal.nD Cert.BwdInIdeal.τ).loc Cert.BwdInIdeal.main_arg16)) →
    ∃ (v0 : (c : Dev Cert.BwdInIdeal.nD) → Buf (Elt Ideal) ((c.tc : Thread Cert.BwdInIdeal.nD Cert.BwdInIdeal.τ).loc Cert.BwdInIdeal.main_v18_0)) (v1 : (c : Dev Cert.BwdInIdeal.nD) → Buf (Elt Ideal) ((c.tc : Thread Cert.BwdInIdeal.nD Cert.BwdInIdeal.τ).loc Cert.BwdInIdeal.main_v18_1)) (v2 : (c : Dev Cert.BwdInIdeal.nD) → Buf (Elt Ideal) ((c.tc : Thread Cert.BwdInIdeal.nD Cert.BwdInIdeal.τ).loc Cert.BwdInIdeal.main_v18_2)) (v3 : (c : Dev Cert.BwdInIdeal.nD) → Buf (Elt Ideal) ((c.tc : Thread Cert.BwdInIdeal.nD Cert.BwdInIdeal.τ).loc Cert.BwdInIdeal.main_v18_3)) (v4 : (c : Dev Cert.BwdInIdeal.nD) → Buf (Elt Ideal) ((c.tc : Thread Cert.BwdInIdeal.nD Cert.BwdInIdeal.τ).loc Cert.BwdInIdeal.main_v18_4)) (v5 : (c : Dev Cert.BwdInIdeal.nD) → Buf (Elt Ideal) ((c.tc : Thread Cert.BwdInIdeal.nD Cert.BwdInIdeal.τ).loc Cert.BwdInIdeal.main_v18_5)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v18_0) = v0 c
          ∧ r.2.mem ((c.tc : Thread Cert.BwdInIdeal.nD Cert.BwdInIdeal.τ).loc Cert.BwdInIdeal.main_v18_1) = v1 c
          ∧ r.2.mem ((c.tc : Thread Cert.BwdInIdeal.nD Cert.BwdInIdeal.τ).loc Cert.BwdInIdeal.main_v18_2) = v2 c
          ∧ r.2.mem ((c.tc : Thread Cert.BwdInIdeal.nD Cert.BwdInIdeal.τ).loc Cert.BwdInIdeal.main_v18_3) = v3 c
          ∧ r.2.mem ((c.tc : Thread Cert.BwdInIdeal.nD Cert.BwdInIdeal.τ).loc Cert.BwdInIdeal.main_v18_4) = v4 c
          ∧ r.2.mem ((c.tc : Thread Cert.BwdInIdeal.nD Cert.BwdInIdeal.τ).loc Cert.BwdInIdeal.main_v18_5) = v5 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
          ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
          ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7)
          ∧ r.2.mem ((c.tc : Thread Cert.BwdInIdeal.nD Cert.BwdInIdeal.τ).loc Cert.BwdInIdeal.main_arg8) = m ((c.tc : Thread Cert.BwdInIdeal.nD Cert.BwdInIdeal.τ).loc Cert.BwdInIdeal.main_arg8)
          ∧ r.2.mem ((c.tc : Thread Cert.BwdInIdeal.nD Cert.BwdInIdeal.τ).loc Cert.BwdInIdeal.main_arg9) = m ((c.tc : Thread Cert.BwdInIdeal.nD Cert.BwdInIdeal.τ).loc Cert.BwdInIdeal.main_arg9)
          ∧ r.2.mem ((c.tc : Thread Cert.BwdInIdeal.nD Cert.BwdInIdeal.τ).loc Cert.BwdInIdeal.main_arg10) = m ((c.tc : Thread Cert.BwdInIdeal.nD Cert.BwdInIdeal.τ).loc Cert.BwdInIdeal.main_arg10)
          ∧ r.2.mem ((c.tc : Thread Cert.BwdInIdeal.nD Cert.BwdInIdeal.τ).loc Cert.BwdInIdeal.main_arg11) = m ((c.tc : Thread Cert.BwdInIdeal.nD Cert.BwdInIdeal.τ).loc Cert.BwdInIdeal.main_arg11)
          ∧ r.2.mem ((c.tc : Thread Cert.BwdInIdeal.nD Cert.BwdInIdeal.τ).loc Cert.BwdInIdeal.main_arg12) = m ((c.tc : Thread Cert.BwdInIdeal.nD Cert.BwdInIdeal.τ).loc Cert.BwdInIdeal.main_arg12)
          ∧ r.2.mem ((c.tc : Thread Cert.BwdInIdeal.nD Cert.BwdInIdeal.τ).loc Cert.BwdInIdeal.main_arg13) = m ((c.tc : Thread Cert.BwdInIdeal.nD Cert.BwdInIdeal.τ).loc Cert.BwdInIdeal.main_arg13)
          ∧ r.2.mem ((c.tc : Thread Cert.BwdInIdeal.nD Cert.BwdInIdeal.τ).loc Cert.BwdInIdeal.main_arg14) = m ((c.tc : Thread Cert.BwdInIdeal.nD Cert.BwdInIdeal.τ).loc Cert.BwdInIdeal.main_arg14)
          ∧ r.2.mem ((c.tc : Thread Cert.BwdInIdeal.nD Cert.BwdInIdeal.τ).loc Cert.BwdInIdeal.main_arg15) = m ((c.tc : Thread Cert.BwdInIdeal.nD Cert.BwdInIdeal.τ).loc Cert.BwdInIdeal.main_arg15)
          ∧ r.2.mem ((c.tc : Thread Cert.BwdInIdeal.nD Cert.BwdInIdeal.τ).loc Cert.BwdInIdeal.main_arg16) = m ((c.tc : Thread Cert.BwdInIdeal.nD Cert.BwdInIdeal.τ).loc Cert.BwdInIdeal.main_arg16))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v127) = v0 c
          ∧ r.2.mem ((c.tc : Thread Cert.BwdInRefIdeal.nD Cert.BwdInRefIdeal.τ).loc Cert.BwdInRefIdeal.main_v75) = v1 c
          ∧ r.2.mem ((c.tc : Thread Cert.BwdInRefIdeal.nD Cert.BwdInRefIdeal.τ).loc Cert.BwdInRefIdeal.main_v102) = v2 c
          ∧ r.2.mem ((c.tc : Thread Cert.BwdInRefIdeal.nD Cert.BwdInRefIdeal.τ).loc Cert.BwdInRefIdeal.main_v105) = v3 c
          ∧ r.2.mem ((c.tc : Thread Cert.BwdInRefIdeal.nD Cert.BwdInRefIdeal.τ).loc Cert.BwdInRefIdeal.main_v110) = v4 c
          ∧ r.2.mem ((c.tc : Thread Cert.BwdInRefIdeal.nD Cert.BwdInRefIdeal.τ).loc Cert.BwdInRefIdeal.main_v68) = v5 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4)
          ∧ r.2.mem ((c.tc : Thread Cert.BwdInRefIdeal.nD Cert.BwdInRefIdeal.τ).loc Cert.BwdInRefIdeal.main_arg5) = m' ((c.tc : Thread Cert.BwdInRefIdeal.nD Cert.BwdInRefIdeal.τ).loc Cert.BwdInRefIdeal.main_arg5)
          ∧ r.2.mem ((c.tc : Thread Cert.BwdInRefIdeal.nD Cert.BwdInRefIdeal.τ).loc Cert.BwdInRefIdeal.main_arg6) = m' ((c.tc : Thread Cert.BwdInRefIdeal.nD Cert.BwdInRefIdeal.τ).loc Cert.BwdInRefIdeal.main_arg6)
          ∧ r.2.mem ((c.tc : Thread Cert.BwdInRefIdeal.nD Cert.BwdInRefIdeal.τ).loc Cert.BwdInRefIdeal.main_arg7) = m' ((c.tc : Thread Cert.BwdInRefIdeal.nD Cert.BwdInRefIdeal.τ).loc Cert.BwdInRefIdeal.main_arg7)
          ∧ r.2.mem ((c.tc : Thread Cert.BwdInRefIdeal.nD Cert.BwdInRefIdeal.τ).loc Cert.BwdInRefIdeal.main_arg8) = m' ((c.tc : Thread Cert.BwdInRefIdeal.nD Cert.BwdInRefIdeal.τ).loc Cert.BwdInRefIdeal.main_arg8)
          ∧ r.2.mem ((c.tc : Thread Cert.BwdInRefIdeal.nD Cert.BwdInRefIdeal.τ).loc Cert.BwdInRefIdeal.main_arg9) = m' ((c.tc : Thread Cert.BwdInRefIdeal.nD Cert.BwdInRefIdeal.τ).loc Cert.BwdInRefIdeal.main_arg9)
          ∧ r.2.mem ((c.tc : Thread Cert.BwdInRefIdeal.nD Cert.BwdInRefIdeal.τ).loc Cert.BwdInRefIdeal.main_arg10) = m' ((c.tc : Thread Cert.BwdInRefIdeal.nD Cert.BwdInRefIdeal.τ).loc Cert.BwdInRefIdeal.main_arg10)
          ∧ r.2.mem ((c.tc : Thread Cert.BwdInRefIdeal.nD Cert.BwdInRefIdeal.τ).loc Cert.BwdInRefIdeal.main_arg11) = m' ((c.tc : Thread Cert.BwdInRefIdeal.nD Cert.BwdInRefIdeal.τ).loc Cert.BwdInRefIdeal.main_arg11)
          ∧ r.2.mem ((c.tc : Thread Cert.BwdInRefIdeal.nD Cert.BwdInRefIdeal.τ).loc Cert.BwdInRefIdeal.main_arg12) = m' ((c.tc : Thread Cert.BwdInRefIdeal.nD Cert.BwdInRefIdeal.τ).loc Cert.BwdInRefIdeal.main_arg12)
          ∧ r.2.mem ((c.tc : Thread Cert.BwdInRefIdeal.nD Cert.BwdInRefIdeal.τ).loc Cert.BwdInRefIdeal.main_arg13) = m' ((c.tc : Thread Cert.BwdInRefIdeal.nD Cert.BwdInRefIdeal.τ).loc Cert.BwdInRefIdeal.main_arg13)
          ∧ r.2.mem ((c.tc : Thread Cert.BwdInRefIdeal.nD Cert.BwdInRefIdeal.τ).loc Cert.BwdInRefIdeal.main_arg14) = m' ((c.tc : Thread Cert.BwdInRefIdeal.nD Cert.BwdInRefIdeal.τ).loc Cert.BwdInRefIdeal.main_arg14)
          ∧ r.2.mem ((c.tc : Thread Cert.BwdInRefIdeal.nD Cert.BwdInRefIdeal.τ).loc Cert.BwdInRefIdeal.main_arg15) = m' ((c.tc : Thread Cert.BwdInRefIdeal.nD Cert.BwdInRefIdeal.τ).loc Cert.BwdInRefIdeal.main_arg15)
          ∧ r.2.mem ((c.tc : Thread Cert.BwdInRefIdeal.nD Cert.BwdInRefIdeal.τ).loc Cert.BwdInRefIdeal.main_arg16) = m' ((c.tc : Thread Cert.BwdInRefIdeal.nD Cert.BwdInRefIdeal.τ).loc Cert.BwdInRefIdeal.main_arg16))

def Claim : Prop :=
  ∃ (hOutLoss : Cert.OutLoss.Facts) (hOutLossIdeal : Cert.OutLossIdeal.Facts) (hOutLossRefIdeal : Cert.OutLossRefIdeal.Facts) (hAttnFwd : Cert.AttnFwd.Facts) (hAttnFwdIdeal : Cert.AttnFwdIdeal.Facts) (hAttnFwdRefIdeal : Cert.AttnFwdRefIdeal.Facts) (hConvFwd : Cert.ConvFwd.Facts) (hConvFwdIdeal : Cert.ConvFwdIdeal.Facts) (hConvFwdRefIdeal : Cert.ConvFwdRefIdeal.Facts) (hAdam : Cert.Adam.Facts) (hAdamIdeal : Cert.AdamIdeal.Facts) (hAdamRefIdeal : Cert.AdamRefIdeal.Facts) (hBwdIn : Cert.BwdIn.Facts) (hBwdInIdeal : Cert.BwdInIdeal.Facts) (hBwdInRefIdeal : Cert.BwdInRefIdeal.Facts) (hPre_finite_attn : Cert.Pre_finite_attn.Facts) (hPre_finite_bwd : Cert.Pre_finite_bwd.Facts),
    quiescent_OutLoss (hOutLoss := hOutLoss)
    ∧ quiescent_OutLossIdeal (hOutLossIdeal := hOutLossIdeal)
    ∧ quiescent_OutLossRefIdeal (hOutLossRefIdeal := hOutLossRefIdeal)
    ∧ quiescent_AttnFwd (hAttnFwd := hAttnFwd)
    ∧ quiescent_AttnFwdIdeal (hAttnFwdIdeal := hAttnFwdIdeal)
    ∧ quiescent_AttnFwdIdeal_pre_finite_attn (hAttnFwdIdeal := hAttnFwdIdeal) (hPre_finite_attn := hPre_finite_attn)
    ∧ quiescent_AttnFwdRefIdeal (hAttnFwdRefIdeal := hAttnFwdRefIdeal)
    ∧ quiescent_AttnFwdRefIdeal_pre_finite_attn (hAttnFwdRefIdeal := hAttnFwdRefIdeal) (hPre_finite_attn := hPre_finite_attn)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Adam (hAdam := hAdam)
    ∧ quiescent_AdamIdeal (hAdamIdeal := hAdamIdeal)
    ∧ quiescent_AdamRefIdeal (hAdamRefIdeal := hAdamRefIdeal)
    ∧ quiescent_BwdIn (hBwdIn := hBwdIn)
    ∧ quiescent_BwdInIdeal (hBwdInIdeal := hBwdInIdeal)
    ∧ quiescent_BwdInIdeal_pre_finite_bwd (hBwdInIdeal := hBwdInIdeal) (hPre_finite_bwd := hPre_finite_bwd)
    ∧ quiescent_BwdInRefIdeal (hBwdInRefIdeal := hBwdInRefIdeal)
    ∧ quiescent_BwdInRefIdeal_pre_finite_bwd (hBwdInRefIdeal := hBwdInRefIdeal) (hPre_finite_bwd := hPre_finite_bwd)
    ∧ preserves_OutLoss_OutLossIdeal
    ∧ algebraic_OutLossIdeal_OutLossRefIdeal (hOutLossIdeal := hOutLossIdeal) (hOutLossRefIdeal := hOutLossRefIdeal)
    ∧ preserves_AttnFwd_AttnFwdIdeal
    ∧ algebraic_AttnFwdIdeal_AttnFwdRefIdeal_pre_finite_attn (hAttnFwdIdeal := hAttnFwdIdeal) (hAttnFwdRefIdeal := hAttnFwdRefIdeal) (hPre_finite_attn := hPre_finite_attn)
    ∧ preserves_ConvFwd_ConvFwdIdeal
    ∧ algebraic_ConvFwdIdeal_ConvFwdRefIdeal (hConvFwdIdeal := hConvFwdIdeal) (hConvFwdRefIdeal := hConvFwdRefIdeal)
    ∧ preserves_Adam_AdamIdeal
    ∧ algebraic_AdamIdeal_AdamRefIdeal (hAdamIdeal := hAdamIdeal) (hAdamRefIdeal := hAdamRefIdeal)
    ∧ preserves_BwdIn_BwdInIdeal
    ∧ algebraic_BwdInIdeal_BwdInRefIdeal_pre_finite_bwd (hBwdInIdeal := hBwdInIdeal) (hBwdInRefIdeal := hBwdInRefIdeal) (hPre_finite_bwd := hPre_finite_bwd)
-- ==== Pre_finite_attn.lean ====
abbrev S1x8 : Shape := ⟨2, ![1, 8]⟩
abbrev S2048x512 : Shape := ⟨2, ![2048, 512]⟩
abbrev S2048x128 : Shape := ⟨2, ![2048, 128]⟩
abbrev S_ : Shape := ⟨0, ![]⟩

class Facts : Prop where
  bcast_S_S1x8 : S_.BroadcastsInDim S1x8 (![] : Fin 0 → Fin S1x8.rank)
  bitsLt_bf16_f32 : FTy.bits .bf16 < FTy.bits .f32
  bcast_S_S2048x512 : S_.BroadcastsInDim S2048x512 (![] : Fin 0 → Fin S2048x512.rank)
  bcast_S_S2048x128 : S_.BroadcastsInDim S2048x128 (![] : Fin 0 → Fin S2048x128.rank)

variable [Facts]

def fn {F : FTy → Type} [FloatOps F] (main_arg0 : FVec F S1x8 .f32) (main_arg1 : FVec F S2048x512 .bf16) (main_arg2 : FVec F S2048x128 .bf16) (main_arg3 : FVec F S2048x128 .bf16) : IVec S1x8 1 × IVec S2048x512 1 × IVec S2048x128 1 :=
  let main_v0 : FVec F S1x8 .f32 := Host.absf main_arg0
  let main_cst : FVec F S_ .f32 := constant S_ .f32 0x7F800000#32
  let main_v1 : FVec F S1x8 .f32 := broadcastInDim S1x8 ![] bcast_S_S1x8 main_cst
  let main_v2 : IVec S1x8 1 := cmpf .olt main_v0 main_v1
  let main_v3 : FVec F S2048x512 .f32 := (extf .f32 · bitsLt_bf16_f32) main_arg1
  let main_v4 : FVec F S2048x512 .f32 := Host.absf main_v3
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_v7 : FVec F S2048x128 .f32 := (extf .f32 · bitsLt_bf16_f32) main_arg2
  let main_v8 : FVec F S2048x128 .f32 := Host.absf main_v7
  let main_cst_1 : FVec F S_ .f32 := constant S_ .f32 0x7F800000#32
  let main_v9 : FVec F S2048x128 .f32 := broadcastInDim S2048x128 ![] bcast_S_S2048x128 main_cst_1
  let main_v10 : IVec S2048x128 1 := cmpf .olt main_v8 main_v9
  (main_v2, main_v6, main_v10)
-- ==== Pre_finite_bwd.lean ====
abbrev S2048x512 : Shape := ⟨2, ![2048, 512]⟩
abbrev S2048x128 : Shape := ⟨2, ![2048, 128]⟩
abbrev S1x128 : Shape := ⟨2, ![1, 128]⟩
abbrev S2048x32 : Shape := ⟨2, ![2048, 32]⟩
abbrev S2048x1024 : Shape := ⟨2, ![2048, 1024]⟩
abbrev S1024x2816 : Shape := ⟨2, ![1024, 2816]⟩
abbrev S1x3072 : Shape := ⟨2, ![1, 3072]⟩
abbrev S1x1024 : Shape := ⟨2, ![1, 1024]⟩
abbrev S_ : Shape := ⟨0, ![]⟩

class Facts : Prop where
  slices_S1x3072_S1x1024_0_1024 : S1x3072.Slices ![0, 1024] S1x1024
  bcast_S_S2048x512 : S_.BroadcastsInDim S2048x512 (![] : Fin 0 → Fin S2048x512.rank)
  bcast_S_S2048x128 : S_.BroadcastsInDim S2048x128 (![] : Fin 0 → Fin S2048x128.rank)
  bcast_S_S1x128 : S_.BroadcastsInDim S1x128 (![] : Fin 0 → Fin S1x128.rank)
  bcast_S_S2048x32 : S_.BroadcastsInDim S2048x32 (![] : Fin 0 → Fin S2048x32.rank)
  bitsLt_bf16_f32 : FTy.bits .bf16 < FTy.bits .f32
  bcast_S_S1024x2816 : S_.BroadcastsInDim S1024x2816 (![] : Fin 0 → Fin S1024x2816.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn_part2 {F : FTy → Type} [FloatOps F] (main_arg13 : FVec F S2048x1024 .f32) (main_arg16 : FVec F S1x1024 .f32) (main_v0 : FVec F S1x1024 .f32) (main_v3 : IVec S2048x512 1) (main_v6 : IVec S2048x128 1) (main_v9 : IVec S2048x128 1) (main_v12 : IVec S2048x512 1) (main_v15 : IVec S2048x512 1) (main_v18 : IVec S2048x512 1) (main_v21 : IVec S2048x512 1) (main_v24 : IVec S2048x128 1) (main_v27 : IVec S1x128 1) (main_v30 : IVec S2048x32 1) (main_v33 : IVec S2048x32 1) (main_v35 : FVec F S1024x2816 .f32) (main_cst_10 : FVec F S_ .f32) : IVec S2048x512 1 × IVec S2048x128 1 × IVec S2048x128 1 × IVec S2048x512 1 × IVec S2048x512 1 × IVec S2048x512 1 × IVec S2048x512 1 × IVec S2048x128 1 × IVec S1x128 1 × IVec S2048x32 1 × IVec S2048x32 1 × IVec S1024x2816 1 × IVec S2048x1024 1 × IVec S1x1024 1 × IVec S1x1024 1 :=
  let main_v36 : FVec F S1024x2816 .f32 := broadcastInDim S1024x2816 ![] bcast_S_S1024x2816 main_cst_10
  let main_v37 : IVec S1024x2816 1 := cmpf .olt main_v35 main_v36
  let main_v38 : FVec F S2048x1024 .f32 := Host.absf main_arg13
  let main_cst_11 : FVec F S_ .f32 := constant S_ .f32 0x7F800000#32
  let main_v39 : FVec F S2048x1024 .f32 := broadcastInDim S2048x1024 ![] bcast_S_S2048x1024 main_cst_11
  let main_v40 : IVec S2048x1024 1 := cmpf .olt main_v38 main_v39
  let main_v41 : FVec F S1x1024 .f32 := Host.absf main_v0
  let main_cst_12 : FVec F S_ .f32 := constant S_ .f32 0x7F800000#32
  let main_v42 : FVec F S1x1024 .f32 := broadcastInDim S1x1024 ![] bcast_S_S1x1024 main_cst_12
  let main_v43 : IVec S1x1024 1 := cmpf .olt main_v41 main_v42
  let main_v44 : FVec F S1x1024 .f32 := Host.absf main_arg16
  let main_cst_13 : FVec F S_ .f32 := constant S_ .f32 0x7F800000#32
  let main_v45 : FVec F S1x1024 .f32 := broadcastInDim S1x1024 ![] bcast_S_S1x1024 main_cst_13
  let main_v46 : IVec S1x1024 1 := cmpf .olt main_v44 main_v45
  (main_v3, main_v6, main_v9, main_v12, main_v15, main_v18, main_v21, main_v24, main_v27, main_v30, main_v33, main_v37, main_v40, main_v43, main_v46)

def fn_part1 {F : FTy → Type} [FloatOps F] (main_arg6 : FVec F S2048x512 .f32) (main_arg7 : FVec F S2048x128 .f32) (main_arg8 : FVec F S1x128 .f32) (main_arg9 : FVec F S2048x32 .f32) (main_arg10 : FVec F S2048x32 .f32) (main_arg12 : FVec F S1024x2816 .bf16) (main_arg13 : FVec F S2048x1024 .f32) (main_arg16 : FVec F S1x1024 .f32) (main_v0 : FVec F S1x1024 .f32) (main_v3 : IVec S2048x512 1) (main_v6 : IVec S2048x128 1) (main_v9 : IVec S2048x128 1) (main_v12 : IVec S2048x512 1) (main_v15 : IVec S2048x512 1) (main_v16 : FVec F S2048x512 .f32) (main_v17 : FVec F S2048x512 .f32) : IVec S2048x512 1 × IVec S2048x128 1 × IVec S2048x128 1 × IVec S2048x512 1 × IVec S2048x512 1 × IVec S2048x512 1 × IVec S2048x512 1 × IVec S2048x128 1 × IVec S1x128 1 × IVec S2048x32 1 × IVec S2048x32 1 × IVec S1024x2816 1 × IVec S2048x1024 1 × IVec S1x1024 1 × IVec S1x1024 1 :=
  let main_v18 : IVec S2048x512 1 := cmpf .olt main_v16 main_v17
  let main_v19 : FVec F S2048x512 .f32 := Host.absf main_arg6
  let main_cst_5 : FVec F S_ .f32 := constant S_ .f32 0x7F800000#32
  let main_v20 : FVec F S2048x512 .f32 := broadcastInDim S2048x512 ![] bcast_S_S2048x512 main_cst_5
  let main_v21 : IVec S2048x512 1 := cmpf .olt main_v19 main_v20
  let main_v22 : FVec F S2048x128 .f32 := Host.absf main_arg7
  let main_cst_6 : FVec F S_ .f32 := constant S_ .f32 0x7F800000#32
  let main_v23 : FVec F S2048x128 .f32 := broadcastInDim S2048x128 ![] bcast_S_S2048x128 main_cst_6
  let main_v24 : IVec S2048x128 1 := cmpf .olt main_v22 main_v23
  let main_v25 : FVec F S1x128 .f32 := Host.absf main_arg8
  let main_cst_7 : FVec F S_ .f32 := constant S_ .f32 0x7F800000#32
  let main_v26 : FVec F S1x128 .f32 := broadcastInDim S1x128 ![] bcast_S_S1x128 main_cst_7
  let main_v27 : IVec S1x128 1 := cmpf .olt main_v25 main_v26
  let main_v28 : FVec F S2048x32 .f32 := Host.absf main_arg9
  let main_cst_8 : FVec F S_ .f32 := constant S_ .f32 0x7F800000#32
  let main_v29 : FVec F S2048x32 .f32 := broadcastInDim S2048x32 ![] bcast_S_S2048x32 main_cst_8
  let main_v30 : IVec S2048x32 1 := cmpf .olt main_v28 main_v29
  let main_v31 : FVec F S2048x32 .f32 := Host.absf main_arg10
  let main_cst_9 : FVec F S_ .f32 := constant S_ .f32 0x7F800000#32
  let main_v32 : FVec F S2048x32 .f32 := broadcastInDim S2048x32 ![] bcast_S_S2048x32 main_cst_9
  let main_v33 : IVec S2048x32 1 := cmpf .olt main_v31 main_v32
  let main_v34 : FVec F S1024x2816 .f32 := (extf .f32 · bitsLt_bf16_f32) main_arg12
  let main_v35 : FVec F S1024x2816 .f32 := Host.absf main_v34
  let main_cst_10 : FVec F S_ .f32 := constant S_ .f32 0x7F800000#32
  fn_part2 (F := F) main_arg13 main_arg16 main_v0 main_v3 main_v6 main_v9 main_v12 main_v15 main_v18 main_v21 main_v24 main_v27 main_v30 main_v33 main_v35 main_cst_10

def fn {F : FTy → Type} [FloatOps F] (main_arg0 : FVec F S2048x512 .f32) (main_arg1 : FVec F S2048x128 .f32) (main_arg2 : FVec F S2048x128 .f32) (main_arg3 : FVec F S2048x512 .f32) (main_arg4 : FVec F S2048x512 .f32) (main_arg5 : FVec F S2048x512 .f32) (main_arg6 : FVec F S2048x512 .f32) (main_arg7 : FVec F S2048x128 .f32) (main_arg8 : FVec F S1x128 .f32) (main_arg9 : FVec F S2048x32 .f32) (main_arg10 : FVec F S2048x32 .f32) (main_arg11 : FVec F S2048x1024 .bf16) (main_arg12 : FVec F S1024x2816 .bf16) (main_arg13 : FVec F S2048x1024 .f32) (main_arg14 : FVec F S2048x1024 .f32) (main_arg15 : FVec F S1x3072 .f32) (main_arg16 : FVec F S1x1024 .f32) : IVec S2048x512 1 × IVec S2048x128 1 × IVec S2048x128 1 × IVec S2048x512 1 × IVec S2048x512 1 × IVec S2048x512 1 × IVec S2048x512 1 × IVec S2048x128 1 × IVec S1x128 1 × IVec S2048x32 1 × IVec S2048x32 1 × IVec S1024x2816 1 × IVec S2048x1024 1 × IVec S1x1024 1 × IVec S1x1024 1 :=
  let main_v0 : FVec F S1x1024 .f32 := (extractStridedSlice S1x1024 ![0, 1024] · slices_S1x3072_S1x1024_0_1024) main_arg15
  let main_v1 : FVec F S2048x512 .f32 := Host.absf main_arg0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_v7 : FVec F S2048x128 .f32 := Host.absf main_arg2
  let main_cst_1 : FVec F S_ .f32 := constant S_ .f32 0x7F800000#32
  let main_v8 : FVec F S2048x128 .f32 := broadcastInDim S2048x128 ![] bcast_S_S2048x128 main_cst_1
  let main_v9 : IVec S2048x128 1 := cmpf .olt main_v7 main_v8
  let main_v10 : FVec F S2048x512 .f32 := Host.absf main_arg3
  let main_cst_2 : FVec F S_ .f32 := constant S_ .f32 0x7F800000#32
  let main_v11 : FVec F S2048x512 .f32 := broadcastInDim S2048x512 ![] bcast_S_S2048x512 main_cst_2
  let main_v12 : IVec S2048x512 1 := cmpf .olt main_v10 main_v11
  let main_v13 : FVec F S2048x512 .f32 := Host.absf main_arg4
  let main_cst_3 : FVec F S_ .f32 := constant S_ .f32 0x7F800000#32
  let main_v14 : FVec F S2048x512 .f32 := broadcastInDim S2048x512 ![] bcast_S_S2048x512 main_cst_3
  let main_v15 : IVec S2048x512 1 := cmpf .olt main_v13 main_v14
  let main_v16 : FVec F S2048x512 .f32 := Host.absf main_arg5
  let main_cst_4 : FVec F S_ .f32 := constant S_ .f32 0x7F800000#32
  let main_v17 : FVec F S2048x512 .f32 := broadcastInDim S2048x512 ![] bcast_S_S2048x512 main_cst_4
  fn_part1 (F := F) main_arg6 main_arg7 main_arg8 main_arg9 main_arg10 main_arg12 main_arg13 main_arg16 main_v0 main_v3 main_v6 main_v9 main_v12 main_v15 main_v16 main_v17
-- ==== OutLoss.lean ====
abbrev S2048x512 : Shape := ⟨2, ![2048, 512]⟩
abbrev S2048x1024 : Shape := ⟨2, ![2048, 1024]⟩
abbrev S1x3072 : Shape := ⟨2, ![1, 3072]⟩
abbrev S1024x1024 : Shape := ⟨2, ![1024, 1024]⟩
abbrev S1x128 : Shape := ⟨2, ![1, 128]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 13
  | .vmem => 21
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x1024, .f32⟩
  | .hbm, ⟨4, _⟩ => ⟨S2048x1024, .f32⟩
  | .hbm, ⟨5, _⟩ => ⟨S1x3072, .f32⟩
  | .hbm, ⟨6, _⟩ => ⟨S1024x1024, .bf16⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S1024x1024, .f32⟩
  | .hbm, ⟨11, _⟩ => ⟨S1x128, .f32⟩
  | .hbm, ⟨12, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x3072, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S1024x1024, .f32⟩
  | .local _ .vmem, ⟨19, _⟩ => ⟨S1x128, .f32⟩
  | .local _ .vmem, ⟨20, _⟩ => ⟨S1x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutLossRefIdeal.lean ====
abbrev S2048x512 : Shape := ⟨2, ![2048, 512]⟩
abbrev S2048x1024 : Shape := ⟨2, ![2048, 1024]⟩
abbrev S1x3072 : Shape := ⟨2, ![1, 3072]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S1024 : Shape := ⟨1, ![1024]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x1024, .f32⟩
  | .hbm, ⟨4, _⟩ => ⟨S2048x1024, .f32⟩
  | .hbm, ⟨5, _⟩ => ⟨S1x3072, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S1024x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S1024x1024, .f32⟩
  | .hbm, ⟨58, _⟩ => ⟨S1024x1024, .f32⟩
  | .hbm, ⟨59, _⟩ => ⟨S2048x1024, .f32⟩
  | .hbm, ⟨60, _⟩ => ⟨S2048x512, .f32⟩
  | .hbm, ⟨61, _⟩ => ⟨S2048x512, .f32⟩
  | .hbm, ⟨62, _⟩ => ⟨S1x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_cst_5 : Ref sig .tc := ⟨.hbm, 42, rfl⟩
abbrev main_cst_6 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== AttnFwd.lean ====
abbrev S1x8 : Shape := ⟨2, ![1, 8]⟩
abbrev S2048x512 : Shape := ⟨2, ![2048, 512]⟩
abbrev S2048x128 : Shape := ⟨2, ![2048, 128]⟩
abbrev S128x512 : Shape := ⟨2, ![128, 512]⟩
abbrev S128x128 : Shape := ⟨2, ![128, 128]⟩
abbrev S512x256 : Shape := ⟨2, ![512, 256]⟩
abbrev S128x64 : Shape := ⟨2, ![128, 64]⟩
abbrev S512x64 : Shape := ⟨2, ![512, 64]⟩
abbrev S256x64 : Shape := ⟨2, ![256, 64]⟩
abbrev S512x1 : Shape := ⟨2, ![512, 1]⟩
abbrev S1x1 : Shape := ⟨2, ![1, 1]⟩
abbrev S512 : Shape := ⟨1, ![512]⟩

abbrev nBuf : Space → Nat
  | .hbm => 5
  | .vmem => 12
  | .smem => 1
  | _ => 0

abbrev bufTy : (tb : Table) → Fin (tcTables nBuf tb) → BufTy
  | .hbm, ⟨0, _⟩ => ⟨S1x8, .f32⟩
  | .hbm, ⟨1, _⟩ => ⟨S2048x512, .bf16⟩
  | .hbm, ⟨2, _⟩ => ⟨S2048x128, .bf16⟩
  | .hbm, ⟨3, _⟩ => ⟨S2048x128, .bf16⟩
  | .hbm, ⟨4, _⟩ => ⟨S2048x512, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x512, .f32⟩
  | .local _ .vmem, ⟨11, _⟩ => ⟨S128x512, .f32⟩
  | .local _ .smem, ⟨0, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S1x8 : Shape := ⟨2, ![1, 8]⟩
abbrev S2048x512 : Shape := ⟨2, ![2048, 512]⟩
abbrev S2048x128 : Shape := ⟨2, ![2048, 128]⟩
abbrev S16x128x2x4x64 : Shape := ⟨5, ![16, 128, 2, 4, 64]⟩
abbrev S16x128x2x64 : Shape := ⟨4, ![16, 128, 2, 64]⟩
abbrev S1x128x2x64 : Shape := ⟨4, ![1, 128, 2, 64]⟩
abbrev S_ : Shape := ⟨0, ![]⟩
abbrev S15x128x2x64 : Shape := ⟨4, ![15, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S1x2x4x1x1 : Shape := ⟨5, ![1, 2, 4, 1, 1]⟩
abbrev S16x2x4x128 : Shape := ⟨4, ![16, 2, 4, 128]⟩
abbrev S16x2x4x128x1 : Shape := ⟨5, ![16, 2, 4, 128, 1]⟩
abbrev S16x2x64x4x128 : Shape := ⟨5, ![16, 2, 64, 4, 128]⟩

abbrev nBuf : Space → Nat
  | .hbm => 87
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S2048x512, .bf16⟩
  | .hbm, ⟨2, _⟩ => ⟨S2048x128, .bf16⟩
  | .hbm, ⟨3, _⟩ => ⟨S2048x128, .bf16⟩
  | .hbm, ⟨4, _⟩ => ⟨S2048x512, .f32⟩
  | .hbm, ⟨5, _⟩ => ⟨S2048x128, .f32⟩
  | .hbm, ⟨6, _⟩ => ⟨S2048x128, .f32⟩
  | .hbm, ⟨7, _⟩ => ⟨S16x128x2x4x64, .f32⟩
  | .hbm, ⟨8, _⟩ => ⟨S16x128x2x64, .f32⟩
  | .hbm, ⟨9, _⟩ => ⟨S1x128x2x64, .f32⟩
  | .hbm, ⟨10, _⟩ => ⟨S_, .f32⟩
  | .hbm, ⟨11, _⟩ => ⟨S1x128x2x64, .f32⟩
  | .hbm, ⟨12, _⟩ => ⟨S15x128x2x64, .f32⟩
  | .hbm, ⟨13, _⟩ => ⟨S16x128x2x64, .f32⟩
  | .hbm, ⟨14, _⟩ => ⟨S16x256x2x64, .f32⟩
  | .hbm, ⟨15, _⟩ => ⟨S16x128x2x64, .f32⟩
  | .hbm, ⟨16, _⟩ => ⟨S1x128x2x64, .f32⟩
  | .hbm, ⟨17, _⟩ => ⟨S_, .f32⟩
  | .hbm, ⟨18, _⟩ => ⟨S1x128x2x64, .f32⟩
  | .hbm, ⟨19, _⟩ => ⟨S15x128x2x64, .f32⟩
  | .hbm, ⟨20, _⟩ => ⟨S16x128x2x64, .f32⟩
  | .hbm, ⟨21, _⟩ => ⟨S16x256x2x64, .f32⟩
  | .hbm, ⟨22, _⟩ => ⟨S16x2x256x128x4, .f32⟩
  | .hbm, ⟨23, _⟩ => ⟨S16x2x4x128x256, .f32⟩
  | .hbm, ⟨24, _⟩ => ⟨S_, .f32⟩
  | .hbm, ⟨25, _⟩ => ⟨S16x2x4x128x256, .f32⟩
  | .hbm, ⟨26, _⟩ => ⟨S16x2x4x128x256, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S16, .i32⟩
  | .hbm, ⟨45, _⟩ => ⟨S16x1x1, .i32⟩
  | .hbm, ⟨46, _⟩ => ⟨S_, .i32⟩
  | .hbm, ⟨47, _⟩ => ⟨S16x1x1, .i32⟩
  | .hbm, ⟨48, _⟩ => ⟨S16x1x1, .i1⟩
  | .hbm, ⟨49, _⟩ => ⟨S1x1x256, .i32⟩
  | .hbm, ⟨50, _⟩ => ⟨S_, .i32⟩
  | .hbm, ⟨51, _⟩ => ⟨S1x1x256, .i32⟩
  | .hbm, ⟨52, _⟩ => ⟨S1x1x256, .i1⟩
  | .hbm, ⟨53, _⟩ => ⟨S16x1x256, .i1⟩
  | .hbm, ⟨54, _⟩ => ⟨S16x1x256, .i1⟩
  | .hbm, ⟨55, _⟩ => ⟨S16x1x256, .i1⟩
  | .hbm, ⟨56, _⟩ => ⟨S1x128x256, .i1⟩
  | .hbm, ⟨57, _⟩ => ⟨S16x128x256, .i1⟩
  | .hbm, ⟨58, _⟩ => ⟨S16x128x256, .i1⟩
  | .hbm, ⟨59, _⟩ => ⟨S16x128x256, .i1⟩
  | .hbm, ⟨60, _⟩ => ⟨S16x1x1x128x256, .i1⟩
  | .hbm, ⟨61, _⟩ => ⟨S_, .f32⟩
  | .hbm, ⟨62, _⟩ => ⟨S_, .f32⟩
  | .hbm, ⟨63, _⟩ => ⟨S16x2x4x128x256, .i1⟩
  | .hbm, ⟨64, _⟩ => ⟨S16x2x4x128x256, .f32⟩
  | .hbm, ⟨65, _⟩ => ⟨S16x2x4x128x256, .f32⟩
  | .hbm, ⟨66, _⟩ => ⟨S1x2x4x1x1, .f32⟩
  | .hbm, ⟨67, _⟩ => ⟨S_, .f32⟩
  | .hbm, ⟨68, _⟩ => ⟨S16x2x4x128, .f32⟩
  | .hbm, ⟨69, _⟩ => ⟨S16x2x4x128x1, .f32⟩
  | .hbm, ⟨70, _⟩ => ⟨S16x2x4x128x1, .f32⟩
  | .hbm, ⟨71, _⟩ => ⟨S16x2x4x128x1, .f32⟩
  | .hbm, ⟨72, _⟩ => ⟨S16x2x4x128x256, .f32⟩
  | .hbm, ⟨73, _⟩ => ⟨S16x2x4x128x256, .f32⟩
  | .hbm, ⟨74, _⟩ => ⟨S16x2x4x128x256, .f32⟩
  | .hbm, ⟨75, _⟩ => ⟨S_, .f32⟩
  | .hbm, ⟨76, _⟩ => ⟨S16x2x4x128, .f32⟩
  | .hbm, ⟨77, _⟩ => ⟨S16x2x4x128x1, .f32⟩
  | .hbm, ⟨78, _⟩ => ⟨S16x2x4x128x1, .f32⟩
  | .hbm, ⟨79, _⟩ => ⟨S16x2x4x128x1, .f32⟩
  | .hbm, ⟨80, _⟩ => ⟨S16x2x4x128x1, .f32⟩
  | .hbm, ⟨81, _⟩ => ⟨S16x2x4x128x1, .f32⟩
  | .hbm, ⟨82, _⟩ => ⟨S16x2x4x128x256, .f32⟩
  | .hbm, ⟨83, _⟩ => ⟨S16x2x4x128x256, .f32⟩
  | .hbm, ⟨84, _⟩ => ⟨S16x2x64x4x128, .f32⟩
  | .hbm, ⟨85, _⟩ => ⟨S16x128x2x4x64, .f32⟩
  | .hbm, ⟨86, _⟩ => ⟨S2048x512, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== ConvFwd.lean ====
abbrev S2048x512 : Shape := ⟨2, ![2048, 512]⟩
abbrev S32x512 : Shape := ⟨2, ![32, 512]⟩
abbrev S1x512 : Shape := ⟨2, ![1, 512]⟩
abbrev S256x512 : Shape := ⟨2, ![256, 512]⟩
abbrev S288x512 : Shape := ⟨2, ![288, 512]⟩
abbrev S280x512 : Shape := ⟨2, ![280, 512]⟩
abbrev S272x512 : Shape := ⟨2, ![272, 512]⟩
abbrev S256 : Shape := ⟨1, ![256]⟩
abbrev S256x1 : Shape := ⟨2, ![256, 1]⟩

abbrev nBuf : Space → Nat
  | .hbm => 8
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S32x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S2048x512, .f32⟩
  | .hbm, ⟨7, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S288x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvFwdRefIdeal.lean ====
abbrev S2048x512 : Shape := ⟨2, ![2048, 512]⟩
abbrev S32x512 : Shape := ⟨2, ![32, 512]⟩
abbrev S1x512 : Shape := ⟨2, ![1, 512]⟩
abbrev S_ : Shape := ⟨0, ![]⟩
abbrev S2078x512 : Shape := ⟨2, ![2078, 512]⟩
abbrev S512 : Shape := ⟨1, ![512]⟩
abbrev S2048 : Shape := ⟨1, ![2048]⟩
abbrev S2048x1 : Shape := ⟨2, ![2048, 1]⟩

abbrev nBuf : Space → Nat
  | .hbm => 276
  | .vmem => 0
  | .smem => 0
  | _ => 0

abbrev hbmTy0_0 (i : Nat) : BufTy := match i % 128 with
  | 0 => ⟨S2048x512, .f32⟩
  | 1 => ⟨S2048x512, .f32⟩
  | 2 => ⟨S32x512, .f32⟩
  | 3 => ⟨S1x512, .f32⟩
  | 4 => ⟨S1x512, .f32⟩
  | 5 => ⟨S1x512, .f32⟩
  | 6 => ⟨S_, .i32⟩
  | 7 => ⟨S_, .f32⟩
  | 8 => ⟨S2078x512, .f32⟩
  | 9 => ⟨S2048x512, .f32⟩
  | 10 => ⟨S1x512, .f32⟩
  | 11 => ⟨S512, .f32⟩
  | 12 => ⟨S1x512, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S2048x512, .f32⟩
  | 19 => ⟨S1x512, .f32⟩
  | 20 => ⟨S512, .f32⟩
  | 21 => ⟨S1x512, .f32⟩
  | 22 => ⟨S2048x512, .f32⟩
  | 23 => ⟨S2048x512, .f32⟩
  | 24 => ⟨S2048x512, .f32⟩
  | 25 => ⟨S2048x512, .f32⟩
  | 26 => ⟨S1x512, .f32⟩
  | 27 => ⟨S512, .f32⟩
  | 28 => ⟨S1x512, .f32⟩
  | 29 => ⟨S2048x512, .f32⟩
  | 30 => ⟨S2048x512, .f32⟩
  | 31 => ⟨S2048x512, .f32⟩
  | 32 => ⟨S2048x512, .f32⟩
  | 33 => ⟨S1x512, .f32⟩
  | 34 => ⟨S512, .f32⟩
  | 35 => ⟨S1x512, .f32⟩
  | 36 => ⟨S2048x512, .f32⟩
  | 37 => ⟨S2048x512, .f32⟩
  | 38 => ⟨S2048x512, .f32⟩
  | 39 => ⟨S2048x512, .f32⟩
  | 40 => ⟨S1x512, .f32⟩
  | 41 => ⟨S512, .f32⟩
  | 42 => ⟨S1x512, .f32⟩
  | 43 => ⟨S2048x512, .f32⟩
  | 44 => ⟨S2048x512, .f32⟩
  | 45 => ⟨S2048x512, .f32⟩
  | 46 => ⟨S2048x512, .f32⟩
  | 47 => ⟨S1x512, .f32⟩
  | 48 => ⟨S512, .f32⟩
  | 49 => ⟨S1x512, .f32⟩
  | 50 => ⟨S2048x512, .f32⟩
  | 51 => ⟨S2048x512, .f32⟩
  | 52 => ⟨S2048x512, .f32⟩
  | 53 => ⟨S2048x512, .f32⟩
  | 54 => ⟨S1x512, .f32⟩
  | 55 => ⟨S512, .f32⟩
  | 56 => ⟨S1x512, .f32⟩
  | 57 => ⟨S2048x512, .f32⟩
  | 58 => ⟨S2048x512, .f32⟩
  | 59 => ⟨S2048x512, .f32⟩
  | 60 => ⟨S2048x512, .f32⟩
  | 61 => ⟨S1x512, .f32⟩
  | 62 => ⟨S512, .f32⟩
  | 63 => ⟨S1x512, .f32⟩
  | 64 => ⟨S2048x512, .f32⟩
  | 65 => ⟨S2048x512, .f32⟩
  | 66 => ⟨S2048x512, .f32⟩
  | 67 => ⟨S2048x512, .f32⟩
  | 68 => ⟨S1x512, .f32⟩
  | 69 => ⟨S512, .f32⟩
  | 70 => ⟨S1x512, .f32⟩
  | 71 => ⟨S2048x512, .f32⟩
  | 72 => ⟨S2048x512, .f32⟩
  | 73 => ⟨S2048x512, .f32⟩
  | 74 => ⟨S2048x512, .f32⟩
  | 75 => ⟨S1x512, .f32⟩
  | 76 => ⟨S512, .f32⟩
  | 77 => ⟨S1x512, .f32⟩
  | 78 => ⟨S2048x512, .f32⟩
  | 79 => ⟨S2048x512, .f32⟩
  | 80 => ⟨S2048x512, .f32⟩
  | 81 => ⟨S2048x512, .f32⟩
  | 82 => ⟨S1x512, .f32⟩
  | 83 => ⟨S512, .f32⟩
  | 84 => ⟨S1x512, .f32⟩
  | 85 => ⟨S2048x512, .f32⟩
  | 86 => ⟨S2048x512, .f32⟩
  | 87 => ⟨S2048x512, .f32⟩
  | 88 => ⟨S2048x512, .f32⟩
  | 89 => ⟨S1x512, .f32⟩
  | 90 => ⟨S512, .f32⟩
  | 91 => ⟨S1x512, .f32⟩
  | 92 => ⟨S2048x512, .f32⟩
  | 93 => ⟨S2048x512, .f32⟩
  | 94 => ⟨S2048x512, .f32⟩
  | 95 => ⟨S2048x512, .f32⟩
  | 96 => ⟨S1x512, .f32⟩
  | 97 => ⟨S512, .f32⟩
  | 98 => ⟨S1x512, .f32⟩
  | 99 => ⟨S2048x512, .f32⟩
  | 100 => ⟨S2048x512, .f32⟩
  | 101 => ⟨S2048x512, .f32⟩
  | 102 => ⟨S2048x512, .f32⟩
  | 103 => ⟨S1x512, .f32⟩
  | 104 => ⟨S512, .f32⟩
  | 105 => ⟨S1x512, .f32⟩
  | 106 => ⟨S2048x512, .f32⟩
  | 107 => ⟨S2048x512, .f32⟩
  | 108 => ⟨S2048x512, .f32⟩
  | 109 => ⟨S2048x512, .f32⟩
  | 110 => ⟨S1x512, .f32⟩
  | 111 => ⟨S512, .f32⟩
  | 112 => ⟨S1x512, .f32⟩
  | 113 => ⟨S2048x512, .f32⟩
  | 114 => ⟨S2048x512, .f32⟩
  | 115 => ⟨S2048x512, .f32⟩
  | 116 => ⟨S2048x512, .f32⟩
  | 117 => ⟨S1x512, .f32⟩
  | 118 => ⟨S512, .f32⟩
  | 119 => ⟨S1x512, .f32⟩
  | 120 => ⟨S2048x512, .f32⟩
  | 121 => ⟨S2048x512, .f32⟩
  | 122 => ⟨S2048x512, .f32⟩
  | 123 => ⟨S2048x512, .f32⟩
  | 124 => ⟨S1x512, .f32⟩
  | 125 => ⟨S512, .f32⟩
  | 126 => ⟨S1x512, .f32⟩
  | 127 => ⟨S2048x512, .f32⟩
  | _ => ⟨S2048x512, .f32⟩

abbrev hbmTy0_1 (i : Nat) : BufTy := match i % 128 with
  | 0 => ⟨S2048x512, .f32⟩
  | 1 => ⟨S2048x512, .f32⟩
  | 2 => ⟨S2048x512, .f32⟩
  | 3 => ⟨S1x512, .f32⟩
  | 4 => ⟨S512, .f32⟩
  | 5 => ⟨S1x512, .f32⟩
  | 6 => ⟨S2048x512, .f32⟩
  | 7 => ⟨S2048x512, .f32⟩
  | 8 => ⟨S2048x512, .f32⟩
  | 9 => ⟨S2048x512, .f32⟩
  | 10 => ⟨S1x512, .f32⟩
  | 11 => ⟨S512, .f32⟩
  | 12 => ⟨S1x512, .f32⟩
  | 13 => ⟨S2048x512, .f32⟩
  | 14 => ⟨S2048x512, .f32⟩
  | 15 => ⟨S2048x512, .f32⟩
  | 16 => ⟨S2048x512, .f32⟩
  | 17 => ⟨S1x512, .f32⟩
  | 18 => ⟨S512, .f32⟩
  | 19 => ⟨S1x512, .f32⟩
  | 20 => ⟨S2048x512, .f32⟩
  | 21 => ⟨S2048x512, .f32⟩
  | 22 => ⟨S2048x512, .f32⟩
  | 23 => ⟨S2048x512, .f32⟩
  | 24 => ⟨S1x512, .f32⟩
  | 25 => ⟨S512, .f32⟩
  | 26 => ⟨S1x512, .f32⟩
  | 27 => ⟨S2048x512, .f32⟩
  | 28 => ⟨S2048x512, .f32⟩
  | 29 => ⟨S2048x512, .f32⟩
  | 30 => ⟨S2048x512, .f32⟩
  | 31 => ⟨S1x512, .f32⟩
  | 32 => ⟨S512, .f32⟩
  | 33 => ⟨S1x512, .f32⟩
  | 34 => ⟨S2048x512, .f32⟩
  | 35 => ⟨S2048x512, .f32⟩
  | 36 => ⟨S2048x512, .f32⟩
  | 37 => ⟨S2048x512, .f32⟩
  | 38 => ⟨S1x512, .f32⟩
  | 39 => ⟨S512, .f32⟩
  | 40 => ⟨S1x512, .f32⟩
  | 41 => ⟨S2048x512, .f32⟩
  | 42 => ⟨S2048x512, .f32⟩
  | 43 => ⟨S2048x512, .f32⟩
  | 44 => ⟨S2048x512, .f32⟩
  | 45 => ⟨S1x512, .f32⟩
  | 46 => ⟨S512, .f32⟩
  | 47 => ⟨S1x512, .f32⟩
  | 48 => ⟨S2048x512, .f32⟩
  | 49 => ⟨S2048x512, .f32⟩
  | 50 => ⟨S2048x512, .f32⟩
  | 51 => ⟨S2048x512, .f32⟩
  | 52 => ⟨S1x512, .f32⟩
  | 53 => ⟨S512, .f32⟩
  | 54 => ⟨S1x512, .f32⟩
  | 55 => ⟨S2048x512, .f32⟩
  | 56 => ⟨S2048x512, .f32⟩
  | 57 => ⟨S2048x512, .f32⟩
  | 58 => ⟨S2048x512, .f32⟩
  | 59 => ⟨S1x512, .f32⟩
  | 60 => ⟨S512, .f32⟩
  | 61 => ⟨S1x512, .f32⟩
  | 62 => ⟨S2048x512, .f32⟩
  | 63 => ⟨S2048x512, .f32⟩
  | 64 => ⟨S2048x512, .f32⟩
  | 65 => ⟨S2048x512, .f32⟩
  | 66 => ⟨S1x512, .f32⟩
  | 67 => ⟨S512, .f32⟩
  | 68 => ⟨S1x512, .f32⟩
  | 69 => ⟨S2048x512, .f32⟩
  | 70 => ⟨S2048x512, .f32⟩
  | 71 => ⟨S2048x512, .f32⟩
  | 72 => ⟨S2048x512, .f32⟩
  | 73 => ⟨S1x512, .f32⟩
  | 74 => ⟨S512, .f32⟩
  | 75 => ⟨S1x512, .f32⟩
  | 76 => ⟨S2048x512, .f32⟩
  | 77 => ⟨S2048x512, .f32⟩
  | 78 => ⟨S2048x512, .f32⟩
  | 79 => ⟨S2048x512, .f32⟩
  | 80 => ⟨S1x512, .f32⟩
  | 81 => ⟨S512, .f32⟩
  | 82 => ⟨S1x512, .f32⟩
  | 83 => ⟨S2048x512, .f32⟩
  | 84 => ⟨S2048x512, .f32⟩
  | 85 => ⟨S2048x512, .f32⟩
  | 86 => ⟨S2048x512, .f32⟩
  | 87 => ⟨S1x512, .f32⟩
  | 88 => ⟨S512, .f32⟩
  | 89 => ⟨S1x512, .f32⟩
  | 90 => ⟨S2048x512, .f32⟩
  | 91 => ⟨S2048x512, .f32⟩
  | 92 => ⟨S2048x512, .f32⟩
  | 93 => ⟨S2048x512, .f32⟩
  | 94 => ⟨S1x512, .f32⟩
  | 95 => ⟨S512, .f32⟩
  | 96 => ⟨S1x512, .f32⟩
  | 97 => ⟨S2048x512, .f32⟩
  | 98 => ⟨S2048x512, .f32⟩
  | 99 => ⟨S2048x512, .f32⟩
  | 100 => ⟨S2048x512, .f32⟩
  | 101 => ⟨S2048x512, .f32⟩
  | 102 => ⟨S_, .f32⟩
  | 103 => ⟨S2048, .f32⟩
  | 104 => ⟨S2048x1, .f32⟩
  | 105 => ⟨S_, .f32⟩
  | 106 => ⟨S2048x1, .f32⟩
  | 107 => ⟨S2048x1, .f32⟩
  | 108 => ⟨S2048x512, .f32⟩
  | 109 => ⟨S2048x512, .f32⟩
  | 110 => ⟨S2048x512, .f32⟩
  | 111 => ⟨S_, .f32⟩
  | 112 => ⟨S2048, .f32⟩
  | 113 => ⟨S2048x1, .f32⟩
  | 114 => ⟨S_, .f32⟩
  | 115 => ⟨S2048x1, .f32⟩
  | 116 => ⟨S2048x1, .f32⟩
  | 117 => ⟨S2048x512, .f32⟩
  | 118 => ⟨S2048x512, .f32⟩
  | 119 => ⟨S_, .f32⟩
  | 120 => ⟨S2048x1, .f32⟩
  | 121 => ⟨S2048x1, .f32⟩
  | 122 => ⟨S2048x1, .f32⟩
  | 123 => ⟨S2048x512, .f32⟩
  | 124 => ⟨S2048x512, .f32⟩
  | 125 => ⟨S2048x512, .f32⟩
  | 126 => ⟨S2048x512, .f32⟩
  | 127 => ⟨S2048x512, .f32⟩
  | _ => ⟨S2048x512, .f32⟩

abbrev hbmTy0_2 (i : Nat) : BufTy := match i % 128 with
  | 0 => ⟨S2048x512, .f32⟩
  | 1 => ⟨S2048x512, .f32⟩
  | 2 => ⟨S2048x512, .f32⟩
  | 3 => ⟨S_, .f32⟩
  | 4 => ⟨S2048x512, .f32⟩
  | 5 => ⟨S2048x512, .f32⟩
  | 6 => ⟨S_, .f32⟩
  | 7 => ⟨S2048x512, .f32⟩
  | 8 => ⟨S2048x512, .f32⟩
  | 9 => ⟨S2048x512, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S2048x512, .f32⟩
  | 19 => ⟨S2048x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_cst_0 : Ref sig .tc := ⟨.hbm, 230, rfl⟩
abbrev main_v221 : Ref sig .tc := ⟨.hbm, 231, rfl⟩
abbrev main_v222 : Ref sig .tc := ⟨.hbm, 232, rfl⟩
abbrev main_cst_1 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_cst_2 : Ref sig .tc := ⟨.hbm, 239, rfl⟩
abbrev main_v228 : Ref sig .tc := ⟨.hbm, 240, rfl⟩
abbrev main_v229 : Ref sig .tc := ⟨.hbm, 241, rfl⟩
abbrev main_cst_3 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_cst_4 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_call1_v0 : Ref sig .tc := ⟨.hbm, 257, rfl⟩
abbrev main_call1_v1 : Ref sig .tc := ⟨.hbm, 258, rfl⟩
abbrev main_call1_cst : Ref sig .tc := ⟨.hbm, 259, rfl⟩
abbrev main_call1_v2 : Ref sig .tc := ⟨.hbm, 260, rfl⟩
abbrev main_call1_v3 : Ref sig .tc := ⟨.hbm, 261, rfl⟩
abbrev main_call1_cst_0 : Ref sig .tc := ⟨.hbm, 262, rfl⟩
abbrev main_call1_v4 : Ref sig .tc := ⟨.hbm, 263, rfl⟩
abbrev main_call1_v5 : Ref sig .tc := ⟨.hbm, 264, rfl⟩
abbrev main_v243 : Ref sig .tc := ⟨.hbm, 265, rfl⟩
abbrev main_call2_v0 : Ref sig .tc := ⟨.hbm, 266, rfl⟩
abbrev main_call2_v1 : Ref sig .tc := ⟨.hbm, 267, rfl⟩
abbrev main_call2_cst : Ref sig .tc := ⟨.hbm, 268, rfl⟩
abbrev main_call2_v2 : Ref sig .tc := ⟨.hbm, 269, rfl⟩
abbrev main_call2_v3 : Ref sig .tc := ⟨.hbm, 270, rfl⟩
abbrev main_call2_cst_0 : Ref sig .tc := ⟨.hbm, 271, rfl⟩
abbrev main_call2_v4 : Ref sig .tc := ⟨.hbm, 272, rfl⟩
abbrev main_call2_v5 : Ref sig .tc := ⟨.hbm, 273, rfl⟩
abbrev main_v244 : Ref sig .tc := ⟨.hbm, 274, rfl⟩
abbrev main_v245 : Ref sig .tc := ⟨.hbm, 275, rfl⟩

abbrev nD : Nat := 1
abbrev τ : Topo := Topo.v7x

variable {F : FTy → Type} [FloatOps F]
-- ==== Adam.lean ====
abbrev S1024x384 : Shape := ⟨2, ![1024, 384]⟩
abbrev S1x3072 : Shape := ⟨2, ![1, 3072]⟩
abbrev S1x1024 : Shape := ⟨2, ![1, 1024]⟩
abbrev S1024x352 : Shape := ⟨2, ![1024, 352]⟩
abbrev S1x64 : Shape := ⟨2, ![1, 64]⟩
abbrev S1x8 : Shape := ⟨2, ![1, 8]⟩
abbrev S31x64 : Shape := ⟨2, ![31, 64]⟩
abbrev S1x512 : Shape := ⟨2, ![1, 512]⟩
abbrev S128x1024 : Shape := ⟨2, ![128, 1024]⟩

abbrev nBuf : Space → Nat
  | .hbm => 84
  | .vmem => 84
  | .smem => 0
  | _ => 0

abbrev bufTy : (tb : Table) → Fin (tcTables nBuf tb) → BufTy
  | .hbm, ⟨0, _⟩ => ⟨S1024x384, .f32⟩
  | .hbm, ⟨1, _⟩ => ⟨S1x3072, .f32⟩
  | .hbm, ⟨2, _⟩ => ⟨S1x1024, .f32⟩
  | .hbm, ⟨3, _⟩ => ⟨S1024x352, .f32⟩
  | .hbm, ⟨4, _⟩ => ⟨S1x64, .f32⟩
  | .hbm, ⟨5, _⟩ => ⟨S1x64, .f32⟩
  | .hbm, ⟨6, _⟩ => ⟨S1x8, .f32⟩
  | .hbm, ⟨7, _⟩ => ⟨S31x64, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S128x1024, .f32⟩
  | .hbm, ⟨12, _⟩ => ⟨S1024x384, .f32⟩
  | .hbm, ⟨13, _⟩ => ⟨S1x3072, .f32⟩
  | .hbm, ⟨14, _⟩ => ⟨S1x1024, .f32⟩
  | .hbm, ⟨15, _⟩ => ⟨S1024x352, .f32⟩
  | .hbm, ⟨16, _⟩ => ⟨S1x64, .f32⟩
  | .hbm, ⟨17, _⟩ => ⟨S1x64, .f32⟩
  | .hbm, ⟨18, _⟩ => ⟨S1x8, .f32⟩
  | .hbm, ⟨19, _⟩ => ⟨S31x64, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S128x1024, .f32⟩
  | .hbm, ⟨24, _⟩ => ⟨S1024x384, .f32⟩
  | .hbm, ⟨25, _⟩ => ⟨S1x3072, .f32⟩
  | .hbm, ⟨26, _⟩ => ⟨S1x1024, .f32⟩
  | .hbm, ⟨27, _⟩ => ⟨S1024x352, .f32⟩
  | .hbm, ⟨28, _⟩ => ⟨S1x64, .f32⟩
  | .hbm, ⟨29, _⟩ => ⟨S1x64, .f32⟩
  | .hbm, ⟨30, _⟩ => ⟨S1x8, .f32⟩
  | .hbm, ⟨31, _⟩ => ⟨S31x64, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S128x1024, .f32⟩
  | .hbm, ⟨36, _⟩ => ⟨S1024x384, .f32⟩
  | .hbm, ⟨37, _⟩ => ⟨S1x3072, .f32⟩
  | .hbm, ⟨38, _⟩ => ⟨S1x1024, .f32⟩
  | .hbm, ⟨39, _⟩ => ⟨S1024x352, .f32⟩
  | .hbm, ⟨40, _⟩ => ⟨S1x64, .f32⟩
  | .hbm, ⟨41, _⟩ => ⟨S1x64, .f32⟩
  | .hbm, ⟨42, _⟩ => ⟨S1x8, .f32⟩
  | .hbm, ⟨43, _⟩ => ⟨S31x64, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S128x1024, .f32⟩
  | .hbm, ⟨48, _⟩ => ⟨S1024x384, .f32⟩
  | .hbm, ⟨49, _⟩ => ⟨S1x3072, .f32⟩
  | .hbm, ⟨50, _⟩ => ⟨S1x1024, .f32⟩
  | .hbm, ⟨51, _⟩ => ⟨S1024x352, .f32⟩
  | .hbm, ⟨52, _⟩ => ⟨S1x64, .f32⟩
  | .hbm, ⟨53, _⟩ => ⟨S1x64, .f32⟩
  | .hbm, ⟨54, _⟩ => ⟨S1x8, .f32⟩
  | .hbm, ⟨55, _⟩ => ⟨S31x64, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S128x1024, .f32⟩
  | .hbm, ⟨60, _⟩ => ⟨S1024x384, .f32⟩
  | .hbm, ⟨61, _⟩ => ⟨S1x3072, .f32⟩
  | .hbm, ⟨62, _⟩ => ⟨S1x1024, .f32⟩
  | .hbm, ⟨63, _⟩ => ⟨S1024x352, .f32⟩
  | .hbm, ⟨64, _⟩ => ⟨S1x64, .f32⟩
  | .hbm, ⟨65, _⟩ => ⟨S1x64, .f32⟩
  | .hbm, ⟨66, _⟩ => ⟨S1x8, .f32⟩
  | .hbm, ⟨67, _⟩ => ⟨S31x64, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S128x1024, .f32⟩
  | .hbm, ⟨72, _⟩ => ⟨S1024x384, .f32⟩
  | .hbm, ⟨73, _⟩ => ⟨S1x3072, .f32⟩
  | .hbm, ⟨74, _⟩ => ⟨S1x1024, .f32⟩
  | .hbm, ⟨75, _⟩ => ⟨S1024x352, .f32⟩
  | .hbm, ⟨76, _⟩ => ⟨S1x64, .f32⟩
  | .hbm, ⟨77, _⟩ => ⟨S1x64, .f32⟩
  | .hbm, ⟨78, _⟩ => ⟨S1x8, .f32⟩
  | .hbm, ⟨79, _⟩ => ⟨S31x64, .f32⟩
  | .hbm, ⟨80, _⟩ => ⟨S1x512, .f32⟩
  | .hbm, ⟨81, _⟩ => ⟨S1x512, .f32⟩
  | .hbm, ⟨82, _⟩ => ⟨S1x512, .f32⟩
  | .hbm, ⟨83, _⟩ => ⟨S128x1024, .f32⟩
  | .local _ .vmem, ⟨0, _⟩ => ⟨S1024x384, .f32⟩
  | .local _ .vmem, ⟨1, _⟩ => ⟨S1x3072, .f32⟩
  | .local _ .vmem, ⟨2, _⟩ => ⟨S1x1024, .f32⟩
  | .local _ .vmem, ⟨3, _⟩ => ⟨S1024x352, .f32⟩
  | .local _ .vmem, ⟨4, _⟩ => ⟨S1x64, .f32⟩
  | .local _ .vmem, ⟨5, _⟩ => ⟨S1x64, .f32⟩
  | .local _ .vmem, ⟨6, _⟩ => ⟨S1x8, .f32⟩
  | .local _ .vmem, ⟨7, _⟩ => ⟨S31x64, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S128x1024, .f32⟩
  | .local _ .vmem, ⟨12, _⟩ => ⟨S1024x384, .f32⟩
  | .local _ .vmem, ⟨13, _⟩ => ⟨S1x3072, .f32⟩
  | .local _ .vmem, ⟨14, _⟩ => ⟨S1x1024, .f32⟩
  | .local _ .vmem, ⟨15, _⟩ => ⟨S1024x352, .f32⟩
  | .local _ .vmem, ⟨16, _⟩ => ⟨S1x64, .f32⟩
  | .local _ .vmem, ⟨17, _⟩ => ⟨S1x64, .f32⟩
  | .local _ .vmem, ⟨18, _⟩ => ⟨S1x8, .f32⟩
  | .local _ .vmem, ⟨19, _⟩ => ⟨S31x64, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S128x1024, .f32⟩
  | .local _ .vmem, ⟨24, _⟩ => ⟨S1024x384, .f32⟩
  | .local _ .vmem, ⟨25, _⟩ => ⟨S1x3072, .f32⟩
  | .local _ .vmem, ⟨26, _⟩ => ⟨S1x1024, .f32⟩
  | .local _ .vmem, ⟨27, _⟩ => ⟨S1024x352, .f32⟩
  | .local _ .vmem, ⟨28, _⟩ => ⟨S1x64, .f32⟩
  | .local _ .vmem, ⟨29, _⟩ => ⟨S1x64, .f32⟩
  | .local _ .vmem, ⟨30, _⟩ => ⟨S1x8, .f32⟩
  | .local _ .vmem, ⟨31, _⟩ => ⟨S31x64, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S128x1024, .f32⟩
  | .local _ .vmem, ⟨36, _⟩ => ⟨S1024x384, .f32⟩
  | .local _ .vmem, ⟨37, _⟩ => ⟨S1x3072, .f32⟩
  | .local _ .vmem, ⟨38, _⟩ => ⟨S1x1024, .f32⟩
  | .local _ .vmem, ⟨39, _⟩ => ⟨S1024x352, .f32⟩
  | .local _ .vmem, ⟨40, _⟩ => ⟨S1x64, .f32⟩
  | .local _ .vmem, ⟨41, _⟩ => ⟨S1x64, .f32⟩
  | .local _ .vmem, ⟨42, _⟩ => ⟨S1x8, .f32⟩
  | .local _ .vmem, ⟨43, _⟩ => ⟨S31x64, .f32⟩
  | .local _ .vmem, ⟨44, _⟩ => ⟨S1x512, .f32⟩
  | .local _ .vmem, ⟨45, _⟩ => ⟨S1x512, .f32⟩
  | .local _ .vmem, ⟨46, _⟩ => ⟨S1x512, .f32⟩
  | .local _ .vmem, ⟨47, _⟩ => ⟨S128x1024, .f32⟩
  | .local _ .vmem, ⟨48, _⟩ => ⟨S1024x384, .f32⟩
  | .local _ .vmem, ⟨49, _⟩ => ⟨S1x3072, .f32⟩
  | .local _ .vmem, ⟨50, _⟩ => ⟨S1x1024, .f32⟩
  | .local _ .vmem, ⟨51, _⟩ => ⟨S1024x352, .f32⟩
  | .local _ .vmem, ⟨52, _⟩ => ⟨S1x64, .f32⟩
  | .local _ .vmem, ⟨53, _⟩ => ⟨S1x64, .f32⟩
  | .local _ .vmem, ⟨54, _⟩ => ⟨S1x8, .f32⟩
  | .local _ .vmem, ⟨55, _⟩ => ⟨S31x64, .f32⟩
  | .local _ .vmem, ⟨56, _⟩ => ⟨S1x512, .f32⟩
  | .local _ .vmem, ⟨57, _⟩ => ⟨S1x512, .f32⟩
  | .local _ .vmem, ⟨58, _⟩ => ⟨S1x512, .f32⟩
  | .local _ .vmem, ⟨59, _⟩ => ⟨S128x1024, .f32⟩
  | .local _ .vmem, ⟨60, _⟩ => ⟨S1024x384, .f32⟩
  | .local _ .vmem, ⟨61, _⟩ => ⟨S1x3072, .f32⟩
  | .local _ .vmem, ⟨62, _⟩ => ⟨S1x1024, .f32⟩
  | .local _ .vmem, ⟨63, _⟩ => ⟨S1024x352, .f32⟩
  | .local _ .vmem, ⟨64, _⟩ => ⟨S1x64, .f32⟩
  | .local _ .vmem, ⟨65, _⟩ => ⟨S1x64, .f32⟩
  | .local _ .vmem, ⟨66, _⟩ => ⟨S1x8, .f32⟩
  | .local _ .vmem, ⟨67, _⟩ => ⟨S31x64, .f32⟩
  | .local _ .vmem, ⟨68, _⟩ => ⟨S1x512, .f32⟩
  | .local _ .vmem, ⟨69, _⟩ => ⟨S1x512, .f32⟩
  | .local _ .vmem, ⟨70, _⟩ => ⟨S1x512, .f32⟩
  | .local _ .vmem, ⟨71, _⟩ => ⟨S128x1024, .f32⟩
  | .local _ .vmem, ⟨72, _⟩ => ⟨S1024x384, .f32⟩
  | .local _ .vmem, ⟨73, _⟩ => ⟨S1x3072, .f32⟩
  | .local _ .vmem, ⟨74, _⟩ => ⟨S1x1024, .f32⟩
  | .local _ .vmem, ⟨75, _⟩ => ⟨S1024x352, .f32⟩
  | .local _ .vmem, ⟨76, _⟩ => ⟨S1x64, .f32⟩
  | .local _ .vmem, ⟨77, _⟩ => ⟨S1x64, .f32⟩
  | .local _ .vmem, ⟨78, _⟩ => ⟨S1x8, .f32⟩
  | .local _ .vmem, ⟨79, _⟩ => ⟨S31x64, .f32⟩
  | .local _ .vmem, ⟨80, _⟩ => ⟨S1x512, .f32⟩
  | .local _ .vmem, ⟨81, _⟩ => ⟨S1x512, .f32⟩
  | .local _ .vmem, ⟨82, _⟩ => ⟨S1x512, .f32⟩
  | .local _ .vmem, ⟨83, _⟩ => ⟨S128x1024, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0_0 : Ref sig .tc := ⟨.hbm, 48, rfl⟩
abbrev main_v0_1 : Ref sig .tc := ⟨.hbm, 49, rfl⟩
abbrev main_v0_2 : Ref sig .tc := ⟨.hbm, 50, rfl⟩
abbrev main_v0_3 : Ref sig .tc := ⟨.hbm, 51, rfl⟩
abbrev main_v0_4 : Ref sig .tc := ⟨.hbm, 52, rfl⟩
abbrev main_v0_5 : Ref sig .tc := ⟨.hbm, 53, rfl⟩
abbrev main_v0_6 : Ref sig .tc := ⟨.hbm, 54, rfl⟩
abbrev main_v0_7 : Ref sig .tc := ⟨.hbm, 55, rfl⟩
abbrev main_v0_8 : Ref sig .tc := ⟨.hbm, 56, rfl⟩
abbrev main_v0_9 : Ref sig .tc := ⟨.hbm, 57, rfl⟩
abbrev main_v0_10 : Ref sig .tc := ⟨.hbm, 58, rfl⟩
abbrev main_v0_11 : Ref sig .tc := ⟨.hbm, 59, rfl⟩
abbrev main_v0_12 : Ref sig .tc := ⟨.hbm, 60, rfl⟩
abbrev main_v0_13 : Ref sig .tc := ⟨.hbm, 61, rfl⟩
abbrev main_v0_14 : Ref sig .tc := ⟨.hbm, 62, rfl⟩
abbrev main_v0_15 : Ref sig .tc := ⟨.hbm, 63, rfl⟩
abbrev main_v0_16 : Ref sig .tc := ⟨.hbm, 64, rfl⟩
abbrev main_v0_17 : Ref sig .tc := ⟨.hbm, 65, rfl⟩
abbrev main_v0_18 : Ref sig .tc := ⟨.hbm, 66, rfl⟩
abbrev main_v0_19 : Ref sig .tc := ⟨.hbm, 67, rfl⟩
abbrev main_v0_20 : Ref sig .tc := ⟨.hbm, 68, rfl⟩
abbrev main_v0_21 : Ref sig .tc := ⟨.hbm, 69, rfl⟩
abbrev main_v0_22 : Ref sig .tc := ⟨.hbm, 70, rfl⟩
abbrev main_v0_23 : Ref sig .tc := ⟨.hbm, 71, rfl⟩
abbrev main_v0_24 : Ref sig .tc := ⟨.hbm, 72, rfl⟩
abbrev main_v0_25 : Ref sig .tc := ⟨.hbm, 73, rfl⟩
abbrev main_v0_26 : Ref sig .tc := ⟨.hbm, 74, rfl⟩
abbrev main_v0_27 : Ref sig .tc := ⟨.hbm, 75, rfl⟩
abbrev main_v0_28 : Ref sig .tc := ⟨.hbm, 76, rfl⟩
abbrev main_v0_29 : Ref sig .tc := ⟨.hbm, 77, rfl⟩
abbrev main_v0_30 : Ref sig .tc := ⟨.hbm, 78, rfl⟩
abbrev main_v0_31 : Ref sig .tc := ⟨.hbm, 79, rfl⟩
abbrev main_v0_32 : Ref sig .tc := ⟨.hbm, 80, rfl⟩
abbrev main_v0_33 : Ref sig .tc := ⟨.hbm, 81, rfl⟩
abbrev main_v0_34 : Ref sig .tc := ⟨.hbm, 82, rfl⟩
abbrev main_v0_35 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83

abbrev nD : Nat := 1
abbrev τ : Topo := Topo.v7x

variable {F : FTy → Type} [FloatOps F]

abbrev grid0 : Pipeline.Grid := .none

abbrev stage0_0 : Fin 1 → Memref sig .tc .vmem S1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S31x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x352 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S31x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1024x384 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x3072 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1024x352 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x8 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S31x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S128x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1024x384 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x3072 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1024x352 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x64 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x64 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x8 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S31x64 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x512 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x512 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S128x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1024x384 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x3072 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1024x352 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x64 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x64 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x8 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S31x64 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x512 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x512 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x512 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S128x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1024x384 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x3072 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1024x352 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x64 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x64 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x8 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S31x64 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x512 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x512 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x512 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S128x1024 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1024x384 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x3072 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S1x1024 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S1024x352 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x64 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x64 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x8 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S31x64 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S1x512 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S1x512 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S1x512 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S128x1024 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))
-- ==== AdamRefIdeal.lean ====
abbrev S1024x384 : Shape := ⟨2, ![1024, 384]⟩
abbrev S1x3072 : Shape := ⟨2, ![1, 3072]⟩
abbrev S1x1024 : Shape := ⟨2, ![1, 1024]⟩
abbrev S1024x352 : Shape := ⟨2, ![1024, 352]⟩
abbrev S1x64 : Shape := ⟨2, ![1, 64]⟩
abbrev S1x8 : Shape := ⟨2, ![1, 8]⟩
abbrev S31x64 : Shape := ⟨2, ![31, 64]⟩
abbrev S1x512 : Shape := ⟨2, ![1, 512]⟩
abbrev S128x1024 : Shape := ⟨2, ![128, 1024]⟩
abbrev S_ : Shape := ⟨0, ![]⟩

abbrev nBuf : Space → Nat
  | .hbm => 444
  | .vmem => 0
  | .smem => 0
  | _ => 0

abbrev hbmTy0_0 (i : Nat) : BufTy := match i % 128 with
  | 0 => ⟨S1024x384, .f32⟩
  | 1 => ⟨S1x3072, .f32⟩
  | 2 => ⟨S1x1024, .f32⟩
  | 3 => ⟨S1024x352, .f32⟩
  | 4 => ⟨S1x64, .f32⟩
  | 5 => ⟨S1x64, .f32⟩
  | 6 => ⟨S1x8, .f32⟩
  | 7 => ⟨S31x64, .f32⟩
  | 8 => ⟨S1x512, .f32⟩
  | 9 => ⟨S1x512, .f32⟩
  | 10 => ⟨S1x512, .f32⟩
  | 11 => ⟨S128x1024, .f32⟩
  | 12 => ⟨S1024x384, .f32⟩
  | 13 => ⟨S1x3072, .f32⟩
  | 14 => ⟨S1x1024, .f32⟩
  | 15 => ⟨S1024x352, .f32⟩
  | 16 => ⟨S1x64, .f32⟩
  | 17 => ⟨S1x64, .f32⟩
  | 18 => ⟨S1x8, .f32⟩
  | 19 => ⟨S31x64, .f32⟩
  | 20 => ⟨S1x512, .f32⟩
  | 21 => ⟨S1x512, .f32⟩
  | 22 => ⟨S1x512, .f32⟩
  | 23 => ⟨S128x1024, .f32⟩
  | 24 => ⟨S1024x384, .f32⟩
  | 25 => ⟨S1x3072, .f32⟩
  | 26 => ⟨S1x1024, .f32⟩
  | 27 => ⟨S1024x352, .f32⟩
  | 28 => ⟨S1x64, .f32⟩
  | 29 => ⟨S1x64, .f32⟩
  | 30 => ⟨S1x8, .f32⟩
  | 31 => ⟨S31x64, .f32⟩
  | 32 => ⟨S1x512, .f32⟩
  | 33 => ⟨S1x512, .f32⟩
  | 34 => ⟨S1x512, .f32⟩
  | 35 => ⟨S128x1024, .f32⟩
  | 36 => ⟨S1024x384, .f32⟩
  | 37 => ⟨S1x3072, .f32⟩
  | 38 => ⟨S1x1024, .f32⟩
  | 39 => ⟨S1024x352, .f32⟩
  | 40 => ⟨S1x64, .f32⟩
  | 41 => ⟨S1x64, .f32⟩
  | 42 => ⟨S1x8, .f32⟩
  | 43 => ⟨S31x64, .f32⟩
  | 44 => ⟨S1x512, .f32⟩
  | 45 => ⟨S1x512, .f32⟩
  | 46 => ⟨S1x512, .f32⟩
  | 47 => ⟨S128x1024, .f32⟩
  | 48 => ⟨S_, .f32⟩
  | 49 => ⟨S1024x384, .f32⟩
  | 50 => ⟨S1024x384, .f32⟩
  | 51 => ⟨S_, .f32⟩
  | 52 => ⟨S1024x384, .f32⟩
  | 53 => ⟨S1024x384, .f32⟩
  | 54 => ⟨S1024x384, .f32⟩
  | 55 => ⟨S_, .f32⟩
  | 56 => ⟨S1024x384, .f32⟩
  | 57 => ⟨S1024x384, .f32⟩
  | 58 => ⟨S1024x384, .f32⟩
  | 59 => ⟨S_, .f32⟩
  | 60 => ⟨S1024x384, .f32⟩
  | 61 => ⟨S1024x384, .f32⟩
  | 62 => ⟨S1024x384, .f32⟩
  | 63 => ⟨S_, .f32⟩
  | 64 => ⟨S1024x384, .f32⟩
  | 65 => ⟨S1024x384, .f32⟩
  | 66 => ⟨S_, .f32⟩
  | 67 => ⟨S1024x384, .f32⟩
  | 68 => ⟨S1024x384, .f32⟩
  | 69 => ⟨S1024x384, .f32⟩
  | 70 => ⟨S_, .f32⟩
  | 71 => ⟨S1024x384, .f32⟩
  | 72 => ⟨S1024x384, .f32⟩
  | 73 => ⟨S1024x384, .f32⟩
  | 74 => ⟨S_, .f32⟩
  | 75 => ⟨S1024x384, .f32⟩
  | 76 => ⟨S1024x384, .f32⟩
  | 77 => ⟨S1024x384, .f32⟩
  | 78 => ⟨S_, .f32⟩
  | 79 => ⟨S1024x384, .f32⟩
  | 80 => ⟨S1024x384, .f32⟩
  | 81 => ⟨S_, .f32⟩
  | 82 => ⟨S1x3072, .f32⟩
  | 83 => ⟨S1x3072, .f32⟩
  | 84 => ⟨S_, .f32⟩
  | 85 => ⟨S1x3072, .f32⟩
  | 86 => ⟨S1x3072, .f32⟩
  | 87 => ⟨S1x3072, .f32⟩
  | 88 => ⟨S_, .f32⟩
  | 89 => ⟨S1x3072, .f32⟩
  | 90 => ⟨S1x3072, .f32⟩
  | 91 => ⟨S1x3072, .f32⟩
  | 92 => ⟨S_, .f32⟩
  | 93 => ⟨S1x3072, .f32⟩
  | 94 => ⟨S1x3072, .f32⟩
  | 95 => ⟨S1x3072, .f32⟩
  | 96 => ⟨S_, .f32⟩
  | 97 => ⟨S1x3072, .f32⟩
  | 98 => ⟨S1x3072, .f32⟩
  | 99 => ⟨S_, .f32⟩
  | 100 => ⟨S1x3072, .f32⟩
  | 101 => ⟨S1x3072, .f32⟩
  | 102 => ⟨S1x3072, .f32⟩
  | 103 => ⟨S_, .f32⟩
  | 104 => ⟨S1x3072, .f32⟩
  | 105 => ⟨S1x3072, .f32⟩
  | 106 => ⟨S1x3072, .f32⟩
  | 107 => ⟨S_, .f32⟩
  | 108 => ⟨S1x3072, .f32⟩
  | 109 => ⟨S1x3072, .f32⟩
  | 110 => ⟨S1x3072, .f32⟩
  | 111 => ⟨S_, .f32⟩
  | 112 => ⟨S1x3072, .f32⟩
  | 113 => ⟨S1x3072, .f32⟩
  | 114 => ⟨S_, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1024x384, .f32⟩

abbrev hbmTy0_1 (i : Nat) : BufTy := match i % 128 with
  | 0 => ⟨S1x1024, .f32⟩
  | 1 => ⟨S_, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S_, .f32⟩
  | 20 => ⟨S1024x352, .f32⟩
  | 21 => ⟨S1024x352, .f32⟩
  | 22 => ⟨S_, .f32⟩
  | 23 => ⟨S1024x352, .f32⟩
  | 24 => ⟨S1024x352, .f32⟩
  | 25 => ⟨S1024x352, .f32⟩
  | 26 => ⟨S_, .f32⟩
  | 27 => ⟨S1024x352, .f32⟩
  | 28 => ⟨S1024x352, .f32⟩
  | 29 => ⟨S1024x352, .f32⟩
  | 30 => ⟨S_, .f32⟩
  | 31 => ⟨S1024x352, .f32⟩
  | 32 => ⟨S1024x352, .f32⟩
  | 33 => ⟨S1024x352, .f32⟩
  | 34 => ⟨S_, .f32⟩
  | 35 => ⟨S1024x352, .f32⟩
  | 36 => ⟨S1024x352, .f32⟩
  | 37 => ⟨S_, .f32⟩
  | 38 => ⟨S1024x352, .f32⟩
  | 39 => ⟨S1024x352, .f32⟩
  | 40 => ⟨S1024x352, .f32⟩
  | 41 => ⟨S_, .f32⟩
  | 42 => ⟨S1024x352, .f32⟩
  | 43 => ⟨S1024x352, .f32⟩
  | 44 => ⟨S1024x352, .f32⟩
  | 45 => ⟨S_, .f32⟩
  | 46 => ⟨S1024x352, .f32⟩
  | 47 => ⟨S1024x352, .f32⟩
  | 48 => ⟨S1024x352, .f32⟩
  | 49 => ⟨S_, .f32⟩
  | 50 => ⟨S1024x352, .f32⟩
  | 51 => ⟨S1024x352, .f32⟩
  | 52 => ⟨S_, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S1x64, .f32⟩
  | 63 => ⟨S_, .f32⟩
  | 64 => ⟨S1x64, .f32⟩
  | 65 => ⟨S1x64, .f32⟩
  | 66 => ⟨S1x64, .f32⟩
  | 67 => ⟨S_, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S1x64, .f32⟩
  | 74 => ⟨S_, .f32⟩
  | 75 => ⟨S1x64, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S1x64, .f32⟩
  | 82 => ⟨S_, .f32⟩
  | 83 => ⟨S1x64, .f32⟩
  | 84 => ⟨S1x64, .f32⟩
  | 85 => ⟨S_, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S1x64, .f32⟩
  | 92 => ⟨S_, .f32⟩
  | 93 => ⟨S1x64, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S1x64, .f32⟩
  | 100 => ⟨S_, .f32⟩
  | 101 => ⟨S1x64, .f32⟩
  | 102 => ⟨S1x64, .f32⟩
  | 103 => ⟨S_, .f32⟩
  | 104 => ⟨S1x64, .f32⟩
  | 105 => ⟨S1x64, .f32⟩
  | 106 => ⟨S1x64, .f32⟩
  | 107 => ⟨S_, .f32⟩
  | 108 => ⟨S1x64, .f32⟩
  | 109 => ⟨S1x64, .f32⟩
  | 110 => ⟨S1x64, .f32⟩
  | 111 => ⟨S_, .f32⟩
  | 112 => ⟨S1x64, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S_, .f32⟩
  | 119 => ⟨S1x8, .f32⟩
  | 120 => ⟨S1x8, .f32⟩
  | 121 => ⟨S_, .f32⟩
  | 122 => ⟨S1x8, .f32⟩
  | 123 => ⟨S1x8, .f32⟩
  | 124 => ⟨S1x8, .f32⟩
  | 125 => ⟨S_, .f32⟩
  | 126 => ⟨S1x8, .f32⟩
  | 127 => ⟨S1x8, .f32⟩
  | _ => ⟨S1024x384, .f32⟩

abbrev hbmTy0_2 (i : Nat) : BufTy := match i % 128 with
  | 0 => ⟨S1x8, .f32⟩
  | 1 => ⟨S_, .f32⟩
  | 2 => ⟨S1x8, .f32⟩
  | 3 => ⟨S1x8, .f32⟩
  | 4 => ⟨S1x8, .f32⟩
  | 5 => ⟨S_, .f32⟩
  | 6 => ⟨S1x8, .f32⟩
  | 7 => ⟨S1x8, .f32⟩
  | 8 => ⟨S_, .f32⟩
  | 9 => ⟨S1x8, .f32⟩
  | 10 => ⟨S1x8, .f32⟩
  | 11 => ⟨S1x8, .f32⟩
  | 12 => ⟨S_, .f32⟩
  | 13 => ⟨S1x8, .f32⟩
  | 14 => ⟨S1x8, .f32⟩
  | 15 => ⟨S1x8, .f32⟩
  | 16 => ⟨S_, .f32⟩
  | 17 => ⟨S1x8, .f32⟩
  | 18 => ⟨S1x8, .f32⟩
  | 19 => ⟨S1x8, .f32⟩
  | 20 => ⟨S_, .f32⟩
  | 21 => ⟨S1x8, .f32⟩
  | 22 => ⟨S1x8, .f32⟩
  | 23 => ⟨S_, .f32⟩
  | 24 => ⟨S31x64, .f32⟩
  | 25 => ⟨S31x64, .f32⟩
  | 26 => ⟨S_, .f32⟩
  | 27 => ⟨S31x64, .f32⟩
  | 28 => ⟨S31x64, .f32⟩
  | 29 => ⟨S31x64, .f32⟩
  | 30 => ⟨S_, .f32⟩
  | 31 => ⟨S31x64, .f32⟩
  | 32 => ⟨S31x64, .f32⟩
  | 33 => ⟨S31x64, .f32⟩
  | 34 => ⟨S_, .f32⟩
  | 35 => ⟨S31x64, .f32⟩
  | 36 => ⟨S31x64, .f32⟩
  | 37 => ⟨S31x64, .f32⟩
  | 38 => ⟨S_, .f32⟩
  | 39 => ⟨S31x64, .f32⟩
  | 40 => ⟨S31x64, .f32⟩
  | 41 => ⟨S_, .f32⟩
  | 42 => ⟨S31x64, .f32⟩
  | 43 => ⟨S31x64, .f32⟩
  | 44 => ⟨S31x64, .f32⟩
  | 45 => ⟨S_, .f32⟩
  | 46 => ⟨S31x64, .f32⟩
  | 47 => ⟨S31x64, .f32⟩
  | 48 => ⟨S31x64, .f32⟩
  | 49 => ⟨S_, .f32⟩
  | 50 => ⟨S31x64, .f32⟩
  | 51 => ⟨S31x64, .f32⟩
  | 52 => ⟨S31x64, .f32⟩
  | 53 => ⟨S_, .f32⟩
  | 54 => ⟨S31x64, .f32⟩
  | 55 => ⟨S31x64, .f32⟩
  | 56 => ⟨S_, .f32⟩
  | 57 => ⟨S1x512, .f32⟩
  | 58 => ⟨S1x512, .f32⟩
  | 59 => ⟨S_, .f32⟩
  | 60 => ⟨S1x512, .f32⟩
  | 61 => ⟨S1x512, .f32⟩
  | 62 => ⟨S1x512, .f32⟩
  | 63 => ⟨S_, .f32⟩
  | 64 => ⟨S1x512, .f32⟩
  | 65 => ⟨S1x512, .f32⟩
  | 66 => ⟨S1x512, .f32⟩
  | 67 => ⟨S_, .f32⟩
  | 68 => ⟨S1x512, .f32⟩
  | 69 => ⟨S1x512, .f32⟩
  | 70 => ⟨S1x512, .f32⟩
  | 71 => ⟨S_, .f32⟩
  | 72 => ⟨S1x512, .f32⟩
  | 73 => ⟨S1x512, .f32⟩
  | 74 => ⟨S_, .f32⟩
  | 75 => ⟨S1x512, .f32⟩
  | 76 => ⟨S1x512, .f32⟩
  | 77 => ⟨S1x512, .f32⟩
  | 78 => ⟨S_, .f32⟩
  | 79 => ⟨S1x512, .f32⟩
  | 80 => ⟨S1x512, .f32⟩
  | 81 => ⟨S1x512, .f32⟩
  | 82 => ⟨S_, .f32⟩
  | 83 => ⟨S1x512, .f32⟩
  | 84 => ⟨S1x512, .f32⟩
  | 85 => ⟨S1x512, .f32⟩
  | 86 => ⟨S_, .f32⟩
  | 87 => ⟨S1x512, .f32⟩
  | 88 => ⟨S1x512, .f32⟩
  | 89 => ⟨S_, .f32⟩
  | 90 => ⟨S1x512, .f32⟩
  | 91 => ⟨S1x512, .f32⟩
  | 92 => ⟨S_, .f32⟩
  | 93 => ⟨S1x512, .f32⟩
  | 94 => ⟨S1x512, .f32⟩
  | 95 => ⟨S1x512, .f32⟩
  | 96 => ⟨S_, .f32⟩
  | 97 => ⟨S1x512, .f32⟩
  | 98 => ⟨S1x512, .f32⟩
  | 99 => ⟨S1x512, .f32⟩
  | 100 => ⟨S_, .f32⟩
  | 101 => ⟨S1x512, .f32⟩
  | 102 => ⟨S1x512, .f32⟩
  | 103 => ⟨S1x512, .f32⟩
  | 104 => ⟨S_, .f32⟩
  | 105 => ⟨S1x512, .f32⟩
  | 106 => ⟨S1x512, .f32⟩
  | 107 => ⟨S_, .f32⟩
  | 108 => ⟨S1x512, .f32⟩
  | 109 => ⟨S1x512, .f32⟩
  | 110 => ⟨S1x512, .f32⟩
  | 111 => ⟨S_, .f32⟩
  | 112 => ⟨S1x512, .f32⟩
  | 113 => ⟨S1x512, .f32⟩
  | 114 => ⟨S1x512, .f32⟩
  | 115 => ⟨S_, .f32⟩
  | 116 => ⟨S1x512, .f32⟩
  | 117 => ⟨S1x512, .f32⟩
  | 118 => ⟨S1x512, .f32⟩
  | 119 => ⟨S_, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S_, .f32⟩
  | 126 => ⟨S1x512, .f32⟩
  | 127 => ⟨S1x512, .f32⟩
  | _ => ⟨S1024x384, .f32⟩

abbrev hbmTy0_3 (i : Nat) : BufTy := match i % 128 with
  | 0 => ⟨S1x512, .f32⟩
  | 1 => ⟨S_, .f32⟩
  | 2 => ⟨S1x512, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S_, .f32⟩
  | 13 => ⟨S1x512, .f32⟩
  | 14 => ⟨S1x512, .f32⟩
  | 15 => ⟨S1x512, .f32⟩
  | 16 => ⟨S_, .f32⟩
  | 17 => ⟨S1x512, .f32⟩
  | 18 => ⟨S1x512, .f32⟩
  | 19 => ⟨S1x512, .f32⟩
  | 20 => ⟨S_, .f32⟩
  | 21 => ⟨S1x512, .f32⟩
  | 22 => ⟨S1x512, .f32⟩
  | 23 => ⟨S1x512, .f32⟩
  | 24 => ⟨S_, .f32⟩
  | 25 => ⟨S1x512, .f32⟩
  | 26 => ⟨S1x512, .f32⟩
  | 27 => ⟨S_, .f32⟩
  | 28 => ⟨S128x1024, .f32⟩
  | 29 => ⟨S128x1024, .f32⟩
  | 30 => ⟨S_, .f32⟩
  | 31 => ⟨S128x1024, .f32⟩
  | 32 => ⟨S128x1024, .f32⟩
  | 33 => ⟨S128x1024, .f32⟩
  | 34 => ⟨S_, .f32⟩
  | 35 => ⟨S128x1024, .f32⟩
  | 36 => ⟨S128x1024, .f32⟩
  | 37 => ⟨S128x1024, .f32⟩
  | 38 => ⟨S_, .f32⟩
  | 39 => ⟨S128x1024, .f32⟩
  | 40 => ⟨S128x1024, .f32⟩
  | 41 => ⟨S128x1024, .f32⟩
  | 42 => ⟨S_, .f32⟩
  | 43 => ⟨S128x1024, .f32⟩
  | 44 => ⟨S128x1024, .f32⟩
  | 45 => ⟨S_, .f32⟩
  | 46 => ⟨S128x1024, .f32⟩
  | 47 => ⟨S128x1024, .f32⟩
  | 48 => ⟨S128x1024, .f32⟩
  | 49 => ⟨S_, .f32⟩
  | 50 => ⟨S128x1024, .f32⟩
  | 51 => ⟨S128x1024, .f32⟩
  | 52 => ⟨S128x1024, .f32⟩
  | 53 => ⟨S_, .f32⟩
  | 54 => ⟨S128x1024, .f32⟩
  | 55 => ⟨S128x1024, .f32⟩
  | 56 => ⟨S128x1024, .f32⟩
  | 57 => ⟨S_, .f32⟩
  | 58 => ⟨S128x1024, .f32⟩
  | 59 => ⟨S128x1024, .f32⟩
  | _ => ⟨S1024x384, .f32⟩

abbrev hbmTy (i : Nat) : BufTy := match i / 128 with
  | 0 => hbmTy0_0 i
  | 1 => hbmTy0_1 i
  | 2 => hbmTy0_2 i
  | 3 => hbmTy0_3 i
  | _ => ⟨S1024x384, .f32⟩

abbrev bufTy : (tb : Table) → Fin (tcTables nBuf tb) → BufTy
  | .hbm, ⟨i, _⟩ => hbmTy i
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩

abbrev nD : Nat := 1
abbrev τ : Topo := Topo.v7x

variable {F : FTy → Type} [FloatOps F]
-- ==== BwdIn.lean ====
abbrev S2048x512 : Shape := ⟨2, ![2048, 512]⟩
abbrev S2048x128 : Shape := ⟨2, ![2048, 128]⟩
abbrev S1x128 : Shape := ⟨2, ![1, 128]⟩
abbrev S2048x32 : Shape := ⟨2, ![2048, 32]⟩
abbrev S2048x1024 : Shape := ⟨2, ![2048, 1024]⟩
abbrev S1024x2816 : Shape := ⟨2, ![1024, 2816]⟩
abbrev S1x3072 : Shape := ⟨2, ![1, 3072]⟩
abbrev S1x1024 : Shape := ⟨2, ![1, 1024]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S128 : Shape := ⟨1, ![128]⟩
abbrev S_ : Shape := ⟨0, ![]⟩
abbrev S128x1 : Shape := ⟨2, ![128, 1]⟩
abbrev S128x128 : Shape := ⟨2, ![128, 128]⟩
abbrev S256x512 : Shape := ⟨2, ![256, 512]⟩
abbrev S256x128 : Shape := ⟨2, ![256, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 62
  | .vmem => 38
  | .smem => 0
  | _ => 0

abbrev bufTy : (tb : Table) → Fin (tcTables nBuf tb) → BufTy
  | .hbm, ⟨0, _⟩ => ⟨S2048x512, .f32⟩
  | .hbm, ⟨1, _⟩ => ⟨S2048x128, .f32⟩
  | .hbm, ⟨2, _⟩ => ⟨S2048x128, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x128, .f32⟩
  | .hbm, ⟨8, _⟩ => ⟨S1x128, .f32⟩
  | .hbm, ⟨9, _⟩ => ⟨S2048x32, .f32⟩
  | .hbm, ⟨10, _⟩ => ⟨S2048x32, .f32⟩
  | .hbm, ⟨11, _⟩ => ⟨S2048x1024, .bf16⟩
  | .hbm, ⟨12, _⟩ => ⟨S1024x2816, .bf16⟩
  | .hbm, ⟨13, _⟩ => ⟨S2048x1024, .f32⟩
  | .hbm, ⟨14, _⟩ => ⟨S2048x1024, .f32⟩
  | .hbm, ⟨15, _⟩ => ⟨S1x3072, .f32⟩
  | .hbm, ⟨16, _⟩ => ⟨S1x1024, .f32⟩
  | .hbm, ⟨17, _⟩ => ⟨S2048x64, .f32⟩
  | .hbm, ⟨18, _⟩ => ⟨S1x2048x1x64, .f32⟩
  | .hbm, ⟨19, _⟩ => ⟨S1x2048x2x64, .f32⟩
  | .hbm, ⟨20, _⟩ => ⟨S2048x128, .f32⟩
  | .hbm, ⟨21, _⟩ => ⟨S2048x32, .f32⟩
  | .hbm, ⟨22, _⟩ => ⟨S2048x64, .f32⟩
  | .hbm, ⟨23, _⟩ => ⟨S1x2048x1x64, .f32⟩
  | .hbm, ⟨24, _⟩ => ⟨S1x2048x2x64, .f32⟩
  | .hbm, ⟨25, _⟩ => ⟨S2048x128, .f32⟩
  | .hbm, ⟨26, _⟩ => ⟨S128, .i32⟩
  | .hbm, ⟨27, _⟩ => ⟨S_, .i32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S128, .i1⟩
  | .hbm, ⟨41, _⟩ => ⟨S_, .i32⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S128x1, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128, .bf16⟩
  | .hbm, ⟨56, _⟩ => ⟨S2048x1024, .f32⟩
  | .hbm, ⟨57, _⟩ => ⟨S1024x2816, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x128, .f32⟩
  | .local _ .vmem, ⟨15, _⟩ => ⟨S256x128, .f32⟩
  | .local _ .vmem, ⟨16, _⟩ => ⟨S1x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S128x128, .bf16⟩
  | .local _ .vmem, ⟨22, _⟩ => ⟨S256x1024, .bf16⟩
  | .local _ .vmem, ⟨23, _⟩ => ⟨S256x1024, .bf16⟩
  | .local _ .vmem, ⟨24, _⟩ => ⟨S1024x2816, .bf16⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S1x3072, .f32⟩
  | .local _ .vmem, ⟨30, _⟩ => ⟨S1x1024, .f32⟩
  | .local _ .vmem, ⟨31, _⟩ => ⟨S256x1024, .f32⟩
  | .local _ .vmem, ⟨32, _⟩ => ⟨S256x1024, .f32⟩
  | .local _ .vmem, ⟨33, _⟩ => ⟨S1024x2816, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst : Ref sig .tc := ⟨.hbm, 50, rfl⟩
abbrev main_cst_0 : Ref sig .tc := ⟨.hbm, 51, rfl⟩
abbrev main_call1_v0 : Ref sig .tc := ⟨.hbm, 52, rfl⟩
abbrev main_call1_v1 : Ref sig .tc := ⟨.hbm, 53, rfl⟩
abbrev main_v16 : Ref sig .tc := ⟨.hbm, 54, rfl⟩
abbrev main_v17 : Ref sig .tc := ⟨.hbm, 55, rfl⟩
abbrev main_v18_0 : Ref sig .tc := ⟨.hbm, 56, rfl⟩
abbrev main_v18_1 : Ref sig .tc := ⟨.hbm, 57, rfl⟩
abbrev main_v18_2 : Ref sig .tc := ⟨.hbm, 58, rfl⟩
abbrev main_v18_3 : Ref sig .tc := ⟨.hbm, 59, rfl⟩
abbrev main_v18_4 : Ref sig .tc := ⟨.hbm, 60, rfl⟩
abbrev main_v18_5 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31
abbrev cc0_sem18_1 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1024x2816 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== BwdInRefIdeal.lean ====
abbrev S2048x512 : Shape := ⟨2, ![2048, 512]⟩
abbrev S2048x128 : Shape := ⟨2, ![2048, 128]⟩
abbrev S1x128 : Shape := ⟨2, ![1, 128]⟩
abbrev S2048x32 : Shape := ⟨2, ![2048, 32]⟩
abbrev S2048x1024 : Shape := ⟨2, ![2048, 1024]⟩
abbrev S1024x2816 : Shape := ⟨2, ![1024, 2816]⟩
abbrev S1x3072 : Shape := ⟨2, ![1, 3072]⟩
abbrev S1x1024 : Shape := ⟨2, ![1, 1024]⟩
abbrev S2048x2x64 : Shape := ⟨3, ![2048, 2, 64]⟩
abbrev S2x64 : Shape := ⟨2, ![2, 64]⟩
abbrev S_ : Shape := ⟨0, ![]⟩
abbrev S2048x2 : Shape := ⟨2, ![2048, 2]⟩
abbrev S2048x2x1 : Shape := ⟨3, ![2048, 2, 1]⟩
abbrev S1x2x64 : Shape := ⟨3, ![1, 2, 64]⟩
abbrev S2048x1x32 : Shape := ⟨3, ![2048, 1, 32]⟩
abbrev S2048x2x32 : Shape := ⟨3, ![2048, 2, 32]⟩
abbrev S2048x2816 : Shape := ⟨2, ![2048, 2816]⟩
abbrev S2816x1024 : Shape := ⟨2, ![2816, 1024]⟩
abbrev S2048 : Shape := ⟨1, ![2048]⟩
abbrev S2048x1 : Shape := ⟨2, ![2048, 1]⟩
abbrev S1024 : Shape := ⟨1, ![1024]⟩

abbrev nBuf : Space → Nat
  | .hbm => 165
  | .vmem => 0
  | .smem => 0
  | _ => 0

abbrev hbmTy0_0 (i : Nat) : BufTy := match i % 128 with
  | 0 => ⟨S2048x512, .f32⟩
  | 1 => ⟨S2048x128, .f32⟩
  | 2 => ⟨S2048x128, .f32⟩
  | 3 => ⟨S2048x512, .f32⟩
  | 4 => ⟨S2048x512, .f32⟩
  | 5 => ⟨S2048x512, .f32⟩
  | 6 => ⟨S2048x512, .f32⟩
  | 7 => ⟨S2048x128, .f32⟩
  | 8 => ⟨S1x128, .f32⟩
  | 9 => ⟨S2048x32, .f32⟩
  | 10 => ⟨S2048x32, .f32⟩
  | 11 => ⟨S2048x1024, .bf16⟩
  | 12 => ⟨S1024x2816, .bf16⟩
  | 13 => ⟨S2048x1024, .f32⟩
  | 14 => ⟨S2048x1024, .f32⟩
  | 15 => ⟨S1x3072, .f32⟩
  | 16 => ⟨S1x1024, .f32⟩
  | 17 => ⟨S2048x2x64, .f32⟩
  | 18 => ⟨S2x64, .f32⟩
  | 19 => ⟨S2048x2x64, .f32⟩
  | 20 => ⟨S_, .f32⟩
  | 21 => ⟨S2048x2, .f32⟩
  | 22 => ⟨S2048x2x1, .f32⟩
  | 23 => ⟨S_, .f32⟩
  | 24 => ⟨S2048x2x1, .f32⟩
  | 25 => ⟨S2048x2x1, .f32⟩
  | 26 => ⟨S_, .f32⟩
  | 27 => ⟨S2048x2x1, .f32⟩
  | 28 => ⟨S2048x2x1, .f32⟩
  | 29 => ⟨S2048x2x1, .f32⟩
  | 30 => ⟨S2048x2x1, .f32⟩
  | 31 => ⟨S_, .f32⟩
  | 32 => ⟨S2048x2x1, .f32⟩
  | 33 => ⟨S2048x2x1, .f32⟩
  | 34 => ⟨S2048x2x64, .f32⟩
  | 35 => ⟨S2048x2x64, .f32⟩
  | 36 => ⟨S1x2x64, .f32⟩
  | 37 => ⟨S2048x2x64, .f32⟩
  | 38 => ⟨S2048x2x64, .f32⟩
  | 39 => ⟨S2048x1x32, .f32⟩
  | 40 => ⟨S2048x1x32, .f32⟩
  | 41 => ⟨S2048x2x32, .f32⟩
  | 42 => ⟨S2048x2x32, .f32⟩
  | 43 => ⟨S2048x2x32, .f32⟩
  | 44 => ⟨S2048x2x32, .f32⟩
  | 45 => ⟨S2048x2x32, .f32⟩
  | 46 => ⟨S2048x2x32, .f32⟩
  | 47 => ⟨S2048x2x32, .f32⟩
  | 48 => ⟨S2048x2x32, .f32⟩
  | 49 => ⟨S2048x2x32, .f32⟩
  | 50 => ⟨S2048x2x32, .f32⟩
  | 51 => ⟨S2048x2x32, .f32⟩
  | 52 => ⟨S2048x2x32, .f32⟩
  | 53 => ⟨S2048x2x64, .f32⟩
  | 54 => ⟨S2048x2x64, .f32⟩
  | 55 => ⟨S2048x2x32, .f32⟩
  | 56 => ⟨S2048x2x32, .f32⟩
  | 57 => ⟨S2048x2x32, .f32⟩
  | 58 => ⟨S2048x2x32, .f32⟩
  | 59 => ⟨S2048x2x32, .f32⟩
  | 60 => ⟨S2048x2x32, .f32⟩
  | 61 => ⟨S2048x2x32, .f32⟩
  | 62 => ⟨S2048x2x32, .f32⟩
  | 63 => ⟨S2048x2x32, .f32⟩
  | 64 => ⟨S2048x2x32, .f32⟩
  | 65 => ⟨S2048x2x32, .f32⟩
  | 66 => ⟨S2048x2x32, .f32⟩
  | 67 => ⟨S2048x2x32, .f32⟩
  | 68 => ⟨S2048x2x64, .f32⟩
  | 69 => ⟨S2048x2x64, .f32⟩
  | 70 => ⟨S_, .f32⟩
  | 71 => ⟨S2x64, .f32⟩
  | 72 => ⟨S1x2x64, .f32⟩
  | 73 => ⟨S2048x2x64, .f32⟩
  | 74 => ⟨S2048x2x64, .f32⟩
  | 75 => ⟨S_, .f32⟩
  | 76 => ⟨S2x64, .f32⟩
  | 77 => ⟨S2048x2x64, .f32⟩
  | 78 => ⟨S_, .f32⟩
  | 79 => ⟨S2048x2, .f32⟩
  | 80 => ⟨S2048x2x1, .f32⟩
  | 81 => ⟨S2048x2x64, .f32⟩
  | 82 => ⟨S2048x2x64, .f32⟩
  | 83 => ⟨S2048x2x1, .f32⟩
  | 84 => ⟨S_, .f32⟩
  | 85 => ⟨S2048x2x1, .f32⟩
  | 86 => ⟨S2048x2x1, .f32⟩
  | 87 => ⟨S_, .f32⟩
  | 88 => ⟨S2048x2, .f32⟩
  | 89 => ⟨S2048x2x64, .f32⟩
  | 90 => ⟨S2048x2x64, .f32⟩
  | 91 => ⟨S2048x2x64, .f32⟩
  | 92 => ⟨S2048x2x64, .f32⟩
  | 93 => ⟨S2048x2x64, .f32⟩
  | 94 => ⟨S1x128, .f32⟩
  | 95 => ⟨S2048x128, .f32⟩
  | 96 => ⟨S2048x2816, .f32⟩
  | 97 => ⟨S2048x1024, .f32⟩
  | 98 => ⟨S1024x2816, .f32⟩
  | 99 => ⟨S2048x2816, .f32⟩
  | 100 => ⟨S2816x1024, .f32⟩
  | 101 => ⟨S1024x2816, .f32⟩
  | 102 => ⟨S2048x1024, .f32⟩
  | 103 => ⟨S1x1024, .f32⟩
  | 104 => ⟨S1x1024, .f32⟩
  | 105 => ⟨S1x1024, .f32⟩
  | 106 => ⟨S2048x1024, .f32⟩
  | 107 => ⟨S_, .f32⟩
  | 108 => ⟨S2048, .f32⟩
  | 109 => ⟨S2048x1, .f32⟩
  | 110 => ⟨S_, .f32⟩
  | 111 => ⟨S2048x1, .f32⟩
  | 112 => ⟨S2048x1, .f32⟩
  | 113 => ⟨S_, .f32⟩
  | 114 => ⟨S2048x1, .f32⟩
  | 115 => ⟨S2048x1, .f32⟩
  | 116 => ⟨S2048x1, .f32⟩
  | 117 => ⟨S2048x1, .f32⟩
  | 118 => ⟨S_, .f32⟩
  | 119 => ⟨S2048x1, .f32⟩
  | 120 => ⟨S2048x1, .f32⟩
  | 121 => ⟨S2048x1024, .f32⟩
  | 122 => ⟨S2048x1024, .f32⟩
  | 123 => ⟨S2048x1024, .f32⟩
  | 124 => ⟨S2048x1024, .f32⟩
  | 125 => ⟨S_, .f32⟩
  | 126 => ⟨S1x1024, .f32⟩
  | 127 => ⟨S1x1024, .f32⟩
  | _ => ⟨S2048x512, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S_, .f32⟩
  | 5 => ⟨S1024, .f32⟩
  | 6 => ⟨S1x1024, .f32⟩
  | 7 => ⟨S2048x1024, .f32⟩
  | 8 => ⟨S_, .f32⟩
  | 9 => ⟨S1024, .f32⟩
  | 10 => ⟨S1x1024, .f32⟩
  | 11 => ⟨S2048x1024, .f32⟩
  | 12 => ⟨S2048x1024, .f32⟩
  | 13 => ⟨S2048x1024, .f32⟩
  | 14 => ⟨S_, .f32⟩
  | 15 => ⟨S1024, .f32⟩
  | 16 => ⟨S1x1024, .f32⟩
  | 17 => ⟨S2048x1024, .f32⟩
  | 18 => ⟨S2048x1024, .f32⟩
  | 19 => ⟨S2048x1024, .f32⟩
  | 20 => ⟨S_, .f32⟩
  | 21 => ⟨S2048, .f32⟩
  | 22 => ⟨S2048x1, .f32⟩
  | 23 => ⟨S2048x1024, .f32⟩
  | 24 => ⟨S2048x1024, .f32⟩
  | 25 => ⟨S2048x1, .f32⟩
  | 26 => ⟨S_, .f32⟩
  | 27 => ⟨S2048x1, .f32⟩
  | 28 => ⟨S2048x1, .f32⟩
  | 29 => ⟨S_, .f32⟩
  | 30 => ⟨S2048, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S2048x1024, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_3 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_4 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_6 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_8 : Ref sig .tc := ⟨.hbm, 107, rfl⟩
abbrev main_v81 : Ref sig .tc := ⟨.hbm, 108, rfl⟩
abbrev main_v82 : Ref sig .tc := ⟨.hbm, 109, rfl⟩
abbrev main_cst_9 : Ref sig .tc := ⟨.hbm, 110, rfl⟩
abbrev main_v83 : Ref sig .tc := ⟨.hbm, 111, rfl⟩
abbrev main_v84 : Ref sig .tc := ⟨.hbm, 112, rfl⟩
abbrev main_cst_10 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_11 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_12 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_13 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_14 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_15 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_16 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_17 : Ref sig .tc := ⟨.hbm, 154, rfl⟩
abbrev main_v119 : Ref sig .tc := ⟨.hbm, 155, rfl⟩
abbrev main_v120 : Ref sig .tc := ⟨.hbm, 156, rfl⟩
abbrev main_cst_18 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩

abbrev nD : Nat := 1
abbrev τ : Topo := Topo.v7x

variable {F : FTy → Type} [FloatOps F]
-- ==== Proof.OutLoss.Spec.lean ====
/- The mathematics of the output projection, the gated residual and the loss, entry by entry, over the extended reals:
   what both the kernel `out_loss` and its reference are shown to compute. Hand-written, untrusted. -/
module

public import proofs.«01_k».proof.Proof.Gen.OutLossIdeal
public import Idealize.ShloMosaic.Lib.Pipeline.ValueKit
public import Idealize.ShloMosaic.Lib.Pointwise

@[expose] public section

noncomputable section

open Idealize.ShloMosaic
open scoped BigOperators

namespace Cert.OutLoss.Spec

open Cert.OutLossIdeal

variable (o ga yb : S2048x512.Idx → EReal) (x tgt : S2048x1024.Idx → EReal) (mod : S1x3072.Idx → EReal)
  (w : S1024x1024.Idx → EReal)

/-- The concatenation of the gated attention output and the convolution branch. -/
def ycat (r : Fin 2048) (k : Fin 1024) : EReal :=
  if h : k.val < 512 then o (ix2 r ⟨k.val, h⟩) * (ga (ix2 r ⟨k.val, h⟩) * Ideal.logistic (ga (ix2 r ⟨k.val, h⟩)))
  else yb (ix2 r ⟨k.val - 512, by omega⟩)

/-- The residual's gate: the last third of the modulation. -/
def gate (n : Fin 1024) : EReal := mod (ix2 0 ⟨2048 + n.val, by omega⟩)

/-- The output projection. -/
def y (r : Fin 2048) (n : Fin 1024) : EReal := ∑ k : Fin 1024, ycat o ga yb r k * w (ix2 k n)

/-- The layer's output less the target. -/
def diff (r : Fin 2048) (n : Fin 1024) : EReal :=
  x (ix2 r n) + gate mod n * y o ga yb w r n - tgt (ix2 r n)

/-- The loss's derivative at the layer's output: a 1024th of the difference. -/
def dout (r : Fin 2048) (n : Fin 1024) : EReal := diff o ga yb x tgt mod w r n * Ideal.ofBits .f32 0x3A800000#32

/-- The derivative at the output projection's result. -/
def dy (r : Fin 2048) (n : Fin 1024) : EReal := dout o ga yb x tgt mod w r n * gate mod n

/-- The derivative at the projection's operand. -/
def dycat (r : Fin 2048) (k : Fin 1024) : EReal := ∑ n : Fin 1024, dy o ga yb x tgt mod w r n * w (ix2 k n)

/-- The derivative at the projection's weights. -/
def gw (k n : Fin 1024) : EReal := ∑ r : Fin 2048, ycat o ga yb r k * dy o ga yb x tgt mod w r n

/-- The sum of the squared differences. -/
def sq : EReal := ∑ r : Fin 2048, ∑ n : Fin 1024, diff o ga yb x tgt mod w r n * diff o ga yb x tgt mod w r n

/-- The derivative at the gate. -/
def dgate (n : Fin 1024) : EReal := ∑ r : Fin 2048, dout o ga yb x tgt mod w r n * y o ga yb w r n

end Cert.OutLoss.Spec

end
-- ==== Proof.OutLoss.Payloads.lean ====
/- The payloads of `out_loss`, read at an entry. Hand-written, untrusted. -/
module

public import proofs.«01_k».proof.Proof.Gen.OutLossIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.OutLossIdeal.Val

open Cert.OutLossIdeal Cert.OutLossIdeal.Gen

/-- The concatenated operand of the projection. -/
theorem pay12_apply (v3 v4 v14 : FVec Ideal S256x512 .f32) (s : Fin 256) (k : Fin 1024) :
    k0_pay12 (F := Ideal) v3 v4 v14 (ix2 s k)
      = if h : k.val < 512 then
          v4 (ix2 s ⟨k.val, h⟩) * (v3 (ix2 s ⟨k.val, h⟩) * Ideal.logistic (v3 (ix2 s ⟨k.val, h⟩)))
        else v14 (ix2 s ⟨k.val - 512, by omega⟩) := by
  pointwise [k0_pay12]
  split <;> simp only [zero_sub, Ideal.logistic]

/-- The projection. -/
theorem pay13_apply (v3 v4 v14 : FVec Ideal S256x512 .f32) (v17 : FVec Ideal S1024x1024 .bf16) (s : Fin 256)
    (n : Fin 1024) :
    k0_pay13 (F := Ideal) v3 v4 v14 v17 (ix2 s n)
      = ∑ k : Fin 1024, k0_pay12 (F := Ideal) v3 v4 v14 (ix2 s k) * v17 (ix2 k n) := by
  pointwise! [k0_pay13]

/-- The difference from the target. -/
theorem pay14_apply (v3 v4 v14 : FVec Ideal S256x512 .f32) (v17 : FVec Ideal S1024x1024 .bf16)
    (v19 : FVec Ideal S1x1024 .f32) (v20 v24 : FVec Ideal S256x1024 .f32) (s : Fin 256) (n : Fin 1024) :
    k0_pay14 (F := Ideal) v3 v4 v14 v17 v19 v20 v24 (ix2 s n)
      = v20 (ix2 s n) + v19 (ix2 0 n) * k0_pay13 (F := Ideal) v3 v4 v14 v17 (ix2 s n) - v24 (ix2 s n) := by
  pointwise! [k0_pay14]

/-- The derivative at the layer's output. -/
theorem pay2_apply (v25 : FVec Ideal S256x1024 .f32) (s : Fin 256) (n : Fin 1024) :
    k0_pay2 (F := Ideal) v25 (ix2 s n) = v25 (ix2 s n) * Ideal.ofBits .f32 0x3A800000#32 := by
  pointwise! [k0_pay2]

/-- The derivative at the projection's result. -/
theorem pay4_apply (v19 : FVec Ideal S1x1024 .f32) (v25 : FVec Ideal S256x1024 .f32) (s : Fin 256) (n : Fin 1024) :
    k0_pay4 (F := Ideal) v19 v25 (ix2 s n) = k0_pay2 (F := Ideal) v25 (ix2 s n) * v19 (ix2 0 n) := by
  pointwise! [k0_pay4]

/-- The derivative at the projection's operand. -/
theorem pay5_apply (v17 : FVec Ideal S1024x1024 .bf16) (v19 : FVec Ideal S1x1024 .f32)
    (v25 : FVec Ideal S256x1024 .f32) (s : Fin 256) (k : Fin 1024) :
    k0_pay5 (F := Ideal) v17 v19 v25 (ix2 s k)
      = ∑ n : Fin 1024, k0_pay4 (F := Ideal) v19 v25 (ix2 s n) * v17 (ix2 k n) := by
  pointwise! [k0_pay5]

/-- Its first half. -/
theorem pay6_apply (v17 : FVec Ideal S1024x1024 .bf16) (v19 : FVec Ideal S1x1024 .f32)
    (v25 : FVec Ideal S256x1024 .f32) (s : Fin 256) (k : Fin 512) :
    k0_pay6 (F := Ideal) v17 v19 v25 (ix2 s k) = k0_pay5 (F := Ideal) v17 v19 v25 (ix2 s ⟨k.val, by omega⟩) := by
  pointwise! [k0_pay6]

/-- Its second half. -/
theorem pay7_apply (v17 : FVec Ideal S1024x1024 .bf16) (v19 : FVec Ideal S1x1024 .f32)
    (v25 : FVec Ideal S256x1024 .f32) (s : Fin 256) (k : Fin 512) :
    k0_pay7 (F := Ideal) v17 v19 v25 (ix2 s k)
      = k0_pay5 (F := Ideal) v17 v19 v25 (ix2 s ⟨512 + k.val, by omega⟩) := by
  pointwise! [k0_pay7]

/-- One step of the weights' derivative: what the buffer held plus this tile's part. -/
theorem pay8_apply (v16 : FVec Ideal S256x1024 .bf16) (v19 : FVec Ideal S1x1024 .f32)
    (v25 : FVec Ideal S256x1024 .f32) (v55 : FVec Ideal S1024x1024 .f32) (k n : Fin 1024) :
    k0_pay8 (F := Ideal) v16 v19 v25 v55 (ix2 k n)
      = v55 (ix2 k n) + ∑ s : Fin 256, v16 (ix2 s k) * k0_pay4 (F := Ideal) v19 v25 (ix2 s n) := by
  pointwise! [k0_pay8]

/-- One step of the gate's derivative. -/
theorem pay3_apply (v18 v25 : FVec Ideal S256x1024 .f32) (v40 : FVec Ideal S1x1024 .f32) (n : Fin 1024) :
    k0_pay3 (F := Ideal) v18 v25 v40 (ix2 0 n)
      = v40 (ix2 0 n) + ∑ s : Fin 256, k0_pay2 (F := Ideal) v25 (ix2 s n) * v18 (ix2 s n) := by
  pointwise! [k0_pay3]

/-- One tile's sum of squared differences. -/
theorem pay16_apply (v3 v4 v14 : FVec Ideal S256x512 .f32) (v17 : FVec Ideal S1024x1024 .bf16)
    (v19 : FVec Ideal S1x1024 .f32) (v20 v24 : FVec Ideal S256x1024 .f32) :
    k0_pay16 (F := Ideal) v3 v4 v14 v17 v19 v20 v24 (ix2 0 0)
      = ∑ s : Fin 256, ∑ n : Fin 1024, k0_pay14 (F := Ideal) v3 v4 v14 v17 v19 v20 v24 (ix2 s n)
          * k0_pay14 (F := Ideal) v3 v4 v14 v17 v19 v20 v24 (ix2 s n) := by
  pointwise! [k0_pay16]

/-- One step of the loss: every lane gains the tile's sum. -/
theorem pay1_apply (v31 : FVec Ideal S1x128 .f32) (v33 : FVec Ideal S1x1 .f32) (l : Fin 128) :
    k0_pay1 (F := Ideal) (k0_pay15 v31) v33 (ix2 0 l) = v31 (ix2 0 l) + v33 (ix2 0 0) := by
  pointwise! [k0_pay1, k0_pay15]

/-- The accumulators start at zero. -/
theorem pay9_apply (j : S1024x1024.Idx) : k0_pay9 (F := Ideal) j = 0 := by pointwise! [k0_pay9]
theorem pay10_apply (j : S1x128.Idx) : k0_pay10 (F := Ideal) j = 0 := by pointwise! [k0_pay10]
theorem pay11_apply (j : S1x1024.Idx) : k0_pay11 (F := Ideal) j = 0 := by pointwise! [k0_pay11]

end Cert.OutLossIdeal.Val

end
-- ==== Proof.OutLoss.Tile.lean ====
/- What the blocks of `out_loss` hold at a grid point, and the payloads over them. Hand-written, untrusted. -/
module

public import proofs.«01_k».proof.Proof.OutLoss.Spec
public import proofs.«01_k».proof.Proof.OutLoss.Payloads
public import proofs.«01_k».proof.Proof.Gen.OutLossIdeal.Value

@[expose] public section

set_option maxRecDepth 16384

noncomputable section

open Idealize.ShloMosaic Idealize.ShloMosaic.TcCoe Idealize.SL.Sem
open Idealize.ShloMosaic.Pipeline (Dat)
open scoped BigOperators

namespace Cert.OutLossIdeal.Val

open Cert.OutLossIdeal Cert.OutLossIdeal.Gen

variable (m : (ℓ : Loc nD τ sig) → Buf (Elt Ideal) ℓ)

/-- Every window's block index: the tile's number for a tiled window, zero for a whole one. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![0, 0]
    ∧ win0_11.index t = ![0, 0]
    ∧ win0_12.index t = ![0, 0] :=
  (by decide +kernel : ∀ t : Fin grid0.N, _)

/-! The arguments as arrays of extended reals. -/

abbrev a0 (c : Dev nD) : S2048x512.Idx → EReal := m ((c : Thread nD τ).loc main_arg0)
abbrev a1 (c : Dev nD) : S2048x512.Idx → EReal := m ((c : Thread nD τ).loc main_arg1)
abbrev a2 (c : Dev nD) : S2048x512.Idx → EReal := m ((c : Thread nD τ).loc main_arg2)
abbrev a3 (c : Dev nD) : S2048x1024.Idx → EReal := m ((c : Thread nD τ).loc main_arg3)
abbrev a4 (c : Dev nD) : S2048x1024.Idx → EReal := m ((c : Thread nD τ).loc main_arg4)
abbrev a5 (c : Dev nD) : S1x3072.Idx → EReal := m ((c : Thread nD τ).loc main_arg5)
abbrev a6 (c : Dev nD) : S1024x1024.Idx → EReal := m ((c : Thread nD τ).loc main_arg6)

/-- Row `s` of the tile at grid point `t`. -/
def row (t : Fin cfg0.N) (s : Fin 256) : Fin 2048 :=
  ⟨t.val * 256 + s.val, by have := t.isLt; have : cfg0.N = 8 := N_0; omega⟩

/-! The input blocks. -/

theorem rd0 (c : Dev nD) (t : Fin cfg0.N) (s : Fin 256) (k : Fin 512) :
    (iblk m c 0 t : S256x512.Idx → EReal) (ix2 s k) = a0 m c (ix2 (row t s) k) := by
  blk_point [iblk, V, idx_val t, row]

theorem rd1 (c : Dev nD) (t : Fin cfg0.N) (s : Fin 256) (k : Fin 512) :
    (iblk m c 1 t : S256x512.Idx → EReal) (ix2 s k) = a1 m c (ix2 (row t s) k) := by
  blk_point [iblk, V, idx_val t, row]

theorem rd2 (c : Dev nD) (t : Fin cfg0.N) (s : Fin 256) (k : Fin 512) :
    (iblk m c 2 t : S256x512.Idx → EReal) (ix2 s k) = a2 m c (ix2 (row t s) k) := by
  blk_point [iblk, V, idx_val t, row]

theorem rd3 (c : Dev nD) (t : Fin cfg0.N) (s : Fin 256) (k : Fin 1024) :
    (iblk m c 3 t : S256x1024.Idx → EReal) (ix2 s k) = a3 m c (ix2 (row t s) k) := by
  blk_point [iblk, V, idx_val t, row]

theorem rd4 (c : Dev nD) (t : Fin cfg0.N) (s : Fin 256) (k : Fin 1024) :
    (iblk m c 4 t : S256x1024.Idx → EReal) (ix2 s k) = a4 m c (ix2 (row t s) k) := by
  blk_point [iblk, V, idx_val t, row]

theorem rd5 (c : Dev nD) (t : Fin cfg0.N) (n : Fin 1024) :
    (View.ld (iblk m c 5 t) (Rect.unit ![0, 2048] ![1, 1024] inb_S1x3072_S1x1024_0_2048) : S1x1024.Idx → EReal)
        (ix2 0 n)
      = OutLoss.Spec.gate (a5 m c) n := by
  pointwise [OutLoss.Spec.gate]
  blk_point [iblk, V, idx_val t, row]

theorem rd6 (c : Dev nD) (t : Fin cfg0.N) (k n : Fin 1024) :
    (iblk m c 6 t : S1024x1024.Idx → EReal) (ix2 k n) = a6 m c (ix2 k n) := by
  blk_point [iblk, V, idx_val t, row]

/-! The tile's values. -/

/-- The tile's concatenated operand. -/
abbrev tcat (c : Dev nD) (t : Fin cfg0.N) : FVec Ideal S256x1024 .bf16 :=
  k0_pay12 (F := Ideal) (iblk m c 1 t) (iblk m c 0 t) (iblk m c 2 t)

/-- The tile's projection. -/
abbrev ty (c : Dev nD) (t : Fin cfg0.N) : FVec Ideal S256x1024 .f32 :=
  k0_pay13 (F := Ideal) (iblk m c 1 t) (iblk m c 0 t) (iblk m c 2 t) (iblk m c 6 t)

/-- The gate read out of the modulation. -/
abbrev tgate (c : Dev nD) (t : Fin cfg0.N) : FVec Ideal S1x1024 .f32 :=
  View.ld (iblk m c 5 t) (Rect.unit ![0, 2048] ![1, 1024] inb_S1x3072_S1x1024_0_2048)

/-- The tile's difference from the target. -/
abbrev tdiff (c : Dev nD) (t : Fin cfg0.N) : FVec Ideal S256x1024 .f32 :=
  k0_pay14 (F := Ideal) (iblk m c 1 t) (iblk m c 0 t) (iblk m c 2 t) (iblk m c 6 t) (tgate m c t) (iblk m c 3 t)
    (iblk m c 4 t)

theorem tcat_apply (c : Dev nD) (t : Fin cfg0.N) (s : Fin 256) (k : Fin 1024) :
    tcat m c t (ix2 s k) = OutLoss.Spec.ycat (a0 m c) (a1 m c) (a2 m c) (row t s) k := by
  unfold tcat
  rw [pay12_apply, OutLoss.Spec.ycat]
  split
  · rw [rd0, rd1]
  · rw [rd2]

theorem ty_apply (c : Dev nD) (t : Fin cfg0.N) (s : Fin 256) (n : Fin 1024) :
    ty m c t (ix2 s n) = OutLoss.Spec.y (a0 m c) (a1 m c) (a2 m c) (a6 m c) (row t s) n := by
  unfold ty
  rw [pay13_apply, OutLoss.Spec.y]
  exact Finset.sum_congr rfl fun k _ => by rw [← tcat_apply, rd6]

theorem tdiff_apply (c : Dev nD) (t : Fin cfg0.N) (s : Fin 256) (n : Fin 1024) :
    tdiff m c t (ix2 s n) = OutLoss.Spec.diff (a0 m c) (a1 m c) (a2 m c) (a3 m c) (a4 m c) (a5 m c) (a6 m c) (row t s) n := by
  unfold tdiff
  rw [pay14_apply, OutLoss.Spec.diff, rd3, rd4, ← ty_apply]
  unfold tgate
  rw [rd5]

theorem tdout_apply (c : Dev nD) (t : Fin cfg0.N) (s : Fin 256) (n : Fin 1024) :
    k0_pay2 (F := Ideal) (tdiff m c t) (ix2 s n) = OutLoss.Spec.dout (a0 m c) (a1 m c) (a2 m c) (a3 m c) (a4 m c) (a5 m c) (a6 m c) (row t s) n := by
  rw [pay2_apply, tdiff_apply, OutLoss.Spec.dout]

theorem tdy_apply (c : Dev nD) (t : Fin cfg0.N) (s : Fin 256) (n : Fin 1024) :
    k0_pay4 (F := Ideal) (tgate m c t) (tdiff m c t) (ix2 s n) = OutLoss.Spec.dy (a0 m c) (a1 m c) (a2 m c) (a3 m c) (a4 m c) (a5 m c) (a6 m c) (row t s) n := by
  rw [pay4_apply, tdout_apply, OutLoss.Spec.dy]
  unfold tgate
  rw [rd5]

theorem tdycat_apply (c : Dev nD) (t : Fin cfg0.N) (s : Fin 256) (k : Fin 1024) :
    k0_pay5 (F := Ideal) (iblk m c 6 t) (tgate m c t) (tdiff m c t) (ix2 s k)
      = OutLoss.Spec.dycat (a0 m c) (a1 m c) (a2 m c) (a3 m c) (a4 m c) (a5 m c) (a6 m c) (row t s) k := by
  rw [pay5_apply, OutLoss.Spec.dycat]
  exact Finset.sum_congr rfl fun n _ => by rw [tdy_apply, rd6]

end Cert.OutLossIdeal.Val

end
-- ==== Proof.OutLoss.Final.lean ====
/- What the result arrays of `out_loss` hold after the whole grid. Hand-written, untrusted. -/
module

public import proofs.«01_k».proof.Proof.OutLoss.Tile

@[expose] public section

set_option maxRecDepth 16384

noncomputable section

open Idealize.ShloMosaic Idealize.ShloMosaic.TcCoe Idealize.SL.Sem
open Idealize.ShloMosaic.Pipeline (Dat)
open scoped BigOperators

namespace Cert.OutLossIdeal.Val

open Cert.OutLossIdeal Cert.OutLossIdeal.Gen

variable (m : (ℓ : Loc nD τ sig) → Buf (Elt Ideal) ℓ)

theorem emb7 (t : Fin cfg0.N) (s : Fin 256) (n : Fin 1024) :
    ((cfg0.win 7).blk t).view.emb (ix2 s n) = ix2 (row t s) n := by
  blk_ext [idx_val t, row]

/-- What result 0 holds. -/
abbrev G7 (c : Dev nD) : S2048x1024.Idx → EReal :=
  fun i => OutLoss.Spec.dout (a0 m c) (a1 m c) (a2 m c) (a3 m c) (a4 m c) (a5 m c) (a6 m c) (i 0) (i 1)

theorem final_7 (c : Dev nD) : (dats m 0 c).arrAt 7 cfg0.N = G7 m c := by
  refine (dats m 0 c).arrAt_eq_of_covers 7 _ (by decide +kernel) fun t hf y => ?_
  obtain ⟨s, n, rfl⟩ : ∃ s n, y = (ix2 s n : S256x1024.Idx) := ⟨y 0, y 1, eq_ix2 y⟩
  rw [emb7, after0_7]
  by_cases h : t.val % 8 = 0
  · rw [outsAt0_A m c t h]; dsimp only
    frame_out
    exact tdout_apply m c t s n
  · rw [outsAt0_B m c t h]; dsimp only
    frame_out
    exact tdout_apply m c t s n

theorem emb8 (t : Fin cfg0.N) (s : Fin 256) (n : Fin 512) :
    ((cfg0.win 8).blk t).view.emb (ix2 s n) = ix2 (row t s) n := by
  blk_ext [idx_val t, row]

/-- What result 1 holds. -/
abbrev G8 (c : Dev nD) : S2048x512.Idx → EReal :=
  fun i => OutLoss.Spec.dycat (a0 m c) (a1 m c) (a2 m c) (a3 m c) (a4 m c) (a5 m c) (a6 m c) (i 0) ⟨(i 1).val, by have := (i 1).isLt; dsimp at this; omega⟩

theorem final_8 (c : Dev nD) : (dats m 0 c).arrAt 8 cfg0.N = G8 m c := by
  refine (dats m 0 c).arrAt_eq_of_covers 8 _ (by decide +kernel) fun t hf y => ?_
  obtain ⟨s, n, rfl⟩ : ∃ s n, y = (ix2 s n : S256x512.Idx) := ⟨y 0, y 1, eq_ix2 y⟩
  rw [emb8, after0_8]
  by_cases h : t.val % 8 = 0
  · rw [outsAt0_A m c t h]; dsimp only
    frame_out
    exact (pay6_apply _ _ _ s n).trans (tdycat_apply m c t s _)
  · rw [outsAt0_B m c t h]; dsimp only
    frame_out
    exact (pay6_apply _ _ _ s n).trans (tdycat_apply m c t s _)

theorem emb9 (t : Fin cfg0.N) (s : Fin 256) (n : Fin 512) :
    ((cfg0.win 9).blk t).view.emb (ix2 s n) = ix2 (row t s) n := by
  blk_ext [idx_val t, row]

/-- What result 2 holds. -/
abbrev G9 (c : Dev nD) : S2048x512.Idx → EReal :=
  fun i => OutLoss.Spec.dycat (a0 m c) (a1 m c) (a2 m c) (a3 m c) (a4 m c) (a5 m c) (a6 m c) (i 0) ⟨512 + (i 1).val, by have := (i 1).isLt; dsimp at this; omega⟩

theorem final_9 (c : Dev nD) : (dats m 0 c).arrAt 9 cfg0.N = G9 m c := by
  refine (dats m 0 c).arrAt_eq_of_covers 9 _ (by decide +kernel) fun t hf y => ?_
  obtain ⟨s, n, rfl⟩ : ∃ s n, y = (ix2 s n : S256x512.Idx) := ⟨y 0, y 1, eq_ix2 y⟩
  rw [emb9, after0_9]
  by_cases h : t.val % 8 = 0
  · rw [outsAt0_A m c t h]; dsimp only
    frame_out
    exact (pay7_apply _ _ _ s n).trans (tdycat_apply m c t s _)
  · rw [outsAt0_B m c t h]; dsimp only
    frame_out
    exact (pay7_apply _ _ _ s n).trans (tdycat_apply m c t s _)

/-- What tile `t` adds to result 3. -/
def part10 (c : Dev nD) (t : Fin cfg0.N) (j : S1024x1024.Idx) : EReal :=
  ∑ s : Fin 256, tcat m c t (ix2 s (j 0)) * k0_pay4 (F := Ideal) (tgate m c t) (tdiff m c t) (ix2 s (j 1))

/-- What result 3 holds. -/
abbrev G10 (c : Dev nD) : S1024x1024.Idx → EReal :=
  fun i => OutLoss.Spec.gw (a0 m c) (a1 m c) (a2 m c) (a3 m c) (a4 m c) (a5 m c) (a6 m c) (i 0) (i 1)

/-- The tiles' parts sum to the whole. -/
theorem sum_part10 (c : Dev nD) (j : S1024x1024.Idx) : (∑ t : Fin cfg0.N, part10 m c t j) = G10 m c j := by
  show _ = (∑ r : Fin 2048, OutLoss.Spec.ycat (a0 m c) (a1 m c) (a2 m c) r (j 0) * OutLoss.Spec.dy (a0 m c) (a1 m c) (a2 m c) (a3 m c) (a4 m c) (a5 m c) (a6 m c) r (j 1) : EReal)
  rw [Fin.sum_univ_tiles 8 256 rfl]
  unfold part10
  refine Finset.sum_congr rfl fun t _ => Finset.sum_congr rfl fun s _ => ?_
  exact congrArg₂ (· * ·) (tcat_apply m c t s _) (tdy_apply m c t s _)

theorem final_10 (c : Dev nD) : (dats m 0 c).arrAt 10 cfg0.N = G10 m c := by
  refine (dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0)
    (part10 m c)
    (fun t h j => by
      obtain ⟨k, n, rfl⟩ : ∃ k n, j = (ix2 k n : S1024x1024.Idx) := ⟨j 0, j 1, eq_ix2 j⟩
      rw [outsAt0_A m c t h]; frame_out
      rw [pay8_apply, pay9_apply]; rfl)
    (fun t h j => by
      obtain ⟨k, n, rfl⟩ : ∃ k n, j = (ix2 k n : S1024x1024.Idx) := ⟨j 0, j 1, eq_ix2 j⟩
      rw [outsAt0_B m c t h]; frame_out
      rw [pay8_apply]; rfl)
    (le_of_eq N_0) t0_7 rfl j, zero_add]
  exact sum_part10 m c j

/-- What tile `t` adds to result 4. -/
def part11 (c : Dev nD) (t : Fin cfg0.N) (j : S1x128.Idx) : EReal :=
  ∑ s : Fin 256, ∑ n : Fin 1024, tdiff m c t (ix2 s n) * tdiff m c t (ix2 s n)

/-- What result 4 holds. -/
abbrev G11 (c : Dev nD) : S1x128.Idx → EReal :=
  fun i => OutLoss.Spec.sq (a0 m c) (a1 m c) (a2 m c) (a3 m c) (a4 m c) (a5 m c) (a6 m c)

/-- The tiles' parts sum to the whole. -/
theorem sum_part11 (c : Dev nD) (j : S1x128.Idx) : (∑ t : Fin cfg0.N, part11 m c t j) = G11 m c j := by
  show _ = (∑ r : Fin 2048, ∑ n : Fin 1024, OutLoss.Spec.diff (a0 m c) (a1 m c) (a2 m c) (a3 m c) (a4 m c) (a5 m c) (a6 m c) r n * OutLoss.Spec.diff (a0 m c) (a1 m c) (a2 m c) (a3 m c) (a4 m c) (a5 m c) (a6 m c) r n : EReal)
  rw [Fin.sum_univ_tiles 8 256 rfl]
  unfold part11
  refine Finset.sum_congr rfl fun t _ => Finset.sum_congr rfl fun s _ => Finset.sum_congr rfl fun n _ => ?_
  exact congrArg₂ (· * ·) (tdiff_apply m c t s n) (tdiff_apply m c t s n)

theorem final_11 (c : Dev nD) : (dats m 0 c).arrAt 11 cfg0.N = G11 m c := by
  refine (dats m 0 c).arrAt_eq_of_after_last 11 t0_7 (by decide +kernel) _ fun j => ?_
  blk_simp
  rw [after0_11, Pipeline.eq_sum_fin_of_reset_step_apply_last (fun n h => (outsAt0 m c n h).2.2.2.2.1) 8 (fun _ => 0)
    (part11 m c)
    (fun t h j => by
      obtain ⟨k, n, rfl⟩ : ∃ k n, j = (ix2 k n : S1x128.Idx) := ⟨j 0, j 1, eq_ix2 j⟩
      obtain rfl : k = 0 := Subsingleton.elim _ _
      rw [outsAt0_A m c t h]; frame_out
      rw [pay1_apply, pay10_apply, pay16_apply]; rfl)
    (fun t h j => by
      obtain ⟨k, n, rfl⟩ : ∃ k n, j = (ix2 k n : S1x128.Idx) := ⟨j 0, j 1, eq_ix2 j⟩
      obtain rfl : k = 0 := Subsingleton.elim _ _
      rw [outsAt0_B m c t h]; frame_out
      rw [pay1_apply, pay16_apply]; rfl)
    (le_of_eq N_0) t0_7 rfl j, zero_add]
  exact sum_part11 m c j

/-- What tile `t` adds to result 5. -/
def part12 (c : Dev nD) (t : Fin cfg0.N) (j : S1x1024.Idx) : EReal :=
  ∑ s : Fin 256, k0_pay2 (F := Ideal) (tdiff m c t) (ix2 s (j 1)) * ty m c t (ix2 s (j 1))

/-- What result 5 holds. -/
abbrev G12 (c : Dev nD) : S1x1024.Idx → EReal :=
  fun i => OutLoss.Spec.dgate (a0 m c) (a1 m c) (a2 m c) (a3 m c) (a4 m c) (a5 m c) (a6 m c) (i 1)

/-- The tiles' parts sum to the whole. -/
theorem sum_part12 (c : Dev nD) (j : S1x1024.Idx) : (∑ t : Fin cfg0.N, part12 m c t j) = G12 m c j := by
  show _ = (∑ r : Fin 2048, OutLoss.Spec.dout (a0 m c) (a1 m c) (a2 m c) (a3 m c) (a4 m c) (a5 m c) (a6 m c) r (j 1) * OutLoss.Spec.y (a0 m c) (a1 m c) (a2 m c) (a6 m c) r (j 1) : EReal)
  rw [Fin.sum_univ_tiles 8 256 rfl]
  unfold part12
  refine Finset.sum_congr rfl fun t _ => Finset.sum_congr rfl fun s _ => ?_
  exact congrArg₂ (· * ·) (tdout_apply m c t s _) (ty_apply m c t s _)

theorem final_12 (c : Dev nD) : (dats m 0 c).arrAt 12 cfg0.N = G12 m c := by
  refine (dats m 0 c).arrAt_eq_of_after_last 12 t0_7 (by decide +kernel) _ fun j => ?_
  blk_simp
  rw [after0_12, Pipeline.eq_sum_fin_of_reset_step_apply_last (fun n h => (outsAt0 m c n h).2.2.2.2.2) 8 (fun _ => 0)
    (part12 m c)
    (fun t h j => by
      obtain ⟨k, n, rfl⟩ : ∃ k n, j = (ix2 k n : S1x1024.Idx) := ⟨j 0, j 1, eq_ix2 j⟩
      obtain rfl : k = 0 := Subsingleton.elim _ _
      rw [outsAt0_A m c t h]; frame_out
      rw [pay3_apply, pay11_apply]; rfl)
    (fun t h j => by
      obtain ⟨k, n, rfl⟩ : ∃ k n, j = (ix2 k n : S1x1024.Idx) := ⟨j 0, j 1, eq_ix2 j⟩
      obtain rfl : k = 0 := Subsingleton.elim _ _
      rw [outsAt0_B m c t h]; frame_out
      rw [pay3_apply]; rfl)
    (le_of_eq N_0) t0_7 rfl j, zero_add]
  exact sum_part12 m c j

end Cert.OutLossIdeal.Val

end
-- ==== Proof.OutLoss.Ref.lean ====
/- What the reference of `out_loss` holds, read at an entry: the mathematics of Spec.lean. Hand-written, untrusted. -/
module

public import proofs.«01_k».proof.Proof.OutLoss.Spec
public import proofs.«01_k».proof.Proof.Gen.OutLossRefIdeal.Read
public import Idealize.ShloMosaic.Lib.IdealHost

@[expose] public section

set_option maxRecDepth 16384

noncomputable section

open Idealize.ShloMosaic Idealize.ShloMosaic.TcCoe Idealize.SL.Sem
open scoped BigOperators

namespace Cert.OutLossRefIdeal.Val

open Cert.OutLossRefIdeal Cert.OutLossRefIdeal.Gen Cert.OutLossRefIdeal.Read

variable (x0 x1 x2 : FVec Ideal S2048x512 .f32) (x3 x4 : FVec Ideal S2048x1024 .f32) (x5 : FVec Ideal S1x3072 .f32)
  (x6 : FVec Ideal S1024x1024 .bf16)

/-- The derivative of half the mean of squares: `0.5/1024 · (2 d)` is a 1024th of `d`. -/
theorem half_mean (d : EReal) :
    Ideal.div (Ideal.ofBits .f32 0x3F000000#32) (Ideal.ofBits .f32 0x44800000#32)
        * (Ideal.ofBits .f32 0x40000000#32 * d)
      = d * Ideal.ofBits .f32 0x3A800000#32 := by
  have h1 : Ideal.ofBits .f32 0x3F000000#32 = (((1 : ℝ) / 2 : ℝ) : EReal) := by
    simp [Ideal.ofBits, Ideal.ieee, -EReal.coe_mul]; norm_num
  have h2 : Ideal.ofBits .f32 0x44800000#32 = ((1024 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = (((1 : ℝ) / 1024 : ℝ) : EReal) := by
    simp [Ideal.ofBits, Ideal.ieee, -EReal.coe_mul]; norm_num
  rw [h1, h2, h3, h4, Ideal.div_coe (by norm_num), ← EReal.coe_mul, ← mul_assoc, ← EReal.coe_mul, mul_comm]
  norm_num

theorem v6_apply (r : Fin 2048) (k : Fin 1024) :
    val_main_v6 (F := Ideal) x0 x1 x2 (ix2 r k) = OutLoss.Spec.ycat x0 x1 x2 r k := by
  pointwise [val_main_v6, val_main_v4, val_main_v3, val_main_call0_v5, val_main_call0_v4, val_main_call0_cst_0, val_main_call0_v3,
    val_main_call0_v2, val_main_call0_cst, val_main_call0_v1, val_main_call0_v0, OutLoss.Spec.ycat]
  rfl

theorem v7_apply (r : Fin 2048) (n : Fin 1024) :
    val_main_v7 (F := Ideal) x0 x1 x2 x6 (ix2 r n) = OutLoss.Spec.y x0 x1 x2 x6 r n := by
  pointwise [val_main_v7, v6_apply, val_main_v5, OutLoss.Spec.y]

theorem v11_apply (r : Fin 2048) (n : Fin 1024) :
    val_main_v11 (F := Ideal) x0 x1 x2 x3 x4 x5 x6 (ix2 r n) = OutLoss.Spec.diff x0 x1 x2 x3 x4 x5 x6 r n := by
  pointwise [val_main_v11, val_main_v10, val_main_v9, val_main_v8, val_main_v2, v7_apply, OutLoss.Spec.diff, OutLoss.Spec.gate]

theorem v26_apply (r : Fin 2048) (n : Fin 1024) :
    val_main_v26 (F := Ideal) x0 x1 x2 x3 x4 x5 x6 (ix2 r n) = OutLoss.Spec.dout x0 x1 x2 x3 x4 x5 x6 r n := by
  pointwise [val_main_v26, val_main_v25, val_main_v24, val_main_v23, val_main_cst_7, val_main_v22, val_main_v21,
    val_main_cst_6, val_main_cst_5, val_main_v14, val_main_v13, val_main_cst, v11_apply, OutLoss.Spec.dout]
  exact half_mean _

theorem v28_apply (r : Fin 2048) (n : Fin 1024) :
    val_main_v28 (F := Ideal) x0 x1 x2 x3 x4 x5 x6 (ix2 r n) = OutLoss.Spec.dy x0 x1 x2 x3 x4 x5 x6 r n := by
  pointwise [val_main_v28, val_main_v27, val_main_v2, v26_apply, OutLoss.Spec.dy, OutLoss.Spec.gate]
  exact mul_comm _ _

theorem v34_apply (r : Fin 2048) (k : Fin 1024) :
    val_main_v34 (F := Ideal) x0 x1 x2 x3 x4 x5 x6 (ix2 r k) = OutLoss.Spec.dycat x0 x1 x2 x3 x4 x5 x6 r k := by
  pointwise [val_main_v34, v28_apply, val_main_v5, OutLoss.Spec.dycat]

theorem v35_apply (r : Fin 2048) (k : Fin 512) :
    val_main_v35 (F := Ideal) x0 x1 x2 x3 x4 x5 x6 (ix2 r k)
      = OutLoss.Spec.dycat x0 x1 x2 x3 x4 x5 x6 r ⟨k.val, by omega⟩ := by
  pointwise [val_main_v35, v34_apply]

theorem v36_apply (r : Fin 2048) (k : Fin 512) :
    val_main_v36 (F := Ideal) x0 x1 x2 x3 x4 x5 x6 (ix2 r k)
      = OutLoss.Spec.dycat x0 x1 x2 x3 x4 x5 x6 r ⟨512 + k.val, by omega⟩ := by
  pointwise [val_main_v36, v34_apply]

theorem v33_apply (k n : Fin 1024) :
    val_main_v33 (F := Ideal) x0 x1 x2 x3 x4 x5 x6 (ix2 k n) = OutLoss.Spec.gw x0 x1 x2 x3 x4 x5 x6 k n := by
  pointwise [val_main_v33, val_main_v32, v28_apply, v6_apply, OutLoss.Spec.gw]
  exact Finset.sum_congr rfl fun r _ => mul_comm _ _

theorem v31_apply (i : Fin 1) (n : Fin 1024) :
    val_main_v31 (F := Ideal) x0 x1 x2 x3 x4 x5 x6 (ix2 i n) = OutLoss.Spec.dgate x0 x1 x2 x3 x4 x5 x6 n := by
  pointwise [val_main_v31, val_main_v30, val_main_v29, val_main_cst_8, v26_apply, v7_apply, OutLoss.Spec.dgate]

theorem v37_apply (i : Fin 1) (l : Fin 128) :
    val_main_v37 (F := Ideal) x0 x1 x2 x3 x4 x5 x6 (ix2 i l) = OutLoss.Spec.sq x0 x1 x2 x3 x4 x5 x6 := by
  pointwise [val_main_v37, val_main_v20, val_main_v12, val_main_cst_4, v11_apply, OutLoss.Spec.sq]

end Cert.OutLossRefIdeal.Val

end
-- ==== Proof.OutLoss.Claim.lean ====
/- `out_loss`: the kernel's six results are the reference's. Hand-written, untrusted. -/
module

public import proofs.«01_k».proof.Defs
public import proofs.«01_k».proof.Proof.OutLoss.Final
public import proofs.«01_k».proof.Proof.OutLoss.Ref
public import proofs.«01_k».proof.Proof.Gen.OutLossRefIdeal.Run
public import Idealize.ShloMosaic.Lib.Claim

@[expose] public section

set_option maxRecDepth 16384

noncomputable section

open Idealize.ShloMosaic Idealize.ShloMosaic.TcCoe Idealize.SL.Sem

namespace Cert.Proof.OutLossClaim

open Cert.OutLossRefIdeal.Read Cert.OutLossRefIdeal.Val
open Cert.OutLossIdeal.Val

local instance : Cert.OutLossIdeal.Facts := Cert.OutLossIdeal.Gen.facts
local instance : Cert.OutLossRefIdeal.Facts := Cert.OutLossRefIdeal.Gen.facts

/-- The reference's frame: its arguments are kept, and it declares no semaphore. -/
theorem frame_ref : Cert.quiescent_OutLossRefIdeal := fun m ρ _ =>
  (θ_run Cert.OutLossRefIdeal.defs _ _).mono (fun r h => ⟨fun c => (h c).2.2.2.2.2.2,
      Idealize.ShloMosaic.sem_eq_zero_of_no_sems (by decide) r.2⟩)
    (Cert.OutLossRefIdeal.Value.run (F := Ideal) m ρ)

/-- On the same arguments the six results agree. -/
theorem algebraic : Cert.algebraic_OutLossIdeal_OutLossRefIdeal := by
  intro m g m' g' _ hagree
  refine ⟨G7 m, G8 m, G9 m, G10 m, G11 m, G12 m,
    (θ_run Cert.OutLossIdeal.defs _ _).mono (fun r h c => ?_) (Cert.OutLossIdeal.Value.run_blocks (F := Ideal) m g),
    (θ_run Cert.OutLossRefIdeal.defs _ _).mono (fun r h c => ?_) (Cert.OutLossRefIdeal.Value.run (F := Ideal) m' g')⟩
  · obtain ⟨h0, h1, h2, h3, h4, h5, hk⟩ := h c
    exact ⟨h0.trans (final_7 m c), h1.trans (final_8 m c), h2.trans (final_9 m c), h3.trans (final_10 m c),
      h4.trans (final_11 m c), h5.trans (final_12 m c), hk⟩
  · obtain ⟨h0, h1, h2, h3, h4, h5, hk⟩ := h c
    obtain ⟨a0, a1, a2, a3, a4, a5, a6⟩ := hagree c
    refine ⟨(h0.trans (val_main_v26_eq ..)).trans ?_, (h1.trans (val_main_v35_eq ..)).trans ?_,
      (h2.trans (val_main_v36_eq ..)).trans ?_, (h3.trans (val_main_v33_eq ..)).trans ?_,
      (h4.trans (val_main_v37_eq ..)).trans ?_, (h5.trans (val_main_v31_eq ..)).trans ?_, hk⟩
    all_goals rw [a0, a1, a2, a3, a4, a5, a6]; funext j; rw [eq_ix2 j]
    · exact v26_apply _ _ _ _ _ _ _ _ _
    · exact v35_apply _ _ _ _ _ _ _ _ _
    · exact v36_apply _ _ _ _ _ _ _ _ _
    · exact v33_apply _ _ _ _ _ _ _ _ _
    · exact v37_apply _ _ _ _ _ _ _ _ _
    · exact v31_apply _ _ _ _ _ _ _ _ _

end Cert.Proof.OutLossClaim

end
-- ==== Proof.AttnFwd.Spec.lean ====
/- Sliding-window attention with sinks, one entry at a time, over the extended reals. Hand-written, untrusted. -/
module

public import Idealize.ShloMosaic.Lib.IdealHost
public import Idealize.ShloMosaic.PureOps

@[expose] public section

noncomputable section

open Idealize.ShloMosaic
open scoped BigOperators

namespace AttnFwd.Spec

/-- Row `s` of block `u`. -/
def row (u : Fin 16) (s : Fin 128) : Fin 2048 := ⟨u.val * 128 + s.val, by omega⟩
/-- The block before `u`, or `u` itself where there is none. -/
def prev (u : Fin 16) : Fin 16 := ⟨u.val - 1, by omega⟩
/-- Lane `d` of query head `h` of group `g`. -/
def qlane (g : Fin 2) (h : Fin 4) (d : Fin 64) : Fin 512 := ⟨g.val * 256 + h.val * 64 + d.val, by omega⟩
/-- Lane `d` of key head `g`. -/
def klane (g : Fin 2) (d : Fin 64) : Fin 128 := ⟨g.val * 64 + d.val, by omega⟩
/-- The number of head `h` of group `g`. -/
def head (g : Fin 2) (h : Fin 4) : Fin 8 := ⟨g.val * 4 + h.val, by omega⟩

/-- Query `s` of block `u` sees place `j` of the band: at most 127 places back, and not before the sequence's beginning. -/
def live (u : Fin 16) (s : Fin 128) (j : Fin 256) : Prop := (s.val < j.val ∧ j.val ≤ s.val + 128) ∧ (128 ≤ j.val ∨ 0 < u.val)

instance (u : Fin 16) (s : Fin 128) (j : Fin 256) : Decidable (live u s j) := by unfold live; infer_instance

/-- Place `j` of the band of block `u`: the block before (zeros before the first), then the block itself. -/
def band (k : Fin 2048 → Fin 128 → EReal) (u : Fin 16) (g : Fin 2) (j : Fin 256) (d : Fin 64) : EReal :=
  if h : j.val < 128 then (if 0 < u.val then k (row (prev u) ⟨j.val, h⟩) (klane g d) else 0)
  else k (row u ⟨j.val - 128, by omega⟩) (klane g d)

/-- The masked score of query `s` of block `u` against place `j`. -/
def score (q : Fin 2048 → Fin 512 → EReal) (k : Fin 2048 → Fin 128 → EReal) (u : Fin 16) (g : Fin 2) (h : Fin 4) (s : Fin 128)
    (j : Fin 256) : EReal :=
  if live u s j then (∑ d, q (row u s) (qlane g h d) * band k u g j d) * Ideal.ofBits .f32 0x3E000000#32 else ⊥

/-- The greatest of a row's scores and its sink. -/
def top (sc : Fin 256 → EReal) (sink : EReal) : EReal := max (Finset.fold max ⊥ sc Finset.univ) sink
/-- The weight of place `j` before the division. -/
def ex (sc : Fin 256 → EReal) (sink : EReal) (j : Fin 256) : EReal := Ideal.exp (sc j - top sc sink)
/-- The sum of a row's weights, the sink's among them. -/
def den (sc : Fin 256 → EReal) (sink : EReal) : EReal := (∑ j, ex sc sink j) + Ideal.exp (sink - top sc sink)
/-- One entry of the attention's output: the weighted mean of a lane of the values. -/
def mix (sc : Fin 256 → EReal) (sink : EReal) (vb : Fin 256 → EReal) : EReal := ∑ j, Ideal.div (ex sc sink j) (den sc sink) * vb j

/-- The output at row `s` of block `u`, lane `d` of head `h` of group `g`. -/
def out (sk : Fin 8 → EReal) (q : Fin 2048 → Fin 512 → EReal) (k v : Fin 2048 → Fin 128 → EReal) (u : Fin 16) (g : Fin 2)
    (h : Fin 4) (s : Fin 128) (d : Fin 64) : EReal :=
  mix (score q k u g h s) (sk (head g h)) fun j => band v u g j d

end AttnFwd.Spec

end
-- ==== Proof.AttnFwd.Mask.lean ====
/- The attention's mask computed with words. Hand-written, untrusted. -/
module

public import proofs.«01_k».proof.Proof.AttnFwd.Spec
public import Idealize.ShloMosaic.Lib.Pipeline.ValueKit
public import Idealize.ShloMosaic.Lib.Tactic.WordOmega
public import Idealize.ShloMosaic.Lib.Pointwise

@[expose] public section

set_option maxRecDepth 16384

noncomputable section

open Idealize.ShloMosaic Idealize.ShloMosaic.TcCoe Idealize.SL.Sem
open scoped BigOperators

namespace AttnFwd.Spec

theorem ofBits_neg_inf : Ideal.ofBits .f32 0xFF800000#32 = ⊥ := by
  simp [Ideal.ofBits, Ideal.ieee]

theorem toInt_small {n : Nat} (h : n < 1024) : (BitVec.ofNat 32 n).toInt = n := by
  rw [BitVec.toInt_eq_toNat_cond, BitVec.toNat_ofNat, if_pos (by omega)]; omega

theorem le_word (s : Fin 128) (j : Fin 256) :
    IntOp.andi
        (IntOp.cmpi .sge (IntOp.subi (IntOp.addi (BitVec.ofNat 32 s.val) 128#32) (BitVec.ofNat 32 j.val)) 0#32)
        (IntOp.cmpi .slt (IntOp.subi (IntOp.addi (BitVec.ofNat 32 s.val) 128#32) (BitVec.ofNat 32 j.val)) 128#32)
      = BitVec.ofBool (decide (s.val < j.val ∧ j.val ≤ s.val + 128)) := by
  have hs := s.isLt
  have hj := j.isLt
  have e : (IntOp.subi (IntOp.addi (BitVec.ofNat 32 s.val) 128#32) (BitVec.ofNat 32 j.val)).toInt
      = (s.val : Int) + 128 - j.val := by
    simp only [IntOp.subi, IntOp.addi, BitVec.toInt_sub, BitVec.toInt_add, toInt_small (show 128 < 1024 by omega),
      toInt_small (show s.val < 1024 by omega), toInt_small (show j.val < 1024 by omega), Int.bmod_def]
    omega
  generalize IntOp.subi (IntOp.addi (BitVec.ofNat 32 s.val) 128#32) (BitVec.ofNat 32 j.val) = x at e ⊢
  have e0 : IntOp.cmpi .sge x 0#32 = BitVec.ofBool (decide (j.val ≤ s.val + 128)) := by
    simp only [IntOp.cmpi, BitVec.sle, e]
    congr 1; apply decide_eq_decide.mpr
    rw [show (0#32 : BitVec 32).toInt = 0 from rfl]; omega
  have e1 : IntOp.cmpi .slt x 128#32 = BitVec.ofBool (decide (s.val < j.val)) := by
    simp only [IntOp.cmpi, BitVec.slt, e]
    congr 1; apply decide_eq_decide.mpr
    rw [show (128#32 : BitVec 32).toInt = 128 from rfl]; omega
  rw [e0, e1]
  by_cases h1 : j.val ≤ s.val + 128 <;> by_cases h2 : s.val < j.val <;> simp [h1, h2, IntOp.andi]

/-- The mask as it is computed with words. -/
theorem live_word (u : Fin 16) (s : Fin 128) (j : Fin 256) :
    IntOp.andi (BitVec.ofBool (decide (s.val < j.val ∧ j.val ≤ s.val + 128)))
        (IntOp.ori (IntOp.cmpi .sge (BitVec.ofNat 32 j.val) 128#32) (IntOp.cmpi .sgt (BitVec.ofNat 32 u.val) 0#32))
      = BitVec.ofBool (decide (live u s j)) := by
  have hs := u.isLt
  have hj := j.isLt
  have e0 : IntOp.cmpi .sge (BitVec.ofNat 32 j.val) 128#32 = BitVec.ofBool (decide (128 ≤ j.val)) := by
    simp only [IntOp.cmpi, BitVec.sle, toInt_small (show 128 < 1024 by omega), toInt_small (show j.val < 1024 by omega)]
    congr 1; apply decide_eq_decide.mpr; omega
  have e1 : IntOp.cmpi .sgt (BitVec.ofNat 32 u.val) 0#32 = BitVec.ofBool (decide (0 < u.val)) := by
    simp only [IntOp.cmpi, BitVec.slt, toInt_small (show 0 < 1024 by omega), toInt_small (show u.val < 1024 by omega)]
    congr 1; apply decide_eq_decide.mpr; omega
  rw [e0, e1]
  unfold live
  by_cases h1 : (s.val < j.val ∧ j.val ≤ s.val + 128) <;> by_cases h2 : 128 ≤ j.val <;> by_cases h3 : 0 < u.val <;>
    simp [h1, h2, h3, IntOp.andi, IntOp.ori]

theorem or_comm_word (a b : BitVec 1) : IntOp.ori a b = IntOp.ori b a := by unfold IntOp.ori; exact BitVec.or_comm a b

end AttnFwd.Spec

end
-- ==== Proof.AttnFwd.Payloads.lean ====
/- The payloads of `attn_fwd`, read at an entry. Hand-written, untrusted. -/
module

public import proofs.«01_k».proof.Proof.AttnFwd.Mask
public import proofs.«01_k».proof.Proof.Gen.AttnFwdIdeal.Skeleton

@[expose] public section

set_option maxRecDepth 16384

noncomputable section

open Idealize.ShloMosaic Idealize.ShloMosaic.TcCoe Idealize.SL.Sem
open scoped BigOperators

namespace Cert.AttnFwdIdeal.Val

open Cert.AttnFwdIdeal Cert.AttnFwdIdeal.Gen AttnFwd.Spec

/-- Row `s` of head `h` in the four heads laid one under the other. -/
def hrow (h : Fin 4) (s : Fin 128) : Fin 512 := ⟨h.val * 128 + s.val, by omega⟩

/-- A score where the mask's word is one, nothing where it is not. -/
def ksc (b : BitVec 1) (x : EReal) : EReal := if b = 1#1 then x * Ideal.ofBits .f32 0x3E000000#32 else ⊥

/-- The weighted mean by the reciprocal of the weights' sum. -/
def kmix (sc : Fin 256 → EReal) (sink : EReal) (vb : Fin 256 → EReal) : EReal :=
  ∑ j, ex sc sink j * Ideal.div 1 (den sc sink) * vb j

/-- The sink of a row out of the four heads' sinks. -/
def ksink (a0 a1 a2 a3 : EReal) (r : Fin 512) : EReal :=
  if r.val < 128 then a0 else if r.val < 256 then a1 else if r.val < 384 then a2 else a3

theorem mask_bot : Named.named (F := Ideal) κ "mask" (φ := .f32) 0xF149F2CA#32 = (⊥ : EReal) :=
  IdealRules.named_const.ideal_named_scalar κ "mask" (φ := .f32) 0xF149F2CA#32 ⊥ rfl

theorem pay6_apply (i : grid0.Coords) (u : Fin 16) (hu : u.val = (i 0).val) (h : Fin 4) (s : Fin 128) (j : Fin 256) :
    k0_pay6 i (ix2 (hrow h s) j) = BitVec.ofBool (decide (live u s j)) := by
  pointwise [k0_pay6]
  rw [← hu]
  have e : IntOp.andi (BitVec.ofNat 32 (hrow h s).val) 127#32 = BitVec.ofNat 32 s.val := by
    have hs := s.isLt
    have hh := h.isLt
    apply BitVec.eq_of_toNat_eq
    show (BitVec.ofNat 32 (h.val * 128 + s.val) &&& BitVec.ofNat 32 127).toNat = _
    rw [BitVec.toNat_and, BitVec.toNat_ofNat, BitVec.toNat_ofNat, BitVec.toNat_ofNat, Nat.mod_eq_of_lt (by omega), Nat.mod_eq_of_lt (by omega),
      Nat.mod_eq_of_lt (by omega), show (127 : Nat) = 2 ^ 7 - 1 from rfl, Nat.and_two_pow_sub_one_eq_mod]
    omega
  rw [e]
  exact (congrArg₂ IntOp.andi (le_word s j) rfl).trans (live_word u s j)

theorem sel_ksc (b : BitVec 1) (x : EReal) :
    Scalar.select b (x * Ideal.ofBits .f32 0x3E000000#32) ⊥ = ksc b x := rfl

theorem slt_word {n k : Nat} (hn : n < 1024) (hk : k < 1024) :
    IntOp.cmpi .slt (BitVec.ofNat 32 n) (BitVec.ofNat 32 k) = BitVec.ofBool (decide (n < k)) := by
  simp only [IntOp.cmpi, BitVec.slt, toInt_small hn, toInt_small hk]
  congr 1; apply decide_eq_decide.mpr; omega

theorem sel_word (p : Prop) [Decidable p] (a b : EReal) : Scalar.select (BitVec.ofBool (decide p)) a b = if p then a else b := by
  by_cases h : p <;> simp [h, Scalar.select]

theorem sel_sink (a0 a1 a2 a3 : EReal) (r : Fin 512) :
    Scalar.select (IntOp.cmpi .slt (BitVec.ofNat 32 r.val) 128#32) a0
        (Scalar.select (IntOp.cmpi .slt (BitVec.ofNat 32 r.val) 256#32) a1
          (Scalar.select (IntOp.cmpi .slt (BitVec.ofNat 32 r.val) 384#32) a2 a3))
      = ksink a0 a1 a2 a3 r := by
  have hr := r.isLt
  rw [slt_word (k := 128) (by omega) (by omega), slt_word (k := 256) (by omega) (by omega), slt_word (k := 384) (by omega) (by omega),
    sel_word, sel_word, sel_word]
  rfl

/-- A sum over the band is the sum over the block before and the sum over the block itself. -/
theorem sum_band (F : Fin 256 → EReal) (A B : Fin 128 → EReal) :
    (∑ x : Fin 128, F ⟨x.val, by omega⟩ * A x + ∑ x : Fin 128, F ⟨128 + x.val, by omega⟩ * B x)
      = ∑ j : Fin 256, F j * (if h : j.val < 128 then A ⟨j.val, h⟩ else B ⟨j.val - 128, by omega⟩) := by
  rw [show (∑ j : Fin 256, F j * (if h : j.val < 128 then A ⟨j.val, h⟩ else B ⟨j.val - 128, by omega⟩))
    = ∑ j : Fin (128 + 128), F j * (if h : j.val < 128 then A ⟨j.val, h⟩ else B ⟨j.val - 128, by omega⟩) from rfl,
    Fin.sum_univ_add]
  refine congrArg₂ (· + ·) (Finset.sum_congr rfl fun x _ => ?_) (Finset.sum_congr rfl fun x _ => ?_)
  · rw [dif_pos (show (Fin.castAdd 128 x).val < 128 from x.isLt)]; rfl
  · rw [dif_neg (show ¬ (Fin.natAdd 128 x).val < 128 by simp)]
    congr 2
    apply Fin.ext; simp

/-- A row of four heads laid one under the other is a row of the head it lies in. -/
theorem four_heads (f0 f1 f2 f3 : Fin 128 → EReal) (h : Fin 4) (s : Fin 128) (y : EReal) (e0 : h.val = 0 → f0 s = y)
    (e1 : h.val = 1 → f1 s = y) (e2 : h.val = 2 → f2 s = y) (e3 : h.val = 3 → f3 s = y) :
    (if h1 : h.val * 128 + s.val < 128 then f0 ⟨h.val * 128 + s.val, h1⟩
      else if h2 : h.val * 128 + s.val - 128 < 128 then f1 ⟨h.val * 128 + s.val - 128, h2⟩
      else if h3 : h.val * 128 + s.val - 128 - 128 < 128 then f2 ⟨h.val * 128 + s.val - 128 - 128, h3⟩
      else f3 ⟨h.val * 128 + s.val - 128 - 128 - 128, by omega⟩) = y := by
  have hh := h.isLt
  have hs := s.isLt
  obtain h0 | h0 | h0 | h0 : h.val = 0 ∨ h.val = 1 ∨ h.val = 2 ∨ h.val = 3 := by omega
  · rw [dif_pos (by omega), ← e0 h0]; exact congrArg f0 (Fin.ext (by show h.val * 128 + s.val = s.val; omega))
  · rw [dif_neg (by omega), dif_pos (by omega), ← e1 h0]
    exact congrArg f1 (Fin.ext (by show h.val * 128 + s.val - 128 = s.val; omega))
  · rw [dif_neg (by omega), dif_neg (by omega), dif_pos (by omega), ← e2 h0]
    exact congrArg f2 (Fin.ext (by show h.val * 128 + s.val - 128 - 128 = s.val; omega))
  · rw [dif_neg (by omega), dif_neg (by omega), dif_neg (by omega), ← e3 h0]
    exact congrArg f3 (Fin.ext (by show h.val * 128 + s.val - 128 - 128 - 128 = s.val; omega))

/-- The same lane under two names. -/
theorem lane_eq (v : FVec Ideal S128x512 .bf16) (s : Fin 128) (a b : Nat) (ha : a < 512) (hb : b < 512) (e : a = b) :
    (v (ix2 s ⟨a, ha⟩) : EReal) = v (ix2 s ⟨b, hb⟩) := by subst e; rfl

theorem pay7_apply (v18 : FVec Ideal S128x512 .bf16) (h : Fin 4) (s : Fin 128) (d : Fin 64) :
    k0_pay7 (F := Ideal) v18 (ix2 (hrow h s) d) = v18 (ix2 s (qlane 0 h d)) := by
  pointwise [k0_pay7, hrow, qlane]
  exact four_heads
    (fun s => v18 (ix2 s ⟨d.val, by omega⟩))
    (fun s => v18 (ix2 s ⟨64 + d.val, by omega⟩))
    (fun s => v18 (ix2 s ⟨128 + d.val, by omega⟩))
    (fun s => v18 (ix2 s ⟨192 + d.val, by omega⟩))
    h s _ (fun e => lane_eq v18 s _ _ _ _ (by omega)) (fun e => lane_eq v18 s _ _ _ _ (by omega)) (fun e => lane_eq v18 s _ _ _ _ (by omega)) (fun e => lane_eq v18 s _ _ _ _ (by omega))

theorem pay8_apply (v19 v20 : FVec Ideal S128x128 .bf16) (j : Fin 256) (d : Fin 64) :
    k0_pay8 (F := Ideal) v19 v20 (ix2 j d)
      = if h : j.val < 128 then v19 (ix2 ⟨j.val, h⟩ (klane 0 d)) else v20 (ix2 ⟨j.val - 128, by omega⟩ (klane 0 d)) := by
  pointwise [k0_pay8, klane]

theorem pay17_apply (v17 : IVec S512x256 1) (v18 : FVec Ideal S128x512 .bf16) (v19 v20 : FVec Ideal S128x128 .bf16) (h : Fin 4)
    (s : Fin 128) (j : Fin 256) :
    k0_pay17 (F := Ideal) v17 v18 v19 v20 (ix2 (hrow h s) j)
      = ksc (v17 (ix2 (hrow h s) j)) (∑ d, v18 (ix2 s (qlane 1 h d))
        * if h : j.val < 128 then v19 (ix2 ⟨j.val, h⟩ (klane 1 d)) else v20 (ix2 ⟨j.val - 128, by omega⟩ (klane 1 d))) := by
  pointwise [k0_pay17, hrow, qlane, klane, mask_bot]
  refine congrArg (ksc _) (Finset.sum_congr rfl fun x _ => congrArg (· * _) ?_)
  exact four_heads
    (fun s => v18 (ix2 s ⟨256 + x.val, by omega⟩))
    (fun s => v18 (ix2 s ⟨320 + x.val, by omega⟩))
    (fun s => v18 (ix2 s ⟨384 + x.val, by omega⟩))
    (fun s => v18 (ix2 s ⟨448 + x.val, by omega⟩))
    h s _ (fun e => lane_eq v18 s _ _ _ _ (by omega)) (fun e => lane_eq v18 s _ _ _ _ (by omega)) (fun e => lane_eq v18 s _ _ _ _ (by omega)) (fun e => lane_eq v18 s _ _ _ _ (by omega))

theorem pay16_apply (a0 a1 a2 a3 : EReal) (r : Fin 512) (z : Fin 1) :
    k0_pay16 (F := Ideal) a0 a1 a2 a3 (ix2 r z) = ksink a0 a1 a2 a3 r := by
  pointwise [k0_pay16, ksink]
  exact sel_sink a0 a1 a2 a3 r

theorem pay18_apply (v17 : IVec S512x256 1) (v18 : FVec Ideal S128x512 .bf16) (v19 v20 : FVec Ideal S128x128 .bf16)
    (a0 a1 a2 a3 : EReal) (r : Fin 512) (z : Fin 1) :
    k0_pay18 (F := Ideal) v17 v18 v19 v20 a0 a1 a2 a3 (ix2 r z)
      = max (Finset.fold max (Ideal.ofBits .f32 0xFF800000#32) (fun j => k0_pay17 (F := Ideal) v17 v18 v19 v20 (ix2 r j)) Finset.univ)
          (k0_pay16 (F := Ideal) a0 a1 a2 a3 (ix2 r 0)) := by
  obtain rfl : z = 0 := Subsingleton.elim _ _
  pointwise [k0_pay18]

theorem pay19_apply (v17 : IVec S512x256 1) (v18 : FVec Ideal S128x512 .bf16) (v19 v20 : FVec Ideal S128x128 .bf16)
    (a0 a1 a2 a3 : EReal) (r : Fin 512) (j : Fin 256) :
    k0_pay19 (F := Ideal) v17 v18 v19 v20 a0 a1 a2 a3 (ix2 r j)
      = k0_pay17 (F := Ideal) v17 v18 v19 v20 (ix2 r j) - k0_pay18 (F := Ideal) v17 v18 v19 v20 a0 a1 a2 a3 (ix2 r 0) := by
  pointwise [k0_pay19]

theorem pay1_apply (v21 v22 : FVec Ideal S128x128 .bf16) (v107 v115 : FVec Ideal S512x1 .f32) (v117 : FVec Ideal S512x256 .f32)
    (r : Fin 512) (d : Fin 64) :
    k0_pay1 (F := Ideal) v21 v22 v107 v115 v117 (ix2 r d)
      = ∑ j : Fin 256, Ideal.exp (v117 (ix2 r j))
          * Ideal.div 1 ((∑ j : Fin 256, Ideal.exp (v117 (ix2 r j))) + Ideal.exp (v107 (ix2 r 0) - v115 (ix2 r 0)))
          * (if h : j.val < 128 then v21 (ix2 ⟨j.val, h⟩ (klane 1 d)) else v22 (ix2 ⟨j.val - 128, by omega⟩ (klane 1 d))) := by
  pointwise [k0_pay1, klane]

theorem pay11_apply (v17 : IVec S512x256 1) (v21 v22 : FVec Ideal S128x128 .bf16) (v27 : FVec Ideal S512x64 .bf16)
    (v30 : FVec Ideal S256x64 .bf16) (a0 a1 a2 a3 : EReal) (r : Fin 512) (d : Fin 64) :
    k0_pay11 (F := Ideal) v17 v21 v22 v27 v30 (iota .tc S512x1 32 [0] iota_S512x1_d0_w32) k0_pay9 a0 k0_pay10 a1 a2 a3 (ix2 r d)
      = kmix (fun j => ksc (v17 (ix2 r j)) (∑ d, v27 (ix2 r d) * v30 (ix2 j d))) (ksink a0 a1 a2 a3 r)
          (fun j => if h : j.val < 128 then v21 (ix2 ⟨j.val, h⟩ (klane 0 d)) else v22 (ix2 ⟨j.val - 128, by omega⟩ (klane 0 d))) := by
  pointwise [k0_pay11, k0_pay9, k0_pay10, klane, mask_bot]
  simp only [sel_ksc, sel_sink, ofBits_neg_inf]
  exact sum_band (fun j => ex (fun j => ksc (v17 (ix2 r j)) (∑ d, v27 (ix2 r d) * v30 (ix2 j d))) (ksink a0 a1 a2 a3 r) j
    * Ideal.div 1 (den (fun j => ksc (v17 (ix2 r j)) (∑ d, v27 (ix2 r d) * v30 (ix2 j d))) (ksink a0 a1 a2 a3 r))) _ _

end Cert.AttnFwdIdeal.Val

end
-- ==== Proof.AttnFwd.Tile.lean ====
/- What the body of `attn_fwd` stores, in terms of the blocks it loads. Hand-written, untrusted. -/
module

public import proofs.«01_k».proof.Proof.AttnFwd.Payloads

@[expose] public section

set_option maxRecDepth 16384

noncomputable section

open Idealize.ShloMosaic Idealize.ShloMosaic.TcCoe Idealize.SL.Sem
open scoped BigOperators

namespace Cert.AttnFwdIdeal.Val

open Cert.AttnFwdIdeal Cert.AttnFwdIdeal.Gen AttnFwd.Spec

/-- Place `j` of a band whose two blocks are `a` and `b`. -/
def kband (a b : FVec Ideal S128x128 .bf16) (g : Fin 2) (j : Fin 256) (d : Fin 64) : EReal :=
  if h : j.val < 128 then a (ix2 ⟨j.val, h⟩ (klane g d)) else b (ix2 ⟨j.val - 128, by omega⟩ (klane g d))

/-- The body's score of query `s` against place `j`. -/
def kscore (q : FVec Ideal S128x512 .bf16) (k0 k1 : FVec Ideal S128x128 .bf16) (u : Fin 16) (g : Fin 2) (h : Fin 4) (s : Fin 128)
    (j : Fin 256) : EReal :=
  ksc (BitVec.ofBool (decide (live u s j))) (∑ d, q (ix2 s (qlane g h d)) * kband k0 k1 g j d)

/-- What the body stores at row `s`, lane `d` of head `h` of group `g`. -/
def kout (sk : FVec Ideal S1x8 .f32) (q : FVec Ideal S128x512 .bf16) (k0 k1 v0 v1 : FVec Ideal S128x128 .bf16) (u : Fin 16) (g : Fin 2)
    (h : Fin 4) (s : Fin 128) (d : Fin 64) : EReal :=
  kmix (kscore q k0 k1 u g h s) (sk (ix2 0 (head g h))) fun j => kband v0 v1 g j d

/-- A head's sink is the one its rows take. -/
theorem ksink_head (f : Fin 8 → EReal) (g : Fin 2) (h : Fin 4) (s : Fin 128) :
    ksink (f (head g 0)) (f (head g 1)) (f (head g 2)) (f (head g 3)) (hrow h s) = f (head g h) := by
  have hs := s.isLt
  unfold ksink hrow
  match h with
  | 0 => rw [if_pos (by dsimp; omega)]
  | 1 => rw [if_neg (by dsimp; omega), if_pos (by dsimp; omega)]
  | 2 => rw [if_neg (by dsimp; omega), if_neg (by dsimp; omega), if_pos (by dsimp; omega)]
  | 3 => rw [if_neg (by dsimp; omega), if_neg (by dsimp; omega), if_neg (by dsimp; omega)]

variable (i : grid0.Coords) (u : Fin 16) (hu : u.val = (i 0).val)
  (sk : FVec Ideal S1x8 .f32) (q : FVec Ideal S128x512 .bf16) (k0 k1 v0 v1 : FVec Ideal S128x128 .bf16)
include hu

section
variable {a0 a1 a2 a3 : EReal} {g : Fin 2} (h0 : a0 = sk (ix2 0 (head g 0))) (h1 : a1 = sk (ix2 0 (head g 1)))
  (h2 : a2 = sk (ix2 0 (head g 2))) (h3 : a3 = sk (ix2 0 (head g 3)))
include h0 h1 h2 h3

/-- The first group's four heads, one under the other. -/
theorem group0 (hg : g = 0) (h : Fin 4) (s : Fin 128) (d : Fin 64) :
    k0_pay11 (F := Ideal) (k0_pay6 i) v0 v1 (k0_pay7 q) (k0_pay8 k0 k1) (iota .tc S512x1 32 [0] iota_S512x1_d0_w32) k0_pay9
        a0 k0_pay10 a1 a2 a3 (ix2 (hrow h s) d)
      = kout sk q k0 k1 v0 v1 u 0 h s d := by
  subst hg h0 h1 h2 h3
  rw [pay11_apply, ksink_head (fun n => sk (ix2 0 n)) 0 h s]
  simp only [pay6_apply i u hu, pay7_apply, pay8_apply]
  rfl

/-- The second group's. -/
theorem group1 (hg : g = 1) (h : Fin 4) (s : Fin 128) (d : Fin 64) :
    k0_pay1 (F := Ideal) v0 v1 (k0_pay16 a0 a1 a2 a3) (k0_pay18 (k0_pay6 i) q k0 k1 a0 a1 a2 a3)
        (k0_pay19 (k0_pay6 i) q k0 k1 a0 a1 a2 a3) (ix2 (hrow h s) d)
      = kout sk q k0 k1 v0 v1 u 1 h s d := by
  subst hg h0 h1 h2 h3
  rw [pay1_apply]
  simp only [pay19_apply, pay18_apply, pay17_apply, pay16_apply, pay6_apply i u hu, ksink_head (fun n => sk (ix2 0 n)) 1 h s, ofBits_neg_inf]
  rfl

end

end Cert.AttnFwdIdeal.Val

end
-- ==== Proof.AttnFwd.Bridge.lean ====
/- The body's attention is the plain attention wherever sinks, queries and keys are finite. Hand-written, untrusted. -/
module

public import proofs.«01_k».proof.Proof.AttnFwd.Tile
public import Idealize.ShloMosaic.PureOps.Ideal

@[expose] public section

noncomputable section

open Idealize.ShloMosaic Idealize.ShloMosaic.TcCoe
open scoped BigOperators

namespace AttnFwd.Spec

/-- A finite extended real. -/
def Finite (x : EReal) : Prop := x ≠ ⊤ ∧ x ≠ ⊥

theorem Finite.coe (r : ℝ) : Finite (r : EReal) := ⟨EReal.coe_ne_top r, EReal.coe_ne_bot r⟩

theorem Finite.exists {x : EReal} (h : Finite x) : ∃ r : ℝ, x = r := ⟨x.toReal, (EReal.coe_toReal h.1 h.2).symm⟩

theorem Finite.zero : Finite 0 := by simpa using Finite.coe 0

theorem Finite.mul {x y : EReal} (hx : Finite x) (hy : Finite y) : Finite (x * y) := by
  obtain ⟨a, rfl⟩ := hx.exists
  obtain ⟨b, rfl⟩ := hy.exists
  rw [← EReal.coe_mul]; exact Finite.coe _

theorem Finite.add {x y : EReal} (hx : Finite x) (hy : Finite y) : Finite (x + y) := by
  obtain ⟨a, rfl⟩ := hx.exists
  obtain ⟨b, rfl⟩ := hy.exists
  rw [← EReal.coe_add]; exact Finite.coe _

theorem Finite.sum {ι : Type} (s : Finset ι) (f : ι → EReal) (h : ∀ i, Finite (f i)) : Finite (∑ i ∈ s, f i) := by
  classical
  induction s using Finset.induction_on with
  | empty => simpa using Finite.zero
  | insert a s ha ih => rw [Finset.sum_insert ha]; exact (h a).add ih

theorem finite_eighth : Finite (Ideal.ofBits .f32 0x3E000000#32) := by
  have e : Ideal.ofBits .f32 0x3E000000#32 = (((1 : ℝ) / 8 : ℝ) : EReal) := by
    simp [Ideal.ofBits, Ideal.ieee, -EReal.coe_mul]; norm_num
  rw [e]; exact Finite.coe _

theorem exp_nonneg (x : EReal) : 0 ≤ Ideal.exp x := by
  induction x with
  | bot => exact le_refl _
  | top => exact le_top
  | coe r => exact EReal.coe_nonneg.mpr (Real.exp_pos r).le

theorem exp_sub_self {x : EReal} (h : Finite x) : Ideal.exp (x - x) = 1 := by
  obtain ⟨r, rfl⟩ := h.exists
  rw [← EReal.coe_sub, sub_self]
  show ((Real.exp 0 : ℝ) : EReal) = 1
  rw [Real.exp_zero]; rfl

/-- One of a row's weights is one, so the row's sum is not zero. -/
theorem den_ne_zero (sc : Fin 256 → EReal) (sink : EReal) (hs : Finite sink) (hsc : ∀ j, sc j ≠ ⊤) : den sc sink ≠ 0 := by
  have h0 : ∀ j ∈ Finset.univ, 0 ≤ ex sc sink j := fun j _ => exp_nonneg _
  have hpos : 0 < den sc sink := by
    unfold den
    rcases le_total (Finset.fold max ⊥ sc Finset.univ) sink with hle | hle
    · have e : top sc sink = sink := max_eq_right hle
      rw [e, exp_sub_self hs]
      exact lt_of_lt_of_le zero_lt_one (le_add_of_nonneg_left (Finset.sum_nonneg h0))
    · have e : top sc sink = Finset.fold max ⊥ sc Finset.univ := max_eq_left hle
      obtain ⟨j, _, hj⟩ := Finset.exists_mem_eq_sup Finset.univ ⟨0, Finset.mem_univ _⟩ sc
      have hj' : Finset.fold max ⊥ sc Finset.univ = sc j := hj
      have hf : Finite (sc j) := ⟨hsc j, fun hb => hs.2 (le_bot_iff.mp (hb ▸ hj' ▸ hle))⟩
      have e1 : ex sc sink j = 1 := by unfold ex; rw [e, hj', exp_sub_self hf]
      have h1 : (1 : EReal) ≤ ∑ j, ex sc sink j := e1 ▸ Finset.single_le_sum h0 (Finset.mem_univ j)
      exact lt_of_lt_of_le zero_lt_one (h1.trans (le_add_of_nonneg_right (exp_nonneg _)))
  exact hpos.ne'

theorem ex_bot (sc : Fin 256 → EReal) (sink : EReal) (j : Fin 256) (h : sc j = ⊥) : ex sc sink j = 0 := by
  unfold ex; rw [h, EReal.bot_sub]; rfl

/-- A score of finite queries and keys is never infinite. -/
theorem score_ne_top (q : Fin 2048 → Fin 512 → EReal) (k : Fin 2048 → Fin 128 → EReal) (hq : ∀ r n, Finite (q r n))
    (hk : ∀ r n, Finite (k r n)) (u : Fin 16) (g : Fin 2) (h : Fin 4) (s : Fin 128) (j : Fin 256) : score q k u g h s j ≠ ⊤ := by
  unfold score
  split
  · refine ((Finite.sum _ _ fun d => (hq _ _).mul ?_).mul finite_eighth).1
    unfold band
    split
    · split
      · exact hk _ _
      · exact Finite.zero
    · exact hk _ _
  · exact bot_ne_top

end AttnFwd.Spec

namespace Cert.AttnFwdIdeal.Val

open Cert.AttnFwdIdeal Cert.AttnFwdIdeal.Gen AttnFwd.Spec

/-- Where a place is seen, the body's band holds what the plain band holds. -/
theorem kband_eq (k : Fin 2048 → Fin 128 → EReal) (a b : FVec Ideal S128x128 .bf16) (u : Fin 16)
    (ha : ∀ s n, a (ix2 s n) = k (row (prev u) s) n) (hb : ∀ s n, b (ix2 s n) = k (row u s) n)
    (s : Fin 128) (j : Fin 256) (h : live u s j) (g : Fin 2) (d : Fin 64) : kband a b g j d = band k u g j d := by
  unfold kband band
  split
  · rename_i hj
    rw [if_pos (h.2.resolve_left (by omega)), ha]
  · rw [hb]

variable (sk : FVec Ideal S1x8 .f32) (q : FVec Ideal S128x512 .bf16) (k0 k1 v0 v1 : FVec Ideal S128x128 .bf16) (u : Fin 16)
  (SK : Fin 8 → EReal) (Q : Fin 2048 → Fin 512 → EReal) (K W : Fin 2048 → Fin 128 → EReal)

/-- The body's output is the plain one. -/
theorem kout_eq (hsk : ∀ n, sk (ix2 0 n) = SK n) (hq : ∀ s n, q (ix2 s n) = Q (row u s) n)
    (hk0 : ∀ s n, k0 (ix2 s n) = K (row (prev u) s) n) (hk1 : ∀ s n, k1 (ix2 s n) = K (row u s) n)
    (hv0 : ∀ s n, v0 (ix2 s n) = W (row (prev u) s) n) (hv1 : ∀ s n, v1 (ix2 s n) = W (row u s) n)
    (fs : ∀ n, Finite (SK n)) (fq : ∀ r n, Finite (Q r n)) (fk : ∀ r n, Finite (K r n))
    (g : Fin 2) (h : Fin 4) (s : Fin 128) (d : Fin 64) :
    kout sk q k0 k1 v0 v1 u g h s d = out SK Q K W u g h s d := by
  have esc : kscore q k0 k1 u g h s = score Q K u g h s := by
    funext j
    unfold kscore score ksc
    by_cases hl : live u s j
    · rw [if_pos hl, if_pos (by simp [hl])]
      refine congrArg (· * _) (Finset.sum_congr rfl fun e _ => ?_)
      rw [hq, kband_eq K k0 k1 u hk0 hk1 s j hl]
    · rw [if_neg hl, if_neg (by simp [hl])]
  unfold kout out kmix mix
  rw [esc, hsk]
  refine Finset.sum_congr rfl fun j _ => ?_
  have hd := den_ne_zero (score Q K u g h s) (SK (head g h)) (fs _) (score_ne_top Q K fq fk u g h s)
  rw [Ideal.mul_one_div hd]
  dsimp only
  by_cases hl : live u s j
  · rw [kband_eq W v0 v1 u hv0 hv1 s j hl]
  · rw [ex_bot _ _ j (if_neg hl), Ideal.zero_div hd, zero_mul, zero_mul]

end Cert.AttnFwdIdeal.Val

end
-- ==== Proof.AttnFwd.Final.lean ====
/- What the result array of `attn_fwd` holds after the whole grid. Hand-written, untrusted. -/
module

public import proofs.«01_k».proof.Proof.AttnFwd.Bridge
public import proofs.«01_k».proof.Proof.Gen.AttnFwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AttnFwdIdeal.Val

open Cert.AttnFwdIdeal Cert.AttnFwdIdeal.Gen AttnFwd.Spec

variable (m : (ℓ : Loc nD τ sig) → Buf (Elt Ideal) ℓ)

/-- Every window's block index: the block's number, or the one before it. -/
theorem idx_val : ∀ t : Fin cfg0.N, win0_0.index t = ![0, 0]
    ∧ win0_1.index t = ![t.val, 0]
    ∧ win0_2.index t = ![t.val - 1, 0]
    ∧ win0_3.index t = ![t.val, 0]
    ∧ win0_4.index t = ![t.val - 1, 0]
    ∧ win0_5.index t = ![t.val, 0]
    ∧ win0_6.index t = ![t.val, 0] :=
  (by decide +kernel : ∀ t : Fin grid0.N, _)

/-- The grid's coordinate is the point's number. -/
theorem coord_val : ∀ t : Fin cfg0.N, (grid0.coords t 0).val = t.val :=
  (by decide +kernel : ∀ t : Fin grid0.N, _)

/-! The arguments as arrays of extended reals. -/

abbrev a0 (c : Dev nD) : S1x8.Idx → EReal := m ((c : Thread nD τ).loc main_arg0)
abbrev a1 (c : Dev nD) : S2048x512.Idx → EReal := m ((c : Thread nD τ).loc main_arg1)
abbrev a2 (c : Dev nD) : S2048x128.Idx → EReal := m ((c : Thread nD τ).loc main_arg2)
abbrev a3 (c : Dev nD) : S2048x128.Idx → EReal := m ((c : Thread nD τ).loc main_arg3)

/-- The block of a grid point. -/
def blk (t : Fin cfg0.N) : Fin 16 := ⟨t.val, by have := t.isLt; have : cfg0.N = 16 := N_0; omega⟩

/-! The input blocks. -/

theorem rd0 (c : Dev nD) (t : Fin cfg0.N) (n : Fin 8) :
    (iblk m c 0 t : S1x8.Idx → EReal) (ix2 0 n) = a0 m c (ix2 0 n) := by
  blk_point [iblk, V, idx_val t]

theorem rd1 (c : Dev nD) (t : Fin cfg0.N) (s : Fin 128) (n : Fin 512) :
    (iblk m c 1 t : S128x512.Idx → EReal) (ix2 s n) = a1 m c (ix2 (row (blk t) s) n) := by
  blk_point [iblk, V, idx_val t, row, blk]

theorem rd2 (c : Dev nD) (t : Fin cfg0.N) (s : Fin 128) (n : Fin 128) :
    (iblk m c 2 t : S128x128.Idx → EReal) (ix2 s n) = a2 m c (ix2 (row (prev (blk t)) s) n) := by
  blk_point [iblk, V, idx_val t, row, blk, prev]

theorem rd3 (c : Dev nD) (t : Fin cfg0.N) (s : Fin 128) (n : Fin 128) :
    (iblk m c 3 t : S128x128.Idx → EReal) (ix2 s n) = a2 m c (ix2 (row (blk t) s) n) := by
  blk_point [iblk, V, idx_val t, row, blk]

theorem rd4 (c : Dev nD) (t : Fin cfg0.N) (s : Fin 128) (n : Fin 128) :
    (iblk m c 4 t : S128x128.Idx → EReal) (ix2 s n) = a3 m c (ix2 (row (prev (blk t)) s) n) := by
  blk_point [iblk, V, idx_val t, row, blk, prev]

theorem rd5 (c : Dev nD) (t : Fin cfg0.N) (s : Fin 128) (n : Fin 128) :
    (iblk m c 5 t : S128x128.Idx → EReal) (ix2 s n) = a3 m c (ix2 (row (blk t) s) n) := by
  blk_point [iblk, V, idx_val t, row, blk]

theorem emb6 (t : Fin cfg0.N) (s : Fin 128) (n : Fin 512) :
    ((cfg0.win 6).blk t).view.emb (ix2 s n) = ix2 (row (blk t) s) n := by
  blk_ext [idx_val t, row, blk]

/-- What the result holds. -/
abbrev G6 (c : Dev nD) : S2048x512.Idx → EReal := fun i =>
  out (fun n => a0 m c (ix2 0 n)) (fun r n => a1 m c (ix2 r n)) (fun r n => a2 m c (ix2 r n)) (fun r n => a3 m c (ix2 r n))
    ⟨(i 0).val / 128, by have := (i 0).isLt; dsimp at this; omega⟩
    ⟨(i 1).val / 256, by have := (i 1).isLt; dsimp at this; omega⟩
    ⟨(i 1).val / 64 % 4, by omega⟩ ⟨(i 0).val % 128, by omega⟩ ⟨(i 1).val % 64, by omega⟩

/-- A slice of four heads laid one under the other is the head it starts at. -/
theorem slice_head (v : FVec Ideal S512x64 .f32) (h : Fin 4) (hs) (s : Fin 128) (d : Fin 64) :
    extractStridedSlice S128x64 ![h.val * 128, 0] v hs (ix2 s d) = v (ix2 (hrow h s) d) := by
  refine congrArg v (funext fun a => Fin.ext ?_)
  match a with
  | ⟨0, _⟩ => rfl
  | ⟨1, _⟩ => exact Nat.zero_add _

/-! The stored pieces are slices of the four heads. -/

section
variable (v17 : IVec S512x256 1) (v21 v22 : FVec Ideal S128x128 .bf16) (v27 : FVec Ideal S512x64 .bf16) (v30 : FVec Ideal S256x64 .bf16)
  (v31 : IVec S512x1 32) (v33 v36 : IVec S512x1 1) (a0 a1 a2 a3 : EReal) (v107 v115 : FVec Ideal S512x1 .f32)
  (v117 : FVec Ideal S512x256 .f32) (v73 : FVec Ideal S512x64 .f32) (s : Fin 128) (d : Fin 64)

theorem pay12_apply : k0_pay12 (F := Ideal) v17 v21 v22 v27 v30 v31 v33 a0 v36 a1 a2 a3 (ix2 s d) = k0_pay11 (F := Ideal) v17 v21 v22 v27 v30 v31 v33 a0 v36 a1 a2 a3 (ix2 (hrow 0 s) d) := by
  unfold k0_pay12
  exact slice_head _ 0 _ s d

theorem pay13_apply : k0_pay13 (F := Ideal) v17 v21 v22 v27 v30 v31 v33 a0 v36 a1 a2 a3 (ix2 s d) = k0_pay11 (F := Ideal) v17 v21 v22 v27 v30 v31 v33 a0 v36 a1 a2 a3 (ix2 (hrow 1 s) d) := by
  unfold k0_pay13
  exact slice_head _ 1 _ s d

theorem pay14_apply : k0_pay14 (F := Ideal) v17 v21 v22 v27 v30 v31 v33 a0 v36 a1 a2 a3 (ix2 s d) = k0_pay11 (F := Ideal) v17 v21 v22 v27 v30 v31 v33 a0 v36 a1 a2 a3 (ix2 (hrow 2 s) d) := by
  unfold k0_pay14
  exact slice_head _ 2 _ s d

theorem pay15_apply : k0_pay15 v73 (ix2 s d) = v73 (ix2 (hrow 3 s) d) := by
  unfold k0_pay15
  exact slice_head _ 3 _ s d

theorem pay2_apply : k0_pay2 (F := Ideal) v21 v22 v107 v115 v117 (ix2 s d) = k0_pay1 (F := Ideal) v21 v22 v107 v115 v117 (ix2 (hrow 0 s) d) := by
  unfold k0_pay2
  exact slice_head _ 0 _ s d

theorem pay3_apply : k0_pay3 (F := Ideal) v21 v22 v107 v115 v117 (ix2 s d) = k0_pay1 (F := Ideal) v21 v22 v107 v115 v117 (ix2 (hrow 1 s) d) := by
  unfold k0_pay3
  exact slice_head _ 1 _ s d

theorem pay4_apply : k0_pay4 (F := Ideal) v21 v22 v107 v115 v117 (ix2 s d) = k0_pay1 (F := Ideal) v21 v22 v107 v115 v117 (ix2 (hrow 2 s) d) := by
  unfold k0_pay4
  exact slice_head _ 2 _ s d

theorem pay5_apply : k0_pay5 (F := Ideal) v21 v22 v107 v115 v117 (ix2 s d) = k0_pay1 (F := Ideal) v21 v22 v107 v115 v117 (ix2 (hrow 3 s) d) := by
  unfold k0_pay5
  exact slice_head _ 3 _ s d

end

/-- A load of one sink. -/
theorem ld_one (X : Vec Ideal S1x8 .f32) (k : Nat) (hk : k < 8) (inb) (x : S1x1.Idx) :
    View.ld (Val := Elt Ideal) (e' := .f32) X (Rect.unit (s := S1x8) ![0, k] ![1, 1] inb) x = X (ix2 0 ⟨k, hk⟩) := by
  have h0 : (x 0).val < 1 := (x 0).isLt
  have h1 : (x 1).val < 1 := (x 1).isLt
  refine View.ld_unit_apply_of X _ _ _ _ (ix2 0 ⟨k, hk⟩) fun a => ?_
  match a with
  | ⟨0, _⟩ => show 0 = 0 + (x 0).val; omega
  | ⟨1, _⟩ => show k = k + (x 1).val; omega

/-- Where a stored piece lies. -/
theorem lane_eq_iff {g g' : Fin 2} {h h' : Fin 4} {d d' : Fin 64} (e : g.val * 256 + h.val * 64 + d.val = g'.val * 256 + h'.val * 64 + d'.val) :
    g = g' ∧ h = h' ∧ d = d' := by
  refine ⟨Fin.ext ?_, Fin.ext ?_, Fin.ext ?_⟩ <;> omega

set_option maxHeartbeats 1600000 in
/-- What a point leaves in the result's block. -/
theorem outs_apply (c : Dev nD) (t : Fin cfg0.N) (g : Fin 2) (h : Fin 4) (s : Fin 128) (d : Fin 64) :
    (outsAt0 (F := Ideal) m c t : S128x512.Idx → EReal) (ix2 s (qlane g h d))
      = kout (iblk m c 0 t) (iblk m c 1 t) (iblk m c 2 t) (iblk m c 3 t) (iblk m c 4 t) (iblk m c 5 t) (blk t) g h s d := by
  have hu : (blk t).val = (grid0.coords t 0).val := (coord_val t).symm
  unfold outsAt0
  frame_out
  canon_tiles x e
  all_goals
    obtain ⟨s', d', rfl⟩ : ∃ s' d', x = (ix2 s' d' : S128x64.Idx) := ⟨x 0, x 1, eq_ix2 x⟩
    obtain rfl : s = s' := Fin.ext e0
    generalize iblk m c 0 t = sk
    generalize iblk m c 1 t = q
    generalize iblk m c 2 t = k0
    generalize iblk m c 3 t = k1
    generalize iblk m c 4 t = v0
    generalize iblk m c 5 t = v1
    dsimp only [ix2, qlane] at e1
  · obtain ⟨rfl, rfl, rfl⟩ := lane_eq_iff (g' := 1) (h' := 3) (d' := d') (e1.trans (by simp))
    exact (pay5_apply ..).trans (group1 _ _ hu sk q k0 k1 v0 v1 (ld_one _ 4 (by decide) _ _) (ld_one _ 5 (by decide) _ _)
      (ld_one _ 6 (by decide) _ _) (ld_one _ 7 (by decide) _ _) rfl 3 s d)
  · obtain ⟨rfl, rfl, rfl⟩ := lane_eq_iff (g' := 1) (h' := 2) (d' := d') (e1.trans (by simp))
    exact (pay4_apply ..).trans (group1 _ _ hu sk q k0 k1 v0 v1 (ld_one _ 4 (by decide) _ _) (ld_one _ 5 (by decide) _ _)
      (ld_one _ 6 (by decide) _ _) (ld_one _ 7 (by decide) _ _) rfl 2 s d)
  · obtain ⟨rfl, rfl, rfl⟩ := lane_eq_iff (g' := 1) (h' := 1) (d' := d') (e1.trans (by simp))
    exact (pay3_apply ..).trans (group1 _ _ hu sk q k0 k1 v0 v1 (ld_one _ 4 (by decide) _ _) (ld_one _ 5 (by decide) _ _)
      (ld_one _ 6 (by decide) _ _) (ld_one _ 7 (by decide) _ _) rfl 1 s d)
  · obtain ⟨rfl, rfl, rfl⟩ := lane_eq_iff (g' := 1) (h' := 0) (d' := d') (e1.trans (by simp))
    exact (pay2_apply ..).trans (group1 _ _ hu sk q k0 k1 v0 v1 (ld_one _ 4 (by decide) _ _) (ld_one _ 5 (by decide) _ _)
      (ld_one _ 6 (by decide) _ _) (ld_one _ 7 (by decide) _ _) rfl 0 s d)
  · obtain ⟨rfl, rfl, rfl⟩ := lane_eq_iff (g' := 0) (h' := 3) (d' := d') (e1.trans (by simp))
    exact (pay15_apply ..).trans (group0 _ _ hu sk q k0 k1 v0 v1 (ld_one _ 0 (by decide) _ _) (ld_one _ 1 (by decide) _ _)
      (ld_one _ 2 (by decide) _ _) (ld_one _ 3 (by decide) _ _) rfl 3 s d)
  · obtain ⟨rfl, rfl, rfl⟩ := lane_eq_iff (g' := 0) (h' := 2) (d' := d') (e1.trans (by simp))
    exact (pay14_apply ..).trans (group0 _ _ hu sk q k0 k1 v0 v1 (ld_one _ 0 (by decide) _ _) (ld_one _ 1 (by decide) _ _)
      (ld_one _ 2 (by decide) _ _) (ld_one _ 3 (by decide) _ _) rfl 2 s d)
  · obtain ⟨rfl, rfl, rfl⟩ := lane_eq_iff (g' := 0) (h' := 1) (d' := d') (e1.trans (by simp))
    exact (pay13_apply ..).trans (group0 _ _ hu sk q k0 k1 v0 v1 (ld_one _ 0 (by decide) _ _) (ld_one _ 1 (by decide) _ _)
      (ld_one _ 2 (by decide) _ _) (ld_one _ 3 (by decide) _ _) rfl 1 s d)
  · obtain ⟨rfl, rfl, rfl⟩ := lane_eq_iff (g' := 0) (h' := 0) (d' := d') (e1.trans (by simp))
    exact (pay12_apply ..).trans (group0 _ _ hu sk q k0 k1 v0 v1 (ld_one _ 0 (by decide) _ _) (ld_one _ 1 (by decide) _ _)
      (ld_one _ 2 (by decide) _ _) (ld_one _ 3 (by decide) _ _) rfl 0 s d)

/-- What the result holds at row `s` of block `u`, lane `d` of head `h` of group `g`. -/
theorem G6_apply (c : Dev nD) (u : Fin 16) (g : Fin 2) (h : Fin 4) (s : Fin 128) (d : Fin 64) :
    G6 m c (ix2 (row u s) (qlane g h d))
      = out (fun n => a0 m c (ix2 0 n)) (fun r n => a1 m c (ix2 r n)) (fun r n => a2 m c (ix2 r n)) (fun r n => a3 m c (ix2 r n)) u g h s d := by
  have e0 : (u.val * 128 + s.val) / 128 = u.val := by omega
  have e1 : (g.val * 256 + h.val * 64 + d.val) / 256 = g.val := by omega
  have e2 : (g.val * 256 + h.val * 64 + d.val) / 64 % 4 = h.val := by omega
  have e3 : (u.val * 128 + s.val) % 128 = s.val := by omega
  have e4 : (g.val * 256 + h.val * 64 + d.val) % 64 = d.val := by omega
  show out _ _ _ _ _ _ _ _ _ = _
  congr 1
  · exact Fin.ext e0
  · exact Fin.ext e1
  · exact Fin.ext e2
  · exact Fin.ext e3
  · exact Fin.ext e4

/-- Every lane is one of a head's. -/
theorem exists_qlane (n : Fin 512) : ∃ g h d, n = qlane g h d :=
  ⟨⟨n.val / 256, by omega⟩, ⟨n.val / 64 % 4, by omega⟩, ⟨n.val % 64, by omega⟩, Fin.ext (by unfold qlane; dsimp only; omega)⟩

/-- Every row is one of a block's. -/
theorem exists_row (n : Fin 2048) : ∃ u s, n = row u s :=
  ⟨⟨n.val / 128, by omega⟩, ⟨n.val % 128, by omega⟩, Fin.ext (by unfold row; dsimp only; omega)⟩

theorem final_6 (c : Dev nD) (f0 : ∀ n, Finite (a0 m c (ix2 0 n))) (f1 : ∀ r n, Finite (a1 m c (ix2 r n)))
    (f2 : ∀ r n, Finite (a2 m c (ix2 r n))) : (dats m 0 c).arrAt 6 cfg0.N = G6 m c := by
  refine (dats m 0 c).arrAt_eq_of_covers 6 _ (by decide +kernel) fun t hf y => ?_
  obtain ⟨s, n, rfl⟩ : ∃ s n, y = (ix2 s n : S128x512.Idx) := ⟨y 0, y 1, eq_ix2 y⟩
  rw [emb6, after0_6]
  obtain ⟨g, h, d, rfl⟩ := exists_qlane n
  rw [G6_apply]
  refine (outs_apply m c t g h s d).trans ?_
  exact kout_eq _ _ _ _ _ _ _ _ _ _ _ (rd0 m c t) (rd1 m c t) (rd2 m c t) (rd3 m c t) (rd4 m c t) (rd5 m c t) f0 f1 f2 g h s d

end Cert.AttnFwdIdeal.Val

end
-- ==== Proof.AttnFwd.RefA.lean ====
/- The reference of `attn_fwd` entry by entry. Hand-written, untrusted. -/
module

public import proofs.«01_k».proof.Proof.AttnFwd.Mask
public import proofs.«01_k».proof.Proof.Gen.AttnFwdRefIdeal.Read
public import Idealize.ShloMosaic.Lib.Pipeline.ValueKit
public import Idealize.ShloMosaic.Lib.Tactic.WordOmega
public import Idealize.ShloMosaic.Lib.Pointwise

@[expose] public section

set_option maxRecDepth 16384

noncomputable section

open Idealize.ShloMosaic Idealize.ShloMosaic.TcCoe Idealize.SL.Sem
open scoped BigOperators

namespace Cert.AttnFwdRefIdeal.Val

open Cert.AttnFwdRefIdeal Cert.AttnFwdRefIdeal.Gen Cert.AttnFwdRefIdeal.Read AttnFwd.Spec

variable (x0 : FVec Ideal S1x8 .f32) (x1 : FVec Ideal S2048x512 .bf16) (x2 x3 : FVec Ideal S2048x128 .bf16)
variable (u : Fin 16) (s : Fin 128) (j : Fin 256) (g : Fin 2) (h : Fin 4) (d : Fin 64)

theorem v3_apply : val_main_v3 (F := Ideal) x1 (ix5 u s g h d) = x1 (ix2 (row u s) (qlane g h d)) := by
  pointwise [val_main_v3, val_main_v0, row, qlane]

theorem v4_apply : val_main_v4 (F := Ideal) x2 (ix4 u s g d) = x2 (ix2 (row u s) (klane g d)) := by
  pointwise [val_main_v4, val_main_v1, row, klane]

theorem v10_apply : val_main_v10 (F := Ideal) x3 (ix4 u s g d) = x3 (ix2 (row u s) (klane g d)) := by
  pointwise [val_main_v10, val_main_v2, row, klane]

theorem v47_apply : val_main_v47 (F := Ideal) (ix3 u s j) = BitVec.ofBool (decide (live u s j)) := by
  pointwise [val_main_v47, val_main_v46, val_main_v45, val_main_v44, val_main_v43, val_main_v42, val_main_v41, val_main_v40,
    val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_c, val_main_c_2, val_main_c_3, val_main_c_4, val_main_c_5]
  exact (congrArg₂ IntOp.andi (le_word s j) (or_comm_word _ _)).trans (live_word u s j)

theorem v9_apply : val_main_v9 (F := Ideal) x2 (ix4 u j g d) = band (fun r n => x2 (ix2 r n)) u g j d := by
  pointwise [val_main_v9, val_main_v8, val_main_v7, val_main_v6, val_main_v5, v4_apply, val_main_cst]
  unfold band
  by_cases hj : j.val < 128
  · by_cases hu : 0 < u.val
    · rw [dif_pos hj, dif_pos hj, if_pos hu, dif_neg (by omega)]; rfl
    · rw [dif_pos hj, dif_pos hj, if_neg hu, dif_pos (by omega)]
  · rw [dif_neg hj, dif_neg hj]

theorem v15_apply : val_main_v15 (F := Ideal) x3 (ix4 u j g d) = band (fun r n => x3 (ix2 r n)) u g j d := by
  pointwise [val_main_v15, val_main_v14, val_main_v13, val_main_v12, val_main_v11, v10_apply, val_main_cst_0]
  unfold band
  by_cases hj : j.val < 128
  · by_cases hu : 0 < u.val
    · rw [dif_pos hj, dif_pos hj, if_pos hu, dif_neg (by omega)]; rfl
    · rw [dif_pos hj, dif_pos hj, if_neg hu, dif_pos (by omega)]
  · rw [dif_neg hj, dif_neg hj]

theorem v16_apply : val_main_v16 (F := Ideal) x1 x2 (ix5 u g j s h)
    = ∑ d, x1 (ix2 (row u s) (qlane g h d)) * band (fun r n => x2 (ix2 r n)) u g j d := by
  pointwise [val_main_v16]
  refine Finset.sum_congr rfl fun d _ => ?_
  rw [v9_apply, v3_apply, mul_comm]

end Cert.AttnFwdRefIdeal.Val

end
-- ==== Proof.AttnFwd.Ref.lean ====
/- The reference of `attn_fwd` entry by entry. Hand-written, untrusted. -/
module

public import proofs.«01_k».proof.Proof.AttnFwd.RefA
public import Idealize.ShloMosaic.Lib.Pipeline.ValueKit
public import Idealize.ShloMosaic.Lib.Tactic.WordOmega
public import Idealize.ShloMosaic.Lib.Pointwise

@[expose] public section

set_option maxRecDepth 16384

noncomputable section

open Idealize.ShloMosaic Idealize.ShloMosaic.TcCoe Idealize.SL.Sem
open scoped BigOperators

namespace Cert.AttnFwdRefIdeal.Val

open Cert.AttnFwdRefIdeal Cert.AttnFwdRefIdeal.Gen Cert.AttnFwdRefIdeal.Read AttnFwd.Spec

variable (x0 : FVec Ideal S1x8 .f32) (x1 : FVec Ideal S2048x512 .bf16) (x2 x3 : FVec Ideal S2048x128 .bf16)
variable (u : Fin 16) (s : Fin 128) (j : Fin 256) (g : Fin 2) (h : Fin 4) (d : Fin 64)

/-- The masked scores. -/
abbrev sc (j : Fin 256) : EReal := score (fun r n => x1 (ix2 r n)) (fun r n => x2 (ix2 r n)) u g h s j

theorem v19_apply : val_main_v19 (F := Ideal) x1 x2 (ix5 u g h s j)
    = (∑ d, x1 (ix2 (row u s) (qlane g h d)) * band (fun r n => x2 (ix2 r n)) u g j d) * Ideal.ofBits .f32 0x3E000000#32 := by
  pointwise [val_main_v19, val_main_v18, val_main_v17, v16_apply, val_main_cst_1]

theorem v49_apply : val_main_v49 (F := Ideal) x1 x2 (ix5 u g h s j) = sc x1 x2 u s g h j := by
  have e : val_main_v49 (F := Ideal) x1 x2 (ix5 u g h s j)
      = Scalar.select (BitVec.ofBool (decide (live u s j))) (val_main_v19 (F := Ideal) x1 x2 (ix5 u g h s j)) (Ideal.ofBits .f32 0xFF800000#32) := by
    generalize hx : val_main_v19 (F := Ideal) x1 x2 = w
    unfold val_main_v49
    rw [hx]
    pointwise [val_main_call0_v0, val_main_call0_v1, val_main_call0_v2, val_main_v48, v47_apply, val_main_cst_6]
    simp only [id, constant]; rfl
  rw [e, v19_apply, ofBits_neg_inf]
  unfold sc score
  by_cases hl : live u s j
  · rw [if_pos hl, decide_eq_true hl]; rfl
  · rw [if_neg hl, decide_eq_false hl]; rfl

/-- A row's sink. -/
abbrev sk : EReal := x0 (ix2 (0 : Fin 1) (head g h))

theorem v50_apply (i i' i'' : Fin 1) : val_main_v50 (F := Ideal) x0 (ix5 i g h i' i'') = sk x0 g h := by
  pointwise [val_main_v50, head]
  rfl

theorem v54_apply (i : Fin 1) : val_main_v54 (F := Ideal) x0 x1 x2 (ix5 u g h s i) = top (sc x1 x2 u s g h) (sk x0 g h) := by
  rw [val_main_v54_apply, val_main_v53_apply, val_main_v52_apply]
  generalize hy : val_main_v49 (F := Ideal) x1 x2 = y
  unfold val_main_v51
  rw [hy]
  have e : idx_main_v53 (ix5 u g h s i) = ix5 0 g h 0 0 := by
    funext a; match a with | ⟨0, _⟩ => rfl | ⟨1, _⟩ => rfl | ⟨2, _⟩ => rfl | ⟨3, _⟩ => rfl | ⟨4, _⟩ => rfl
  rw [e, v50_apply]
  pointwise [val_main_cst_7, ofBits_neg_inf]
  unfold top
  refine congrArg (fun z => max z (sk x0 g h)) (Finset.fold_congr fun j _ => ?_)
  rw [← hy, v49_apply]

theorem v55_apply : val_main_v55 (F := Ideal) x0 x1 x2 (ix5 u g h s j) = top (sc x1 x2 u s g h) (sk x0 g h) := by
  have e : val_main_v55 (F := Ideal) x0 x1 x2 (ix5 u g h s j) = val_main_v54 (F := Ideal) x0 x1 x2 (ix5 u g h s 0) := by
    rw [val_main_v55_apply]
    generalize val_main_v54 (F := Ideal) x0 x1 x2 = w
    exact congrArg w (by
      funext a; match a with | ⟨0, _⟩ => rfl | ⟨1, _⟩ => rfl | ⟨2, _⟩ => rfl | ⟨3, _⟩ => rfl | ⟨4, _⟩ => rfl)
  rw [e, v54_apply]

theorem v57_apply : val_main_v57 (F := Ideal) x0 x1 x2 (ix5 u g h s j) = ex (sc x1 x2 u s g h) (sk x0 g h) j := by
  rw [val_main_v57_apply, val_main_v56_apply, v55_apply, v49_apply]; unfold ex
  generalize top (sc x1 x2 u s g h) (sk x0 g h) = w
  generalize sc x1 x2 u s g h j = w'
  rfl

theorem v58_apply : val_main_v58 (F := Ideal) x0 x1 x2 (ix4 u g h s) = ∑ j, ex (sc x1 x2 u s g h) (sk x0 g h) j := by
  rw [val_main_v58_apply]
  have z : val_main_cst_8 (F := Ideal) (Shape.Idx.first h_S_) = 0 := Ideal.ofBits_zero .f32
  rw [z, zero_add]
  refine Finset.sum_congr rfl fun j _ => ?_
  rw [← v57_apply]
  exact congrArg _ (by
    funext a; match a with | ⟨0, _⟩ => rfl | ⟨1, _⟩ => rfl | ⟨2, _⟩ => rfl | ⟨3, _⟩ => rfl | ⟨4, _⟩ => rfl)

theorem v63_apply (i : Fin 1) : val_main_v63 (F := Ideal) x0 x1 x2 (ix5 u g h s i) = den (sc x1 x2 u s g h) (sk x0 g h) := by
  pointwise [val_main_v63, val_main_v62, val_main_v61, val_main_v60, val_main_v59, v58_apply, v54_apply, v50_apply, den]

theorem v65_apply : val_main_v65 (F := Ideal) x0 x1 x2 (ix5 u g h s j)
    = Ideal.div (ex (sc x1 x2 u s g h) (sk x0 g h) j) (den (sc x1 x2 u s g h) (sk x0 g h)) := by
  pointwise [val_main_v65, val_main_v64, v63_apply, v57_apply]

theorem v66_apply : val_main_v66 (F := Ideal) x0 x1 x2 x3 (ix5 u g d h s)
    = ∑ j, val_main_v15 (F := Ideal) x3 (ix4 u j g d) * val_main_v65 (F := Ideal) x0 x1 x2 (ix5 u g h s j) := by
  pointwise [val_main_v66]

theorem v66_out : val_main_v66 (F := Ideal) x0 x1 x2 x3 (ix5 u g d h s)
    = out (fun i => x0 (ix2 (0 : Fin 1) i)) (fun r n => x1 (ix2 r n)) (fun r n => x2 (ix2 r n)) (fun r n => x3 (ix2 r n)) u g h s d := by
  rw [v66_apply]
  unfold out mix
  refine Finset.sum_congr rfl fun j _ => ?_
  rw [v15_apply, v65_apply, mul_comm]

/-- The reference's result at row `s` of block `u`, lane `d` of head `h` of group `g`. -/
theorem v68_apply : val_main_v68 (F := Ideal) x0 x1 x2 x3 (ix2 (row u s) (qlane g h d))
    = out (fun i => x0 (ix2 (0 : Fin 1) i)) (fun r n => x1 (ix2 r n)) (fun r n => x2 (ix2 r n)) (fun r n => x3 (ix2 r n)) u g h s d := by
  rw [← v66_out]
  pointwise [val_main_v68, val_main_v67, row, qlane]

end Cert.AttnFwdRefIdeal.Val

end
-- ==== Proof.AttnFwd.Claim.lean ====
/- `attn_fwd`: the kernel's result is the reference's wherever sinks, queries and keys are finite. Hand-written, untrusted. -/
module

public import proofs.«01_k».proof.Defs
public import proofs.«01_k».proof.Proof.AttnFwd.Final
public import proofs.«01_k».proof.Proof.AttnFwd.Ref
public import proofs.«01_k».proof.Proof.Gen.AttnFwdRefIdeal.Run
public import proofs.«01_k».proof.Proof.Gen.AttnFwdRefIdeal.Read
public import Idealize.ShloMosaic.Lib.Claim

@[expose] public section

set_option maxRecDepth 16384

noncomputable section

open Idealize.ShloMosaic Idealize.ShloMosaic.TcCoe Idealize.SL.Sem

namespace Cert.Proof.AttnFwdClaim

open Cert.AttnFwdRefIdeal.Read Cert.AttnFwdRefIdeal.Val
open Cert.AttnFwdIdeal.Val AttnFwd.Spec

local instance : Cert.AttnFwdIdeal.Facts := Cert.AttnFwdIdeal.Gen.facts
local instance : Cert.AttnFwdRefIdeal.Facts := Cert.AttnFwdRefIdeal.Gen.facts

/-- The shape facts of the precondition. -/
theorem pre_facts : Cert.Pre_finite_attn.Facts := ⟨by decide, by decide, by decide, by decide⟩

local instance : Cert.Pre_finite_attn.Facts := pre_facts

/-- The reference's frame: its arguments are kept, and it declares no semaphore. -/
theorem frame_ref : Cert.quiescent_AttnFwdRefIdeal := fun m ρ _ =>
  (θ_run Cert.AttnFwdRefIdeal.defs _ _).mono (fun r h => ⟨fun c => (h c).2,
      Idealize.ShloMosaic.sem_eq_zero_of_no_sems (by decide) r.2⟩)
    (Cert.AttnFwdRefIdeal.Value.run (F := Ideal) m ρ)

/-- The mask's named constant. -/
theorem preserves : Cert.preserves_AttnFwd_AttnFwdIdeal :=
  IdealRules.named_const.statement _ _ _ _ _ rfl

theorem ofBits_inf : Ideal.ofBits .f32 0x7F800000#32 = ⊤ := by
  simp [Ideal.ofBits, Ideal.ieee]

/-- A value whose magnitude lies below infinity is finite. -/
theorem finite_of_lt (x : EReal) (h : BitVec.ofBool (decide (max x (-x) < Ideal.ofBits .f32 0x7F800000#32)) = 1#1) : Finite x := by
  rw [ofBits_inf] at h
  have h' : max x (-x) < ⊤ := by
    by_contra hn
    rw [decide_eq_false hn] at h
    exact absurd h (by decide)
  refine ⟨(lt_of_le_of_lt (le_max_left _ _) h').ne, fun e => ?_⟩
  rw [e] at h'
  exact absurd h' (by simp)

/-- On the same arguments the results agree. -/
theorem algebraic : Cert.algebraic_AttnFwdIdeal_AttnFwdRefIdeal_pre_finite_attn := by
  intro m g m' g' hpre hagree
  refine ⟨G6 m,
    (θ_run Cert.AttnFwdIdeal.defs _ _).mono (fun r h c => ?_) (Cert.AttnFwdIdeal.Value.run_blocks (F := Ideal) m g),
    (θ_run Cert.AttnFwdRefIdeal.defs _ _).mono (fun r h c => ?_) (Cert.AttnFwdRefIdeal.Value.run (F := Ideal) m' g')⟩
  · obtain ⟨h0, hk⟩ := h c
    obtain ⟨p0, p1, p2⟩ := hpre c
    exact ⟨h0.trans (final_6 m c (fun n => finite_of_lt _ (congrFun p0 (ix2 0 n))) (fun r n => finite_of_lt _ (congrFun p1 (ix2 r n)))
      (fun r n => finite_of_lt _ (congrFun p2 (ix2 r n)))), hk⟩
  · obtain ⟨h0, hk⟩ := h c
    obtain ⟨a0, a1, a2, a3⟩ := hagree c
    refine ⟨(h0.trans (val_main_v68_eq ..)).trans ?_, hk⟩
    rw [a0, a1, a2, a3]; funext j; rw [eq_ix2 j]
    generalize j 0 = r, j 1 = n
    obtain ⟨u, s, rfl⟩ := exists_row r
    obtain ⟨g, h, d, rfl⟩ := exists_qlane n
    exact (v68_apply _ _ _ _ u s g h d).trans (G6_apply m c u g h s d).symm

end Cert.Proof.AttnFwdClaim

end
-- ==== Proof.ConvFwd.Spec.lean ====
/- `conv_fwd` in plain terms: a causal convolution over 31 rows, a layer norm, two gates. Hand-written, untrusted. -/
module

public import Idealize.ShloMosaic.PureOps.Ideal.Laws
public import Mathlib.Tactic.Abel

@[expose] public section

noncomputable section

open Idealize.ShloMosaic
open scoped BigOperators

namespace ConvFwd.Spec

variable (z : Fin 2048 → Fin 512 → EReal) (w : Fin 32 → Fin 512 → EReal) (b lw lb : Fin 512 → EReal)

/-- Row `p` of the input under 30 rows of zero. -/
def zpad (p : ℕ) (n : Fin 512) : EReal := if h : 30 ≤ p ∧ p - 30 < 2048 then z ⟨p - 30, h.2⟩ n else 0

/-- The product of row `p + k` of the padded input with row `k` of the weights. -/
def prod (p : ℕ) (n : Fin 512) (k : ℕ) : EReal := zpad z (p + k) n * w ⟨k % 32, Nat.mod_lt _ (by decide)⟩ n

/-- The convolution's row `r`: rows `r - 30 … r` of the input, each by its row of weights, and the bias. -/
def conv (r : Fin 2048) (n : Fin 512) : EReal := (∑ k : Fin 31, prod z w r.val n k.val) + b n

/-- The mean of a row. -/
def mean (x : Fin 512 → EReal) : EReal := Ideal.div (∑ n, x n) (Ideal.ofBits .f32 0x44000000#32)

/-- The layer norm of a row. -/
def norm (x : Fin 512 → EReal) (n : Fin 512) : EReal :=
  (x n - mean x) * Ideal.rsqrt (mean (fun k => (x k - mean x) * (x k - mean x)) + Ideal.ofBits .f32 0x358637BD#32) * lw n + lb n

/-- `x` times its logistic. -/
def silu (x : EReal) : EReal := x * Ideal.logistic x

/-- What the call gives at row `r`, lane `n`. -/
def yb (gb : Fin 2048 → Fin 512 → EReal) (r : Fin 2048) (n : Fin 512) : EReal :=
  silu (norm lw lb (conv z w b r) n) * silu (gb r n)

/-- The 31 products in the order of the rows' remainders by eight sum to the same. -/
theorem sum_by_eight (f : ℕ → EReal) :
    f 0 + f 8 + f 16 + f 24 + f 1 + f 9 + f 17 + f 25 + f 2 + f 10 + f 18 + f 26 + f 3 + f 11 + f 19 + f 27
      + f 4 + f 12 + f 20 + f 28 + f 5 + f 13 + f 21 + f 29 + f 6 + f 14 + f 22 + f 30 + f 7 + f 15 + f 23
      = ∑ k : Fin 31, f k.val := by
  rw [Fin.sum_univ_eq_sum_range f 31]
  simp only [Finset.sum_range_succ, Finset.sum_range_zero, zero_add]
  abel

/-- And in the order of the rows, from nothing. -/
theorem sum_in_order (f : ℕ → EReal) :
    0 + f 0 + f 1 + f 2 + f 3 + f 4 + f 5 + f 6 + f 7 + f 8 + f 9 + f 10 + f 11 + f 12 + f 13 + f 14 + f 15 + f 16 + f 17 + f 18
      + f 19 + f 20 + f 21 + f 22 + f 23 + f 24 + f 25 + f 26 + f 27 + f 28 + f 29 + f 30
      = ∑ k : Fin 31, f k.val := by
  rw [Fin.sum_univ_eq_sum_range f 31]
  simp only [Finset.sum_range_succ, Finset.sum_range_zero]

end ConvFwd.Spec

end
-- ==== Proof.ConvFwd.Payloads.lean ====
/- What the body of `conv_fwd` computes, entry by entry. Hand-written, untrusted. -/
module

public import proofs.«01_k».proof.Proof.ConvFwd.Spec
public import proofs.«01_k».proof.Proof.Gen.ConvFwdIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.ConvFwdIdeal.Val

open Cert.ConvFwdIdeal Cert.ConvFwdIdeal.Gen ConvFwd.Spec

/-- A sum at an index. -/
theorem add_at {s : Shape} {a b : FVec Ideal s .f32} {i : s.Idx} {p q : EReal} (ha : a i = p) (hb : b i = q) :
    addf (F := Ideal) a b i = p + q := congrArg₂ (fun a b : EReal => a + b) ha hb

/-- One product of the convolution, from a band of `R` rows. -/
theorem tap {R : ℕ} (v : FVec Ideal ⟨2, ![R, 512]⟩ .f32) (w : FVec Ideal S1x512 .f32) (o : ℕ) (h1 h2) (r : Fin 256) (n : Fin 512)
    (ho : o + 256 ≤ R) {p q : EReal} (hv : v (ix2 ⟨o + r.val, by omega⟩ n) = p) (hw : w (ix2 0 n) = q) :
    mulf (F := Ideal) (extractStridedSlice S256x512 ![o, 0] v h1) (broadcastTo S256x512 w h2) (ix2 r n) = p * q := by
  subst hv hw
  refine congrArg₂ (fun a b : EReal => a * b) ?_ ?_
  · exact extractStridedSlice_apply ![o, 0] _ h1 _ (ix2 ⟨o + r.val, by omega⟩ n) (by
      intro a
      match a with
      | ⟨0, _⟩ => rfl
      | ⟨1, _⟩ => exact (Nat.zero_add _).symm)
  · pointwise []

theorem pay3_apply (v : FVec Ideal S256x512 .f32) (s : Fin 256) (n : Fin 512) : k0_pay3 (F := Ideal) v (ix2 s n) = v (ix2 s n) := by
  pointwise [k0_pay3]

/-- The rows above a tile: nothing above the first. -/
theorem pay2_apply (i : grid0.Coords) (u : Fin 8) (hu : u.val = (i 0).val) (v : FVec Ideal S32x512 .f32) (s : Fin 32) (n : Fin 512) :
    k0_pay2 (F := Ideal) i v (ix2 s n) = if 0 < u.val then v (ix2 s n) else 0 := by
  have e : ∀ u : Fin 8, Scalar.cmpi .sgt (BitVec.ofNat 32 u.val) 0#32 = BitVec.ofBool (decide (0 < u.val)) := by decide
  have e' : Scalar.cmpi .sgt (BitVec.ofNat 32 (i 0).val) 0#32 = BitVec.ofBool (decide (0 < u.val)) := hu ▸ e u
  have e2 : k0_pay2 (F := Ideal) i v (ix2 s n)
      = (Scalar.select (Scalar.cmpi .sgt (BitVec.ofNat 32 (i 0).val) 0#32) v (broadcast S32x512 (Scalar.ofBits (F := Ideal) .f32 0x00000000#32)) : FVec Ideal S32x512 .f32) (ix2 s n) := by
    generalize hc : Scalar.cmpi .sgt (BitVec.ofNat 32 (i 0).val) 0#32 = c
    unfold k0_pay2
    rw [hc]
    generalize (Scalar.select c v (broadcast S32x512 (Scalar.ofBits (F := Ideal) .f32 0x00000000#32)) : FVec Ideal S32x512 .f32) = y
    pointwise []
  rw [e2, e']
  by_cases h : 0 < u.val
  · rw [if_pos h, decide_eq_true h]; rfl
  · rw [if_neg h, decide_eq_false h]
    show broadcast S32x512 (Scalar.ofBits (F := Ideal) .f32 0x00000000#32) (ix2 s n) = 0
    pointwise []

/-- The layer norm, without its shift, from the convolved tile. -/
theorem pay11_apply (v156 : FVec Ideal S256x512 .f32) (v157 : FVec Ideal S272x512 .f32) (v159 v164 v169 v173 v193 : FVec Ideal S1x512 .f32)
    (s : Fin 256) (n : Fin 512) (x : Fin 512 → EReal) (hx : ∀ n, k0_pay10 (F := Ideal) v156 v157 v159 v164 v169 v173 (ix2 s n) = x n) :
    k0_pay11 (F := Ideal) v156 v157 v159 v164 v169 v173 v193 (ix2 s n)
      = (x n - mean x) * Ideal.rsqrt (mean (fun k => (x k - mean x) * (x k - mean x)) + Ideal.ofBits .f32 0x358637BD#32) * v193 (ix2 0 n) := by
  unfold k0_pay11
  generalize k0_pay10 (F := Ideal) v156 v157 v159 v164 v169 v173 = y at hx ⊢
  pointwise [hx, mean]

/-- The shift and the gates. -/
theorem pay1_apply (v195 v199 : FVec Ideal S256x512 .f32) (v196 : FVec Ideal S1x512 .f32) (s : Fin 256) (n : Fin 512) :
    k0_pay1 (F := Ideal) v195 v196 v199 (ix2 s n) = silu (v195 (ix2 s n) + v196 (ix2 0 n)) * silu (v199 (ix2 s n)) := by
  pointwise [k0_pay1]
  simp only [zero_sub, silu, Ideal.logistic]

end Cert.ConvFwdIdeal.Val

end
-- ==== Proof.ConvFwd.Tile.lean ====
/- The convolution of one tile, from the tile and the one above it. Hand-written, untrusted. -/
module

public import proofs.«01_k».proof.Proof.ConvFwd.Payloads
public import Idealize.ShloMosaic.Lib.Pipeline.RowLoads

@[expose] public section

set_option maxRecDepth 16384

noncomputable section

open Idealize.ShloMosaic Idealize.ShloMosaic.TcCoe Idealize.SL.Sem
open scoped BigOperators

namespace Cert.ConvFwdIdeal.Val

open Cert.ConvFwdIdeal Cert.ConvFwdIdeal.Gen ConvFwd.Spec

/-- Row `s` of tile `u`. -/
def row (u : Fin 8) (s : Fin 256) : Fin 2048 := ⟨u.val * 256 + s.val, by omega⟩

/-- The tile above, or the first itself. -/
def prev (u : Fin 8) : Fin 8 := ⟨u.val - 1, by omega⟩

variable (i : grid0.Coords) (zc zp : FVec Ideal S256x512 .f32) (W : FVec Ideal S32x512 .f32)

/-- What the scratch holds: the last 32 rows of the tile above, then the tile. -/
abbrev scr : List (View.Piece (Elt Ideal) S288x512 .f32) :=
  [⟨Rect.unit ![32, 0] ![256, 512] inb_S288x512_S256x512_32_0, k0_pay3 (F := Ideal) zc⟩,
    ⟨Rect.unit ![0, 0] ![32, 512] inb_S288x512_S32x512_0_0,
      k0_pay2 (F := Ideal) i (View.ld (Val := Elt Ideal) (e' := .f32) zp (Rect.unit ![224, 0] ![32, 512] inb_S256x512_S32x512_224_0))⟩]

/-- `R` rows of the scratch from row `o`. -/
abbrev band (o R : ℕ) (inb : ∀ a, (![o, 0] : Fin 2 → ℕ) a + (![R, 512] : Fin 2 → ℕ) a ≤ S288x512.size a) : FVec Ideal ⟨2, ![R, 512]⟩ .f32 :=
  (View.whole cc0_scratch0).readCov (scr i zc zp) (Rect.unit (s := S288x512) ![o, 0] ![R, 512] inb).toLoadRect

/-- Row `k` of the weights. -/
abbrev wrow (k : ℕ) (inb : ∀ a, (![k, 0] : Fin 2 → ℕ) a + (![1, 512] : Fin 2 → ℕ) a ≤ S32x512.size a) : FVec Ideal S1x512 .f32 :=
  View.ld (Val := Elt Ideal) (e' := .f32) W (Rect.unit (s := S32x512) ![k, 0] ![1, 512] inb)

section
variable (u : Fin 8) (hu : u.val = (i 0).val) (Z : Fin 2048 → Fin 512 → EReal) (w : Fin 32 → Fin 512 → EReal)
  (hz : ∀ s n, zc (ix2 s n) = Z (row u s) n) (hp : ∀ s n, zp (ix2 s n) = Z (row (prev u) s) n) (hw : ∀ k n, W (ix2 k n) = w k n)

include hu hz hp in
/-- The scratch is the padded input around the tile. -/
theorem scr_apply (p : Fin 288) (h2 : 2 ≤ p.val) (n : Fin 512) : View.canon (scr i zc zp) (ix2 p n) = zpad Z (u.val * 256 + p.val - 2) n := by
  have hul := u.isLt
  have hpl := p.isLt
  have hcover : ∃ q ∈ scr i zc zp, (ix2 p n : S288x512.Idx) ∈ q.1.set := by
    by_cases h : p.val < 32
    · refine ⟨_, List.mem_cons_of_mem _ (List.mem_cons_self ..), ?_⟩
      refine (Rect.mem_set_unit (inb := inb_S288x512_S32x512_0_0)).mpr fun a => ?_
      match a with
      | ⟨0, _⟩ => show 0 ≤ p.val ∧ p.val < 0 + 32; omega
      | ⟨1, _⟩ => show 0 ≤ n.val ∧ n.val < 0 + 512; omega
    · refine ⟨_, List.mem_cons_self .., ?_⟩
      refine (Rect.mem_set_unit (inb := inb_S288x512_S256x512_32_0)).mpr fun a => ?_
      match a with
      | ⟨0, _⟩ => show 32 ≤ p.val ∧ p.val < 32 + 256; omega
      | ⟨1, _⟩ => show 0 ≤ n.val ∧ n.val < 0 + 512; omega
  canon_tiles x e using hcover
  all_goals
    obtain ⟨s', n', rfl⟩ : ∃ s' n', x = ix2 s' n' := ⟨x 0, x 1, eq_ix2 x⟩
    dsimp only [ix2] at e0 e1
    obtain rfl : n = n' := Fin.ext (e1.trans (by omega))
  · have e0' : p.val = 32 + s'.val := e0
    have hs' : s'.val < 256 := s'.isLt
    unfold zpad
    rw [dif_pos (by omega)]
    refine (pay3_apply zc s' n).trans ((hz s' n).trans (congrArg (fun r => Z r n) (Fin.ext ?_)))
    show u.val * 256 + s'.val = u.val * 256 + p.val - 2 - 30
    omega
  · have e0' : p.val = s'.val := e0
    have hs' : s'.val < 32 := s'.isLt
    refine (pay2_apply i u hu _ s' n).trans ?_
    unfold zpad
    by_cases h : 0 < u.val
    · rw [if_pos h, dif_pos (by omega)]
      refine (View.ld_unit_apply_of (Val := Elt Ideal) (e := .f32) zp _ _ _ _ (ix2 (⟨224 + s'.val, by omega⟩ : Fin 256) n) fun a => ?_).trans
        ((hp _ n).trans (congrArg (fun r => Z r n) (Fin.ext ?_)))
      · match a with
        | ⟨0, _⟩ => rfl
        | ⟨1, _⟩ => exact (Nat.zero_add _).symm
      · show (u.val - 1) * 256 + (224 + s'.val) = u.val * 256 + p.val - 2 - 30
        omega
    · rw [if_neg h, dif_neg (by omega)]

include hu hz hp in
theorem band_apply (o R : ℕ) (inb) (h2 : 2 ≤ o) (hR : o + R ≤ 288) (q : Fin R) (n : Fin 512) :
    band i zc zp o R inb (ix2 q n) = zpad Z (u.val * 256 + (o + q.val) - 2) n := by
  unfold band
  rw [View.readCov_eq_canon']
  refine Eq.trans (congrArg (View.canon (scr i zc zp)) (funext fun a => Fin.ext ?_)) (scr_apply i zc zp u hu Z hz hp ⟨o + q.val, by omega⟩ (by show 2 ≤ o + q.val; omega) n)
  match a with
  | ⟨0, _⟩ => show o + 1 * q.val = o + q.val; omega
  | ⟨1, _⟩ => show 0 + 1 * n.val = n.val; omega

include hw in
theorem wrow_apply (k : ℕ) (inb) (hk : k < 32) (n : Fin 512) : wrow W k inb (ix2 0 n) = w ⟨k % 32, Nat.mod_lt _ (by decide)⟩ n := by
  refine (View.ld_unit_apply_of (Val := Elt Ideal) (e := .f32) W _ _ _ _ (ix2 ⟨k % 32, Nat.mod_lt _ (by decide)⟩ n) fun a => ?_).trans (hw _ n)
  match a with
  | ⟨0, _⟩ => exact Nat.mod_eq_of_lt hk
  | ⟨1, _⟩ => exact (Nat.zero_add _).symm

include hu hz hp hw in
/-- Product `k` of a tile: its row in the band is the band's start and the slice's. -/
theorem tap_apply (o R j k : ℕ) (inb inb' h1 h2) (s : Fin 256) (n : Fin 512) (ho : 2 ≤ o) (hR : o + R ≤ 288) (hj : j + 256 ≤ R) (hk : k < 31)
    (e : o + j = 2 + k) :
    mulf (F := Ideal) (extractStridedSlice S256x512 ![j, 0] (band i zc zp o R inb) h1) (broadcastTo S256x512 (wrow W k inb') h2) (ix2 s n)
      = prod Z w (row u s).val n k := by
  refine tap _ _ j h1 h2 s n hj ((band_apply i zc zp u hu Z hz hp o R inb ho hR _ n).trans ?_) (wrow_apply W w hw k inb' (by omega) n)
  refine congrArg (fun p => zpad Z p n) ?_
  show u.val * 256 + (o + (j + s.val)) - 2 = u.val * 256 + s.val + k
  omega

end

end Cert.ConvFwdIdeal.Val

end
-- ==== Proof.ConvFwd.Conv.lean ====
/- The convolved tile of a grid point is the plain convolution's. Hand-written, untrusted. -/
module

public import proofs.«01_k».proof.Proof.ConvFwd.Tile

@[expose] public section

set_option maxRecDepth 16384

noncomputable section

open Idealize.ShloMosaic Idealize.ShloMosaic.TcCoe Idealize.SL.Sem
open scoped BigOperators

namespace Cert.ConvFwdIdeal.Val

open Cert.ConvFwdIdeal Cert.ConvFwdIdeal.Gen ConvFwd.Spec

variable (i : grid0.Coords) (zc zp : FVec Ideal S256x512 .f32) (W : FVec Ideal S32x512 .f32)

/-- The products of the bands from row 2 to row 8. -/
abbrev taps : FVec Ideal S256x512 .f32 :=
  k0_pay9 (F := Ideal)
    (k0_pay8 (k0_pay6 (k0_pay4 (band i zc zp 2 280 inb_S288x512_S280x512_2_0) (wrow W 0 inb_S32x512_S1x512_0_0) (wrow W 8 inb_S32x512_S1x512_8_0) (wrow W 16 inb_S32x512_S1x512_16_0) (wrow W 24 inb_S32x512_S1x512_24_0))
        (band i zc zp 3 280 inb_S288x512_S280x512_3_0) (k0_pay5 (band i zc zp 3 280 inb_S288x512_S280x512_3_0))
        (wrow W 1 inb_S32x512_S1x512_1_0) (wrow W 9 inb_S32x512_S1x512_9_0) (wrow W 17 inb_S32x512_S1x512_17_0) (wrow W 25 inb_S32x512_S1x512_25_0)
        (band i zc zp 4 280 inb_S288x512_S280x512_4_0)
        (wrow W 2 inb_S32x512_S1x512_2_0) (wrow W 10 inb_S32x512_S1x512_10_0) (wrow W 18 inb_S32x512_S1x512_18_0) (wrow W 26 inb_S32x512_S1x512_26_0))
      (band i zc zp 5 280 inb_S288x512_S280x512_5_0) (k0_pay7 (band i zc zp 5 280 inb_S288x512_S280x512_5_0))
      (wrow W 3 inb_S32x512_S1x512_3_0) (wrow W 11 inb_S32x512_S1x512_11_0) (wrow W 19 inb_S32x512_S1x512_19_0) (wrow W 27 inb_S32x512_S1x512_27_0)
      (band i zc zp 6 280 inb_S288x512_S280x512_6_0)
      (wrow W 4 inb_S32x512_S1x512_4_0) (wrow W 12 inb_S32x512_S1x512_12_0) (wrow W 20 inb_S32x512_S1x512_20_0) (wrow W 28 inb_S32x512_S1x512_28_0))
    (band i zc zp 7 280 inb_S288x512_S280x512_7_0)
    (wrow W 5 inb_S32x512_S1x512_5_0) (wrow W 13 inb_S32x512_S1x512_13_0) (wrow W 21 inb_S32x512_S1x512_21_0) (wrow W 29 inb_S32x512_S1x512_29_0)
    (band i zc zp 8 280 inb_S288x512_S280x512_8_0)
    (wrow W 6 inb_S32x512_S1x512_6_0) (wrow W 14 inb_S32x512_S1x512_14_0) (wrow W 22 inb_S32x512_S1x512_22_0) (wrow W 30 inb_S32x512_S1x512_30_0)

/-- The convolved tile. -/
abbrev ctile (cb : FVec Ideal S1x512 .f32) : FVec Ideal S256x512 .f32 :=
  k0_pay10 (F := Ideal) (taps i zc zp W) (band i zc zp 9 272 inb_S288x512_S272x512_9_0) (wrow W 7 inb_S32x512_S1x512_7_0) (wrow W 15 inb_S32x512_S1x512_15_0) (wrow W 23 inb_S32x512_S1x512_23_0) cb

set_option maxHeartbeats 1600000 in
/-- The 31 products and the bias, whatever their order. -/
theorem ctile_apply (u : Fin 8) (hu : u.val = (i 0).val) (Z : Fin 2048 → Fin 512 → EReal) (w : Fin 32 → Fin 512 → EReal) (b : Fin 512 → EReal)
    (hz : ∀ s n, zc (ix2 s n) = Z (row u s) n) (hp : ∀ s n, zp (ix2 s n) = Z (row (prev u) s) n) (hw : ∀ k n, W (ix2 k n) = w k n)
    (cb : FVec Ideal S1x512 .f32) (hb : ∀ n, cb (ix2 0 n) = b n) (s : Fin 256) (n : Fin 512) :
    ctile i zc zp W cb (ix2 s n) = conv Z w b (row u s) n := by
  unfold ctile taps k0_pay10 k0_pay9 k0_pay8 k0_pay7 k0_pay6 k0_pay5 k0_pay4
  dsimp only
  refine add_at (Eq.trans ?_ (sum_by_eight (prod Z w (row u s).val n))) (Eq.trans ?_ (hb n))
  · repeat' refine add_at ?_ (tap_apply i zc zp W u hu Z w hz hp hw _ _ _ _ _ _ _ _ s n (by decide) (by decide) (by decide) (by decide) (by decide))
    exact tap_apply i zc zp W u hu Z w hz hp hw _ _ _ _ _ _ _ _ s n (by decide) (by decide) (by decide) (by decide) (by decide)
  · pointwise []

end Cert.ConvFwdIdeal.Val

end
-- ==== Proof.ConvFwd.Final.lean ====
/- What the two result arrays of `conv_fwd` hold after the whole grid. Hand-written, untrusted. -/
module

public import proofs.«01_k».proof.Proof.ConvFwd.Conv
public import proofs.«01_k».proof.Proof.Gen.ConvFwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ConvFwdIdeal.Val

open Cert.ConvFwdIdeal Cert.ConvFwdIdeal.Gen ConvFwd.Spec

variable (m : (ℓ : Loc nD τ sig) → Buf (Elt Ideal) ℓ)

/-- Every window's block index: the tile's number, the one before it, or none. -/
theorem idx_val : ∀ t : Fin cfg0.N, win0_0.index t = ![t.val, 0]
    ∧ win0_1.index t = ![t.val - 1, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0] :=
  (by decide +kernel : ∀ t : Fin grid0.N, _)

/-- The grid's coordinate is the point's number. -/
theorem coord_val : ∀ t : Fin cfg0.N, (grid0.coords t 0).val = t.val :=
  (by decide +kernel : ∀ t : Fin grid0.N, _)

/-! The arguments as arrays of extended reals. -/

abbrev a0 (c : Dev nD) (r : Fin 2048) (n : Fin 512) : EReal := (m ((c : Thread nD τ).loc main_arg0) : S2048x512.Idx → EReal) (ix2 r n)
abbrev a1 (c : Dev nD) (r : Fin 2048) (n : Fin 512) : EReal := (m ((c : Thread nD τ).loc main_arg1) : S2048x512.Idx → EReal) (ix2 r n)
abbrev a2 (c : Dev nD) (k : Fin 32) (n : Fin 512) : EReal := (m ((c : Thread nD τ).loc main_arg2) : S32x512.Idx → EReal) (ix2 k n)
abbrev a3 (c : Dev nD) (n : Fin 512) : EReal := (m ((c : Thread nD τ).loc main_arg3) : S1x512.Idx → EReal) (ix2 0 n)
abbrev a4 (c : Dev nD) (n : Fin 512) : EReal := (m ((c : Thread nD τ).loc main_arg4) : S1x512.Idx → EReal) (ix2 0 n)
abbrev a5 (c : Dev nD) (n : Fin 512) : EReal := (m ((c : Thread nD τ).loc main_arg5) : S1x512.Idx → EReal) (ix2 0 n)

/-- The tile of a grid point. -/
def tile (t : Fin cfg0.N) : Fin 8 := ⟨t.val, by have := t.isLt; have : cfg0.N = 8 := N_0; omega⟩

/-! The input blocks. -/

theorem rd0 (c : Dev nD) (t : Fin cfg0.N) (s : Fin 256) (n : Fin 512) :
    (iblk m c 0 t : S256x512.Idx → EReal) (ix2 s n) = a0 m c (row (tile t) s) n := by
  blk_point [iblk, V, idx_val t, row, tile]

theorem rd1 (c : Dev nD) (t : Fin cfg0.N) (s : Fin 256) (n : Fin 512) :
    (iblk m c 1 t : S256x512.Idx → EReal) (ix2 s n) = a0 m c (row (prev (tile t)) s) n := by
  blk_point [iblk, V, idx_val t, row, tile, prev]

theorem rd2 (c : Dev nD) (t : Fin cfg0.N) (s : Fin 256) (n : Fin 512) :
    (iblk m c 2 t : S256x512.Idx → EReal) (ix2 s n) = a1 m c (row (tile t) s) n := by
  blk_point [iblk, V, idx_val t, row, tile]

theorem rd3 (c : Dev nD) (t : Fin cfg0.N) (k : Fin 32) (n : Fin 512) :
    (iblk m c 3 t : S32x512.Idx → EReal) (ix2 k n) = a2 m c k n := by
  blk_point [iblk, V, idx_val t]

theorem rd4 (c : Dev nD) (t : Fin cfg0.N) (n : Fin 512) :
    (iblk m c 4 t : S1x512.Idx → EReal) (ix2 0 n) = a3 m c n := by
  blk_point [iblk, V, idx_val t]

theorem rd5 (c : Dev nD) (t : Fin cfg0.N) (n : Fin 512) :
    (iblk m c 5 t : S1x512.Idx → EReal) (ix2 0 n) = a4 m c n := by
  blk_point [iblk, V, idx_val t]

theorem rd6 (c : Dev nD) (t : Fin cfg0.N) (n : Fin 512) :
    (iblk m c 6 t : S1x512.Idx → EReal) (ix2 0 n) = a5 m c n := by
  blk_point [iblk, V, idx_val t]

theorem emb7 (t : Fin cfg0.N) (s : Fin 256) (n : Fin 512) :
    ((cfg0.win 7).blk t).view.emb (ix2 s n) = ix2 (row (tile t) s) n := by
  blk_ext [idx_val t, row, tile]

theorem emb8 (t : Fin cfg0.N) (s : Fin 256) (n : Fin 512) :
    ((cfg0.win 8).blk t).view.emb (ix2 s n) = ix2 (row (tile t) s) n := by
  blk_ext [idx_val t, row, tile]

/-- What the two results hold. -/
abbrev G7 (c : Dev nD) : S2048x512.Idx → EReal := fun i => conv (a0 m c) (a2 m c) (a3 m c) (i 0) (i 1)
abbrev G8 (c : Dev nD) : S2048x512.Idx → EReal := fun i => yb (a0 m c) (a2 m c) (a3 m c) (a4 m c) (a5 m c) (a1 m c) (i 0) (i 1)

/-- A point's convolved tile. -/
theorem tile_apply (c : Dev nD) (t : Fin cfg0.N) (s : Fin 256) (n : Fin 512) :
    ctile (grid0.coords t) (iblk m c 0 t) (iblk m c 1 t) (iblk m c 3 t) (iblk m c 4 t) (ix2 s n)
      = conv (a0 m c) (a2 m c) (a3 m c) (row (tile t) s) n :=
  ctile_apply _ _ _ _ (tile t) (coord_val t).symm _ _ _ (rd0 m c t) (rd1 m c t) (rd3 m c t) _ (rd4 m c t) s n

/-- What a point leaves in the first result's block. -/
theorem outs7 (c : Dev nD) (t : Fin cfg0.N) (s : Fin 256) (n : Fin 512) :
    ((outsAt0 (F := Ideal) m c t).1 : S256x512.Idx → EReal) (ix2 s n) = conv (a0 m c) (a2 m c) (a3 m c) (row (tile t) s) n := by
  refine Eq.trans ?_ (tile_apply m c t s n)
  unfold outsAt0
  dsimp only
  frame_out

/-- And in the second's. -/
theorem outs8 (c : Dev nD) (t : Fin cfg0.N) (s : Fin 256) (n : Fin 512) :
    ((outsAt0 (F := Ideal) m c t).2 : S256x512.Idx → EReal) (ix2 s n)
      = yb (a0 m c) (a2 m c) (a3 m c) (a4 m c) (a5 m c) (a1 m c) (row (tile t) s) n := by
  unfold outsAt0
  dsimp only
  frame_out
  refine (pay1_apply _ _ _ s n).trans ?_
  unfold yb
  refine congrArg₂ (fun a b : EReal => silu a * silu b) ?_ (rd2 m c t s n)
  refine (congrArg₂ (fun a b : EReal => a + b) (pay11_apply _ _ _ _ _ _ _ s n _ (tile_apply m c t s)) (rd6 m c t n)).trans ?_
  rw [rd5 m c t n]
  rfl

theorem final_7 (c : Dev nD) : (dats m 0 c).arrAt 7 cfg0.N = G7 m c := by
  refine (dats m 0 c).arrAt_eq_of_covers 7 _ (by decide +kernel) fun t hf y => ?_
  obtain ⟨s, n, rfl⟩ : ∃ s n, y = (ix2 s n : S256x512.Idx) := ⟨y 0, y 1, eq_ix2 y⟩
  rw [emb7, after0_7]
  exact outs7 m c t s n

theorem final_8 (c : Dev nD) : (dats m 0 c).arrAt 8 cfg0.N = G8 m c := by
  refine (dats m 0 c).arrAt_eq_of_covers 8 _ (by decide +kernel) fun t hf y => ?_
  obtain ⟨s, n, rfl⟩ : ∃ s n, y = (ix2 s n : S256x512.Idx) := ⟨y 0, y 1, eq_ix2 y⟩
  rw [emb8, after0_8]
  exact outs8 m c t s n

end Cert.ConvFwdIdeal.Val

end
-- ==== Proof.ConvFwd.Ref.lean ====
/- The reference of `conv_fwd` entry by entry. Hand-written, untrusted. -/
module

public import proofs.«01_k».proof.Proof.ConvFwd.Spec
public import proofs.«01_k».proof.Proof.Gen.ConvFwdRefIdeal.Read
public import Idealize.ShloMosaic.Lib.Pipeline.ValueKit
public import Idealize.ShloMosaic.Lib.KernelVsHost
public import Idealize.ShloMosaic.Lib.Pointwise

@[expose] public section

set_option maxRecDepth 16384

noncomputable section

open Idealize.ShloMosaic Idealize.ShloMosaic.TcCoe Idealize.SL.Sem
open scoped BigOperators

namespace Cert.ConvFwdRefIdeal.Val

open Cert.ConvFwdRefIdeal Cert.ConvFwdRefIdeal.Gen Cert.ConvFwdRefIdeal.Read ConvFwd.Spec

variable (x0 x1 : FVec Ideal S2048x512 .f32) (x2 : FVec Ideal S32x512 .f32) (x3 x4 x5 : FVec Ideal S1x512 .f32)
variable (r : Fin 2048) (n : Fin 512)

/-- The padded input. -/
theorem v0_apply (p : Fin 2078) : val_main_v0 (F := Ideal) x0 (ix2 p n) = zpad (fun r n => x0 (ix2 r n)) p.val n := by
  have hp := p.isLt
  have hn := n.isLt
  unfold val_main_v0 zpad
  by_cases h : 30 ≤ p.val ∧ p.val - 30 < 2048
  · rw [dif_pos h]
    exact pad_apply_of_inside _ _ _ x0 _ _ _ _ (ix2 ⟨p.val - 30, h.2⟩ n) (by
      intro a
      match a with
      | ⟨0, _⟩ => show p.val = 30 + (p.val - 30) * 1; omega
      | ⟨1, _⟩ => show n.val = 0 + n.val * 1; omega)
  · rw [dif_neg h]
    refine (pad_apply_of_not_inside _ _ _ x0 _ _ _ _ (0 : Fin 2) (by
      show ¬ (30 ≤ p.val ∧ (p.val - 30) % 1 = 0 ∧ (p.val - 30) / 1 < 2048)
      omega)).trans ?_
    pointwise [val_main_call0_v0, val_main_c]
    show (((0#32 : BitVec 32).toInt : ℝ) : EReal) = 0
    simp

/-- Rows of a slice that starts at row `k`. -/
theorem slice_row {R Q : ℕ} (y : FVec Ideal ⟨2, ![R, 512]⟩ .f32) (k : ℕ) (h) (q : Fin Q) (hk : k + Q ≤ R) :
    extractStridedSlice ⟨2, ![Q, 512]⟩ ![k, 0] y h (ix2 q n) = y (ix2 ⟨k + q.val, by omega⟩ n) := by
  refine congrArg y (funext fun a => Fin.ext ?_)
  match a with
  | ⟨0, _⟩ => rfl
  | ⟨1, _⟩ => exact Nat.zero_add _

/-- One product of the convolution. -/
theorem tap (k : ℕ) (hk : k < 31) (h1 h2 h3 h4 h5) :
    mulf (F := Ideal) (extractStridedSlice S2048x512 ![k, 0] (val_main_v0 (F := Ideal) x0) h1)
        (broadcastInDim S2048x512 ![0, 1] h5 (broadcastInDim S1x512 ![1] h4
          (shapeCast S512 (extractStridedSlice S1x512 ![k, 0] x2 h2) h3))) (ix2 r n)
      = prod (fun r n => x0 (ix2 r n)) (fun k n => x2 (ix2 k n)) r.val n k := by
  have hr := r.isLt
  refine congrArg₂ (fun a b : EReal => a * b) ?_ ?_
  · refine (slice_row n (val_main_v0 (F := Ideal) x0) k h1 r (by omega)).trans ?_
    rw [v0_apply]
    exact congrArg (fun p => zpad _ p n) (Nat.add_comm _ _)
  · have e : extractStridedSlice S1x512 ![k, 0] x2 h2 (ix2 0 n) = x2 (ix2 ⟨k % 32, Nat.mod_lt _ (by decide)⟩ n) :=
      (slice_row n x2 k h2 (0 : Fin 1) (by omega)).trans
        (congrArg (fun q => x2 (ix2 q n)) (Fin.ext (Nat.mod_eq_of_lt (show k < 32 by omega)).symm))
    refine Eq.trans ?_ e
    generalize extractStridedSlice S1x512 ![k, 0] x2 h2 = y
    pointwise []

/-- A sum at an index. -/
theorem add_at {s : Shape} {a b : FVec Ideal s .f32} {i : s.Idx} {p q : EReal} (ha : a i = p) (hb : b i = q) :
    addf (F := Ideal) a b i = p + q := congrArg₂ (fun a b : EReal => a + b) ha hb

/-- The sum of the products. -/
theorem v218_apply : val_main_v218 (F := Ideal) x0 x2 (ix2 r n)
    = ∑ k : Fin 31, prod (fun r n => x0 (ix2 r n)) (fun k n => x2 (ix2 k n)) r.val n k.val := by
  refine Eq.trans ?_ (sum_in_order (prod (fun r n => x0 (ix2 r n)) (fun k n => x2 (ix2 k n)) r.val n))
  iterate 31
    refine add_at ?_ ?_
    rotate_left
    · exact tap x0 x2 r n _ (by decide) _ _ _ _ _
  pointwise [val_main_v7, val_main_cst]

/-- The convolved row. -/
abbrev row : Fin 512 → EReal := conv (fun r n => x0 (ix2 r n)) (fun k n => x2 (ix2 k n)) (fun n => x3 (ix2 0 n)) r

theorem v220_apply : val_main_v220 (F := Ideal) x0 x2 x3 (ix2 r n)
    = row x0 x2 x3 r n := by
  pointwise [val_main_v220, v218_apply, val_main_v219]
  rfl

theorem v224_apply (i : Fin 1) : val_main_v224 (F := Ideal) x0 x2 x3 (ix2 r i) = mean (row x0 x2 x3 r) := by
  pointwise [val_main_v224, val_main_v223, val_main_v222, val_main_v221, val_main_cst_1, val_main_cst_0, v220_apply]
  rfl

theorem v242_apply : val_main_v242 (F := Ideal) x0 x2 x3 x4 x5 (ix2 r n)
    = norm (fun n => x4 (ix2 0 n)) (fun n => x5 (ix2 0 n)) (row x0 x2 x3 r) n := by
  pointwise [val_main_v242, val_main_v241, val_main_v240, val_main_v239, val_main_v238, val_main_v237, val_main_v236, val_main_v235,
    val_main_v234, val_main_v233, val_main_v232, val_main_v231, val_main_v230, val_main_v229, val_main_v228, val_main_v227,
    val_main_v226, val_main_v225, val_main_cst_2, val_main_cst_3, val_main_cst_4, v220_apply, v224_apply]
  rfl

theorem v245_apply : val_main_v245 (F := Ideal) x0 x1 x2 x3 x4 x5 (ix2 r n)
    = yb (fun r n => x0 (ix2 r n)) (fun k n => x2 (ix2 k n)) (fun n => x3 (ix2 0 n)) (fun n => x4 (ix2 0 n)) (fun n => x5 (ix2 0 n))
        (fun r n => x1 (ix2 r n)) r n := by
  pointwise [val_main_v245, val_main_v244, val_main_v243, val_main_call1_v5, val_main_call1_v4, val_main_call1_v3, val_main_call1_v2,
    val_main_call1_v1, val_main_call1_v0, val_main_call1_cst, val_main_call1_cst_0, val_main_call2_v5, val_main_call2_v4,
    val_main_call2_v3, val_main_call2_v2, val_main_call2_v1, val_main_call2_v0, val_main_call2_cst, val_main_call2_cst_0, v242_apply]
  rfl

end Cert.ConvFwdRefIdeal.Val

end
-- ==== Proof.ConvFwd.Claim.lean ====
/- `conv_fwd`: the kernel's two results are the reference's, on the same arguments. Hand-written, untrusted. -/
module

public import proofs.«01_k».proof.Defs
public import proofs.«01_k».proof.Proof.ConvFwd.Final
public import proofs.«01_k».proof.Proof.ConvFwd.Ref
public import proofs.«01_k».proof.Proof.Gen.ConvFwdRefIdeal.Run
public import proofs.«01_k».proof.Proof.Gen.ConvFwdRefIdeal.Read
public import Idealize.ShloMosaic.Lib.Claim

@[expose] public section

set_option maxRecDepth 16384

noncomputable section

open Idealize.ShloMosaic Idealize.ShloMosaic.TcCoe Idealize.SL.Sem

namespace Cert.Proof.ConvFwdClaim

open Cert.ConvFwdRefIdeal.Read Cert.ConvFwdRefIdeal.Val
open Cert.ConvFwdIdeal.Val

local instance : Cert.ConvFwdIdeal.Facts := Cert.ConvFwdIdeal.Gen.facts
local instance : Cert.ConvFwdRefIdeal.Facts := Cert.ConvFwdRefIdeal.Gen.facts

/-- The reference's frame: its arguments are kept, and it declares no semaphore. -/
theorem frame_ref : Cert.quiescent_ConvFwdRefIdeal := fun m ρ _ =>
  (θ_run Cert.ConvFwdRefIdeal.defs _ _).mono (fun r h => ⟨fun c => (h c).2.2,
      Idealize.ShloMosaic.sem_eq_zero_of_no_sems (by decide) r.2⟩)
    (Cert.ConvFwdRefIdeal.Value.run (F := Ideal) m ρ)

/-- On the same arguments the two results agree. -/
theorem algebraic : Cert.algebraic_ConvFwdIdeal_ConvFwdRefIdeal := by
  intro m g m' g' _ hagree
  refine ⟨G7 m, G8 m,
    (θ_run Cert.ConvFwdIdeal.defs _ _).mono (fun r h c => ?_) (Cert.ConvFwdIdeal.Value.run_blocks (F := Ideal) m g),
    (θ_run Cert.ConvFwdRefIdeal.defs _ _).mono (fun r h c => ?_) (Cert.ConvFwdRefIdeal.Value.run (F := Ideal) m' g')⟩
  · obtain ⟨h0, h1, hk⟩ := h c
    exact ⟨h0.trans (final_7 m c), h1.trans (final_8 m c), hk⟩
  · obtain ⟨h0, h1, hk⟩ := h c
    obtain ⟨a0, a1, a2, a3, a4, a5⟩ := hagree c
    refine ⟨(h0.trans (val_main_v220_eq ..)).trans ?_, (h1.trans (val_main_v245_eq ..)).trans ?_, hk⟩
    · refine (congr (congrArg₂ val_main_v220 a0 a2) a3).trans (funext fun j => ?_); rw [eq_ix2 j]
      exact v220_apply _ _ _ _ _
    · refine (congr (congr (congr (congr (congrArg₂ val_main_v245 a0 a1) a2) a3) a4) a5).trans (funext fun j => ?_); rw [eq_ix2 j]
      exact v245_apply _ _ _ _ _ _ _ _

end Cert.Proof.ConvFwdClaim

end
-- ==== Proof.AdamBits.Frames.lean ====
/- `adam`: the kernel keeps its arguments. Hand-written, untrusted. -/
module

public import proofs.«01_k».proof.Defs
public import proofs.«01_k».proof.Proof.AdamBits.Run
public import Idealize.ShloMosaic.Lib.Claim

@[expose] public section

set_option maxRecDepth 16384

noncomputable section

open Idealize.ShloMosaic Idealize.ShloMosaic.TcCoe Idealize.SL.Sem

namespace Cert.Proof.AdamBitsClaim

open Cert.Adam Cert.Adam.Own Cert.Adam.Gen

local instance : Cert.Adam.Facts := Cert.Adam.Gen.facts

section
variable {F : FTy → Type} [FloatOps F] (m : (ℓ : Loc nD τ sig) → Buf (Elt F) ℓ)

/-- An argument's array at the end of the run. -/
theorem stays {r : PUnit × MemSt nD τ sig (Elt F)} (h : Pipeline.FramePost cfgs (dats m) 0 (V m) r) (c : Dev nD) (w : Fin cfg0.W)
    (hw : (cfg0.win w).isOut = false) :
    r.2.mem (((cfgs 0).spec w).arr.view.loc (c.tc : Thread nD τ)) = V m c (Pipeline.arrRef spec0 w) :=
  ((h c).1 w).trans (kept m c w hw)

end

set_option maxHeartbeats 4000000 in
/-- The kernel's frame. -/
theorem frame_kernel : Cert.quiescent_Adam := fun m ρ _ =>
  (θ_run defs _ _).mono (fun r h => ⟨fun c =>
      ⟨stays m h.1 c 0 rfl, stays m h.1 c 1 rfl, stays m h.1 c 2 rfl, stays m h.1 c 3 rfl, stays m h.1 c 4 rfl,
        stays m h.1 c 5 rfl, stays m h.1 c 6 rfl, stays m h.1 c 7 rfl, stays m h.1 c 8 rfl, stays m h.1 c 9 rfl,
        stays m h.1 c 10 rfl, stays m h.1 c 11 rfl, stays m h.1 c 12 rfl, stays m h.1 c 13 rfl, stays m h.1 c 14 rfl,
        stays m h.1 c 15 rfl, stays m h.1 c 16 rfl, stays m h.1 c 17 rfl, stays m h.1 c 18 rfl, stays m h.1 c 19 rfl,
        stays m h.1 c 20 rfl, stays m h.1 c 21 rfl, stays m h.1 c 22 rfl, stays m h.1 c 23 rfl, stays m h.1 c 24 rfl,
        stays m h.1 c 25 rfl, stays m h.1 c 26 rfl, stays m h.1 c 27 rfl, stays m h.1 c 28 rfl, stays m h.1 c 29 rfl,
        stays m h.1 c 30 rfl, stays m h.1 c 31 rfl, stays m h.1 c 32 rfl, stays m h.1 c 33 rfl, stays m h.1 c 34 rfl,
        stays m h.1 c 35 rfl, stays m h.1 c 36 rfl, stays m h.1 c 37 rfl, stays m h.1 c 38 rfl, stays m h.1 c 39 rfl,
        stays m h.1 c 40 rfl, stays m h.1 c 41 rfl, stays m h.1 c 42 rfl, stays m h.1 c 43 rfl, stays m h.1 c 44 rfl,
        stays m h.1 c 45 rfl, stays m h.1 c 46 rfl, stays m h.1 c 47 rfl⟩, h.2⟩)
    (run (F := Bits) m ρ)

end Cert.Proof.AdamBitsClaim

end
-- ==== Proof.Adam.Step.lean ====
/- One step of AdamW on an array of any shape, and what a store of it leaves. Hand-written, untrusted. -/
module

public import proofs.«01_k».proof.Proof.Gen.AdamIdeal.Launch
public import proofs.«01_k».proof.Proof.Gen.AdamIdeal.Skeleton
public import proofs.«01_k».proof.Proof.Gen.AdamIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic

@[expose] public section

set_option maxRecDepth 16384

noncomputable section

namespace Cert.AdamIdeal.Own

open Cert.AdamIdeal Cert.AdamIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The step -/

/-- A number, at every place. -/
abbrev num (S : Shape) (b : BitVec 32) : FVec F S .f32 := broadcast S (Scalar.ofBits .f32 b)

/-- The new first moment, of a gradient `g` and the old moment `a`. -/
def mNew {S : Shape} (g a : FVec F S .f32) : FVec F S .f32 := addf (mulf (num S 0x3F666666#32) a) (mulf (num S 0x3DCCCCCD#32) g)

/-- The new second moment, of a gradient `g` and the old moment `b`. -/
def vNew {S : Shape} (g b : FVec F S .f32) : FVec F S .f32 :=
  addf (mulf (num S 0x3F7FBE77#32) b) (mulf (num S 0x3A83126F#32) (mulf g g))

/-- The change of the weights `w`. -/
def delta {S : Shape} (w g a b : FVec F S .f32) : FVec F S .f32 :=
  mulf (num S 0xBA83126F#32) (addf (divf (divf (mNew g a) (num S 0x3F26BD02#32))
    (addf (sqrt (divf (vNew g b) (num S 0x3C231ACC#32))) (num S 0x322BCC77#32))) (mulf (num S 0x3C23D70A#32) w))

/-! ## What one store of it through a rectangle leaves -/

def outM {S : Shape} (r : Rect S) (g a : Vec F S .f32) : Vec F S .f32 := View.canon [⟨r, mNew (View.ld g r) (View.ld a r)⟩]
def outV {S : Shape} (r : Rect S) (g b : Vec F S .f32) : Vec F S .f32 := View.canon [⟨r, vNew (View.ld g r) (View.ld b r)⟩]
def outD {S : Shape} (r : Rect S) (w g a b : Vec F S .f32) : Vec F S .f32 :=
  View.canon [⟨r, delta (View.ld w r) (View.ld g r) (View.ld a r) (View.ld b r)⟩]

section
variable {S : Shape} {off : Fin S.rank → Nat} (h : off = fun _ => 0) (inb : ∀ a, off a + S.size a ≤ S.size a)
include h

/-- A store through the whole array leaves the step itself. -/
theorem outM_eq (g a : Vec F S .f32) : outM (Rect.unit off S.size inb) g a = mNew g a := by
  unfold outM; rw [View.ld_unit_zero h, View.ld_unit_zero h]; exact View.canon_unit_zero h inb _
theorem outV_eq (g b : Vec F S .f32) : outV (Rect.unit off S.size inb) g b = vNew g b := by
  unfold outV; rw [View.ld_unit_zero h, View.ld_unit_zero h]; exact View.canon_unit_zero h inb _
theorem outD_eq (w g a b : Vec F S .f32) : outD (Rect.unit off S.size inb) w g a b = delta w g a b := by
  unfold outD
  rw [View.ld_unit_zero h, View.ld_unit_zero h, View.ld_unit_zero h, View.ld_unit_zero h]
  exact View.canon_unit_zero h inb _

/-- A store through the whole array covers it. -/
theorem covers (p : S.Idx → Elt F .f32) (y : S.Idx) :
    ∃ pc ∈ ([⟨Rect.unit off S.size inb, p⟩] : List (View.Piece (Elt F) S .f32)), y ∈ pc.1.set :=
  ⟨_, List.mem_singleton_self _, View.mem_set_unit_zero h inb y⟩
end

/-- The corner of a two-dimensional array. -/
theorem corner : (![0, 0] : Fin 2 → Nat) = fun _ => 0 := by funext a; match a with | ⟨0, _⟩ => rfl | ⟨1, _⟩ => rfl

/-! ## The whole array of each shape, as the body's loads and stores name it -/

abbrev r0 : Rect S1024x384 := Rect.unit (s := S1024x384) ![0, 0] S1024x384.size inb_S1024x384_S1024x384_0_0
abbrev r1 : Rect S1x3072 := Rect.unit (s := S1x3072) ![0, 0] S1x3072.size inb_S1x3072_S1x3072_0_0
abbrev r2 : Rect S1x1024 := Rect.unit (s := S1x1024) ![0, 0] S1x1024.size inb_S1x1024_S1x1024_0_0
abbrev r3 : Rect S1024x352 := Rect.unit (s := S1024x352) ![0, 0] S1024x352.size inb_S1024x352_S1024x352_0_0
abbrev r4 : Rect S1x64 := Rect.unit (s := S1x64) ![0, 0] S1x64.size inb_S1x64_S1x64_0_0
abbrev r5 : Rect S1x8 := Rect.unit (s := S1x8) ![0, 0] S1x8.size inb_S1x8_S1x8_0_0
abbrev r6 : Rect S31x64 := Rect.unit (s := S31x64) ![0, 0] S31x64.size inb_S31x64_S31x64_0_0
abbrev r7 : Rect S1x512 := Rect.unit (s := S1x512) ![0, 0] S1x512.size inb_S1x512_S1x512_0_0
abbrev r8 : Rect S128x1024 := Rect.unit (s := S128x1024) ![0, 0] S128x1024.size inb_S128x1024_S128x1024_0_0

end Cert.AdamIdeal.Own

end
-- ==== Proof.Adam.Kernel.lean ====
/- The body of `adam`: what it leaves in every buffer. Hand-written, untrusted. -/
module

public import proofs.«01_k».proof.Proof.Adam.Step

@[expose] public section

set_option maxRecDepth 16384

noncomputable section

namespace Cert.AdamIdeal.Own

open Cert.AdamIdeal Cert.AdamIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- On whole buffers, the arguments' holding `x0` … and the results' anything, the body leaves the arguments as they were
    and one step of AdamW in the results. -/
theorem sound_kernel (c : Dev nD) (E : Set ℕ)
    (arg0 : Memref sig .tc .vmem S1024x384 .f32) (harg0 : arg0.IsWhole)
    (arg1 : Memref sig .tc .vmem S1x3072 .f32) (harg1 : arg1.IsWhole)
    (arg2 : Memref sig .tc .vmem S1x1024 .f32) (harg2 : arg2.IsWhole)
    (arg3 : Memref sig .tc .vmem S1024x352 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S1x8 .f32) (harg6 : arg6.IsWhole) (arg7 : Memref sig .tc .vmem S31x64 .f32) (harg7 : arg7.IsWhole)
    (arg8 : Memref sig .tc .vmem S1x512 .f32) (harg8 : arg8.IsWhole) (arg9 : Memref sig .tc .vmem S1x512 .f32) (harg9 : arg9.IsWhole)
    (arg10 : Memref sig .tc .vmem S1x512 .f32) (harg10 : arg10.IsWhole)
    (arg11 : Memref sig .tc .vmem S128x1024 .f32) (harg11 : arg11.IsWhole)
    (arg12 : Memref sig .tc .vmem S1024x384 .f32) (harg12 : arg12.IsWhole)
    (arg13 : Memref sig .tc .vmem S1x3072 .f32) (harg13 : arg13.IsWhole)
    (arg14 : Memref sig .tc .vmem S1x1024 .f32) (harg14 : arg14.IsWhole)
    (arg15 : Memref sig .tc .vmem S1024x352 .f32) (harg15 : arg15.IsWhole)
    (arg16 : Memref sig .tc .vmem S1x64 .f32) (harg16 : arg16.IsWhole)
    (arg17 : Memref sig .tc .vmem S1x64 .f32) (harg17 : arg17.IsWhole)
    (arg18 : Memref sig .tc .vmem S1x8 .f32) (harg18 : arg18.IsWhole)
    (arg19 : Memref sig .tc .vmem S31x64 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S1x512 .f32) (harg22 : arg22.IsWhole)
    (arg23 : Memref sig .tc .vmem S128x1024 .f32) (harg23 : arg23.IsWhole)
    (arg24 : Memref sig .tc .vmem S1024x384 .f32) (harg24 : arg24.IsWhole)
    (arg25 : Memref sig .tc .vmem S1x3072 .f32) (harg25 : arg25.IsWhole)
    (arg26 : Memref sig .tc .vmem S1x1024 .f32) (harg26 : arg26.IsWhole)
    (arg27 : Memref sig .tc .vmem S1024x352 .f32) (harg27 : arg27.IsWhole)
    (arg28 : Memref sig .tc .vmem S1x64 .f32) (harg28 : arg28.IsWhole)
    (arg29 : Memref sig .tc .vmem S1x64 .f32) (harg29 : arg29.IsWhole)
    (arg30 : Memref sig .tc .vmem S1x8 .f32) (harg30 : arg30.IsWhole)
    (arg31 : Memref sig .tc .vmem S31x64 .f32) (harg31 : arg31.IsWhole)
    (arg32 : Memref sig .tc .vmem S1x512 .f32) (harg32 : arg32.IsWhole)
    (arg33 : Memref sig .tc .vmem S1x512 .f32) (harg33 : arg33.IsWhole)
    (arg34 : Memref sig .tc .vmem S1x512 .f32) (harg34 : arg34.IsWhole)
    (arg35 : Memref sig .tc .vmem S128x1024 .f32) (harg35 : arg35.IsWhole)
    (arg36 : Memref sig .tc .vmem S1024x384 .f32) (harg36 : arg36.IsWhole)
    (arg37 : Memref sig .tc .vmem S1x3072 .f32) (harg37 : arg37.IsWhole)
    (arg38 : Memref sig .tc .vmem S1x1024 .f32) (harg38 : arg38.IsWhole)
    (arg39 : Memref sig .tc .vmem S1024x352 .f32) (harg39 : arg39.IsWhole)
    (arg40 : Memref sig .tc .vmem S1x64 .f32) (harg40 : arg40.IsWhole)
    (arg41 : Memref sig .tc .vmem S1x64 .f32) (harg41 : arg41.IsWhole)
    (arg42 : Memref sig .tc .vmem S1x8 .f32) (harg42 : arg42.IsWhole)
    (arg43 : Memref sig .tc .vmem S31x64 .f32) (harg43 : arg43.IsWhole)
    (arg44 : Memref sig .tc .vmem S1x512 .f32) (harg44 : arg44.IsWhole)
    (arg45 : Memref sig .tc .vmem S1x512 .f32) (harg45 : arg45.IsWhole)
    (arg46 : Memref sig .tc .vmem S1x512 .f32) (harg46 : arg46.IsWhole)
    (arg47 : Memref sig .tc .vmem S128x1024 .f32) (harg47 : arg47.IsWhole)
    (arg48 : Memref sig .tc .vmem S1024x384 .f32) (harg48 : arg48.IsWhole)
    (arg49 : Memref sig .tc .vmem S1x3072 .f32) (harg49 : arg49.IsWhole)
    (arg50 : Memref sig .tc .vmem S1x1024 .f32) (harg50 : arg50.IsWhole)
    (arg51 : Memref sig .tc .vmem S1024x352 .f32) (harg51 : arg51.IsWhole)
    (arg52 : Memref sig .tc .vmem S1x64 .f32) (harg52 : arg52.IsWhole)
    (arg53 : Memref sig .tc .vmem S1x64 .f32) (harg53 : arg53.IsWhole)
    (arg54 : Memref sig .tc .vmem S1x8 .f32) (harg54 : arg54.IsWhole)
    (arg55 : Memref sig .tc .vmem S31x64 .f32) (harg55 : arg55.IsWhole)
    (arg56 : Memref sig .tc .vmem S1x512 .f32) (harg56 : arg56.IsWhole)
    (arg57 : Memref sig .tc .vmem S1x512 .f32) (harg57 : arg57.IsWhole)
    (arg58 : Memref sig .tc .vmem S1x512 .f32) (harg58 : arg58.IsWhole)
    (arg59 : Memref sig .tc .vmem S128x1024 .f32) (harg59 : arg59.IsWhole)
    (arg60 : Memref sig .tc .vmem S1024x384 .f32) (harg60 : arg60.IsWhole)
    (arg61 : Memref sig .tc .vmem S1x3072 .f32) (harg61 : arg61.IsWhole)
    (arg62 : Memref sig .tc .vmem S1x1024 .f32) (harg62 : arg62.IsWhole)
    (arg63 : Memref sig .tc .vmem S1024x352 .f32) (harg63 : arg63.IsWhole)
    (arg64 : Memref sig .tc .vmem S1x64 .f32) (harg64 : arg64.IsWhole)
    (arg65 : Memref sig .tc .vmem S1x64 .f32) (harg65 : arg65.IsWhole)
    (arg66 : Memref sig .tc .vmem S1x8 .f32) (harg66 : arg66.IsWhole)
    (arg67 : Memref sig .tc .vmem S31x64 .f32) (harg67 : arg67.IsWhole)
    (arg68 : Memref sig .tc .vmem S1x512 .f32) (harg68 : arg68.IsWhole)
    (arg69 : Memref sig .tc .vmem S1x512 .f32) (harg69 : arg69.IsWhole)
    (arg70 : Memref sig .tc .vmem S1x512 .f32) (harg70 : arg70.IsWhole)
    (arg71 : Memref sig .tc .vmem S128x1024 .f32) (harg71 : arg71.IsWhole)
    (arg72 : Memref sig .tc .vmem S1024x384 .f32) (harg72 : arg72.IsWhole)
    (arg73 : Memref sig .tc .vmem S1x3072 .f32) (harg73 : arg73.IsWhole)
    (arg74 : Memref sig .tc .vmem S1x1024 .f32) (harg74 : arg74.IsWhole)
    (arg75 : Memref sig .tc .vmem S1024x352 .f32) (harg75 : arg75.IsWhole)
    (arg76 : Memref sig .tc .vmem S1x64 .f32) (harg76 : arg76.IsWhole)
    (arg77 : Memref sig .tc .vmem S1x64 .f32) (harg77 : arg77.IsWhole)
    (arg78 : Memref sig .tc .vmem S1x8 .f32) (harg78 : arg78.IsWhole)
    (arg79 : Memref sig .tc .vmem S31x64 .f32) (harg79 : arg79.IsWhole)
    (arg80 : Memref sig .tc .vmem S1x512 .f32) (harg80 : arg80.IsWhole)
    (arg81 : Memref sig .tc .vmem S1x512 .f32) (harg81 : arg81.IsWhole)
    (arg82 : Memref sig .tc .vmem S1x512 .f32) (harg82 : arg82.IsWhole)
    (arg83 : Memref sig .tc .vmem S128x1024 .f32) (harg83 : arg83.IsWhole)
    (x0 : Vec F S1024x384 .f32) (x1 : Vec F S1x3072 .f32) (x2 : Vec F S1x1024 .f32) (x3 : Vec F S1024x352 .f32)
    (x4 : Vec F S1x64 .f32) (x5 : Vec F S1x64 .f32) (x6 : Vec F S1x8 .f32) (x7 : Vec F S31x64 .f32) (x8 : Vec F S1x512 .f32)
    (x9 : Vec F S1x512 .f32) (x10 : Vec F S1x512 .f32) (x11 : Vec F S128x1024 .f32) (x12 : Vec F S1024x384 .f32)
    (x13 : Vec F S1x3072 .f32) (x14 : Vec F S1x1024 .f32) (x15 : Vec F S1024x352 .f32) (x16 : Vec F S1x64 .f32)
    (x17 : Vec F S1x64 .f32) (x18 : Vec F S1x8 .f32) (x19 : Vec F S31x64 .f32) (x20 : Vec F S1x512 .f32) (x21 : Vec F S1x512 .f32)
    (x22 : Vec F S1x512 .f32) (x23 : Vec F S128x1024 .f32) (x24 : Vec F S1024x384 .f32) (x25 : Vec F S1x3072 .f32)
    (x26 : Vec F S1x1024 .f32) (x27 : Vec F S1024x352 .f32) (x28 : Vec F S1x64 .f32) (x29 : Vec F S1x64 .f32) (x30 : Vec F S1x8 .f32)
    (x31 : Vec F S31x64 .f32) (x32 : Vec F S1x512 .f32) (x33 : Vec F S1x512 .f32) (x34 : Vec F S1x512 .f32)
    (x35 : Vec F S128x1024 .f32) (x36 : Vec F S1024x384 .f32) (x37 : Vec F S1x3072 .f32) (x38 : Vec F S1x1024 .f32)
    (x39 : Vec F S1024x352 .f32) (x40 : Vec F S1x64 .f32) (x41 : Vec F S1x64 .f32) (x42 : Vec F S1x8 .f32) (x43 : Vec F S31x64 .f32)
    (x44 : Vec F S1x512 .f32) (x45 : Vec F S1x512 .f32) (x46 : Vec F S1x512 .f32) (x47 : Vec F S128x1024 .f32) (K : PUnit → sProp (MT nD τ sig Unit (Elt F) ℕ (UR sig nD τ) ℕ)) :
    iprop(owns (c : Thread nD τ) arg0 fullShare x0 ∗ owns (c : Thread nD τ) arg1 fullShare x1 ∗ owns (c : Thread nD τ) arg2 fullShare x2 ∗
      owns (c : Thread nD τ) arg3 fullShare x3 ∗ owns (c : Thread nD τ) arg4 fullShare x4 ∗ owns (c : Thread nD τ) arg5 fullShare x5 ∗
      owns (c : Thread nD τ) arg6 fullShare x6 ∗ owns (c : Thread nD τ) arg7 fullShare x7 ∗ owns (c : Thread nD τ) arg8 fullShare x8 ∗
      owns (c : Thread nD τ) arg9 fullShare x9 ∗ owns (c : Thread nD τ) arg10 fullShare x10 ∗
      owns (c : Thread nD τ) arg11 fullShare x11 ∗ owns (c : Thread nD τ) arg12 fullShare x12 ∗
      owns (c : Thread nD τ) arg13 fullShare x13 ∗ owns (c : Thread nD τ) arg14 fullShare x14 ∗
      owns (c : Thread nD τ) arg15 fullShare x15 ∗ owns (c : Thread nD τ) arg16 fullShare x16 ∗
      owns (c : Thread nD τ) arg17 fullShare x17 ∗ owns (c : Thread nD τ) arg18 fullShare x18 ∗
      owns (c : Thread nD τ) arg19 fullShare x19 ∗ owns (c : Thread nD τ) arg20 fullShare x20 ∗
      owns (c : Thread nD τ) arg21 fullShare x21 ∗ owns (c : Thread nD τ) arg22 fullShare x22 ∗
      owns (c : Thread nD τ) arg23 fullShare x23 ∗ owns (c : Thread nD τ) arg24 fullShare x24 ∗
      owns (c : Thread nD τ) arg25 fullShare x25 ∗ owns (c : Thread nD τ) arg26 fullShare x26 ∗
      owns (c : Thread nD τ) arg27 fullShare x27 ∗ owns (c : Thread nD τ) arg28 fullShare x28 ∗
      owns (c : Thread nD τ) arg29 fullShare x29 ∗ owns (c : Thread nD τ) arg30 fullShare x30 ∗
      owns (c : Thread nD τ) arg31 fullShare x31 ∗ owns (c : Thread nD τ) arg32 fullShare x32 ∗
      owns (c : Thread nD τ) arg33 fullShare x33 ∗ owns (c : Thread nD τ) arg34 fullShare x34 ∗
      owns (c : Thread nD τ) arg35 fullShare x35 ∗ owns (c : Thread nD τ) arg36 fullShare x36 ∗
      owns (c : Thread nD τ) arg37 fullShare x37 ∗ owns (c : Thread nD τ) arg38 fullShare x38 ∗
      owns (c : Thread nD τ) arg39 fullShare x39 ∗ owns (c : Thread nD τ) arg40 fullShare x40 ∗
      owns (c : Thread nD τ) arg41 fullShare x41 ∗ owns (c : Thread nD τ) arg42 fullShare x42 ∗
      owns (c : Thread nD τ) arg43 fullShare x43 ∗ owns (c : Thread nD τ) arg44 fullShare x44 ∗
      owns (c : Thread nD τ) arg45 fullShare x45 ∗ owns (c : Thread nD τ) arg46 fullShare x46 ∗
      owns (c : Thread nD τ) arg47 fullShare x47 ∗ (∃ d, owns (c : Thread nD τ) arg48 fullShare d) ∗
      (∃ d, owns (c : Thread nD τ) arg49 fullShare d) ∗ (∃ d, owns (c : Thread nD τ) arg50 fullShare d) ∗
      (∃ d, owns (c : Thread nD τ) arg51 fullShare d) ∗ (∃ d, owns (c : Thread nD τ) arg52 fullShare d) ∗
      (∃ d, owns (c : Thread nD τ) arg53 fullShare d) ∗ (∃ d, owns (c : Thread nD τ) arg54 fullShare d) ∗
      (∃ d, owns (c : Thread nD τ) arg55 fullShare d) ∗ (∃ d, owns (c : Thread nD τ) arg56 fullShare d) ∗
      (∃ d, owns (c : Thread nD τ) arg57 fullShare d) ∗ (∃ d, owns (c : Thread nD τ) arg58 fullShare d) ∗
      (∃ d, owns (c : Thread nD τ) arg59 fullShare d) ∗ (∃ d, owns (c : Thread nD τ) arg60 fullShare d) ∗
      (∃ d, owns (c : Thread nD τ) arg61 fullShare d) ∗ (∃ d, owns (c : Thread nD τ) arg62 fullShare d) ∗
      (∃ d, owns (c : Thread nD τ) arg63 fullShare d) ∗ (∃ d, owns (c : Thread nD τ) arg64 fullShare d) ∗
      (∃ d, owns (c : Thread nD τ) arg65 fullShare d) ∗ (∃ d, owns (c : Thread nD τ) arg66 fullShare d) ∗
      (∃ d, owns (c : Thread nD τ) arg67 fullShare d) ∗ (∃ d, owns (c : Thread nD τ) arg68 fullShare d) ∗
      (∃ d, owns (c : Thread nD τ) arg69 fullShare d) ∗ (∃ d, owns (c : Thread nD τ) arg70 fullShare d) ∗
      (∃ d, owns (c : Thread nD τ) arg71 fullShare d) ∗ (∃ d, owns (c : Thread nD τ) arg72 fullShare d) ∗
      (∃ d, owns (c : Thread nD τ) arg73 fullShare d) ∗ (∃ d, owns (c : Thread nD τ) arg74 fullShare d) ∗
      (∃ d, owns (c : Thread nD τ) arg75 fullShare d) ∗ (∃ d, owns (c : Thread nD τ) arg76 fullShare d) ∗
      (∃ d, owns (c : Thread nD τ) arg77 fullShare d) ∗ (∃ d, owns (c : Thread nD τ) arg78 fullShare d) ∗
      (∃ d, owns (c : Thread nD τ) arg79 fullShare d) ∗ (∃ d, owns (c : Thread nD τ) arg80 fullShare d) ∗
      (∃ d, owns (c : Thread nD τ) arg81 fullShare d) ∗ (∃ d, owns (c : Thread nD τ) arg82 fullShare d) ∗
      (∃ d, owns (c : Thread nD τ) arg83 fullShare d)
        ∗ (iprop(owns (c : Thread nD τ) arg0 fullShare x0 ∗ owns (c : Thread nD τ) arg1 fullShare x1 ∗ owns (c : Thread nD τ) arg2 fullShare x2 ∗
      owns (c : Thread nD τ) arg3 fullShare x3 ∗ owns (c : Thread nD τ) arg4 fullShare x4 ∗ owns (c : Thread nD τ) arg5 fullShare x5 ∗
      owns (c : Thread nD τ) arg6 fullShare x6 ∗ owns (c : Thread nD τ) arg7 fullShare x7 ∗ owns (c : Thread nD τ) arg8 fullShare x8 ∗
      owns (c : Thread nD τ) arg9 fullShare x9 ∗ owns (c : Thread nD τ) arg10 fullShare x10 ∗
      owns (c : Thread nD τ) arg11 fullShare x11 ∗ owns (c : Thread nD τ) arg12 fullShare x12 ∗
      owns (c : Thread nD τ) arg13 fullShare x13 ∗ owns (c : Thread nD τ) arg14 fullShare x14 ∗
      owns (c : Thread nD τ) arg15 fullShare x15 ∗ owns (c : Thread nD τ) arg16 fullShare x16 ∗
      owns (c : Thread nD τ) arg17 fullShare x17 ∗ owns (c : Thread nD τ) arg18 fullShare x18 ∗
      owns (c : Thread nD τ) arg19 fullShare x19 ∗ owns (c : Thread nD τ) arg20 fullShare x20 ∗
      owns (c : Thread nD τ) arg21 fullShare x21 ∗ owns (c : Thread nD τ) arg22 fullShare x22 ∗
      owns (c : Thread nD τ) arg23 fullShare x23 ∗ owns (c : Thread nD τ) arg24 fullShare x24 ∗
      owns (c : Thread nD τ) arg25 fullShare x25 ∗ owns (c : Thread nD τ) arg26 fullShare x26 ∗
      owns (c : Thread nD τ) arg27 fullShare x27 ∗ owns (c : Thread nD τ) arg28 fullShare x28 ∗
      owns (c : Thread nD τ) arg29 fullShare x29 ∗ owns (c : Thread nD τ) arg30 fullShare x30 ∗
      owns (c : Thread nD τ) arg31 fullShare x31 ∗ owns (c : Thread nD τ) arg32 fullShare x32 ∗
      owns (c : Thread nD τ) arg33 fullShare x33 ∗ owns (c : Thread nD τ) arg34 fullShare x34 ∗
      owns (c : Thread nD τ) arg35 fullShare x35 ∗ owns (c : Thread nD τ) arg36 fullShare x36 ∗
      owns (c : Thread nD τ) arg37 fullShare x37 ∗ owns (c : Thread nD τ) arg38 fullShare x38 ∗
      owns (c : Thread nD τ) arg39 fullShare x39 ∗ owns (c : Thread nD τ) arg40 fullShare x40 ∗
      owns (c : Thread nD τ) arg41 fullShare x41 ∗ owns (c : Thread nD τ) arg42 fullShare x42 ∗
      owns (c : Thread nD τ) arg43 fullShare x43 ∗ owns (c : Thread nD τ) arg44 fullShare x44 ∗
      owns (c : Thread nD τ) arg45 fullShare x45 ∗ owns (c : Thread nD τ) arg46 fullShare x46 ∗
      owns (c : Thread nD τ) arg47 fullShare x47 ∗ owns (c : Thread nD τ) arg48 fullShare (outD r0 x0 x12 x24 x36) ∗
      owns (c : Thread nD τ) arg49 fullShare (outD r1 x1 x13 x25 x37) ∗
      owns (c : Thread nD τ) arg50 fullShare (outD r2 x2 x14 x26 x38) ∗
      owns (c : Thread nD τ) arg51 fullShare (outD r3 x3 x15 x27 x39) ∗
      owns (c : Thread nD τ) arg52 fullShare (outD r4 x4 x16 x28 x40) ∗
      owns (c : Thread nD τ) arg53 fullShare (outD r4 x5 x17 x29 x41) ∗
      owns (c : Thread nD τ) arg54 fullShare (outD r5 x6 x18 x30 x42) ∗
      owns (c : Thread nD τ) arg55 fullShare (outD r6 x7 x19 x31 x43) ∗
      owns (c : Thread nD τ) arg56 fullShare (outD r7 x8 x20 x32 x44) ∗
      owns (c : Thread nD τ) arg57 fullShare (outD r7 x9 x21 x33 x45) ∗
      owns (c : Thread nD τ) arg58 fullShare (outD r7 x10 x22 x34 x46) ∗
      owns (c : Thread nD τ) arg59 fullShare (outD r8 x11 x23 x35 x47) ∗ owns (c : Thread nD τ) arg60 fullShare (outM r0 x12 x24) ∗
      owns (c : Thread nD τ) arg61 fullShare (outM r1 x13 x25) ∗ owns (c : Thread nD τ) arg62 fullShare (outM r2 x14 x26) ∗
      owns (c : Thread nD τ) arg63 fullShare (outM r3 x15 x27) ∗ owns (c : Thread nD τ) arg64 fullShare (outM r4 x16 x28) ∗
      owns (c : Thread nD τ) arg65 fullShare (outM r4 x17 x29) ∗ owns (c : Thread nD τ) arg66 fullShare (outM r5 x18 x30) ∗
      owns (c : Thread nD τ) arg67 fullShare (outM r6 x19 x31) ∗ owns (c : Thread nD τ) arg68 fullShare (outM r7 x20 x32) ∗
      owns (c : Thread nD τ) arg69 fullShare (outM r7 x21 x33) ∗ owns (c : Thread nD τ) arg70 fullShare (outM r7 x22 x34) ∗
      owns (c : Thread nD τ) arg71 fullShare (outM r8 x23 x35) ∗ owns (c : Thread nD τ) arg72 fullShare (outV r0 x12 x36) ∗
      owns (c : Thread nD τ) arg73 fullShare (outV r1 x13 x37) ∗ owns (c : Thread nD τ) arg74 fullShare (outV r2 x14 x38) ∗
      owns (c : Thread nD τ) arg75 fullShare (outV r3 x15 x39) ∗ owns (c : Thread nD τ) arg76 fullShare (outV r4 x16 x40) ∗
      owns (c : Thread nD τ) arg77 fullShare (outV r4 x17 x41) ∗ owns (c : Thread nD τ) arg78 fullShare (outV r5 x18 x42) ∗
      owns (c : Thread nD τ) arg79 fullShare (outV r6 x19 x43) ∗ owns (c : Thread nD τ) arg80 fullShare (outV r7 x20 x44) ∗
      owns (c : Thread nD τ) arg81 fullShare (outV r7 x21 x45) ∗ owns (c : Thread nD τ) arg82 fullShare (outV r7 x22 x46) ∗
      owns (c : Thread nD τ) arg83 fullShare (outV r8 x23 x47)) -∗ K ⟨⟩))
      ⊢ wp frame (wpE (defs₀ (F := F)) Variants.none c none) E (cc0_adam arg0 harg0 arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19 harg19 arg20 harg20
        arg21 harg21 arg22 harg22 arg23 harg23 arg24 harg24 arg25 harg25 arg26 harg26 arg27 harg27 arg28 harg28 arg29 harg29 arg30 harg30
        arg31 harg31 arg32 harg32 arg33 harg33 arg34 harg34 arg35 harg35 arg36 harg36 arg37 harg37 arg38 harg38 arg39 harg39 arg40 harg40
        arg41 harg41 arg42 harg42 arg43 harg43 arg44 harg44 arg45 harg45 arg46 harg46 arg47 harg47 arg48 harg48 arg49 harg49 arg50 harg50
        arg51 harg51 arg52 harg52 arg53 harg53 arg54 harg54 arg55 harg55 arg56 harg56 arg57 harg57 arg58 harg58 arg59 harg59 arg60 harg60
        arg61 harg61 arg62 harg62 arg63 harg63 arg64 harg64 arg65 harg65 arg66 harg66 arg67 harg67 arg68 harg68 arg69 harg69 arg70 harg70
        arg71 harg71 arg72 harg72 arg73 harg73 arg74 harg74 arg75 harg75 arg76 harg76 arg77 harg77 arg78 harg78 arg79 harg79 arg80 harg80
        arg81 harg81 arg82 harg82 arg83 harg83) K := by
  simp only [cc0_adam_eq_skeleton]; unfold cc0_adam_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%f15, %hf15, H15⟩, ⟨%f16, %hf16, H16⟩, ⟨%f17, %hf17, H17⟩, ⟨%f18, %hf18, H18⟩,
    ⟨%f19, %hf19, H19⟩, ⟨%f20, %hf20, H20⟩, ⟨%f21, %hf21, H21⟩, ⟨%f22, %hf22, H22⟩, ⟨%f23, %hf23, H23⟩, ⟨%f24, %hf24, H24⟩,
    ⟨%f25, %hf25, H25⟩, ⟨%f26, %hf26, H26⟩, ⟨%f27, %hf27, H27⟩, ⟨%f28, %hf28, H28⟩, ⟨%f29, %hf29, H29⟩, ⟨%f30, %hf30, H30⟩,
    ⟨%f31, %hf31, H31⟩, ⟨%f32, %hf32, H32⟩, ⟨%f33, %hf33, H33⟩, ⟨%f34, %hf34, H34⟩, ⟨%f35, %hf35, H35⟩, ⟨%f36, %hf36, H36⟩,
    ⟨%f37, %hf37, H37⟩, ⟨%f38, %hf38, H38⟩, ⟨%f39, %hf39, H39⟩, ⟨%f40, %hf40, H40⟩, ⟨%f41, %hf41, H41⟩, ⟨%f42, %hf42, H42⟩,
    ⟨%f43, %hf43, H43⟩, ⟨%f44, %hf44, H44⟩, ⟨%f45, %hf45, H45⟩, ⟨%f46, %hf46, H46⟩, ⟨%f47, %hf47, H47⟩, ⟨%d48, %f48, %hf48, H48⟩,
    ⟨%d49, %f49, %hf49, H49⟩, ⟨%d50, %f50, %hf50, H50⟩, ⟨%d51, %f51, %hf51, H51⟩, ⟨%d52, %f52, %hf52, H52⟩, ⟨%d53, %f53, %hf53, H53⟩,
    ⟨%d54, %f54, %hf54, H54⟩, ⟨%d55, %f55, %hf55, H55⟩, ⟨%d56, %f56, %hf56, H56⟩, ⟨%d57, %f57, %hf57, H57⟩, ⟨%d58, %f58, %hf58, H58⟩,
    ⟨%d59, %f59, %hf59, H59⟩, ⟨%d60, %f60, %hf60, H60⟩, ⟨%d61, %f61, %hf61, H61⟩, ⟨%d62, %f62, %hf62, H62⟩, ⟨%d63, %f63, %hf63, H63⟩,
    ⟨%d64, %f64, %hf64, H64⟩, ⟨%d65, %f65, %hf65, H65⟩, ⟨%d66, %f66, %hf66, H66⟩, ⟨%d67, %f67, %hf67, H67⟩, ⟨%d68, %f68, %hf68, H68⟩,
    ⟨%d69, %f69, %hf69, H69⟩, ⟨%d70, %f70, %hf70, H70⟩, ⟨%d71, %f71, %hf71, H71⟩, ⟨%d72, %f72, %hf72, H72⟩, ⟨%d73, %f73, %hf73, H73⟩,
    ⟨%d74, %f74, %hf74, H74⟩, ⟨%d75, %f75, %hf75, H75⟩, ⟨%d76, %f76, %hf76, H76⟩, ⟨%d77, %f77, %hf77, H77⟩, ⟨%d78, %f78, %hf78, H78⟩,
    ⟨%d79, %f79, %hf79, H79⟩, ⟨%d80, %f80, %hf80, H80⟩, ⟨%d81, %f81, %hf81, H81⟩, ⟨%d82, %f82, %hf82, H82⟩, ⟨%d83, %f83, %hf83, H83⟩,
    Hk⟩
  subst hf0 hf1 hf2 hf3 hf4 hf5 hf6 hf7 hf8 hf9 hf10 hf11 hf12 hf13 hf14 hf15 hf16 hf17 hf18 hf19 hf20 hf21 hf22 hf23 hf24 hf25 hf26 hf27
    hf28 hf29 hf30 hf31 hf32 hf33 hf34 hf35 hf36 hf37 hf38 hf39 hf40 hf41 hf42 hf43 hf44 hf45 hf46 hf47
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists f40; isplitr; · ipureintro; rfl
    iexact H40
  isplitl [H41]
  · iexists f41; isplitr; · ipureintro; rfl
    iexact H41
  isplitl [H42]
  · iexists f42; isplitr; · ipureintro; rfl
    iexact H42
  isplitl [H43]
  · iexists f43; isplitr; · ipureintro; rfl
    iexact H43
  isplitl [H44]
  · iexists f44; isplitr; · ipureintro; rfl
    iexact H44
  isplitl [H45]
  · iexists f45; isplitr; · ipureintro; rfl
    iexact H45
  isplitl [H46]
  · iexists f46; isplitr; · ipureintro; rfl
    iexact H46
  isplitl [H47]
  · iexists f47; isplitr; · ipureintro; rfl
    iexact H47
  isplitl [H48]
  · iexists _; isplitr; swap; · iexact H48
    ipureintro; exact (View.read_writes_eq_canon _ _ _ (covers corner _ _)).trans rfl
  isplitl [H49]
  · iexists _; isplitr; swap; · iexact H49
    ipureintro; exact (View.read_writes_eq_canon _ _ _ (covers corner _ _)).trans rfl
  isplitl [H50]
  · iexists _; isplitr; swap; · iexact H50
    ipureintro; exact (View.read_writes_eq_canon _ _ _ (covers corner _ _)).trans rfl
  isplitl [H51]
  · iexists _; isplitr; swap; · iexact H51
    ipureintro; exact (View.read_writes_eq_canon _ _ _ (covers corner _ _)).trans rfl
  isplitl [H52]
  · iexists _; isplitr; swap; · iexact H52
    ipureintro; exact (View.read_writes_eq_canon _ _ _ (covers corner _ _)).trans rfl
  isplitl [H53]
  · iexists _; isplitr; swap; · iexact H53
    ipureintro; exact (View.read_writes_eq_canon _ _ _ (covers corner _ _)).trans rfl
  isplitl [H54]
  · iexists _; isplitr; swap; · iexact H54
    ipureintro; exact (View.read_writes_eq_canon _ _ _ (covers corner _ _)).trans rfl
  isplitl [H55]
  · iexists _; isplitr; swap; · iexact H55
    ipureintro; exact (View.read_writes_eq_canon _ _ _ (covers corner _ _)).trans rfl
  isplitl [H56]
  · iexists _; isplitr; swap; · iexact H56
    ipureintro; exact (View.read_writes_eq_canon _ _ _ (covers corner _ _)).trans rfl
  isplitl [H57]
  · iexists _; isplitr; swap; · iexact H57
    ipureintro; exact (View.read_writes_eq_canon _ _ _ (covers corner _ _)).trans rfl
  isplitl [H58]
  · iexists _; isplitr; swap; · iexact H58
    ipureintro; exact (View.read_writes_eq_canon _ _ _ (covers corner _ _)).trans rfl
  isplitl [H59]
  · iexists _; isplitr; swap; · iexact H59
    ipureintro; exact (View.read_writes_eq_canon _ _ _ (covers corner _ _)).trans rfl
  isplitl [H60]
  · iexists _; isplitr; swap; · iexact H60
    ipureintro; exact (View.read_writes_eq_canon _ _ _ (covers corner _ _)).trans rfl
  isplitl [H61]
  · iexists _; isplitr; swap; · iexact H61
    ipureintro; exact (View.read_writes_eq_canon _ _ _ (covers corner _ _)).trans rfl
  isplitl [H62]
  · iexists _; isplitr; swap; · iexact H62
    ipureintro; exact (View.read_writes_eq_canon _ _ _ (covers corner _ _)).trans rfl
  isplitl [H63]
  · iexists _; isplitr; swap; · iexact H63
    ipureintro; exact (View.read_writes_eq_canon _ _ _ (covers corner _ _)).trans rfl
  isplitl [H64]
  · iexists _; isplitr; swap; · iexact H64
    ipureintro; exact (View.read_writes_eq_canon _ _ _ (covers corner _ _)).trans rfl
  isplitl [H65]
  · iexists _; isplitr; swap; · iexact H65
    ipureintro; exact (View.read_writes_eq_canon _ _ _ (covers corner _ _)).trans rfl
  isplitl [H66]
  · iexists _; isplitr; swap; · iexact H66
    ipureintro; exact (View.read_writes_eq_canon _ _ _ (covers corner _ _)).trans rfl
  isplitl [H67]
  · iexists _; isplitr; swap; · iexact H67
    ipureintro; exact (View.read_writes_eq_canon _ _ _ (covers corner _ _)).trans rfl
  isplitl [H68]
  · iexists _; isplitr; swap; · iexact H68
    ipureintro; exact (View.read_writes_eq_canon _ _ _ (covers corner _ _)).trans rfl
  isplitl [H69]
  · iexists _; isplitr; swap; · iexact H69
    ipureintro; exact (View.read_writes_eq_canon _ _ _ (covers corner _ _)).trans rfl
  isplitl [H70]
  · iexists _; isplitr; swap; · iexact H70
    ipureintro; exact (View.read_writes_eq_canon _ _ _ (covers corner _ _)).trans rfl
  isplitl [H71]
  · iexists _; isplitr; swap; · iexact H71
    ipureintro; exact (View.read_writes_eq_canon _ _ _ (covers corner _ _)).trans rfl
  isplitl [H72]
  · iexists _; isplitr; swap; · iexact H72
    ipureintro; exact (View.read_writes_eq_canon _ _ _ (covers corner _ _)).trans rfl
  isplitl [H73]
  · iexists _; isplitr; swap; · iexact H73
    ipureintro; exact (View.read_writes_eq_canon _ _ _ (covers corner _ _)).trans rfl
  isplitl [H74]
  · iexists _; isplitr; swap; · iexact H74
    ipureintro; exact (View.read_writes_eq_canon _ _ _ (covers corner _ _)).trans rfl
  isplitl [H75]
  · iexists _; isplitr; swap; · iexact H75
    ipureintro; exact (View.read_writes_eq_canon _ _ _ (covers corner _ _)).trans rfl
  isplitl [H76]
  · iexists _; isplitr; swap; · iexact H76
    ipureintro; exact (View.read_writes_eq_canon _ _ _ (covers corner _ _)).trans rfl
  isplitl [H77]
  · iexists _; isplitr; swap; · iexact H77
    ipureintro; exact (View.read_writes_eq_canon _ _ _ (covers corner _ _)).trans rfl
  isplitl [H78]
  · iexists _; isplitr; swap; · iexact H78
    ipureintro; exact (View.read_writes_eq_canon _ _ _ (covers corner _ _)).trans rfl
  isplitl [H79]
  · iexists _; isplitr; swap; · iexact H79
    ipureintro; exact (View.read_writes_eq_canon _ _ _ (covers corner _ _)).trans rfl
  isplitl [H80]
  · iexists _; isplitr; swap; · iexact H80
    ipureintro; exact (View.read_writes_eq_canon _ _ _ (covers corner _ _)).trans rfl
  isplitl [H81]
  · iexists _; isplitr; swap; · iexact H81
    ipureintro; exact (View.read_writes_eq_canon _ _ _ (covers corner _ _)).trans rfl
  isplitl [H82]
  · iexists _; isplitr; swap; · iexact H82
    ipureintro; exact (View.read_writes_eq_canon _ _ _ (covers corner _ _)).trans rfl
  iexists _; isplitr; swap; · iexact H83
  ipureintro; exact (View.read_writes_eq_canon _ _ _ (covers corner _ _)).trans rfl

end Cert.AdamIdeal.Own

end
-- ==== Proof.Adam.Run.lean ====
/- The run of `adam`, over any float values. Hand-written, untrusted. -/
module

public import proofs.«01_k».proof.Proof.Adam.Kernel

@[expose] public section

set_option maxRecDepth 16384

noncomputable section

namespace Cert.AdamIdeal.Own

open Cert.AdamIdeal Cert.AdamIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's arrays when the region is entered: as launched. -/
abbrev V (c : Dev nD) (b : Ref sig .tc) : Buf (Elt F) ((c : Thread nD τ).loc b) := m ((c : Thread nD τ).loc b)

set_option maxHeartbeats 800000 in
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What each buffer holds after the body: an argument's its block, a result's the step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => iblk m c 44 t
    | ⟨45, _⟩ => iblk m c 45 t
    | ⟨46, _⟩ => iblk m c 46 t
    | ⟨47, _⟩ => iblk m c 47 t
    | ⟨48, _⟩ => outD r0 (iblk m c 0 t) (iblk m c 12 t) (iblk m c 24 t) (iblk m c 36 t)
    | ⟨49, _⟩ => outD r1 (iblk m c 1 t) (iblk m c 13 t) (iblk m c 25 t) (iblk m c 37 t)
    | ⟨50, _⟩ => outD r2 (iblk m c 2 t) (iblk m c 14 t) (iblk m c 26 t) (iblk m c 38 t)
    | ⟨51, _⟩ => outD r3 (iblk m c 3 t) (iblk m c 15 t) (iblk m c 27 t) (iblk m c 39 t)
    | ⟨52, _⟩ => outD r4 (iblk m c 4 t) (iblk m c 16 t) (iblk m c 28 t) (iblk m c 40 t)
    | ⟨53, _⟩ => outD r4 (iblk m c 5 t) (iblk m c 17 t) (iblk m c 29 t) (iblk m c 41 t)
    | ⟨54, _⟩ => outD r5 (iblk m c 6 t) (iblk m c 18 t) (iblk m c 30 t) (iblk m c 42 t)
    | ⟨55, _⟩ => outD r6 (iblk m c 7 t) (iblk m c 19 t) (iblk m c 31 t) (iblk m c 43 t)
    | ⟨56, _⟩ => outD r7 (iblk m c 8 t) (iblk m c 20 t) (iblk m c 32 t) (iblk m c 44 t)
    | ⟨57, _⟩ => outD r7 (iblk m c 9 t) (iblk m c 21 t) (iblk m c 33 t) (iblk m c 45 t)
    | ⟨58, _⟩ => outD r7 (iblk m c 10 t) (iblk m c 22 t) (iblk m c 34 t) (iblk m c 46 t)
    | ⟨59, _⟩ => outD r8 (iblk m c 11 t) (iblk m c 23 t) (iblk m c 35 t) (iblk m c 47 t)
    | ⟨60, _⟩ => outM r0 (iblk m c 12 t) (iblk m c 24 t)
    | ⟨61, _⟩ => outM r1 (iblk m c 13 t) (iblk m c 25 t)
    | ⟨62, _⟩ => outM r2 (iblk m c 14 t) (iblk m c 26 t)
    | ⟨63, _⟩ => outM r3 (iblk m c 15 t) (iblk m c 27 t)
    | ⟨64, _⟩ => outM r4 (iblk m c 16 t) (iblk m c 28 t)
    | ⟨65, _⟩ => outM r4 (iblk m c 17 t) (iblk m c 29 t)
    | ⟨66, _⟩ => outM r5 (iblk m c 18 t) (iblk m c 30 t)
    | ⟨67, _⟩ => outM r6 (iblk m c 19 t) (iblk m c 31 t)
    | ⟨68, _⟩ => outM r7 (iblk m c 20 t) (iblk m c 32 t)
    | ⟨69, _⟩ => outM r7 (iblk m c 21 t) (iblk m c 33 t)
    | ⟨70, _⟩ => outM r7 (iblk m c 22 t) (iblk m c 34 t)
    | ⟨71, _⟩ => outM r8 (iblk m c 23 t) (iblk m c 35 t)
    | ⟨72, _⟩ => outV r0 (iblk m c 12 t) (iblk m c 36 t)
    | ⟨73, _⟩ => outV r1 (iblk m c 13 t) (iblk m c 37 t)
    | ⟨74, _⟩ => outV r2 (iblk m c 14 t) (iblk m c 38 t)
    | ⟨75, _⟩ => outV r3 (iblk m c 15 t) (iblk m c 39 t)
    | ⟨76, _⟩ => outV r4 (iblk m c 16 t) (iblk m c 40 t)
    | ⟨77, _⟩ => outV r4 (iblk m c 17 t) (iblk m c 41 t)
    | ⟨78, _⟩ => outV r5 (iblk m c 18 t) (iblk m c 42 t)
    | ⟨79, _⟩ => outV r6 (iblk m c 19 t) (iblk m c 43 t)
    | ⟨80, _⟩ => outV r7 (iblk m c 20 t) (iblk m c 44 t)
    | ⟨81, _⟩ => outV r7 (iblk m c 21 t) (iblk m c 45 t)
    | ⟨82, _⟩ => outV r7 (iblk m c 22 t) (iblk m c 46 t)
    | ⟨83, _⟩ => outV r8 (iblk m c 23 t) (iblk m c 47 t)
    | ⟨_ + 84, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-! What the body leaves, window by window. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = iblk m c 26 t := by dsimp only [dats]
theorem after_27 (c : Dev nD) (t : Fin cfg0.N) : (dats m 0 c).after 27 t = iblk m c 27 t := by dsimp only [dats]
theorem after_28 (c : Dev nD) (t : Fin cfg0.N) : (dats m 0 c).after 28 t = iblk m c 28 t := by dsimp only [dats]
theorem after_29 (c : Dev nD) (t : Fin cfg0.N) : (dats m 0 c).after 29 t = iblk m c 29 t := by dsimp only [dats]
theorem after_30 (c : Dev nD) (t : Fin cfg0.N) : (dats m 0 c).after 30 t = iblk m c 30 t := by dsimp only [dats]
theorem after_31 (c : Dev nD) (t : Fin cfg0.N) : (dats m 0 c).after 31 t = iblk m c 31 t := by dsimp only [dats]
theorem after_32 (c : Dev nD) (t : Fin cfg0.N) : (dats m 0 c).after 32 t = iblk m c 32 t := by dsimp only [dats]
theorem after_33 (c : Dev nD) (t : Fin cfg0.N) : (dats m 0 c).after 33 t = iblk m c 33 t := by dsimp only [dats]
theorem after_34 (c : Dev nD) (t : Fin cfg0.N) : (dats m 0 c).after 34 t = iblk m c 34 t := by dsimp only [dats]
theorem after_35 (c : Dev nD) (t : Fin cfg0.N) : (dats m 0 c).after 35 t = iblk m c 35 t := by dsimp only [dats]
theorem after_36 (c : Dev nD) (t : Fin cfg0.N) : (dats m 0 c).after 36 t = iblk m c 36 t := by dsimp only [dats]
theorem after_37 (c : Dev nD) (t : Fin cfg0.N) : (dats m 0 c).after 37 t = iblk m c 37 t := by dsimp only [dats]
theorem after_38 (c : Dev nD) (t : Fin cfg0.N) : (dats m 0 c).after 38 t = iblk m c 38 t := by dsimp only [dats]
theorem after_39 (c : Dev nD) (t : Fin cfg0.N) : (dats m 0 c).after 39 t = iblk m c 39 t := by dsimp only [dats]
theorem after_40 (c : Dev nD) (t : Fin cfg0.N) : (dats m 0 c).after 40 t = iblk m c 40 t := by dsimp only [dats]
theorem after_41 (c : Dev nD) (t : Fin cfg0.N) : (dats m 0 c).after 41 t = iblk m c 41 t := by dsimp only [dats]
theorem after_42 (c : Dev nD) (t : Fin cfg0.N) : (dats m 0 c).after 42 t = iblk m c 42 t := by dsimp only [dats]
theorem after_43 (c : Dev nD) (t : Fin cfg0.N) : (dats m 0 c).after 43 t = iblk m c 43 t := by dsimp only [dats]
theorem after_44 (c : Dev nD) (t : Fin cfg0.N) : (dats m 0 c).after 44 t = iblk m c 44 t := by dsimp only [dats]
theorem after_45 (c : Dev nD) (t : Fin cfg0.N) : (dats m 0 c).after 45 t = iblk m c 45 t := by dsimp only [dats]
theorem after_46 (c : Dev nD) (t : Fin cfg0.N) : (dats m 0 c).after 46 t = iblk m c 46 t := by dsimp only [dats]
theorem after_47 (c : Dev nD) (t : Fin cfg0.N) : (dats m 0 c).after 47 t = iblk m c 47 t := by dsimp only [dats]
theorem after_48 (c : Dev nD) (t : Fin cfg0.N) : (dats m 0 c).after 48 t = outD r0 (iblk m c 0 t) (iblk m c 12 t) (iblk m c 24 t) (iblk m c 36 t) := by
  dsimp only [dats]
theorem after_49 (c : Dev nD) (t : Fin cfg0.N) : (dats m 0 c).after 49 t = outD r1 (iblk m c 1 t) (iblk m c 13 t) (iblk m c 25 t) (iblk m c 37 t) := by
  dsimp only [dats]
theorem after_50 (c : Dev nD) (t : Fin cfg0.N) : (dats m 0 c).after 50 t = outD r2 (iblk m c 2 t) (iblk m c 14 t) (iblk m c 26 t) (iblk m c 38 t) := by
  dsimp only [dats]
theorem after_51 (c : Dev nD) (t : Fin cfg0.N) : (dats m 0 c).after 51 t = outD r3 (iblk m c 3 t) (iblk m c 15 t) (iblk m c 27 t) (iblk m c 39 t) := by
  dsimp only [dats]
theorem after_52 (c : Dev nD) (t : Fin cfg0.N) : (dats m 0 c).after 52 t = outD r4 (iblk m c 4 t) (iblk m c 16 t) (iblk m c 28 t) (iblk m c 40 t) := by
  dsimp only [dats]
theorem after_53 (c : Dev nD) (t : Fin cfg0.N) : (dats m 0 c).after 53 t = outD r4 (iblk m c 5 t) (iblk m c 17 t) (iblk m c 29 t) (iblk m c 41 t) := by
  dsimp only [dats]
theorem after_54 (c : Dev nD) (t : Fin cfg0.N) : (dats m 0 c).after 54 t = outD r5 (iblk m c 6 t) (iblk m c 18 t) (iblk m c 30 t) (iblk m c 42 t) := by
  dsimp only [dats]
theorem after_55 (c : Dev nD) (t : Fin cfg0.N) : (dats m 0 c).after 55 t = outD r6 (iblk m c 7 t) (iblk m c 19 t) (iblk m c 31 t) (iblk m c 43 t) := by
  dsimp only [dats]
theorem after_56 (c : Dev nD) (t : Fin cfg0.N) : (dats m 0 c).after 56 t = outD r7 (iblk m c 8 t) (iblk m c 20 t) (iblk m c 32 t) (iblk m c 44 t) := by
  dsimp only [dats]
theorem after_57 (c : Dev nD) (t : Fin cfg0.N) : (dats m 0 c).after 57 t = outD r7 (iblk m c 9 t) (iblk m c 21 t) (iblk m c 33 t) (iblk m c 45 t) := by
  dsimp only [dats]
theorem after_58 (c : Dev nD) (t : Fin cfg0.N) : (dats m 0 c).after 58 t = outD r7 (iblk m c 10 t) (iblk m c 22 t) (iblk m c 34 t) (iblk m c 46 t) := by
  dsimp only [dats]
theorem after_59 (c : Dev nD) (t : Fin cfg0.N) : (dats m 0 c).after 59 t = outD r8 (iblk m c 11 t) (iblk m c 23 t) (iblk m c 35 t) (iblk m c 47 t) := by
  dsimp only [dats]
theorem after_60 (c : Dev nD) (t : Fin cfg0.N) : (dats m 0 c).after 60 t = outM r0 (iblk m c 12 t) (iblk m c 24 t) := by
  dsimp only [dats]
theorem after_61 (c : Dev nD) (t : Fin cfg0.N) : (dats m 0 c).after 61 t = outM r1 (iblk m c 13 t) (iblk m c 25 t) := by
  dsimp only [dats]
theorem after_62 (c : Dev nD) (t : Fin cfg0.N) : (dats m 0 c).after 62 t = outM r2 (iblk m c 14 t) (iblk m c 26 t) := by
  dsimp only [dats]
theorem after_63 (c : Dev nD) (t : Fin cfg0.N) : (dats m 0 c).after 63 t = outM r3 (iblk m c 15 t) (iblk m c 27 t) := by
  dsimp only [dats]
theorem after_64 (c : Dev nD) (t : Fin cfg0.N) : (dats m 0 c).after 64 t = outM r4 (iblk m c 16 t) (iblk m c 28 t) := by
  dsimp only [dats]
theorem after_65 (c : Dev nD) (t : Fin cfg0.N) : (dats m 0 c).after 65 t = outM r4 (iblk m c 17 t) (iblk m c 29 t) := by
  dsimp only [dats]
theorem after_66 (c : Dev nD) (t : Fin cfg0.N) : (dats m 0 c).after 66 t = outM r5 (iblk m c 18 t) (iblk m c 30 t) := by
  dsimp only [dats]
theorem after_67 (c : Dev nD) (t : Fin cfg0.N) : (dats m 0 c).after 67 t = outM r6 (iblk m c 19 t) (iblk m c 31 t) := by
  dsimp only [dats]
theorem after_68 (c : Dev nD) (t : Fin cfg0.N) : (dats m 0 c).after 68 t = outM r7 (iblk m c 20 t) (iblk m c 32 t) := by
  dsimp only [dats]
theorem after_69 (c : Dev nD) (t : Fin cfg0.N) : (dats m 0 c).after 69 t = outM r7 (iblk m c 21 t) (iblk m c 33 t) := by
  dsimp only [dats]
theorem after_70 (c : Dev nD) (t : Fin cfg0.N) : (dats m 0 c).after 70 t = outM r7 (iblk m c 22 t) (iblk m c 34 t) := by
  dsimp only [dats]
theorem after_71 (c : Dev nD) (t : Fin cfg0.N) : (dats m 0 c).after 71 t = outM r8 (iblk m c 23 t) (iblk m c 35 t) := by
  dsimp only [dats]
theorem after_72 (c : Dev nD) (t : Fin cfg0.N) : (dats m 0 c).after 72 t = outV r0 (iblk m c 12 t) (iblk m c 36 t) := by
  dsimp only [dats]
theorem after_73 (c : Dev nD) (t : Fin cfg0.N) : (dats m 0 c).after 73 t = outV r1 (iblk m c 13 t) (iblk m c 37 t) := by
  dsimp only [dats]
theorem after_74 (c : Dev nD) (t : Fin cfg0.N) : (dats m 0 c).after 74 t = outV r2 (iblk m c 14 t) (iblk m c 38 t) := by
  dsimp only [dats]
theorem after_75 (c : Dev nD) (t : Fin cfg0.N) : (dats m 0 c).after 75 t = outV r3 (iblk m c 15 t) (iblk m c 39 t) := by
  dsimp only [dats]
theorem after_76 (c : Dev nD) (t : Fin cfg0.N) : (dats m 0 c).after 76 t = outV r4 (iblk m c 16 t) (iblk m c 40 t) := by
  dsimp only [dats]
theorem after_77 (c : Dev nD) (t : Fin cfg0.N) : (dats m 0 c).after 77 t = outV r4 (iblk m c 17 t) (iblk m c 41 t) := by
  dsimp only [dats]
theorem after_78 (c : Dev nD) (t : Fin cfg0.N) : (dats m 0 c).after 78 t = outV r5 (iblk m c 18 t) (iblk m c 42 t) := by
  dsimp only [dats]
theorem after_79 (c : Dev nD) (t : Fin cfg0.N) : (dats m 0 c).after 79 t = outV r6 (iblk m c 19 t) (iblk m c 43 t) := by
  dsimp only [dats]
theorem after_80 (c : Dev nD) (t : Fin cfg0.N) : (dats m 0 c).after 80 t = outV r7 (iblk m c 20 t) (iblk m c 44 t) := by
  dsimp only [dats]
theorem after_81 (c : Dev nD) (t : Fin cfg0.N) : (dats m 0 c).after 81 t = outV r7 (iblk m c 21 t) (iblk m c 45 t) := by
  dsimp only [dats]
theorem after_82 (c : Dev nD) (t : Fin cfg0.N) : (dats m 0 c).after 82 t = outV r7 (iblk m c 22 t) (iblk m c 46 t) := by
  dsimp only [dats]
theorem after_83 (c : Dev nD) (t : Fin cfg0.N) : (dats m 0 c).after 83 t = outV r8 (iblk m c 23 t) (iblk m c 47 t) := by
  dsimp only [dats]

/-- An argument's buffer holds its block when the body begins, where the body leaves it there. -/
theorem before_of (c : Dev nD) (w : Fin cfg0.W) (hw : (cfg0.win w).isOut = false) (hi : ∀ i, cfg0.idle w i = false)
    (hc : ∀ t t' : Fin cfg0.N, (cfg0.win w).index t = (cfg0.win w).index t' →
      (cfg0.win w).clip (cfg0.grid.coords t) = (cfg0.win w).clip (cfg0.grid.coords t'))
    (hk : ∀ t, (cfg0.win w).cut (cfg0.grid.coords t) ((dats m 0 c).after w t) = iblk m c w t) (t : Fin cfg0.N) (d) :
    (dats m 0 c).before w t d = (dats m 0 c).fetched w t d :=
  (dats m 0 c).before_in_eq_fetched w hw hi hc (fun t => by rw [hk]; unfold Dat.blockOf iblk; rw [A_eq]) t d

theorem before_0 (c : Dev nD) (t : Fin cfg0.N) (d) : (dats m 0 c).before 0 t d = iblk m c 0 t :=
  (before_of m c 0 rfl (fun _ => rfl) (fun _ _ _ => rfl) (fun t => by rw [after_0]; try rfl) t d).trans
    (by unfold Dat.fetched Dat.blockOf iblk; rw [A_eq]; try rfl)
theorem before_1 (c : Dev nD) (t : Fin cfg0.N) (d) : (dats m 0 c).before 1 t d = iblk m c 1 t :=
  (before_of m c 1 rfl (fun _ => rfl) (fun _ _ _ => rfl) (fun t => by rw [after_1]; try rfl) t d).trans
    (by unfold Dat.fetched Dat.blockOf iblk; rw [A_eq]; try rfl)
theorem before_2 (c : Dev nD) (t : Fin cfg0.N) (d) : (dats m 0 c).before 2 t d = iblk m c 2 t :=
  (before_of m c 2 rfl (fun _ => rfl) (fun _ _ _ => rfl) (fun t => by rw [after_2]; try rfl) t d).trans
    (by unfold Dat.fetched Dat.blockOf iblk; rw [A_eq]; try rfl)
theorem before_3 (c : Dev nD) (t : Fin cfg0.N) (d) : (dats m 0 c).before 3 t d = iblk m c 3 t :=
  (before_of m c 3 rfl (fun _ => rfl) (fun _ _ _ => rfl) (fun t => by rw [after_3]; try rfl) t d).trans
    (by unfold Dat.fetched Dat.blockOf iblk; rw [A_eq]; try rfl)
theorem before_4 (c : Dev nD) (t : Fin cfg0.N) (d) : (dats m 0 c).before 4 t d = iblk m c 4 t :=
  (before_of m c 4 rfl (fun _ => rfl) (fun _ _ _ => rfl) (fun t => by rw [after_4]; try rfl) t d).trans
    (by unfold Dat.fetched Dat.blockOf iblk; rw [A_eq]; try rfl)
theorem before_5 (c : Dev nD) (t : Fin cfg0.N) (d) : (dats m 0 c).before 5 t d = iblk m c 5 t :=
  (before_of m c 5 rfl (fun _ => rfl) (fun _ _ _ => rfl) (fun t => by rw [after_5]; try rfl) t d).trans
    (by unfold Dat.fetched Dat.blockOf iblk; rw [A_eq]; try rfl)
theorem before_6 (c : Dev nD) (t : Fin cfg0.N) (d) : (dats m 0 c).before 6 t d = iblk m c 6 t :=
  (before_of m c 6 rfl (fun _ => rfl) (fun _ _ _ => rfl) (fun t => by rw [after_6]; try rfl) t d).trans
    (by unfold Dat.fetched Dat.blockOf iblk; rw [A_eq]; try rfl)
theorem before_7 (c : Dev nD) (t : Fin cfg0.N) (d) : (dats m 0 c).before 7 t d = iblk m c 7 t :=
  (before_of m c 7 rfl (fun _ => rfl) (fun _ _ _ => rfl) (fun t => by rw [after_7]; try rfl) t d).trans
    (by unfold Dat.fetched Dat.blockOf iblk; rw [A_eq]; try rfl)
theorem before_8 (c : Dev nD) (t : Fin cfg0.N) (d) : (dats m 0 c).before 8 t d = iblk m c 8 t :=
  (before_of m c 8 rfl (fun _ => rfl) (fun _ _ _ => rfl) (fun t => by rw [after_8]; try rfl) t d).trans
    (by unfold Dat.fetched Dat.blockOf iblk; rw [A_eq]; try rfl)
theorem before_9 (c : Dev nD) (t : Fin cfg0.N) (d) : (dats m 0 c).before 9 t d = iblk m c 9 t :=
  (before_of m c 9 rfl (fun _ => rfl) (fun _ _ _ => rfl) (fun t => by rw [after_9]; try rfl) t d).trans
    (by unfold Dat.fetched Dat.blockOf iblk; rw [A_eq]; try rfl)
theorem before_10 (c : Dev nD) (t : Fin cfg0.N) (d) : (dats m 0 c).before 10 t d = iblk m c 10 t :=
  (before_of m c 10 rfl (fun _ => rfl) (fun _ _ _ => rfl) (fun t => by rw [after_10]; try rfl) t d).trans
    (by unfold Dat.fetched Dat.blockOf iblk; rw [A_eq]; try rfl)
theorem before_11 (c : Dev nD) (t : Fin cfg0.N) (d) : (dats m 0 c).before 11 t d = iblk m c 11 t :=
  (before_of m c 11 rfl (fun _ => rfl) (fun _ _ _ => rfl) (fun t => by rw [after_11]; try rfl) t d).trans
    (by unfold Dat.fetched Dat.blockOf iblk; rw [A_eq]; try rfl)
theorem before_12 (c : Dev nD) (t : Fin cfg0.N) (d) : (dats m 0 c).before 12 t d = iblk m c 12 t :=
  (before_of m c 12 rfl (fun _ => rfl) (fun _ _ _ => rfl) (fun t => by rw [after_12]; try rfl) t d).trans
    (by unfold Dat.fetched Dat.blockOf iblk; rw [A_eq]; try rfl)
theorem before_13 (c : Dev nD) (t : Fin cfg0.N) (d) : (dats m 0 c).before 13 t d = iblk m c 13 t :=
  (before_of m c 13 rfl (fun _ => rfl) (fun _ _ _ => rfl) (fun t => by rw [after_13]; try rfl) t d).trans
    (by unfold Dat.fetched Dat.blockOf iblk; rw [A_eq]; try rfl)
theorem before_14 (c : Dev nD) (t : Fin cfg0.N) (d) : (dats m 0 c).before 14 t d = iblk m c 14 t :=
  (before_of m c 14 rfl (fun _ => rfl) (fun _ _ _ => rfl) (fun t => by rw [after_14]; try rfl) t d).trans
    (by unfold Dat.fetched Dat.blockOf iblk; rw [A_eq]; try rfl)
theorem before_15 (c : Dev nD) (t : Fin cfg0.N) (d) : (dats m 0 c).before 15 t d = iblk m c 15 t :=
  (before_of m c 15 rfl (fun _ => rfl) (fun _ _ _ => rfl) (fun t => by rw [after_15]; try rfl) t d).trans
    (by unfold Dat.fetched Dat.blockOf iblk; rw [A_eq]; try rfl)
theorem before_16 (c : Dev nD) (t : Fin cfg0.N) (d) : (dats m 0 c).before 16 t d = iblk m c 16 t :=
  (before_of m c 16 rfl (fun _ => rfl) (fun _ _ _ => rfl) (fun t => by rw [after_16]; try rfl) t d).trans
    (by unfold Dat.fetched Dat.blockOf iblk; rw [A_eq]; try rfl)
theorem before_17 (c : Dev nD) (t : Fin cfg0.N) (d) : (dats m 0 c).before 17 t d = iblk m c 17 t :=
  (before_of m c 17 rfl (fun _ => rfl) (fun _ _ _ => rfl) (fun t => by rw [after_17]; try rfl) t d).trans
    (by unfold Dat.fetched Dat.blockOf iblk; rw [A_eq]; try rfl)
theorem before_18 (c : Dev nD) (t : Fin cfg0.N) (d) : (dats m 0 c).before 18 t d = iblk m c 18 t :=
  (before_of m c 18 rfl (fun _ => rfl) (fun _ _ _ => rfl) (fun t => by rw [after_18]; try rfl) t d).trans
    (by unfold Dat.fetched Dat.blockOf iblk; rw [A_eq]; try rfl)
theorem before_19 (c : Dev nD) (t : Fin cfg0.N) (d) : (dats m 0 c).before 19 t d = iblk m c 19 t :=
  (before_of m c 19 rfl (fun _ => rfl) (fun _ _ _ => rfl) (fun t => by rw [after_19]; try rfl) t d).trans
    (by unfold Dat.fetched Dat.blockOf iblk; rw [A_eq]; try rfl)
theorem before_20 (c : Dev nD) (t : Fin cfg0.N) (d) : (dats m 0 c).before 20 t d = iblk m c 20 t :=
  (before_of m c 20 rfl (fun _ => rfl) (fun _ _ _ => rfl) (fun t => by rw [after_20]; try rfl) t d).trans
    (by unfold Dat.fetched Dat.blockOf iblk; rw [A_eq]; try rfl)
theorem before_21 (c : Dev nD) (t : Fin cfg0.N) (d) : (dats m 0 c).before 21 t d = iblk m c 21 t :=
  (before_of m c 21 rfl (fun _ => rfl) (fun _ _ _ => rfl) (fun t => by rw [after_21]; try rfl) t d).trans
    (by unfold Dat.fetched Dat.blockOf iblk; rw [A_eq]; try rfl)
theorem before_22 (c : Dev nD) (t : Fin cfg0.N) (d) : (dats m 0 c).before 22 t d = iblk m c 22 t :=
  (before_of m c 22 rfl (fun _ => rfl) (fun _ _ _ => rfl) (fun t => by rw [after_22]; try rfl) t d).trans
    (by unfold Dat.fetched Dat.blockOf iblk; rw [A_eq]; try rfl)
theorem before_23 (c : Dev nD) (t : Fin cfg0.N) (d) : (dats m 0 c).before 23 t d = iblk m c 23 t :=
  (before_of m c 23 rfl (fun _ => rfl) (fun _ _ _ => rfl) (fun t => by rw [after_23]; try rfl) t d).trans
    (by unfold Dat.fetched Dat.blockOf iblk; rw [A_eq]; try rfl)
theorem before_24 (c : Dev nD) (t : Fin cfg0.N) (d) : (dats m 0 c).before 24 t d = iblk m c 24 t :=
  (before_of m c 24 rfl (fun _ => rfl) (fun _ _ _ => rfl) (fun t => by rw [after_24]; try rfl) t d).trans
    (by unfold Dat.fetched Dat.blockOf iblk; rw [A_eq]; try rfl)
theorem before_25 (c : Dev nD) (t : Fin cfg0.N) (d) : (dats m 0 c).before 25 t d = iblk m c 25 t :=
  (before_of m c 25 rfl (fun _ => rfl) (fun _ _ _ => rfl) (fun t => by rw [after_25]; try rfl) t d).trans
    (by unfold Dat.fetched Dat.blockOf iblk; rw [A_eq]; try rfl)
theorem before_26 (c : Dev nD) (t : Fin cfg0.N) (d) : (dats m 0 c).before 26 t d = iblk m c 26 t :=
  (before_of m c 26 rfl (fun _ => rfl) (fun _ _ _ => rfl) (fun t => by rw [after_26]; try rfl) t d).trans
    (by unfold Dat.fetched Dat.blockOf iblk; rw [A_eq]; try rfl)
theorem before_27 (c : Dev nD) (t : Fin cfg0.N) (d) : (dats m 0 c).before 27 t d = iblk m c 27 t :=
  (before_of m c 27 rfl (fun _ => rfl) (fun _ _ _ => rfl) (fun t => by rw [after_27]; try rfl) t d).trans
    (by unfold Dat.fetched Dat.blockOf iblk; rw [A_eq]; try rfl)
theorem before_28 (c : Dev nD) (t : Fin cfg0.N) (d) : (dats m 0 c).before 28 t d = iblk m c 28 t :=
  (before_of m c 28 rfl (fun _ => rfl) (fun _ _ _ => rfl) (fun t => by rw [after_28]; try rfl) t d).trans
    (by unfold Dat.fetched Dat.blockOf iblk; rw [A_eq]; try rfl)
theorem before_29 (c : Dev nD) (t : Fin cfg0.N) (d) : (dats m 0 c).before 29 t d = iblk m c 29 t :=
  (before_of m c 29 rfl (fun _ => rfl) (fun _ _ _ => rfl) (fun t => by rw [after_29]; try rfl) t d).trans
    (by unfold Dat.fetched Dat.blockOf iblk; rw [A_eq]; try rfl)
theorem before_30 (c : Dev nD) (t : Fin cfg0.N) (d) : (dats m 0 c).before 30 t d = iblk m c 30 t :=
  (before_of m c 30 rfl (fun _ => rfl) (fun _ _ _ => rfl) (fun t => by rw [after_30]; try rfl) t d).trans
    (by unfold Dat.fetched Dat.blockOf iblk; rw [A_eq]; try rfl)
theorem before_31 (c : Dev nD) (t : Fin cfg0.N) (d) : (dats m 0 c).before 31 t d = iblk m c 31 t :=
  (before_of m c 31 rfl (fun _ => rfl) (fun _ _ _ => rfl) (fun t => by rw [after_31]; try rfl) t d).trans
    (by unfold Dat.fetched Dat.blockOf iblk; rw [A_eq]; try rfl)
theorem before_32 (c : Dev nD) (t : Fin cfg0.N) (d) : (dats m 0 c).before 32 t d = iblk m c 32 t :=
  (before_of m c 32 rfl (fun _ => rfl) (fun _ _ _ => rfl) (fun t => by rw [after_32]; try rfl) t d).trans
    (by unfold Dat.fetched Dat.blockOf iblk; rw [A_eq]; try rfl)
theorem before_33 (c : Dev nD) (t : Fin cfg0.N) (d) : (dats m 0 c).before 33 t d = iblk m c 33 t :=
  (before_of m c 33 rfl (fun _ => rfl) (fun _ _ _ => rfl) (fun t => by rw [after_33]; try rfl) t d).trans
    (by unfold Dat.fetched Dat.blockOf iblk; rw [A_eq]; try rfl)
theorem before_34 (c : Dev nD) (t : Fin cfg0.N) (d) : (dats m 0 c).before 34 t d = iblk m c 34 t :=
  (before_of m c 34 rfl (fun _ => rfl) (fun _ _ _ => rfl) (fun t => by rw [after_34]; try rfl) t d).trans
    (by unfold Dat.fetched Dat.blockOf iblk; rw [A_eq]; try rfl)
theorem before_35 (c : Dev nD) (t : Fin cfg0.N) (d) : (dats m 0 c).before 35 t d = iblk m c 35 t :=
  (before_of m c 35 rfl (fun _ => rfl) (fun _ _ _ => rfl) (fun t => by rw [after_35]; try rfl) t d).trans
    (by unfold Dat.fetched Dat.blockOf iblk; rw [A_eq]; try rfl)
theorem before_36 (c : Dev nD) (t : Fin cfg0.N) (d) : (dats m 0 c).before 36 t d = iblk m c 36 t :=
  (before_of m c 36 rfl (fun _ => rfl) (fun _ _ _ => rfl) (fun t => by rw [after_36]; try rfl) t d).trans
    (by unfold Dat.fetched Dat.blockOf iblk; rw [A_eq]; try rfl)
theorem before_37 (c : Dev nD) (t : Fin cfg0.N) (d) : (dats m 0 c).before 37 t d = iblk m c 37 t :=
  (before_of m c 37 rfl (fun _ => rfl) (fun _ _ _ => rfl) (fun t => by rw [after_37]; try rfl) t d).trans
    (by unfold Dat.fetched Dat.blockOf iblk; rw [A_eq]; try rfl)
theorem before_38 (c : Dev nD) (t : Fin cfg0.N) (d) : (dats m 0 c).before 38 t d = iblk m c 38 t :=
  (before_of m c 38 rfl (fun _ => rfl) (fun _ _ _ => rfl) (fun t => by rw [after_38]; try rfl) t d).trans
    (by unfold Dat.fetched Dat.blockOf iblk; rw [A_eq]; try rfl)
theorem before_39 (c : Dev nD) (t : Fin cfg0.N) (d) : (dats m 0 c).before 39 t d = iblk m c 39 t :=
  (before_of m c 39 rfl (fun _ => rfl) (fun _ _ _ => rfl) (fun t => by rw [after_39]; try rfl) t d).trans
    (by unfold Dat.fetched Dat.blockOf iblk; rw [A_eq]; try rfl)
theorem before_40 (c : Dev nD) (t : Fin cfg0.N) (d) : (dats m 0 c).before 40 t d = iblk m c 40 t :=
  (before_of m c 40 rfl (fun _ => rfl) (fun _ _ _ => rfl) (fun t => by rw [after_40]; try rfl) t d).trans
    (by unfold Dat.fetched Dat.blockOf iblk; rw [A_eq]; try rfl)
theorem before_41 (c : Dev nD) (t : Fin cfg0.N) (d) : (dats m 0 c).before 41 t d = iblk m c 41 t :=
  (before_of m c 41 rfl (fun _ => rfl) (fun _ _ _ => rfl) (fun t => by rw [after_41]; try rfl) t d).trans
    (by unfold Dat.fetched Dat.blockOf iblk; rw [A_eq]; try rfl)
theorem before_42 (c : Dev nD) (t : Fin cfg0.N) (d) : (dats m 0 c).before 42 t d = iblk m c 42 t :=
  (before_of m c 42 rfl (fun _ => rfl) (fun _ _ _ => rfl) (fun t => by rw [after_42]; try rfl) t d).trans
    (by unfold Dat.fetched Dat.blockOf iblk; rw [A_eq]; try rfl)
theorem before_43 (c : Dev nD) (t : Fin cfg0.N) (d) : (dats m 0 c).before 43 t d = iblk m c 43 t :=
  (before_of m c 43 rfl (fun _ => rfl) (fun _ _ _ => rfl) (fun t => by rw [after_43]; try rfl) t d).trans
    (by unfold Dat.fetched Dat.blockOf iblk; rw [A_eq]; try rfl)
theorem before_44 (c : Dev nD) (t : Fin cfg0.N) (d) : (dats m 0 c).before 44 t d = iblk m c 44 t :=
  (before_of m c 44 rfl (fun _ => rfl) (fun _ _ _ => rfl) (fun t => by rw [after_44]; try rfl) t d).trans
    (by unfold Dat.fetched Dat.blockOf iblk; rw [A_eq]; try rfl)
theorem before_45 (c : Dev nD) (t : Fin cfg0.N) (d) : (dats m 0 c).before 45 t d = iblk m c 45 t :=
  (before_of m c 45 rfl (fun _ => rfl) (fun _ _ _ => rfl) (fun t => by rw [after_45]; try rfl) t d).trans
    (by unfold Dat.fetched Dat.blockOf iblk; rw [A_eq]; try rfl)
theorem before_46 (c : Dev nD) (t : Fin cfg0.N) (d) : (dats m 0 c).before 46 t d = iblk m c 46 t :=
  (before_of m c 46 rfl (fun _ => rfl) (fun _ _ _ => rfl) (fun t => by rw [after_46]; try rfl) t d).trans
    (by unfold Dat.fetched Dat.blockOf iblk; rw [A_eq]; try rfl)
theorem before_47 (c : Dev nD) (t : Fin cfg0.N) (d) : (dats m 0 c).before 47 t d = iblk m c 47 t :=
  (before_of m c 47 rfl (fun _ => rfl) (fun _ _ _ => rfl) (fun t => by rw [after_47]; try rfl) t d).trans
    (by unfold Dat.fetched Dat.blockOf iblk; rw [A_eq]; try rfl)

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗
    (∃ d, owns (c : Thread nD τ) (st0_1 t) fullShare ((dats m 0 c).before 1 t d)) ∗
    (∃ d, owns (c : Thread nD τ) (st0_2 t) fullShare ((dats m 0 c).before 2 t d)) ∗
    (∃ d, owns (c : Thread nD τ) (st0_3 t) fullShare ((dats m 0 c).before 3 t d)) ∗
    (∃ d, owns (c : Thread nD τ) (st0_4 t) fullShare ((dats m 0 c).before 4 t d)) ∗
    (∃ d, owns (c : Thread nD τ) (st0_5 t) fullShare ((dats m 0 c).before 5 t d)) ∗
    (∃ d, owns (c : Thread nD τ) (st0_6 t) fullShare ((dats m 0 c).before 6 t d)) ∗
    (∃ d, owns (c : Thread nD τ) (st0_7 t) fullShare ((dats m 0 c).before 7 t d)) ∗
    (∃ d, owns (c : Thread nD τ) (st0_8 t) fullShare ((dats m 0 c).before 8 t d)) ∗
    (∃ d, owns (c : Thread nD τ) (st0_9 t) fullShare ((dats m 0 c).before 9 t d)) ∗
    (∃ d, owns (c : Thread nD τ) (st0_10 t) fullShare ((dats m 0 c).before 10 t d)) ∗
    (∃ d, owns (c : Thread nD τ) (st0_11 t) fullShare ((dats m 0 c).before 11 t d)) ∗
    (∃ d, owns (c : Thread nD τ) (st0_12 t) fullShare ((dats m 0 c).before 12 t d)) ∗
    (∃ d, owns (c : Thread nD τ) (st0_13 t) fullShare ((dats m 0 c).before 13 t d)) ∗
    (∃ d, owns (c : Thread nD τ) (st0_14 t) fullShare ((dats m 0 c).before 14 t d)) ∗
    (∃ d, owns (c : Thread nD τ) (st0_15 t) fullShare ((dats m 0 c).before 15 t d)) ∗
    (∃ d, owns (c : Thread nD τ) (st0_16 t) fullShare ((dats m 0 c).before 16 t d)) ∗
    (∃ d, owns (c : Thread nD τ) (st0_17 t) fullShare ((dats m 0 c).before 17 t d)) ∗
    (∃ d, owns (c : Thread nD τ) (st0_18 t) fullShare ((dats m 0 c).before 18 t d)) ∗
    (∃ d, owns (c : Thread nD τ) (st0_19 t) fullShare ((dats m 0 c).before 19 t d)) ∗
    (∃ d, owns (c : Thread nD τ) (st0_20 t) fullShare ((dats m 0 c).before 20 t d)) ∗
    (∃ d, owns (c : Thread nD τ) (st0_21 t) fullShare ((dats m 0 c).before 21 t d)) ∗
    (∃ d, owns (c : Thread nD τ) (st0_22 t) fullShare ((dats m 0 c).before 22 t d)) ∗
    (∃ d, owns (c : Thread nD τ) (st0_23 t) fullShare ((dats m 0 c).before 23 t d)) ∗
    (∃ d, owns (c : Thread nD τ) (st0_24 t) fullShare ((dats m 0 c).before 24 t d)) ∗
    (∃ d, owns (c : Thread nD τ) (st0_25 t) fullShare ((dats m 0 c).before 25 t d)) ∗
    (∃ d, owns (c : Thread nD τ) (st0_26 t) fullShare ((dats m 0 c).before 26 t d)) ∗
    (∃ d, owns (c : Thread nD τ) (st0_27 t) fullShare ((dats m 0 c).before 27 t d)) ∗
    (∃ d, owns (c : Thread nD τ) (st0_28 t) fullShare ((dats m 0 c).before 28 t d)) ∗
    (∃ d, owns (c : Thread nD τ) (st0_29 t) fullShare ((dats m 0 c).before 29 t d)) ∗
    (∃ d, owns (c : Thread nD τ) (st0_30 t) fullShare ((dats m 0 c).before 30 t d)) ∗
    (∃ d, owns (c : Thread nD τ) (st0_31 t) fullShare ((dats m 0 c).before 31 t d)) ∗
    (∃ d, owns (c : Thread nD τ) (st0_32 t) fullShare ((dats m 0 c).before 32 t d)) ∗
    (∃ d, owns (c : Thread nD τ) (st0_33 t) fullShare ((dats m 0 c).before 33 t d)) ∗
    (∃ d, owns (c : Thread nD τ) (st0_34 t) fullShare ((dats m 0 c).before 34 t d)) ∗
    (∃ d, owns (c : Thread nD τ) (st0_35 t) fullShare ((dats m 0 c).before 35 t d)) ∗
    (∃ d, owns (c : Thread nD τ) (st0_36 t) fullShare ((dats m 0 c).before 36 t d)) ∗
    (∃ d, owns (c : Thread nD τ) (st0_37 t) fullShare ((dats m 0 c).before 37 t d)) ∗
    (∃ d, owns (c : Thread nD τ) (st0_38 t) fullShare ((dats m 0 c).before 38 t d)) ∗
    (∃ d, owns (c : Thread nD τ) (st0_39 t) fullShare ((dats m 0 c).before 39 t d)) ∗
    (∃ d, owns (c : Thread nD τ) (st0_40 t) fullShare ((dats m 0 c).before 40 t d)) ∗
    (∃ d, owns (c : Thread nD τ) (st0_41 t) fullShare ((dats m 0 c).before 41 t d)) ∗
    (∃ d, owns (c : Thread nD τ) (st0_42 t) fullShare ((dats m 0 c).before 42 t d)) ∗
    (∃ d, owns (c : Thread nD τ) (st0_43 t) fullShare ((dats m 0 c).before 43 t d)) ∗
    (∃ d, owns (c : Thread nD τ) (st0_44 t) fullShare ((dats m 0 c).before 44 t d)) ∗
    (∃ d, owns (c : Thread nD τ) (st0_45 t) fullShare ((dats m 0 c).before 45 t d)) ∗
    (∃ d, owns (c : Thread nD τ) (st0_46 t) fullShare ((dats m 0 c).before 46 t d)) ∗
    (∃ d, owns (c : Thread nD τ) (st0_47 t) fullShare ((dats m 0 c).before 47 t d)) ∗
    (∃ d, owns (c : Thread nD τ) (st0_48 t) fullShare ((dats m 0 c).before 48 t d)) ∗
    (∃ d, owns (c : Thread nD τ) (st0_49 t) fullShare ((dats m 0 c).before 49 t d)) ∗
    (∃ d, owns (c : Thread nD τ) (st0_50 t) fullShare ((dats m 0 c).before 50 t d)) ∗
    (∃ d, owns (c : Thread nD τ) (st0_51 t) fullShare ((dats m 0 c).before 51 t d)) ∗
    (∃ d, owns (c : Thread nD τ) (st0_52 t) fullShare ((dats m 0 c).before 52 t d)) ∗
    (∃ d, owns (c : Thread nD τ) (st0_53 t) fullShare ((dats m 0 c).before 53 t d)) ∗
    (∃ d, owns (c : Thread nD τ) (st0_54 t) fullShare ((dats m 0 c).before 54 t d)) ∗
    (∃ d, owns (c : Thread nD τ) (st0_55 t) fullShare ((dats m 0 c).before 55 t d)) ∗
    (∃ d, owns (c : Thread nD τ) (st0_56 t) fullShare ((dats m 0 c).before 56 t d)) ∗
    (∃ d, owns (c : Thread nD τ) (st0_57 t) fullShare ((dats m 0 c).before 57 t d)) ∗
    (∃ d, owns (c : Thread nD τ) (st0_58 t) fullShare ((dats m 0 c).before 58 t d)) ∗
    (∃ d, owns (c : Thread nD τ) (st0_59 t) fullShare ((dats m 0 c).before 59 t d)) ∗
    (∃ d, owns (c : Thread nD τ) (st0_60 t) fullShare ((dats m 0 c).before 60 t d)) ∗
    (∃ d, owns (c : Thread nD τ) (st0_61 t) fullShare ((dats m 0 c).before 61 t d)) ∗
    (∃ d, owns (c : Thread nD τ) (st0_62 t) fullShare ((dats m 0 c).before 62 t d)) ∗
    (∃ d, owns (c : Thread nD τ) (st0_63 t) fullShare ((dats m 0 c).before 63 t d)) ∗
    (∃ d, owns (c : Thread nD τ) (st0_64 t) fullShare ((dats m 0 c).before 64 t d)) ∗
    (∃ d, owns (c : Thread nD τ) (st0_65 t) fullShare ((dats m 0 c).before 65 t d)) ∗
    (∃ d, owns (c : Thread nD τ) (st0_66 t) fullShare ((dats m 0 c).before 66 t d)) ∗
    (∃ d, owns (c : Thread nD τ) (st0_67 t) fullShare ((dats m 0 c).before 67 t d)) ∗
    (∃ d, owns (c : Thread nD τ) (st0_68 t) fullShare ((dats m 0 c).before 68 t d)) ∗
    (∃ d, owns (c : Thread nD τ) (st0_69 t) fullShare ((dats m 0 c).before 69 t d)) ∗
    (∃ d, owns (c : Thread nD τ) (st0_70 t) fullShare ((dats m 0 c).before 70 t d)) ∗
    (∃ d, owns (c : Thread nD τ) (st0_71 t) fullShare ((dats m 0 c).before 71 t d)) ∗
    (∃ d, owns (c : Thread nD τ) (st0_72 t) fullShare ((dats m 0 c).before 72 t d)) ∗
    (∃ d, owns (c : Thread nD τ) (st0_73 t) fullShare ((dats m 0 c).before 73 t d)) ∗
    (∃ d, owns (c : Thread nD τ) (st0_74 t) fullShare ((dats m 0 c).before 74 t d)) ∗
    (∃ d, owns (c : Thread nD τ) (st0_75 t) fullShare ((dats m 0 c).before 75 t d)) ∗
    (∃ d, owns (c : Thread nD τ) (st0_76 t) fullShare ((dats m 0 c).before 76 t d)) ∗
    (∃ d, owns (c : Thread nD τ) (st0_77 t) fullShare ((dats m 0 c).before 77 t d)) ∗
    (∃ d, owns (c : Thread nD τ) (st0_78 t) fullShare ((dats m 0 c).before 78 t d)) ∗
    (∃ d, owns (c : Thread nD τ) (st0_79 t) fullShare ((dats m 0 c).before 79 t d)) ∗
    (∃ d, owns (c : Thread nD τ) (st0_80 t) fullShare ((dats m 0 c).before 80 t d)) ∗
    (∃ d, owns (c : Thread nD τ) (st0_81 t) fullShare ((dats m 0 c).before 81 t d)) ∗
    (∃ d, owns (c : Thread nD τ) (st0_82 t) fullShare ((dats m 0 c).before 82 t d)) ∗
    (∃ d, owns (c : Thread nD τ) (st0_83 t) fullShare ((dats m 0 c).before 83 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗
    owns (c : Thread nD τ) (st0_1 t) fullShare ((dats m 0 c).after 1 t) ∗
    owns (c : Thread nD τ) (st0_2 t) fullShare ((dats m 0 c).after 2 t) ∗
    owns (c : Thread nD τ) (st0_3 t) fullShare ((dats m 0 c).after 3 t) ∗
    owns (c : Thread nD τ) (st0_4 t) fullShare ((dats m 0 c).after 4 t) ∗
    owns (c : Thread nD τ) (st0_5 t) fullShare ((dats m 0 c).after 5 t) ∗
    owns (c : Thread nD τ) (st0_6 t) fullShare ((dats m 0 c).after 6 t) ∗
    owns (c : Thread nD τ) (st0_7 t) fullShare ((dats m 0 c).after 7 t) ∗
    owns (c : Thread nD τ) (st0_8 t) fullShare ((dats m 0 c).after 8 t) ∗
    owns (c : Thread nD τ) (st0_9 t) fullShare ((dats m 0 c).after 9 t) ∗
    owns (c : Thread nD τ) (st0_10 t) fullShare ((dats m 0 c).after 10 t) ∗
    owns (c : Thread nD τ) (st0_11 t) fullShare ((dats m 0 c).after 11 t) ∗
    owns (c : Thread nD τ) (st0_12 t) fullShare ((dats m 0 c).after 12 t) ∗
    owns (c : Thread nD τ) (st0_13 t) fullShare ((dats m 0 c).after 13 t) ∗
    owns (c : Thread nD τ) (st0_14 t) fullShare ((dats m 0 c).after 14 t) ∗
    owns (c : Thread nD τ) (st0_15 t) fullShare ((dats m 0 c).after 15 t) ∗
    owns (c : Thread nD τ) (st0_16 t) fullShare ((dats m 0 c).after 16 t) ∗
    owns (c : Thread nD τ) (st0_17 t) fullShare ((dats m 0 c).after 17 t) ∗
    owns (c : Thread nD τ) (st0_18 t) fullShare ((dats m 0 c).after 18 t) ∗
    owns (c : Thread nD τ) (st0_19 t) fullShare ((dats m 0 c).after 19 t) ∗
    owns (c : Thread nD τ) (st0_20 t) fullShare ((dats m 0 c).after 20 t) ∗
    owns (c : Thread nD τ) (st0_21 t) fullShare ((dats m 0 c).after 21 t) ∗
    owns (c : Thread nD τ) (st0_22 t) fullShare ((dats m 0 c).after 22 t) ∗
    owns (c : Thread nD τ) (st0_23 t) fullShare ((dats m 0 c).after 23 t) ∗
    owns (c : Thread nD τ) (st0_24 t) fullShare ((dats m 0 c).after 24 t) ∗
    owns (c : Thread nD τ) (st0_25 t) fullShare ((dats m 0 c).after 25 t) ∗
    owns (c : Thread nD τ) (st0_26 t) fullShare ((dats m 0 c).after 26 t) ∗
    owns (c : Thread nD τ) (st0_27 t) fullShare ((dats m 0 c).after 27 t) ∗
    owns (c : Thread nD τ) (st0_28 t) fullShare ((dats m 0 c).after 28 t) ∗
    owns (c : Thread nD τ) (st0_29 t) fullShare ((dats m 0 c).after 29 t) ∗
    owns (c : Thread nD τ) (st0_30 t) fullShare ((dats m 0 c).after 30 t) ∗
    owns (c : Thread nD τ) (st0_31 t) fullShare ((dats m 0 c).after 31 t) ∗
    owns (c : Thread nD τ) (st0_32 t) fullShare ((dats m 0 c).after 32 t) ∗
    owns (c : Thread nD τ) (st0_33 t) fullShare ((dats m 0 c).after 33 t) ∗
    owns (c : Thread nD τ) (st0_34 t) fullShare ((dats m 0 c).after 34 t) ∗
    owns (c : Thread nD τ) (st0_35 t) fullShare ((dats m 0 c).after 35 t) ∗
    owns (c : Thread nD τ) (st0_36 t) fullShare ((dats m 0 c).after 36 t) ∗
    owns (c : Thread nD τ) (st0_37 t) fullShare ((dats m 0 c).after 37 t) ∗
    owns (c : Thread nD τ) (st0_38 t) fullShare ((dats m 0 c).after 38 t) ∗
    owns (c : Thread nD τ) (st0_39 t) fullShare ((dats m 0 c).after 39 t) ∗
    owns (c : Thread nD τ) (st0_40 t) fullShare ((dats m 0 c).after 40 t) ∗
    owns (c : Thread nD τ) (st0_41 t) fullShare ((dats m 0 c).after 41 t) ∗
    owns (c : Thread nD τ) (st0_42 t) fullShare ((dats m 0 c).after 42 t) ∗
    owns (c : Thread nD τ) (st0_43 t) fullShare ((dats m 0 c).after 43 t) ∗
    owns (c : Thread nD τ) (st0_44 t) fullShare ((dats m 0 c).after 44 t) ∗
    owns (c : Thread nD τ) (st0_45 t) fullShare ((dats m 0 c).after 45 t) ∗
    owns (c : Thread nD τ) (st0_46 t) fullShare ((dats m 0 c).after 46 t) ∗
    owns (c : Thread nD τ) (st0_47 t) fullShare ((dats m 0 c).after 47 t) ∗
    owns (c : Thread nD τ) (st0_48 t) fullShare ((dats m 0 c).after 48 t) ∗
    owns (c : Thread nD τ) (st0_49 t) fullShare ((dats m 0 c).after 49 t) ∗
    owns (c : Thread nD τ) (st0_50 t) fullShare ((dats m 0 c).after 50 t) ∗
    owns (c : Thread nD τ) (st0_51 t) fullShare ((dats m 0 c).after 51 t) ∗
    owns (c : Thread nD τ) (st0_52 t) fullShare ((dats m 0 c).after 52 t) ∗
    owns (c : Thread nD τ) (st0_53 t) fullShare ((dats m 0 c).after 53 t) ∗
    owns (c : Thread nD τ) (st0_54 t) fullShare ((dats m 0 c).after 54 t) ∗
    owns (c : Thread nD τ) (st0_55 t) fullShare ((dats m 0 c).after 55 t) ∗
    owns (c : Thread nD τ) (st0_56 t) fullShare ((dats m 0 c).after 56 t) ∗
    owns (c : Thread nD τ) (st0_57 t) fullShare ((dats m 0 c).after 57 t) ∗
    owns (c : Thread nD τ) (st0_58 t) fullShare ((dats m 0 c).after 58 t) ∗
    owns (c : Thread nD τ) (st0_59 t) fullShare ((dats m 0 c).after 59 t) ∗
    owns (c : Thread nD τ) (st0_60 t) fullShare ((dats m 0 c).after 60 t) ∗
    owns (c : Thread nD τ) (st0_61 t) fullShare ((dats m 0 c).after 61 t) ∗
    owns (c : Thread nD τ) (st0_62 t) fullShare ((dats m 0 c).after 62 t) ∗
    owns (c : Thread nD τ) (st0_63 t) fullShare ((dats m 0 c).after 63 t) ∗
    owns (c : Thread nD τ) (st0_64 t) fullShare ((dats m 0 c).after 64 t) ∗
    owns (c : Thread nD τ) (st0_65 t) fullShare ((dats m 0 c).after 65 t) ∗
    owns (c : Thread nD τ) (st0_66 t) fullShare ((dats m 0 c).after 66 t) ∗
    owns (c : Thread nD τ) (st0_67 t) fullShare ((dats m 0 c).after 67 t) ∗
    owns (c : Thread nD τ) (st0_68 t) fullShare ((dats m 0 c).after 68 t) ∗
    owns (c : Thread nD τ) (st0_69 t) fullShare ((dats m 0 c).after 69 t) ∗
    owns (c : Thread nD τ) (st0_70 t) fullShare ((dats m 0 c).after 70 t) ∗
    owns (c : Thread nD τ) (st0_71 t) fullShare ((dats m 0 c).after 71 t) ∗
    owns (c : Thread nD τ) (st0_72 t) fullShare ((dats m 0 c).after 72 t) ∗
    owns (c : Thread nD τ) (st0_73 t) fullShare ((dats m 0 c).after 73 t) ∗
    owns (c : Thread nD τ) (st0_74 t) fullShare ((dats m 0 c).after 74 t) ∗
    owns (c : Thread nD τ) (st0_75 t) fullShare ((dats m 0 c).after 75 t) ∗
    owns (c : Thread nD τ) (st0_76 t) fullShare ((dats m 0 c).after 76 t) ∗
    owns (c : Thread nD τ) (st0_77 t) fullShare ((dats m 0 c).after 77 t) ∗
    owns (c : Thread nD τ) (st0_78 t) fullShare ((dats m 0 c).after 78 t) ∗
    owns (c : Thread nD τ) (st0_79 t) fullShare ((dats m 0 c).after 79 t) ∗
    owns (c : Thread nD τ) (st0_80 t) fullShare ((dats m 0 c).after 80 t) ∗
    owns (c : Thread nD τ) (st0_81 t) fullShare ((dats m 0 c).after 81 t) ∗
    owns (c : Thread nD τ) (st0_82 t) fullShare ((dats m 0 c).after 82 t) ∗
    owns (c : Thread nD τ) (st0_83 t) fullShare ((dats m 0 c).after 83 t))

set_option maxHeartbeats 20000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11,
    before_12, before_13, before_14, before_15, before_16, before_17, before_18, before_19, before_20, before_21, before_22,
    before_23, before_24, before_25, before_26, before_27, before_28, before_29, before_30, before_31, before_32, before_33,
    before_34, before_35, before_36, before_37, before_38, before_39, before_40, before_41, before_42, before_43, before_44,
    before_45, before_46, before_47]
  rw [show (dats m 0 c).Φ t.succ = (dats m 0 c).Φ t.castSucc from rfl,
    show (dats m 0 c).owesAt () t.succ = (dats m 0 c).owesAt () t.castSucc from rfl]
  simp only [after_0, after_1, after_2, after_3, after_4, after_5, after_6, after_7, after_8, after_9, after_10, after_11, after_12, after_13,
    after_14, after_15, after_16, after_17, after_18, after_19, after_20, after_21, after_22, after_23, after_24, after_25, after_26,
    after_27, after_28, after_29, after_30, after_31, after_32, after_33, after_34, after_35, after_36, after_37, after_38, after_39,
    after_40, after_41, after_42, after_43, after_44, after_45, after_46, after_47, after_48, after_49, after_50, after_51, after_52,
    after_53, after_54, after_55, after_56, after_57, after_58, after_59, after_60, after_61, after_62, after_63, after_64, after_65,
    after_66, after_67, after_68, after_69, after_70, after_71, after_72, after_73, after_74, after_75, after_76, after_77, after_78,
    after_79, after_80, after_81, after_82, after_83]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
    ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩,
    ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩,
    ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩,
    ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩,
    ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩,
    ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩, ⟨%d79, H79⟩,
    ⟨%d80, H80⟩, ⟨%d81, H81⟩, ⟨%d82, H82⟩, ⟨%d83, H83⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) (iblk m c 18 t) (iblk m c 19 t) (iblk m c 20 t) (iblk m c 21 t) (iblk m c 22 t) (iblk m c 23 t)
    (iblk m c 24 t) (iblk m c 25 t) (iblk m c 26 t) (iblk m c 27 t) (iblk m c 28 t) (iblk m c 29 t) (iblk m c 30 t) (iblk m c 31 t)
    (iblk m c 32 t) (iblk m c 33 t) (iblk m c 34 t) (iblk m c 35 t) (iblk m c 36 t) (iblk m c 37 t) (iblk m c 38 t) (iblk m c 39 t)
    (iblk m c 40 t) (iblk m c 41 t) (iblk m c 42 t) (iblk m c 43 t) (iblk m c 44 t) (iblk m c 45 t) (iblk m c 46 t) (iblk m c 47 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  isplitl [H80]; · iexists _; iexact H80
  isplitl [H81]; · iexists _; iexact H81
  isplitl [H82]; · iexists _; iexact H82
  isplitl [H83]; · iexists _; iexact H83
  iintro ⟨H0, H1, H2, H3, H4, H5, H6, H7, H8, H9, H10, H11, H12, H13, H14, H15, H16, H17, H18, H19, H20, H21, H22, H23, H24, H25, H26, H27,
    H28, H29, H30, H31, H32, H33, H34, H35, H36, H37, H38, H39, H40, H41, H42, H43, H44, H45, H46, H47, H48, H49, H50, H51, H52, H53,
    H54, H55, H56, H57, H58, H59, H60, H61, H62, H63, H64, H65, H66, H67, H68, H69, H70, H71, H72, H73, H74, H75, H76, H77, H78, H79,
    H80, H81, H82, H83⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H80]; · iexact H80
  isplitl [H81]; · iexact H81
  isplitl [H82]; · iexact H82
  iexact H83

theorem row_eq (t : Fin cfg0.N) : defs₀ (F := F) .tc cfg0.body (cfg0.bodyArgs t (cfg0.slots t)) = bodyAt0 t := by
  unfold defs₀; rw [Defs.onTc_tc]

set_option maxHeartbeats 20000000 in
/-- The body, as the pipeline asks for it. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 3200000 in
/-- The run, with every array at what the pipeline computes and every counter at zero. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument's array at the end is the one at the launch. -/
theorem kept (c : Dev nD) (w : Fin cfg0.W) (hw : (cfg0.win w).isOut = false) :
    (dats m 0 c).arrAt w (cfg0).N = V m c (Pipeline.arrRef spec0 w) :=
  ((dats m 0 c).arrAt_in w hw _).trans (A_eq m c w)

end Cert.AdamIdeal.Own

end
-- ==== Proof.Adam.Frames.lean ====
/- `adam`: the idealized kernel keeps its arguments. Hand-written, untrusted. -/
module

public import proofs.«01_k».proof.Defs
public import proofs.«01_k».proof.Proof.Adam.Run
public import Idealize.ShloMosaic.Lib.Claim

@[expose] public section

set_option maxRecDepth 16384

noncomputable section

open Idealize.ShloMosaic Idealize.ShloMosaic.TcCoe Idealize.SL.Sem

namespace Cert.Proof.AdamClaim

open Cert.AdamIdeal Cert.AdamIdeal.Own Cert.AdamIdeal.Gen

local instance : Cert.AdamIdeal.Facts := Cert.AdamIdeal.Gen.facts

section
variable {F : FTy → Type} [FloatOps F] (m : (ℓ : Loc nD τ sig) → Buf (Elt F) ℓ)

/-- An argument's array at the end of the run. -/
theorem stays {r : PUnit × MemSt nD τ sig (Elt F)} (h : Pipeline.FramePost cfgs (dats m) 0 (V m) r) (c : Dev nD) (w : Fin cfg0.W)
    (hw : (cfg0.win w).isOut = false) :
    r.2.mem (((cfgs 0).spec w).arr.view.loc (c.tc : Thread nD τ)) = V m c (Pipeline.arrRef spec0 w) :=
  ((h c).1 w).trans (kept m c w hw)

end

set_option maxHeartbeats 4000000 in
/-- The idealized kernel's frame. -/
theorem frame_ideal : Cert.quiescent_AdamIdeal := fun m ρ _ =>
  (θ_run defs _ _).mono (fun r h => ⟨fun c =>
      ⟨stays m h.1 c 0 rfl, stays m h.1 c 1 rfl, stays m h.1 c 2 rfl, stays m h.1 c 3 rfl, stays m h.1 c 4 rfl,
        stays m h.1 c 5 rfl, stays m h.1 c 6 rfl, stays m h.1 c 7 rfl, stays m h.1 c 8 rfl, stays m h.1 c 9 rfl,
        stays m h.1 c 10 rfl, stays m h.1 c 11 rfl, stays m h.1 c 12 rfl, stays m h.1 c 13 rfl, stays m h.1 c 14 rfl,
        stays m h.1 c 15 rfl, stays m h.1 c 16 rfl, stays m h.1 c 17 rfl, stays m h.1 c 18 rfl, stays m h.1 c 19 rfl,
        stays m h.1 c 20 rfl, stays m h.1 c 21 rfl, stays m h.1 c 22 rfl, stays m h.1 c 23 rfl, stays m h.1 c 24 rfl,
        stays m h.1 c 25 rfl, stays m h.1 c 26 rfl, stays m h.1 c 27 rfl, stays m h.1 c 28 rfl, stays m h.1 c 29 rfl,
        stays m h.1 c 30 rfl, stays m h.1 c 31 rfl, stays m h.1 c 32 rfl, stays m h.1 c 33 rfl, stays m h.1 c 34 rfl,
        stays m h.1 c 35 rfl, stays m h.1 c 36 rfl, stays m h.1 c 37 rfl, stays m h.1 c 38 rfl, stays m h.1 c 39 rfl,
        stays m h.1 c 40 rfl, stays m h.1 c 41 rfl, stays m h.1 c 42 rfl, stays m h.1 c 43 rfl, stays m h.1 c 44 rfl,
        stays m h.1 c 45 rfl, stays m h.1 c 46 rfl, stays m h.1 c 47 rfl⟩, h.2⟩)
    (run (F := Ideal) m ρ)

end Cert.Proof.AdamClaim

end
-- ==== Proof.Adam.Result.lean ====
/- What the result arrays of `adam` hold at the end: the step of the arguments. Hand-written, untrusted. -/
module

public import proofs.«01_k».proof.Proof.Adam.Run
public import Idealize.ShloMosaic.Lib.Pipeline.ValueKit

@[expose] public section

set_option maxRecDepth 16384

noncomputable section

namespace Cert.AdamIdeal.Own

open Cert.AdamIdeal Cert.AdamIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ)

/-- Every window's one block is at the start of its array. -/
theorem at_start (w : Fin cfg0.W) : ∀ t a, (cfg0.win w).index t a = 0 := by
  revert w; decide +kernel

/-- So a place in the block is the same place in the array. -/
theorem same (w : Fin cfg0.W) (t : Fin cfg0.N) (y) (a) : (((cfg0.win w).rect t).emb y a : Nat) = y a :=
  Window.rect_emb_val_of_index_zero (cfg0.win w) t a (at_start w t a) y

/-! An argument's block is the argument. -/

theorem blk_0 (c : Dev nD) (t : Fin cfg0.N) : iblk m c 0 t = m ((c : Thread nD τ).loc main_arg0) :=
  funext fun y => congrArg (V m c main_arg0) (funext fun a => Fin.ext (same 0 t y a))
theorem blk_1 (c : Dev nD) (t : Fin cfg0.N) : iblk m c 1 t = m ((c : Thread nD τ).loc main_arg1) :=
  funext fun y => congrArg (V m c main_arg1) (funext fun a => Fin.ext (same 1 t y a))
theorem blk_2 (c : Dev nD) (t : Fin cfg0.N) : iblk m c 2 t = m ((c : Thread nD τ).loc main_arg2) :=
  funext fun y => congrArg (V m c main_arg2) (funext fun a => Fin.ext (same 2 t y a))
theorem blk_3 (c : Dev nD) (t : Fin cfg0.N) : iblk m c 3 t = m ((c : Thread nD τ).loc main_arg3) :=
  funext fun y => congrArg (V m c main_arg3) (funext fun a => Fin.ext (same 3 t y a))
theorem blk_4 (c : Dev nD) (t : Fin cfg0.N) : iblk m c 4 t = m ((c : Thread nD τ).loc main_arg4) :=
  funext fun y => congrArg (V m c main_arg4) (funext fun a => Fin.ext (same 4 t y a))
theorem blk_5 (c : Dev nD) (t : Fin cfg0.N) : iblk m c 5 t = m ((c : Thread nD τ).loc main_arg5) :=
  funext fun y => congrArg (V m c main_arg5) (funext fun a => Fin.ext (same 5 t y a))
theorem blk_6 (c : Dev nD) (t : Fin cfg0.N) : iblk m c 6 t = m ((c : Thread nD τ).loc main_arg6) :=
  funext fun y => congrArg (V m c main_arg6) (funext fun a => Fin.ext (same 6 t y a))
theorem blk_7 (c : Dev nD) (t : Fin cfg0.N) : iblk m c 7 t = m ((c : Thread nD τ).loc main_arg7) :=
  funext fun y => congrArg (V m c main_arg7) (funext fun a => Fin.ext (same 7 t y a))
theorem blk_8 (c : Dev nD) (t : Fin cfg0.N) : iblk m c 8 t = m ((c : Thread nD τ).loc main_arg8) :=
  funext fun y => congrArg (V m c main_arg8) (funext fun a => Fin.ext (same 8 t y a))
theorem blk_9 (c : Dev nD) (t : Fin cfg0.N) : iblk m c 9 t = m ((c : Thread nD τ).loc main_arg9) :=
  funext fun y => congrArg (V m c main_arg9) (funext fun a => Fin.ext (same 9 t y a))
theorem blk_10 (c : Dev nD) (t : Fin cfg0.N) : iblk m c 10 t = m ((c : Thread nD τ).loc main_arg10) :=
  funext fun y => congrArg (V m c main_arg10) (funext fun a => Fin.ext (same 10 t y a))
theorem blk_11 (c : Dev nD) (t : Fin cfg0.N) : iblk m c 11 t = m ((c : Thread nD τ).loc main_arg11) :=
  funext fun y => congrArg (V m c main_arg11) (funext fun a => Fin.ext (same 11 t y a))
theorem blk_12 (c : Dev nD) (t : Fin cfg0.N) : iblk m c 12 t = m ((c : Thread nD τ).loc main_arg12) :=
  funext fun y => congrArg (V m c main_arg12) (funext fun a => Fin.ext (same 12 t y a))
theorem blk_13 (c : Dev nD) (t : Fin cfg0.N) : iblk m c 13 t = m ((c : Thread nD τ).loc main_arg13) :=
  funext fun y => congrArg (V m c main_arg13) (funext fun a => Fin.ext (same 13 t y a))
theorem blk_14 (c : Dev nD) (t : Fin cfg0.N) : iblk m c 14 t = m ((c : Thread nD τ).loc main_arg14) :=
  funext fun y => congrArg (V m c main_arg14) (funext fun a => Fin.ext (same 14 t y a))
theorem blk_15 (c : Dev nD) (t : Fin cfg0.N) : iblk m c 15 t = m ((c : Thread nD τ).loc main_arg15) :=
  funext fun y => congrArg (V m c main_arg15) (funext fun a => Fin.ext (same 15 t y a))
theorem blk_16 (c : Dev nD) (t : Fin cfg0.N) : iblk m c 16 t = m ((c : Thread nD τ).loc main_arg16) :=
  funext fun y => congrArg (V m c main_arg16) (funext fun a => Fin.ext (same 16 t y a))
theorem blk_17 (c : Dev nD) (t : Fin cfg0.N) : iblk m c 17 t = m ((c : Thread nD τ).loc main_arg17) :=
  funext fun y => congrArg (V m c main_arg17) (funext fun a => Fin.ext (same 17 t y a))
theorem blk_18 (c : Dev nD) (t : Fin cfg0.N) : iblk m c 18 t = m ((c : Thread nD τ).loc main_arg18) :=
  funext fun y => congrArg (V m c main_arg18) (funext fun a => Fin.ext (same 18 t y a))
theorem blk_19 (c : Dev nD) (t : Fin cfg0.N) : iblk m c 19 t = m ((c : Thread nD τ).loc main_arg19) :=
  funext fun y => congrArg (V m c main_arg19) (funext fun a => Fin.ext (same 19 t y a))
theorem blk_20 (c : Dev nD) (t : Fin cfg0.N) : iblk m c 20 t = m ((c : Thread nD τ).loc main_arg20) :=
  funext fun y => congrArg (V m c main_arg20) (funext fun a => Fin.ext (same 20 t y a))
theorem blk_21 (c : Dev nD) (t : Fin cfg0.N) : iblk m c 21 t = m ((c : Thread nD τ).loc main_arg21) :=
  funext fun y => congrArg (V m c main_arg21) (funext fun a => Fin.ext (same 21 t y a))
theorem blk_22 (c : Dev nD) (t : Fin cfg0.N) : iblk m c 22 t = m ((c : Thread nD τ).loc main_arg22) :=
  funext fun y => congrArg (V m c main_arg22) (funext fun a => Fin.ext (same 22 t y a))
theorem blk_23 (c : Dev nD) (t : Fin cfg0.N) : iblk m c 23 t = m ((c : Thread nD τ).loc main_arg23) :=
  funext fun y => congrArg (V m c main_arg23) (funext fun a => Fin.ext (same 23 t y a))
theorem blk_24 (c : Dev nD) (t : Fin cfg0.N) : iblk m c 24 t = m ((c : Thread nD τ).loc main_arg24) :=
  funext fun y => congrArg (V m c main_arg24) (funext fun a => Fin.ext (same 24 t y a))
theorem blk_25 (c : Dev nD) (t : Fin cfg0.N) : iblk m c 25 t = m ((c : Thread nD τ).loc main_arg25) :=
  funext fun y => congrArg (V m c main_arg25) (funext fun a => Fin.ext (same 25 t y a))
theorem blk_26 (c : Dev nD) (t : Fin cfg0.N) : iblk m c 26 t = m ((c : Thread nD τ).loc main_arg26) :=
  funext fun y => congrArg (V m c main_arg26) (funext fun a => Fin.ext (same 26 t y a))
theorem blk_27 (c : Dev nD) (t : Fin cfg0.N) : iblk m c 27 t = m ((c : Thread nD τ).loc main_arg27) :=
  funext fun y => congrArg (V m c main_arg27) (funext fun a => Fin.ext (same 27 t y a))
theorem blk_28 (c : Dev nD) (t : Fin cfg0.N) : iblk m c 28 t = m ((c : Thread nD τ).loc main_arg28) :=
  funext fun y => congrArg (V m c main_arg28) (funext fun a => Fin.ext (same 28 t y a))
theorem blk_29 (c : Dev nD) (t : Fin cfg0.N) : iblk m c 29 t = m ((c : Thread nD τ).loc main_arg29) :=
  funext fun y => congrArg (V m c main_arg29) (funext fun a => Fin.ext (same 29 t y a))
theorem blk_30 (c : Dev nD) (t : Fin cfg0.N) : iblk m c 30 t = m ((c : Thread nD τ).loc main_arg30) :=
  funext fun y => congrArg (V m c main_arg30) (funext fun a => Fin.ext (same 30 t y a))
theorem blk_31 (c : Dev nD) (t : Fin cfg0.N) : iblk m c 31 t = m ((c : Thread nD τ).loc main_arg31) :=
  funext fun y => congrArg (V m c main_arg31) (funext fun a => Fin.ext (same 31 t y a))
theorem blk_32 (c : Dev nD) (t : Fin cfg0.N) : iblk m c 32 t = m ((c : Thread nD τ).loc main_arg32) :=
  funext fun y => congrArg (V m c main_arg32) (funext fun a => Fin.ext (same 32 t y a))
theorem blk_33 (c : Dev nD) (t : Fin cfg0.N) : iblk m c 33 t = m ((c : Thread nD τ).loc main_arg33) :=
  funext fun y => congrArg (V m c main_arg33) (funext fun a => Fin.ext (same 33 t y a))
theorem blk_34 (c : Dev nD) (t : Fin cfg0.N) : iblk m c 34 t = m ((c : Thread nD τ).loc main_arg34) :=
  funext fun y => congrArg (V m c main_arg34) (funext fun a => Fin.ext (same 34 t y a))
theorem blk_35 (c : Dev nD) (t : Fin cfg0.N) : iblk m c 35 t = m ((c : Thread nD τ).loc main_arg35) :=
  funext fun y => congrArg (V m c main_arg35) (funext fun a => Fin.ext (same 35 t y a))
theorem blk_36 (c : Dev nD) (t : Fin cfg0.N) : iblk m c 36 t = m ((c : Thread nD τ).loc main_arg36) :=
  funext fun y => congrArg (V m c main_arg36) (funext fun a => Fin.ext (same 36 t y a))
theorem blk_37 (c : Dev nD) (t : Fin cfg0.N) : iblk m c 37 t = m ((c : Thread nD τ).loc main_arg37) :=
  funext fun y => congrArg (V m c main_arg37) (funext fun a => Fin.ext (same 37 t y a))
theorem blk_38 (c : Dev nD) (t : Fin cfg0.N) : iblk m c 38 t = m ((c : Thread nD τ).loc main_arg38) :=
  funext fun y => congrArg (V m c main_arg38) (funext fun a => Fin.ext (same 38 t y a))
theorem blk_39 (c : Dev nD) (t : Fin cfg0.N) : iblk m c 39 t = m ((c : Thread nD τ).loc main_arg39) :=
  funext fun y => congrArg (V m c main_arg39) (funext fun a => Fin.ext (same 39 t y a))
theorem blk_40 (c : Dev nD) (t : Fin cfg0.N) : iblk m c 40 t = m ((c : Thread nD τ).loc main_arg40) :=
  funext fun y => congrArg (V m c main_arg40) (funext fun a => Fin.ext (same 40 t y a))
theorem blk_41 (c : Dev nD) (t : Fin cfg0.N) : iblk m c 41 t = m ((c : Thread nD τ).loc main_arg41) :=
  funext fun y => congrArg (V m c main_arg41) (funext fun a => Fin.ext (same 41 t y a))
theorem blk_42 (c : Dev nD) (t : Fin cfg0.N) : iblk m c 42 t = m ((c : Thread nD τ).loc main_arg42) :=
  funext fun y => congrArg (V m c main_arg42) (funext fun a => Fin.ext (same 42 t y a))
theorem blk_43 (c : Dev nD) (t : Fin cfg0.N) : iblk m c 43 t = m ((c : Thread nD τ).loc main_arg43) :=
  funext fun y => congrArg (V m c main_arg43) (funext fun a => Fin.ext (same 43 t y a))
theorem blk_44 (c : Dev nD) (t : Fin cfg0.N) : iblk m c 44 t = m ((c : Thread nD τ).loc main_arg44) :=
  funext fun y => congrArg (V m c main_arg44) (funext fun a => Fin.ext (same 44 t y a))
theorem blk_45 (c : Dev nD) (t : Fin cfg0.N) : iblk m c 45 t = m ((c : Thread nD τ).loc main_arg45) :=
  funext fun y => congrArg (V m c main_arg45) (funext fun a => Fin.ext (same 45 t y a))
theorem blk_46 (c : Dev nD) (t : Fin cfg0.N) : iblk m c 46 t = m ((c : Thread nD τ).loc main_arg46) :=
  funext fun y => congrArg (V m c main_arg46) (funext fun a => Fin.ext (same 46 t y a))
theorem blk_47 (c : Dev nD) (t : Fin cfg0.N) : iblk m c 47 t = m ((c : Thread nD τ).loc main_arg47) :=
  funext fun y => congrArg (V m c main_arg47) (funext fun a => Fin.ext (same 47 t y a))

/-! A result is the step of its four arguments. -/

theorem final_48 (c : Dev nD) : (dats m 0 c).arrAt 48 cfg0.N
    = delta (S := S1024x384) (m ((c : Thread nD τ).loc main_arg0)) (m ((c : Thread nD τ).loc main_arg12)) (m ((c : Thread nD τ).loc main_arg24)) (m ((c : Thread nD τ).loc main_arg36)) := by
  refine (dats m 0 c).arrAt_eq_of_covers 48 _ (by decide +kernel) fun t _ y => ?_
  have e := after_48 m c t
  rw [outD_eq corner, blk_0, blk_12, blk_24, blk_36] at e
  exact (congrFun e _).trans (congrArg _ (funext fun a => Fin.ext (same 48 t y a).symm))

theorem final_49 (c : Dev nD) : (dats m 0 c).arrAt 49 cfg0.N
    = delta (S := S1x3072) (m ((c : Thread nD τ).loc main_arg1)) (m ((c : Thread nD τ).loc main_arg13)) (m ((c : Thread nD τ).loc main_arg25)) (m ((c : Thread nD τ).loc main_arg37)) := by
  refine (dats m 0 c).arrAt_eq_of_covers 49 _ (by decide +kernel) fun t _ y => ?_
  have e := after_49 m c t
  rw [outD_eq corner, blk_1, blk_13, blk_25, blk_37] at e
  exact (congrFun e _).trans (congrArg _ (funext fun a => Fin.ext (same 49 t y a).symm))

theorem final_50 (c : Dev nD) : (dats m 0 c).arrAt 50 cfg0.N
    = delta (S := S1x1024) (m ((c : Thread nD τ).loc main_arg2)) (m ((c : Thread nD τ).loc main_arg14)) (m ((c : Thread nD τ).loc main_arg26)) (m ((c : Thread nD τ).loc main_arg38)) := by
  refine (dats m 0 c).arrAt_eq_of_covers 50 _ (by decide +kernel) fun t _ y => ?_
  have e := after_50 m c t
  rw [outD_eq corner, blk_2, blk_14, blk_26, blk_38] at e
  exact (congrFun e _).trans (congrArg _ (funext fun a => Fin.ext (same 50 t y a).symm))

theorem final_51 (c : Dev nD) : (dats m 0 c).arrAt 51 cfg0.N
    = delta (S := S1024x352) (m ((c : Thread nD τ).loc main_arg3)) (m ((c : Thread nD τ).loc main_arg15)) (m ((c : Thread nD τ).loc main_arg27)) (m ((c : Thread nD τ).loc main_arg39)) := by
  refine (dats m 0 c).arrAt_eq_of_covers 51 _ (by decide +kernel) fun t _ y => ?_
  have e := after_51 m c t
  rw [outD_eq corner, blk_3, blk_15, blk_27, blk_39] at e
  exact (congrFun e _).trans (congrArg _ (funext fun a => Fin.ext (same 51 t y a).symm))

theorem final_52 (c : Dev nD) : (dats m 0 c).arrAt 52 cfg0.N
    = delta (S := S1x64) (m ((c : Thread nD τ).loc main_arg4)) (m ((c : Thread nD τ).loc main_arg16)) (m ((c : Thread nD τ).loc main_arg28)) (m ((c : Thread nD τ).loc main_arg40)) := by
  refine (dats m 0 c).arrAt_eq_of_covers 52 _ (by decide +kernel) fun t _ y => ?_
  have e := after_52 m c t
  rw [outD_eq corner, blk_4, blk_16, blk_28, blk_40] at e
  exact (congrFun e _).trans (congrArg _ (funext fun a => Fin.ext (same 52 t y a).symm))

theorem final_53 (c : Dev nD) : (dats m 0 c).arrAt 53 cfg0.N
    = delta (S := S1x64) (m ((c : Thread nD τ).loc main_arg5)) (m ((c : Thread nD τ).loc main_arg17)) (m ((c : Thread nD τ).loc main_arg29)) (m ((c : Thread nD τ).loc main_arg41)) := by
  refine (dats m 0 c).arrAt_eq_of_covers 53 _ (by decide +kernel) fun t _ y => ?_
  have e := after_53 m c t
  rw [outD_eq corner, blk_5, blk_17, blk_29, blk_41] at e
  exact (congrFun e _).trans (congrArg _ (funext fun a => Fin.ext (same 53 t y a).symm))

theorem final_54 (c : Dev nD) : (dats m 0 c).arrAt 54 cfg0.N
    = delta (S := S1x8) (m ((c : Thread nD τ).loc main_arg6)) (m ((c : Thread nD τ).loc main_arg18)) (m ((c : Thread nD τ).loc main_arg30)) (m ((c : Thread nD τ).loc main_arg42)) := by
  refine (dats m 0 c).arrAt_eq_of_covers 54 _ (by decide +kernel) fun t _ y => ?_
  have e := after_54 m c t
  rw [outD_eq corner, blk_6, blk_18, blk_30, blk_42] at e
  exact (congrFun e _).trans (congrArg _ (funext fun a => Fin.ext (same 54 t y a).symm))

theorem final_55 (c : Dev nD) : (dats m 0 c).arrAt 55 cfg0.N
    = delta (S := S31x64) (m ((c : Thread nD τ).loc main_arg7)) (m ((c : Thread nD τ).loc main_arg19)) (m ((c : Thread nD τ).loc main_arg31)) (m ((c : Thread nD τ).loc main_arg43)) := by
  refine (dats m 0 c).arrAt_eq_of_covers 55 _ (by decide +kernel) fun t _ y => ?_
  have e := after_55 m c t
  rw [outD_eq corner, blk_7, blk_19, blk_31, blk_43] at e
  exact (congrFun e _).trans (congrArg _ (funext fun a => Fin.ext (same 55 t y a).symm))

theorem final_56 (c : Dev nD) : (dats m 0 c).arrAt 56 cfg0.N
    = delta (S := S1x512) (m ((c : Thread nD τ).loc main_arg8)) (m ((c : Thread nD τ).loc main_arg20)) (m ((c : Thread nD τ).loc main_arg32)) (m ((c : Thread nD τ).loc main_arg44)) := by
  refine (dats m 0 c).arrAt_eq_of_covers 56 _ (by decide +kernel) fun t _ y => ?_
  have e := after_56 m c t
  rw [outD_eq corner, blk_8, blk_20, blk_32, blk_44] at e
  exact (congrFun e _).trans (congrArg _ (funext fun a => Fin.ext (same 56 t y a).symm))

theorem final_57 (c : Dev nD) : (dats m 0 c).arrAt 57 cfg0.N
    = delta (S := S1x512) (m ((c : Thread nD τ).loc main_arg9)) (m ((c : Thread nD τ).loc main_arg21)) (m ((c : Thread nD τ).loc main_arg33)) (m ((c : Thread nD τ).loc main_arg45)) := by
  refine (dats m 0 c).arrAt_eq_of_covers 57 _ (by decide +kernel) fun t _ y => ?_
  have e := after_57 m c t
  rw [outD_eq corner, blk_9, blk_21, blk_33, blk_45] at e
  exact (congrFun e _).trans (congrArg _ (funext fun a => Fin.ext (same 57 t y a).symm))

theorem final_58 (c : Dev nD) : (dats m 0 c).arrAt 58 cfg0.N
    = delta (S := S1x512) (m ((c : Thread nD τ).loc main_arg10)) (m ((c : Thread nD τ).loc main_arg22)) (m ((c : Thread nD τ).loc main_arg34)) (m ((c : Thread nD τ).loc main_arg46)) := by
  refine (dats m 0 c).arrAt_eq_of_covers 58 _ (by decide +kernel) fun t _ y => ?_
  have e := after_58 m c t
  rw [outD_eq corner, blk_10, blk_22, blk_34, blk_46] at e
  exact (congrFun e _).trans (congrArg _ (funext fun a => Fin.ext (same 58 t y a).symm))

theorem final_59 (c : Dev nD) : (dats m 0 c).arrAt 59 cfg0.N
    = delta (S := S128x1024) (m ((c : Thread nD τ).loc main_arg11)) (m ((c : Thread nD τ).loc main_arg23)) (m ((c : Thread nD τ).loc main_arg35)) (m ((c : Thread nD τ).loc main_arg47)) := by
  refine (dats m 0 c).arrAt_eq_of_covers 59 _ (by decide +kernel) fun t _ y => ?_
  have e := after_59 m c t
  rw [outD_eq corner, blk_11, blk_23, blk_35, blk_47] at e
  exact (congrFun e _).trans (congrArg _ (funext fun a => Fin.ext (same 59 t y a).symm))

theorem final_60 (c : Dev nD) : (dats m 0 c).arrAt 60 cfg0.N
    = mNew (S := S1024x384) (m ((c : Thread nD τ).loc main_arg12)) (m ((c : Thread nD τ).loc main_arg24)) := by
  refine (dats m 0 c).arrAt_eq_of_covers 60 _ (by decide +kernel) fun t _ y => ?_
  have e := after_60 m c t
  rw [outM_eq corner, blk_12, blk_24] at e
  exact (congrFun e _).trans (congrArg _ (funext fun a => Fin.ext (same 60 t y a).symm))

theorem final_61 (c : Dev nD) : (dats m 0 c).arrAt 61 cfg0.N
    = mNew (S := S1x3072) (m ((c : Thread nD τ).loc main_arg13)) (m ((c : Thread nD τ).loc main_arg25)) := by
  refine (dats m 0 c).arrAt_eq_of_covers 61 _ (by decide +kernel) fun t _ y => ?_
  have e := after_61 m c t
  rw [outM_eq corner, blk_13, blk_25] at e
  exact (congrFun e _).trans (congrArg _ (funext fun a => Fin.ext (same 61 t y a).symm))

theorem final_62 (c : Dev nD) : (dats m 0 c).arrAt 62 cfg0.N
    = mNew (S := S1x1024) (m ((c : Thread nD τ).loc main_arg14)) (m ((c : Thread nD τ).loc main_arg26)) := by
  refine (dats m 0 c).arrAt_eq_of_covers 62 _ (by decide +kernel) fun t _ y => ?_
  have e := after_62 m c t
  rw [outM_eq corner, blk_14, blk_26] at e
  exact (congrFun e _).trans (congrArg _ (funext fun a => Fin.ext (same 62 t y a).symm))

theorem final_63 (c : Dev nD) : (dats m 0 c).arrAt 63 cfg0.N
    = mNew (S := S1024x352) (m ((c : Thread nD τ).loc main_arg15)) (m ((c : Thread nD τ).loc main_arg27)) := by
  refine (dats m 0 c).arrAt_eq_of_covers 63 _ (by decide +kernel) fun t _ y => ?_
  have e := after_63 m c t
  rw [outM_eq corner, blk_15, blk_27] at e
  exact (congrFun e _).trans (congrArg _ (funext fun a => Fin.ext (same 63 t y a).symm))

theorem final_64 (c : Dev nD) : (dats m 0 c).arrAt 64 cfg0.N
    = mNew (S := S1x64) (m ((c : Thread nD τ).loc main_arg16)) (m ((c : Thread nD τ).loc main_arg28)) := by
  refine (dats m 0 c).arrAt_eq_of_covers 64 _ (by decide +kernel) fun t _ y => ?_
  have e := after_64 m c t
  rw [outM_eq corner, blk_16, blk_28] at e
  exact (congrFun e _).trans (congrArg _ (funext fun a => Fin.ext (same 64 t y a).symm))

theorem final_65 (c : Dev nD) : (dats m 0 c).arrAt 65 cfg0.N
    = mNew (S := S1x64) (m ((c : Thread nD τ).loc main_arg17)) (m ((c : Thread nD τ).loc main_arg29)) := by
  refine (dats m 0 c).arrAt_eq_of_covers 65 _ (by decide +kernel) fun t _ y => ?_
  have e := after_65 m c t
  rw [outM_eq corner, blk_17, blk_29] at e
  exact (congrFun e _).trans (congrArg _ (funext fun a => Fin.ext (same 65 t y a).symm))

theorem final_66 (c : Dev nD) : (dats m 0 c).arrAt 66 cfg0.N
    = mNew (S := S1x8) (m ((c : Thread nD τ).loc main_arg18)) (m ((c : Thread nD τ).loc main_arg30)) := by
  refine (dats m 0 c).arrAt_eq_of_covers 66 _ (by decide +kernel) fun t _ y => ?_
  have e := after_66 m c t
  rw [outM_eq corner, blk_18, blk_30] at e
  exact (congrFun e _).trans (congrArg _ (funext fun a => Fin.ext (same 66 t y a).symm))

theorem final_67 (c : Dev nD) : (dats m 0 c).arrAt 67 cfg0.N
    = mNew (S := S31x64) (m ((c : Thread nD τ).loc main_arg19)) (m ((c : Thread nD τ).loc main_arg31)) := by
  refine (dats m 0 c).arrAt_eq_of_covers 67 _ (by decide +kernel) fun t _ y => ?_
  have e := after_67 m c t
  rw [outM_eq corner, blk_19, blk_31] at e
  exact (congrFun e _).trans (congrArg _ (funext fun a => Fin.ext (same 67 t y a).symm))

theorem final_68 (c : Dev nD) : (dats m 0 c).arrAt 68 cfg0.N
    = mNew (S := S1x512) (m ((c : Thread nD τ).loc main_arg20)) (m ((c : Thread nD τ).loc main_arg32)) := by
  refine (dats m 0 c).arrAt_eq_of_covers 68 _ (by decide +kernel) fun t _ y => ?_
  have e := after_68 m c t
  rw [outM_eq corner, blk_20, blk_32] at e
  exact (congrFun e _).trans (congrArg _ (funext fun a => Fin.ext (same 68 t y a).symm))

theorem final_69 (c : Dev nD) : (dats m 0 c).arrAt 69 cfg0.N
    = mNew (S := S1x512) (m ((c : Thread nD τ).loc main_arg21)) (m ((c : Thread nD τ).loc main_arg33)) := by
  refine (dats m 0 c).arrAt_eq_of_covers 69 _ (by decide +kernel) fun t _ y => ?_
  have e := after_69 m c t
  rw [outM_eq corner, blk_21, blk_33] at e
  exact (congrFun e _).trans (congrArg _ (funext fun a => Fin.ext (same 69 t y a).symm))

theorem final_70 (c : Dev nD) : (dats m 0 c).arrAt 70 cfg0.N
    = mNew (S := S1x512) (m ((c : Thread nD τ).loc main_arg22)) (m ((c : Thread nD τ).loc main_arg34)) := by
  refine (dats m 0 c).arrAt_eq_of_covers 70 _ (by decide +kernel) fun t _ y => ?_
  have e := after_70 m c t
  rw [outM_eq corner, blk_22, blk_34] at e
  exact (congrFun e _).trans (congrArg _ (funext fun a => Fin.ext (same 70 t y a).symm))

theorem final_71 (c : Dev nD) : (dats m 0 c).arrAt 71 cfg0.N
    = mNew (S := S128x1024) (m ((c : Thread nD τ).loc main_arg23)) (m ((c : Thread nD τ).loc main_arg35)) := by
  refine (dats m 0 c).arrAt_eq_of_covers 71 _ (by decide +kernel) fun t _ y => ?_
  have e := after_71 m c t
  rw [outM_eq corner, blk_23, blk_35] at e
  exact (congrFun e _).trans (congrArg _ (funext fun a => Fin.ext (same 71 t y a).symm))

theorem final_72 (c : Dev nD) : (dats m 0 c).arrAt 72 cfg0.N
    = vNew (S := S1024x384) (m ((c : Thread nD τ).loc main_arg12)) (m ((c : Thread nD τ).loc main_arg36)) := by
  refine (dats m 0 c).arrAt_eq_of_covers 72 _ (by decide +kernel) fun t _ y => ?_
  have e := after_72 m c t
  rw [outV_eq corner, blk_12, blk_36] at e
  exact (congrFun e _).trans (congrArg _ (funext fun a => Fin.ext (same 72 t y a).symm))

theorem final_73 (c : Dev nD) : (dats m 0 c).arrAt 73 cfg0.N
    = vNew (S := S1x3072) (m ((c : Thread nD τ).loc main_arg13)) (m ((c : Thread nD τ).loc main_arg37)) := by
  refine (dats m 0 c).arrAt_eq_of_covers 73 _ (by decide +kernel) fun t _ y => ?_
  have e := after_73 m c t
  rw [outV_eq corner, blk_13, blk_37] at e
  exact (congrFun e _).trans (congrArg _ (funext fun a => Fin.ext (same 73 t y a).symm))

theorem final_74 (c : Dev nD) : (dats m 0 c).arrAt 74 cfg0.N
    = vNew (S := S1x1024) (m ((c : Thread nD τ).loc main_arg14)) (m ((c : Thread nD τ).loc main_arg38)) := by
  refine (dats m 0 c).arrAt_eq_of_covers 74 _ (by decide +kernel) fun t _ y => ?_
  have e := after_74 m c t
  rw [outV_eq corner, blk_14, blk_38] at e
  exact (congrFun e _).trans (congrArg _ (funext fun a => Fin.ext (same 74 t y a).symm))

theorem final_75 (c : Dev nD) : (dats m 0 c).arrAt 75 cfg0.N
    = vNew (S := S1024x352) (m ((c : Thread nD τ).loc main_arg15)) (m ((c : Thread nD τ).loc main_arg39)) := by
  refine (dats m 0 c).arrAt_eq_of_covers 75 _ (by decide +kernel) fun t _ y => ?_
  have e := after_75 m c t
  rw [outV_eq corner, blk_15, blk_39] at e
  exact (congrFun e _).trans (congrArg _ (funext fun a => Fin.ext (same 75 t y a).symm))

theorem final_76 (c : Dev nD) : (dats m 0 c).arrAt 76 cfg0.N
    = vNew (S := S1x64) (m ((c : Thread nD τ).loc main_arg16)) (m ((c : Thread nD τ).loc main_arg40)) := by
  refine (dats m 0 c).arrAt_eq_of_covers 76 _ (by decide +kernel) fun t _ y => ?_
  have e := after_76 m c t
  rw [outV_eq corner, blk_16, blk_40] at e
  exact (congrFun e _).trans (congrArg _ (funext fun a => Fin.ext (same 76 t y a).symm))

theorem final_77 (c : Dev nD) : (dats m 0 c).arrAt 77 cfg0.N
    = vNew (S := S1x64) (m ((c : Thread nD τ).loc main_arg17)) (m ((c : Thread nD τ).loc main_arg41)) := by
  refine (dats m 0 c).arrAt_eq_of_covers 77 _ (by decide +kernel) fun t _ y => ?_
  have e := after_77 m c t
  rw [outV_eq corner, blk_17, blk_41] at e
  exact (congrFun e _).trans (congrArg _ (funext fun a => Fin.ext (same 77 t y a).symm))

theorem final_78 (c : Dev nD) : (dats m 0 c).arrAt 78 cfg0.N
    = vNew (S := S1x8) (m ((c : Thread nD τ).loc main_arg18)) (m ((c : Thread nD τ).loc main_arg42)) := by
  refine (dats m 0 c).arrAt_eq_of_covers 78 _ (by decide +kernel) fun t _ y => ?_
  have e := after_78 m c t
  rw [outV_eq corner, blk_18, blk_42] at e
  exact (congrFun e _).trans (congrArg _ (funext fun a => Fin.ext (same 78 t y a).symm))

theorem final_79 (c : Dev nD) : (dats m 0 c).arrAt 79 cfg0.N
    = vNew (S := S31x64) (m ((c : Thread nD τ).loc main_arg19)) (m ((c : Thread nD τ).loc main_arg43)) := by
  refine (dats m 0 c).arrAt_eq_of_covers 79 _ (by decide +kernel) fun t _ y => ?_
  have e := after_79 m c t
  rw [outV_eq corner, blk_19, blk_43] at e
  exact (congrFun e _).trans (congrArg _ (funext fun a => Fin.ext (same 79 t y a).symm))

theorem final_80 (c : Dev nD) : (dats m 0 c).arrAt 80 cfg0.N
    = vNew (S := S1x512) (m ((c : Thread nD τ).loc main_arg20)) (m ((c : Thread nD τ).loc main_arg44)) := by
  refine (dats m 0 c).arrAt_eq_of_covers 80 _ (by decide +kernel) fun t _ y => ?_
  have e := after_80 m c t
  rw [outV_eq corner, blk_20, blk_44] at e
  exact (congrFun e _).trans (congrArg _ (funext fun a => Fin.ext (same 80 t y a).symm))

theorem final_81 (c : Dev nD) : (dats m 0 c).arrAt 81 cfg0.N
    = vNew (S := S1x512) (m ((c : Thread nD τ).loc main_arg21)) (m ((c : Thread nD τ).loc main_arg45)) := by
  refine (dats m 0 c).arrAt_eq_of_covers 81 _ (by decide +kernel) fun t _ y => ?_
  have e := after_81 m c t
  rw [outV_eq corner, blk_21, blk_45] at e
  exact (congrFun e _).trans (congrArg _ (funext fun a => Fin.ext (same 81 t y a).symm))

theorem final_82 (c : Dev nD) : (dats m 0 c).arrAt 82 cfg0.N
    = vNew (S := S1x512) (m ((c : Thread nD τ).loc main_arg22)) (m ((c : Thread nD τ).loc main_arg46)) := by
  refine (dats m 0 c).arrAt_eq_of_covers 82 _ (by decide +kernel) fun t _ y => ?_
  have e := after_82 m c t
  rw [outV_eq corner, blk_22, blk_46] at e
  exact (congrFun e _).trans (congrArg _ (funext fun a => Fin.ext (same 82 t y a).symm))

theorem final_83 (c : Dev nD) : (dats m 0 c).arrAt 83 cfg0.N
    = vNew (S := S128x1024) (m ((c : Thread nD τ).loc main_arg23)) (m ((c : Thread nD τ).loc main_arg47)) := by
  refine (dats m 0 c).arrAt_eq_of_covers 83 _ (by decide +kernel) fun t _ y => ?_
  have e := after_83 m c t
  rw [outV_eq corner, blk_23, blk_47] at e
  exact (congrFun e _).trans (congrArg _ (funext fun a => Fin.ext (same 83 t y a).symm))

end Cert.AdamIdeal.Own

end
-- ==== Proof.Adam.Ref.lean ====
/- The reference's formulas are the step of `adam`. Hand-written, untrusted. -/
module

public import proofs.«01_k».proof.Proof.Adam.Step
public import proofs.«01_k».proof.AdamRefIdeal
public import Idealize.ShloMosaic.PureOps.Ideal

@[expose] public section

set_option maxRecDepth 16384

noncomputable section

namespace Cert.AdamIdeal.Own

open Idealize.ShloMosaic

variable {S : Shape} (h : Cert.AdamRefIdeal.S_.BroadcastsInDim S (![] : Fin 0 → Fin S.rank)) (w g a b : FVec Ideal S .f32)

theorem refM : (addf (mulf (broadcastInDim S ![] h (constant Cert.AdamRefIdeal.S_ .f32 0x3F666666#32)) a) (mulf (broadcastInDim S ![] h (constant Cert.AdamRefIdeal.S_ .f32 0x3DCCCCCD#32)) g) : FVec Ideal S .f32) = mNew g a := rfl

theorem refV : (addf (mulf (broadcastInDim S ![] h (constant Cert.AdamRefIdeal.S_ .f32 0x3F7FBE77#32)) b) (mulf (broadcastInDim S ![] h (constant Cert.AdamRefIdeal.S_ .f32 0x3A83126F#32)) (mulf g g)) : FVec Ideal S .f32) = vNew g b := rfl

theorem refD : (mulf (broadcastInDim S ![] h (constant Cert.AdamRefIdeal.S_ .f32 0xBA83126F#32)) (addf (Host.divf (Host.divf (addf (mulf (broadcastInDim S ![] h (constant Cert.AdamRefIdeal.S_ .f32 0x3F666666#32)) a) (mulf (broadcastInDim S ![] h (constant Cert.AdamRefIdeal.S_ .f32 0x3DCCCCCD#32)) g)) (broadcastInDim S ![] h (constant Cert.AdamRefIdeal.S_ .f32 0x3F26BD02#32))) (addf (Host.sqrt (Host.divf (addf (mulf (broadcastInDim S ![] h (constant Cert.AdamRefIdeal.S_ .f32 0x3F7FBE77#32)) b) (mulf (broadcastInDim S ![] h (constant Cert.AdamRefIdeal.S_ .f32 0x3A83126F#32)) (mulf g g))) (broadcastInDim S ![] h (constant Cert.AdamRefIdeal.S_ .f32 0x3C231ACC#32)))) (broadcastInDim S ![] h (constant Cert.AdamRefIdeal.S_ .f32 0x322BCC77#32)))) (mulf (broadcastInDim S ![] h (constant Cert.AdamRefIdeal.S_ .f32 0x3C23D70A#32)) w)) : FVec Ideal S .f32)
    = delta w g a b := rfl

end Cert.AdamIdeal.Own

end
-- ==== Proof.Adam.Claim.lean ====
/- `adam`: the 36 results of the kernel are those of the reference. Hand-written, untrusted. -/
module

public import proofs.«01_k».proof.Defs
public import proofs.«01_k».proof.Proof.Adam.Frames
public import proofs.«01_k».proof.Proof.Adam.Result
public import proofs.«01_k».proof.Proof.Adam.Ref
public import proofs.«01_k».proof.Proof.Gen.AdamRefIdeal.Run
public import Idealize.ShloMosaic.Lib.Claim

@[expose] public section

set_option maxRecDepth 16384

noncomputable section

open Idealize.ShloMosaic Idealize.ShloMosaic.TcCoe Idealize.SL.Sem

namespace Cert.Proof.AdamClaim

open Cert.AdamIdeal Cert.AdamIdeal.Own Cert.AdamIdeal.Gen

local instance : Cert.AdamIdeal.Facts := Cert.AdamIdeal.Gen.facts
local instance : Cert.AdamRefIdeal.Facts := Cert.AdamRefIdeal.Gen.facts

/-- The reference's frame: its arguments are kept, and it declares no semaphore. -/
theorem frame_ref : Cert.quiescent_AdamRefIdeal := fun m ρ _ =>
  (θ_run Cert.AdamRefIdeal.defs _ _).mono (fun r h => ⟨fun c => (h c).2.2.2.2.2.2.2.2.2.2.2.2.2.2.2.2.2.2.2.2.2.2.2.2.2.2.2.2.2.2.2.2.2.2.2.2,
      Idealize.ShloMosaic.sem_eq_zero_of_no_sems (by decide) r.2⟩)
    (Cert.AdamRefIdeal.Value.run (F := Ideal) m ρ)

/-- The step keeps equality of its arguments. -/
theorem congr_mNew {S : Shape} {g g' a a' : FVec Ideal S .f32} (hg : g' = g) (ha : a' = a) : mNew g' a' = mNew g a := by rw [hg, ha]
theorem congr_vNew {S : Shape} {g g' b b' : FVec Ideal S .f32} (hg : g' = g) (hb : b' = b) : vNew g' b' = vNew g b := by rw [hg, hb]
theorem congr_delta {S : Shape} {w w' g g' a a' b b' : FVec Ideal S .f32} (hw : w' = w) (hg : g' = g) (ha : a' = a) (hb : b' = b) :
    delta w' g' a' b' = delta w g a b := by rw [hw, hg, ha, hb]

set_option maxHeartbeats 4000000 in
/-- On the same arguments the 36 results agree. -/
theorem algebraic : Cert.algebraic_AdamIdeal_AdamRefIdeal := by
  intro m ρ m' ρ' _ hagree
  refine ⟨fun c => delta (F := Ideal) (S := S1024x384) (m ((c : Thread nD τ).loc main_arg0)) (m ((c : Thread nD τ).loc main_arg12)) (m ((c : Thread nD τ).loc main_arg24)) (m ((c : Thread nD τ).loc main_arg36)),
    fun c => delta (F := Ideal) (S := S1x3072) (m ((c : Thread nD τ).loc main_arg1)) (m ((c : Thread nD τ).loc main_arg13)) (m ((c : Thread nD τ).loc main_arg25)) (m ((c : Thread nD τ).loc main_arg37)),
    fun c => delta (F := Ideal) (S := S1x1024) (m ((c : Thread nD τ).loc main_arg2)) (m ((c : Thread nD τ).loc main_arg14)) (m ((c : Thread nD τ).loc main_arg26)) (m ((c : Thread nD τ).loc main_arg38)),
    fun c => delta (F := Ideal) (S := S1024x352) (m ((c : Thread nD τ).loc main_arg3)) (m ((c : Thread nD τ).loc main_arg15)) (m ((c : Thread nD τ).loc main_arg27)) (m ((c : Thread nD τ).loc main_arg39)),
    fun c => delta (F := Ideal) (S := S1x64) (m ((c : Thread nD τ).loc main_arg4)) (m ((c : Thread nD τ).loc main_arg16)) (m ((c : Thread nD τ).loc main_arg28)) (m ((c : Thread nD τ).loc main_arg40)),
    fun c => delta (F := Ideal) (S := S1x64) (m ((c : Thread nD τ).loc main_arg5)) (m ((c : Thread nD τ).loc main_arg17)) (m ((c : Thread nD τ).loc main_arg29)) (m ((c : Thread nD τ).loc main_arg41)),
    fun c => delta (F := Ideal) (S := S1x8) (m ((c : Thread nD τ).loc main_arg6)) (m ((c : Thread nD τ).loc main_arg18)) (m ((c : Thread nD τ).loc main_arg30)) (m ((c : Thread nD τ).loc main_arg42)),
    fun c => delta (F := Ideal) (S := S31x64) (m ((c : Thread nD τ).loc main_arg7)) (m ((c : Thread nD τ).loc main_arg19)) (m ((c : Thread nD τ).loc main_arg31)) (m ((c : Thread nD τ).loc main_arg43)),
    fun c => delta (F := Ideal) (S := S1x512) (m ((c : Thread nD τ).loc main_arg8)) (m ((c : Thread nD τ).loc main_arg20)) (m ((c : Thread nD τ).loc main_arg32)) (m ((c : Thread nD τ).loc main_arg44)),
    fun c => delta (F := Ideal) (S := S1x512) (m ((c : Thread nD τ).loc main_arg9)) (m ((c : Thread nD τ).loc main_arg21)) (m ((c : Thread nD τ).loc main_arg33)) (m ((c : Thread nD τ).loc main_arg45)),
    fun c => delta (F := Ideal) (S := S1x512) (m ((c : Thread nD τ).loc main_arg10)) (m ((c : Thread nD τ).loc main_arg22)) (m ((c : Thread nD τ).loc main_arg34)) (m ((c : Thread nD τ).loc main_arg46)),
    fun c => delta (F := Ideal) (S := S128x1024) (m ((c : Thread nD τ).loc main_arg11)) (m ((c : Thread nD τ).loc main_arg23)) (m ((c : Thread nD τ).loc main_arg35)) (m ((c : Thread nD τ).loc main_arg47)),
    fun c => mNew (F := Ideal) (S := S1024x384) (m ((c : Thread nD τ).loc main_arg12)) (m ((c : Thread nD τ).loc main_arg24)),
    fun c => mNew (F := Ideal) (S := S1x3072) (m ((c : Thread nD τ).loc main_arg13)) (m ((c : Thread nD τ).loc main_arg25)),
    fun c => mNew (F := Ideal) (S := S1x1024) (m ((c : Thread nD τ).loc main_arg14)) (m ((c : Thread nD τ).loc main_arg26)),
    fun c => mNew (F := Ideal) (S := S1024x352) (m ((c : Thread nD τ).loc main_arg15)) (m ((c : Thread nD τ).loc main_arg27)),
    fun c => mNew (F := Ideal) (S := S1x64) (m ((c : Thread nD τ).loc main_arg16)) (m ((c : Thread nD τ).loc main_arg28)),
    fun c => mNew (F := Ideal) (S := S1x64) (m ((c : Thread nD τ).loc main_arg17)) (m ((c : Thread nD τ).loc main_arg29)),
    fun c => mNew (F := Ideal) (S := S1x8) (m ((c : Thread nD τ).loc main_arg18)) (m ((c : Thread nD τ).loc main_arg30)),
    fun c => mNew (F := Ideal) (S := S31x64) (m ((c : Thread nD τ).loc main_arg19)) (m ((c : Thread nD τ).loc main_arg31)),
    fun c => mNew (F := Ideal) (S := S1x512) (m ((c : Thread nD τ).loc main_arg20)) (m ((c : Thread nD τ).loc main_arg32)),
    fun c => mNew (F := Ideal) (S := S1x512) (m ((c : Thread nD τ).loc main_arg21)) (m ((c : Thread nD τ).loc main_arg33)),
    fun c => mNew (F := Ideal) (S := S1x512) (m ((c : Thread nD τ).loc main_arg22)) (m ((c : Thread nD τ).loc main_arg34)),
    fun c => mNew (F := Ideal) (S := S128x1024) (m ((c : Thread nD τ).loc main_arg23)) (m ((c : Thread nD τ).loc main_arg35)),
    fun c => vNew (F := Ideal) (S := S1024x384) (m ((c : Thread nD τ).loc main_arg12)) (m ((c : Thread nD τ).loc main_arg36)),
    fun c => vNew (F := Ideal) (S := S1x3072) (m ((c : Thread nD τ).loc main_arg13)) (m ((c : Thread nD τ).loc main_arg37)),
    fun c => vNew (F := Ideal) (S := S1x1024) (m ((c : Thread nD τ).loc main_arg14)) (m ((c : Thread nD τ).loc main_arg38)),
    fun c => vNew (F := Ideal) (S := S1024x352) (m ((c : Thread nD τ).loc main_arg15)) (m ((c : Thread nD τ).loc main_arg39)),
    fun c => vNew (F := Ideal) (S := S1x64) (m ((c : Thread nD τ).loc main_arg16)) (m ((c : Thread nD τ).loc main_arg40)),
    fun c => vNew (F := Ideal) (S := S1x64) (m ((c : Thread nD τ).loc main_arg17)) (m ((c : Thread nD τ).loc main_arg41)),
    fun c => vNew (F := Ideal) (S := S1x8) (m ((c : Thread nD τ).loc main_arg18)) (m ((c : Thread nD τ).loc main_arg42)),
    fun c => vNew (F := Ideal) (S := S31x64) (m ((c : Thread nD τ).loc main_arg19)) (m ((c : Thread nD τ).loc main_arg43)),
    fun c => vNew (F := Ideal) (S := S1x512) (m ((c : Thread nD τ).loc main_arg20)) (m ((c : Thread nD τ).loc main_arg44)),
    fun c => vNew (F := Ideal) (S := S1x512) (m ((c : Thread nD τ).loc main_arg21)) (m ((c : Thread nD τ).loc main_arg45)),
    fun c => vNew (F := Ideal) (S := S1x512) (m ((c : Thread nD τ).loc main_arg22)) (m ((c : Thread nD τ).loc main_arg46)),
    fun c => vNew (F := Ideal) (S := S128x1024) (m ((c : Thread nD τ).loc main_arg23)) (m ((c : Thread nD τ).loc main_arg47)),
    (θ_run Cert.AdamIdeal.defs _ _).mono (fun r h c => ?_) (run (F := Ideal) m ρ),
    (θ_run Cert.AdamRefIdeal.defs _ _).mono (fun r h c => ?_) (Cert.AdamRefIdeal.Value.run (F := Ideal) m' ρ')⟩
  · exact ⟨((h.1 c).1 48).trans (final_48 m c), ((h.1 c).1 49).trans (final_49 m c), ((h.1 c).1 50).trans (final_50 m c),
      ((h.1 c).1 51).trans (final_51 m c), ((h.1 c).1 52).trans (final_52 m c), ((h.1 c).1 53).trans (final_53 m c),
      ((h.1 c).1 54).trans (final_54 m c), ((h.1 c).1 55).trans (final_55 m c), ((h.1 c).1 56).trans (final_56 m c),
      ((h.1 c).1 57).trans (final_57 m c), ((h.1 c).1 58).trans (final_58 m c), ((h.1 c).1 59).trans (final_59 m c),
      ((h.1 c).1 60).trans (final_60 m c), ((h.1 c).1 61).trans (final_61 m c), ((h.1 c).1 62).trans (final_62 m c),
      ((h.1 c).1 63).trans (final_63 m c), ((h.1 c).1 64).trans (final_64 m c), ((h.1 c).1 65).trans (final_65 m c),
      ((h.1 c).1 66).trans (final_66 m c), ((h.1 c).1 67).trans (final_67 m c), ((h.1 c).1 68).trans (final_68 m c),
      ((h.1 c).1 69).trans (final_69 m c), ((h.1 c).1 70).trans (final_70 m c), ((h.1 c).1 71).trans (final_71 m c),
      ((h.1 c).1 72).trans (final_72 m c), ((h.1 c).1 73).trans (final_73 m c), ((h.1 c).1 74).trans (final_74 m c),
      ((h.1 c).1 75).trans (final_75 m c), ((h.1 c).1 76).trans (final_76 m c), ((h.1 c).1 77).trans (final_77 m c),
      ((h.1 c).1 78).trans (final_78 m c), ((h.1 c).1 79).trans (final_79 m c), ((h.1 c).1 80).trans (final_80 m c),
      ((h.1 c).1 81).trans (final_81 m c), ((h.1 c).1 82).trans (final_82 m c), ((h.1 c).1 83).trans (final_83 m c),
      stays m h.1 c 0 rfl, stays m h.1 c 1 rfl, stays m h.1 c 2 rfl, stays m h.1 c 3 rfl, stays m h.1 c 4 rfl,
      stays m h.1 c 5 rfl, stays m h.1 c 6 rfl, stays m h.1 c 7 rfl, stays m h.1 c 8 rfl, stays m h.1 c 9 rfl,
      stays m h.1 c 10 rfl, stays m h.1 c 11 rfl, stays m h.1 c 12 rfl, stays m h.1 c 13 rfl, stays m h.1 c 14 rfl,
      stays m h.1 c 15 rfl, stays m h.1 c 16 rfl, stays m h.1 c 17 rfl, stays m h.1 c 18 rfl, stays m h.1 c 19 rfl,
      stays m h.1 c 20 rfl, stays m h.1 c 21 rfl, stays m h.1 c 22 rfl, stays m h.1 c 23 rfl, stays m h.1 c 24 rfl,
      stays m h.1 c 25 rfl, stays m h.1 c 26 rfl, stays m h.1 c 27 rfl, stays m h.1 c 28 rfl, stays m h.1 c 29 rfl,
      stays m h.1 c 30 rfl, stays m h.1 c 31 rfl, stays m h.1 c 32 rfl, stays m h.1 c 33 rfl, stays m h.1 c 34 rfl,
      stays m h.1 c 35 rfl, stays m h.1 c 36 rfl, stays m h.1 c 37 rfl, stays m h.1 c 38 rfl, stays m h.1 c 39 rfl,
      stays m h.1 c 40 rfl, stays m h.1 c 41 rfl, stays m h.1 c 42 rfl, stays m h.1 c 43 rfl, stays m h.1 c 44 rfl,
      stays m h.1 c 45 rfl, stays m h.1 c 46 rfl, stays m h.1 c 47 rfl⟩
  · obtain ⟨h0, h1, h2, h3, h4, h5, h6, h7, h8, h9, h10, h11, h12, h13, h14, h15, h16, h17, h18, h19, h20, h21, h22, h23, h24, h25, h26,
      h27, h28, h29, h30, h31, h32, h33, h34, h35, hk⟩ := h c
    obtain ⟨a0, a1, a2, a3, a4, a5, a6, a7, a8, a9, a10, a11, a12, a13, a14, a15, a16, a17, a18, a19, a20, a21, a22, a23, a24, a25, a26,
      a27, a28, a29, a30, a31, a32, a33, a34, a35, a36, a37, a38, a39, a40, a41, a42, a43, a44, a45, a46, a47⟩ := hagree c
    exact ⟨(h0.trans (refD ..)).trans (congr_delta a0 a12 a24 a36), (h1.trans (refD ..)).trans (congr_delta a1 a13 a25 a37),
      (h2.trans (refD ..)).trans (congr_delta a2 a14 a26 a38), (h3.trans (refD ..)).trans (congr_delta a3 a15 a27 a39),
      (h4.trans (refD ..)).trans (congr_delta a4 a16 a28 a40), (h5.trans (refD ..)).trans (congr_delta a5 a17 a29 a41),
      (h6.trans (refD ..)).trans (congr_delta a6 a18 a30 a42), (h7.trans (refD ..)).trans (congr_delta a7 a19 a31 a43),
      (h8.trans (refD ..)).trans (congr_delta a8 a20 a32 a44), (h9.trans (refD ..)).trans (congr_delta a9 a21 a33 a45),
      (h10.trans (refD ..)).trans (congr_delta a10 a22 a34 a46), (h11.trans (refD ..)).trans (congr_delta a11 a23 a35 a47),
      (h12.trans (refM ..)).trans (congr_mNew a12 a24), (h13.trans (refM ..)).trans (congr_mNew a13 a25),
      (h14.trans (refM ..)).trans (congr_mNew a14 a26), (h15.trans (refM ..)).trans (congr_mNew a15 a27),
      (h16.trans (refM ..)).trans (congr_mNew a16 a28), (h17.trans (refM ..)).trans (congr_mNew a17 a29),
      (h18.trans (refM ..)).trans (congr_mNew a18 a30), (h19.trans (refM ..)).trans (congr_mNew a19 a31),
      (h20.trans (refM ..)).trans (congr_mNew a20 a32), (h21.trans (refM ..)).trans (congr_mNew a21 a33),
      (h22.trans (refM ..)).trans (congr_mNew a22 a34), (h23.trans (refM ..)).trans (congr_mNew a23 a35),
      (h24.trans (refV ..)).trans (congr_vNew a12 a36), (h25.trans (refV ..)).trans (congr_vNew a13 a37),
      (h26.trans (refV ..)).trans (congr_vNew a14 a38), (h27.trans (refV ..)).trans (congr_vNew a15 a39),
      (h28.trans (refV ..)).trans (congr_vNew a16 a40), (h29.trans (refV ..)).trans (congr_vNew a17 a41),
      (h30.trans (refV ..)).trans (congr_vNew a18 a42), (h31.trans (refV ..)).trans (congr_vNew a19 a43),
      (h32.trans (refV ..)).trans (congr_vNew a20 a44), (h33.trans (refV ..)).trans (congr_vNew a21 a45),
      (h34.trans (refV ..)).trans (congr_vNew a22 a46), (h35.trans (refV ..)).trans (congr_vNew a23 a47), hk⟩

end Cert.Proof.AdamClaim

end
-- ==== Proof.BwdInBits.Frames.lean ====
/- `bwd_in`: the kernel keeps its arguments. Hand-written, untrusted. -/
module

public import proofs.«01_k».proof.Defs
public import proofs.«01_k».proof.Proof.BwdInBits.Run

@[expose] public section

set_option maxRecDepth 16384

noncomputable section

open Idealize.ShloMosaic Idealize.ShloMosaic.TcCoe Idealize.SL.Sem

namespace Cert.Proof.BwdInBitsClaim

local instance : Cert.BwdIn.Facts := Cert.BwdIn.Gen.facts

/-- The kernel's frame. -/
theorem frame_kernel : Cert.quiescent_BwdIn := fun m ρ _ => Cert.BwdIn.Own.frame (F := Bits) m ρ

end Cert.Proof.BwdInBitsClaim

end
-- ==== Proof.BwdIn.Step.lean ====
/- One point of `bwd_in`: what it computes from its blocks. Hand-written, untrusted. -/
module

public import proofs.«01_k».proof.Proof.Gen.BwdInIdeal.Frame.Runs
public import Idealize.ShloMosaic.Lib.Pipeline.Value

@[expose] public section

set_option maxRecDepth 16384

noncomputable section

namespace Cert.BwdInIdeal.Own

open Cert.BwdInIdeal Cert.BwdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The corner of a two-dimensional array. -/
theorem corner : (![0, 0] : Fin 2 → Nat) = fun _ => 0 := by funext a; match a with | ⟨0, _⟩ => rfl | ⟨1, _⟩ => rfl

/-- A store through the whole array covers it, whatever was stored before. -/
theorem covers {S : Shape} {off : Fin S.rank → Nat} (h : off = fun _ => 0) (inb : ∀ a, off a + S.size a ≤ S.size a) (p : S.Idx → Elt F .f32)
    (L : List (View.Piece (Elt F) S .f32)) (y : S.Idx) :
    ∃ pc ∈ ((⟨Rect.unit off S.size inb, p⟩ : View.Piece (Elt F) S .f32) :: L), y ∈ pc.1.set :=
  ⟨_, List.mem_cons_self .., View.mem_set_unit_zero h inb y⟩

/-- A load of a whole buffer. -/
theorem readAt0 {n m : Nat} {e : EltTy} {v : Memref sig .tc .vmem (⟨2, ![n, m]⟩ : Shape) e} (h : v.IsWhole) (inb) (x : (⟨2, ![n, m]⟩ : Shape).Idx → Elt F e) :
    View.readAt (Elt F) v.view (Rect.unit (s := ⟨2, ![n, m]⟩) ![0, 0] ![n, m] inb).toLoadRect (h.unread x) = x := by
  rw [View.readAt_eq_ld, Memref.IsWhole.read_unread]; exact View.ld_unit_zero corner inb x

/-- A load of all of an array's entries. -/
theorem ld0 {n m : Nat} {e : EltTy} (inb) (x : (⟨2, ![n, m]⟩ : Shape).Idx → Elt F e) :
    View.ld (Val := Elt F) (e' := e) x (Rect.unit (s := ⟨2, ![n, m]⟩) ![0, 0] ![n, m] inb) = x := View.ld_unit_zero corner inb x

/-- A load of a whole buffer after a store of one. -/
theorem readCov0 {n m : Nat} {e : EltTy} (v : View sig .tc .vmem (⟨2, ![n, m]⟩ : Shape) e) (inb) (x : (⟨2, ![n, m]⟩ : Shape).Idx → Elt F e) :
    View.readCov v [(⟨Rect.unit (s := ⟨2, ![n, m]⟩) ![0, 0] ![n, m] inb, x⟩ : View.Piece (Elt F) (⟨2, ![n, m]⟩ : Shape) e)]
      (Rect.unit (s := ⟨2, ![n, m]⟩) ![0, 0] ![n, m] inb).toLoadRect = x := View.readCov_unit_zero v corner inb x

/-- The scale's columns of the modulation. -/
def cols (x16 : Vec F S1x3072 .f32) : Vec F S1x1024 .f32 :=
  View.ld (Val := Elt F) (e' := .f32) x16 (Rect.unit (s := S1x3072) ![0, 1024] S1x1024.size inb_S1x3072_S1x1024_0_1024)

/-- The gradient of the projections' results, of a tile. -/
def dz (x0 : Vec F S256x512 .f32) (x1 : Vec F S256x128 .f32) (x2 : Vec F S256x128 .f32) (x3 : Vec F S256x512 .f32) (x4 : Vec F S256x512 .f32) (x5 : Vec F S256x512 .f32) (x6 : Vec F S256x512 .f32) (x7 : Vec F S256x128 .f32) (x8 : Vec F S1x128 .f32) (x9 : Vec F S256x128 .f32) (x10 : Vec F S256x128 .f32) (x11 : Vec F S128x128 .bf16) : FVec F S256x2816 .bf16 :=
  k0_pay14 x8 (k0_pay9 x1 x9 x10) (k0_pay10 x7 x11) (k0_pay11 x7 x11) x11 x0 x2 x3 x4 x5 x6

/-- The gradient of the projections' argument, of a tile. -/
def dh (x0 : Vec F S256x512 .f32) (x1 : Vec F S256x128 .f32) (x2 : Vec F S256x128 .f32) (x3 : Vec F S256x512 .f32) (x4 : Vec F S256x512 .f32) (x5 : Vec F S256x512 .f32) (x6 : Vec F S256x512 .f32) (x7 : Vec F S256x128 .f32) (x8 : Vec F S1x128 .f32) (x9 : Vec F S256x128 .f32) (x10 : Vec F S256x128 .f32) (x11 : Vec F S128x128 .bf16) (x13 : Vec F S1024x2816 .bf16) : FVec F S256x1024 .f32 :=
  k0_pay15 x8 (k0_pay9 x1 x9 x10) (k0_pay10 x7 x11) (k0_pay11 x7 x11) x11 x0 x2 x3 x4 x5 x6 x13

/-- What a tile adds to the key norm's gradient. -/
def keyTerm (x1 x7 x9 x10 : Vec F S256x128 .f32) (x11 : Vec F S128x128 .bf16) : FVec F S256x128 .f32 := k0_pay12 x1 x7 x9 x10 x11

/-- The gradient of the tile itself, of the gradient `g` of what the norm leaves. -/
def gradX (g : FVec F S256x1024 .f32) (x14 x15 : Vec F S256x1024 .f32) (x16 : Vec F S1x3072 .f32) (x17 : Vec F S1x1024 .f32) : FVec F S256x1024 .f32 :=
  k0_pay3 g (cols x16) x17 (k0_pay18 x14) (k0_pay19 x14) (k0_pay22 (F := F)) x15

/-- The weights' gradient after the tile. -/
def gW (z : FVec F S256x2816 .bf16) (x12 : Vec F S256x1024 .bf16) (a : Vec F S1024x2816 .f32) : FVec F S1024x2816 .f32 := k0_pay17 z (k0_pay16 a) x12
/-- The shift's gradient after the tile. -/
def gShift (g : FVec F S256x1024 .f32) (a : Vec F S1x1024 .f32) : FVec F S1x1024 .f32 := k0_pay20 g a
/-- The scale's gradient after the tile. -/
def gScale (g : FVec F S256x1024 .f32) (x14 : Vec F S256x1024 .f32) (x17 : Vec F S1x1024 .f32) (a : Vec F S1x1024 .f32) : FVec F S1x1024 .f32 := k0_pay21 g x14 x17 a
/-- The norm weight's gradient after the tile. -/
def gNorm (g : FVec F S256x1024 .f32) (x14 : Vec F S256x1024 .f32) (x16 : Vec F S1x3072 .f32) (a : Vec F S1x1024 .f32) : FVec F S1x1024 .f32 :=
  k0_pay2 g (cols x16) (k0_pay19 x14) (k0_pay22 (F := F)) a
/-- The key norm weight's gradient after the tile. -/
def gKey (k : FVec F S256x128 .f32) (a : Vec F S1x128 .f32) : FVec F S1x128 .f32 := k0_pay13 k a

end Cert.BwdInIdeal.Own

end
-- ==== Proof.BwdIn.KernelA.lean ====
/- The body of `bwd_in` at the first point: what it leaves in every buffer. Hand-written, untrusted. -/
module

public import proofs.«01_k».proof.Proof.BwdIn.Step

@[expose] public section

set_option maxRecDepth 16384

noncomputable section

namespace Cert.BwdInIdeal.Own

open Cert.BwdInIdeal Cert.BwdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 40000000 in
/-- At the first point the sums start at zero. -/
theorem kernel_A (c : Dev nD) (E : Set ℕ) (i : grid0.Coords)
    (arg1 : Memref sig .tc .vmem S256x512 .f32) (harg1 : arg1.IsWhole) (arg2 : Memref sig .tc .vmem S256x128 .f32) (harg2 :
    arg2.IsWhole) (arg3 : Memref sig .tc .vmem S256x128 .f32) (harg3 : arg3.IsWhole) (arg4 : Memref sig .tc .vmem S256x512 .f32)
    (harg4 : arg4.IsWhole) (arg5 : Memref sig .tc .vmem S256x512 .f32) (harg5 : arg5.IsWhole) (arg6 : Memref sig .tc .vmem
    S256x512 .f32) (harg6 : arg6.IsWhole) (arg7 : Memref sig .tc .vmem S256x512 .f32) (harg7 : arg7.IsWhole) (arg8 : Memref sig
    .tc .vmem S256x128 .f32) (harg8 : arg8.IsWhole) (arg9 : Memref sig .tc .vmem S1x128 .f32) (harg9 : arg9.IsWhole) (arg10 :
    Memref sig .tc .vmem S256x128 .f32) (harg10 : arg10.IsWhole) (arg11 : Memref sig .tc .vmem S256x128 .f32) (harg11 :
    arg11.IsWhole) (arg12 : Memref sig .tc .vmem S128x128 .bf16) (harg12 : arg12.IsWhole) (arg13 : Memref sig .tc .vmem S256x1024
    .bf16) (harg13 : arg13.IsWhole) (arg14 : Memref sig .tc .vmem S1024x2816 .bf16) (harg14 : arg14.IsWhole) (arg15 : Memref sig
    .tc .vmem S256x1024 .f32) (harg15 : arg15.IsWhole) (arg16 : Memref sig .tc .vmem S256x1024 .f32) (harg16 : arg16.IsWhole)
    (arg17 : Memref sig .tc .vmem S1x3072 .f32) (harg17 : arg17.IsWhole) (arg18 : Memref sig .tc .vmem S1x1024 .f32) (harg18 :
    arg18.IsWhole) (arg19 : Memref sig .tc .vmem S256x1024 .f32) (harg19 : arg19.IsWhole) (arg20 : Memref sig .tc .vmem S1024x2816
    .f32) (harg20 : arg20.IsWhole) (arg21 : Memref sig .tc .vmem S1x1024 .f32) (harg21 : arg21.IsWhole) (arg22 : Memref sig .tc
    .vmem S1x1024 .f32) (harg22 : arg22.IsWhole) (arg23 : Memref sig .tc .vmem S1x1024 .f32) (harg23 : arg23.IsWhole) (arg24 :
    Memref sig .tc .vmem S1x128 .f32) (harg24 : arg24.IsWhole)
    (hc0 : cond0_0 i)
    (x0 : Vec F S256x512 .f32) (x1 : Vec F S256x128 .f32) (x2 : Vec F S256x128 .f32) (x3 : Vec F S256x512 .f32) (x4 : Vec F
    S256x512 .f32) (x5 : Vec F S256x512 .f32) (x6 : Vec F S256x512 .f32) (x7 : Vec F S256x128 .f32) (x8 : Vec F S1x128 .f32) (x9 :
    Vec F S256x128 .f32) (x10 : Vec F S256x128 .f32) (x11 : Vec F S128x128 .bf16) (x12 : Vec F S256x1024 .bf16) (x13 : Vec F
    S1024x2816 .bf16) (x14 : Vec F S256x1024 .f32) (x15 : Vec F S256x1024 .f32) (x16 : Vec F S1x3072 .f32) (x17 : Vec F S1x1024
    .f32)
    (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3
    fullShare x2 ∗ owns (c : Thread nD τ) arg4 fullShare x3 ∗ owns (c : Thread nD τ) arg5 fullShare x4 ∗ owns (c : Thread nD τ)
    arg6 fullShare x5 ∗ owns (c : Thread nD τ) arg7 fullShare x6 ∗ owns (c : Thread nD τ) arg8 fullShare x7 ∗ owns (c : Thread nD
    τ) arg9 fullShare x8 ∗ owns (c : Thread nD τ) arg10 fullShare x9 ∗ owns (c : Thread nD τ) arg11 fullShare x10 ∗ owns (c :
    Thread nD τ) arg12 fullShare x11 ∗ owns (c : Thread nD τ) arg13 fullShare x12 ∗ owns (c : Thread nD τ) arg14 fullShare x13 ∗
    owns (c : Thread nD τ) arg15 fullShare x14 ∗ owns (c : Thread nD τ) arg16 fullShare x15 ∗ owns (c : Thread nD τ) arg17
    fullShare x16 ∗ owns (c : Thread nD τ) arg18 fullShare x17 ∗ (∃ d, owns (c : Thread nD τ) arg19 fullShare d) ∗ (∃ d, owns (c :
    Thread nD τ) arg20 fullShare d) ∗ (∃ d, owns (c : Thread nD τ) arg21 fullShare d) ∗ (∃ d, owns (c : Thread nD τ) arg22
    fullShare d) ∗ (∃ d, owns (c : Thread nD τ) arg23 fullShare d) ∗ (∃ d, owns (c : Thread nD τ) arg24 fullShare d) ∗ (iprop(owns
    (c : Thread nD τ) arg1 fullShare x0 ∗ owns (c : Thread nD τ) arg2 fullShare x1 ∗ owns (c : Thread nD τ) arg3 fullShare x2 ∗
    owns (c : Thread nD τ) arg4 fullShare x3 ∗ owns (c : Thread nD τ) arg5 fullShare x4 ∗ owns (c : Thread nD τ) arg6 fullShare x5
    ∗ owns (c : Thread nD τ) arg7 fullShare x6 ∗ owns (c : Thread nD τ) arg8 fullShare x7 ∗ owns (c : Thread nD τ) arg9 fullShare
    x8 ∗ owns (c : Thread nD τ) arg10 fullShare x9 ∗ owns (c : Thread nD τ) arg11 fullShare x10 ∗ owns (c : Thread nD τ) arg12
    fullShare x11 ∗ owns (c : Thread nD τ) arg13 fullShare x12 ∗ owns (c : Thread nD τ) arg14 fullShare x13 ∗ owns (c : Thread nD
    τ) arg15 fullShare x14 ∗ owns (c : Thread nD τ) arg16 fullShare x15 ∗ owns (c : Thread nD τ) arg17 fullShare x16 ∗ owns (c :
    Thread nD τ) arg18 fullShare x17 ∗ owns (c : Thread nD τ) arg19 fullShare (gradX (dh x0 x1 x2 x3 x4 x5 x6 x7 x8 x9 x10 x11
    x13) x14 x15 x16 x17) ∗ owns (c : Thread nD τ) arg20 fullShare (gW (dz x0 x1 x2 x3 x4 x5 x6 x7 x8 x9 x10 x11) x12 (k0_pay4 (F
    := F))) ∗ owns (c : Thread nD τ) arg21 fullShare (gShift (dh x0 x1 x2 x3 x4 x5 x6 x7 x8 x9 x10 x11 x13) (k0_pay5 (F := F))) ∗
    owns (c : Thread nD τ) arg22 fullShare (gScale (dh x0 x1 x2 x3 x4 x5 x6 x7 x8 x9 x10 x11 x13) x14 x17 (k0_pay6 (F := F))) ∗
    owns (c : Thread nD τ) arg23 fullShare (gNorm (dh x0 x1 x2 x3 x4 x5 x6 x7 x8 x9 x10 x11 x13) x14 x16 (k0_pay7 (F := F))) ∗
    owns (c : Thread nD τ) arg24 fullShare (gKey (keyTerm x1 x7 x9 x10 x11) (k0_pay8 (F := F)))) -∗ K ⟨⟩))
      ⊢ wp frame (wpE (defs₀ (F := F)) Variants.none c none) E (cc0_bwd_in i arg1 harg1 arg2 harg2 arg3 harg3 arg4 harg4 arg5
      harg5 arg6 harg6 arg7 harg7 arg8 harg8 arg9 harg9 arg10 harg10 arg11 harg11 arg12 harg12 arg13 harg13 arg14 harg14 arg15
      harg15 arg16 harg16 arg17 harg17 arg18 harg18 arg19 harg19 arg20 harg20 arg21 harg21 arg22 harg22 arg23 harg23 arg24 harg24)
      K := by
  simp only [cc0_bwd_in_eq_skeleton]; unfold cc0_bwd_in_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
  ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13,
  H13⟩, ⟨%f14, %hf14, H14⟩, ⟨%f15, %hf15, H15⟩, ⟨%f16, %hf16, H16⟩, ⟨%f17, %hf17, H17⟩, ⟨%d18, %f18, -, H18⟩, ⟨%d19, %f19, -,
  H19⟩, ⟨%d20, %f20, -, H20⟩, ⟨%d21, %f21, -, H21⟩, ⟨%d22, %f22, -, H22⟩, ⟨%d23, %f23, -, H23⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hf10; obtain rfl := harg12.eq_unread hf11
  obtain rfl := harg13.eq_unread hf12; obtain rfl := harg14.eq_unread hf13; obtain rfl := harg15.eq_unread hf14; obtain rfl := harg16.eq_unread hf15
  obtain rfl := harg17.eq_unread hf16; obtain rfl := harg18.eq_unread hf17
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; swap; · iexact H18
    ipureintro
    refine (View.read_writes_eq_canon _ _ _ (covers corner _ _ _)).trans ((View.canon_cons_unit_zero corner _ _ _).trans ?_)
    unfold gradX dh cols
    sl_unfold_run_names
    simp only [readAt0, readCov0, View.readAt_eq_ld, Memref.IsWhole.read_unread]
    first | done | simp only [ld0] | (repeat rw [View.ld_unit_zero corner])
  isplitl [H19]
  · iexists _; isplitr; swap; · iexact H19
    ipureintro
    refine (View.read_writes_eq_canon _ _ _ (covers corner _ _ _)).trans ((View.canon_cons_unit_zero corner _ _ _).trans ?_)
    unfold gW dz
    sl_unfold_run_names
    simp only [readAt0, readCov0, View.readAt_eq_ld, Memref.IsWhole.read_unread]
    first | done | simp only [ld0] | (repeat rw [View.ld_unit_zero corner])
  isplitl [H20]
  · iexists _; isplitr; swap; · iexact H20
    ipureintro
    refine (View.read_writes_eq_canon _ _ _ (covers corner _ _ _)).trans ((View.canon_cons_unit_zero corner _ _ _).trans ?_)
    unfold gShift dh
    sl_unfold_run_names
    simp only [readAt0, readCov0, View.readAt_eq_ld, Memref.IsWhole.read_unread]
    first | done | simp only [ld0] | (repeat rw [View.ld_unit_zero corner])
  isplitl [H21]
  · iexists _; isplitr; swap; · iexact H21
    ipureintro
    refine (View.read_writes_eq_canon _ _ _ (covers corner _ _ _)).trans ((View.canon_cons_unit_zero corner _ _ _).trans ?_)
    unfold gScale dh
    sl_unfold_run_names
    simp only [readAt0, readCov0, View.readAt_eq_ld, Memref.IsWhole.read_unread]
    first | done | simp only [ld0] | (repeat rw [View.ld_unit_zero corner])
  isplitl [H22]
  · iexists _; isplitr; swap; · iexact H22
    ipureintro
    refine (View.read_writes_eq_canon _ _ _ (covers corner _ _ _)).trans ((View.canon_cons_unit_zero corner _ _ _).trans ?_)
    unfold gNorm dh cols
    sl_unfold_run_names
    simp only [readAt0, readCov0, View.readAt_eq_ld, Memref.IsWhole.read_unread]
    first | done | simp only [ld0] | (repeat rw [View.ld_unit_zero corner])
  iexists _; isplitr; swap; · iexact H23
  ipureintro
  refine (View.read_writes_eq_canon _ _ _ (covers corner _ _ _)).trans ((View.canon_cons_unit_zero corner _ _ _).trans ?_)
  unfold gKey keyTerm
  sl_unfold_run_names
  simp only [readAt0, readCov0, View.readAt_eq_ld, Memref.IsWhole.read_unread]
  first | done | simp only [ld0] | (repeat rw [View.ld_unit_zero corner])

end Cert.BwdInIdeal.Own

end
-- ==== Proof.BwdIn.KernelB.lean ====
/- The body of `bwd_in` at a later point: what it leaves in every buffer. Hand-written, untrusted. -/
module

public import proofs.«01_k».proof.Proof.BwdIn.Step

@[expose] public section

set_option maxRecDepth 16384

noncomputable section

namespace Cert.BwdInIdeal.Own

open Cert.BwdInIdeal Cert.BwdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 40000000 in
/-- At a later point the sums go on from what the buffers hold. -/
theorem kernel_B (c : Dev nD) (E : Set ℕ) (i : grid0.Coords)
    (arg1 : Memref sig .tc .vmem S256x512 .f32) (harg1 : arg1.IsWhole) (arg2 : Memref sig .tc .vmem S256x128 .f32) (harg2 :
    arg2.IsWhole) (arg3 : Memref sig .tc .vmem S256x128 .f32) (harg3 : arg3.IsWhole) (arg4 : Memref sig .tc .vmem S256x512 .f32)
    (harg4 : arg4.IsWhole) (arg5 : Memref sig .tc .vmem S256x512 .f32) (harg5 : arg5.IsWhole) (arg6 : Memref sig .tc .vmem
    S256x512 .f32) (harg6 : arg6.IsWhole) (arg7 : Memref sig .tc .vmem S256x512 .f32) (harg7 : arg7.IsWhole) (arg8 : Memref sig
    .tc .vmem S256x128 .f32) (harg8 : arg8.IsWhole) (arg9 : Memref sig .tc .vmem S1x128 .f32) (harg9 : arg9.IsWhole) (arg10 :
    Memref sig .tc .vmem S256x128 .f32) (harg10 : arg10.IsWhole) (arg11 : Memref sig .tc .vmem S256x128 .f32) (harg11 :
    arg11.IsWhole) (arg12 : Memref sig .tc .vmem S128x128 .bf16) (harg12 : arg12.IsWhole) (arg13 : Memref sig .tc .vmem S256x1024
    .bf16) (harg13 : arg13.IsWhole) (arg14 : Memref sig .tc .vmem S1024x2816 .bf16) (harg14 : arg14.IsWhole) (arg15 : Memref sig
    .tc .vmem S256x1024 .f32) (harg15 : arg15.IsWhole) (arg16 : Memref sig .tc .vmem S256x1024 .f32) (harg16 : arg16.IsWhole)
    (arg17 : Memref sig .tc .vmem S1x3072 .f32) (harg17 : arg17.IsWhole) (arg18 : Memref sig .tc .vmem S1x1024 .f32) (harg18 :
    arg18.IsWhole) (arg19 : Memref sig .tc .vmem S256x1024 .f32) (harg19 : arg19.IsWhole) (arg20 : Memref sig .tc .vmem S1024x2816
    .f32) (harg20 : arg20.IsWhole) (arg21 : Memref sig .tc .vmem S1x1024 .f32) (harg21 : arg21.IsWhole) (arg22 : Memref sig .tc
    .vmem S1x1024 .f32) (harg22 : arg22.IsWhole) (arg23 : Memref sig .tc .vmem S1x1024 .f32) (harg23 : arg23.IsWhole) (arg24 :
    Memref sig .tc .vmem S1x128 .f32) (harg24 : arg24.IsWhole)
    (hc0 : ¬ cond0_0 i)
    (x0 : Vec F S256x512 .f32) (x1 : Vec F S256x128 .f32) (x2 : Vec F S256x128 .f32) (x3 : Vec F S256x512 .f32) (x4 : Vec F
    S256x512 .f32) (x5 : Vec F S256x512 .f32) (x6 : Vec F S256x512 .f32) (x7 : Vec F S256x128 .f32) (x8 : Vec F S1x128 .f32) (x9 :
    Vec F S256x128 .f32) (x10 : Vec F S256x128 .f32) (x11 : Vec F S128x128 .bf16) (x12 : Vec F S256x1024 .bf16) (x13 : Vec F
    S1024x2816 .bf16) (x14 : Vec F S256x1024 .f32) (x15 : Vec F S256x1024 .f32) (x16 : Vec F S1x3072 .f32) (x17 : Vec F S1x1024
    .f32) (x19 : Vec F S1024x2816 .f32) (x20 : Vec F S1x1024 .f32) (x21 : Vec F S1x1024 .f32) (x22 : Vec F S1x1024 .f32) (x23 :
    Vec F S1x128 .f32)
    (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3
    fullShare x2 ∗ owns (c : Thread nD τ) arg4 fullShare x3 ∗ owns (c : Thread nD τ) arg5 fullShare x4 ∗ owns (c : Thread nD τ)
    arg6 fullShare x5 ∗ owns (c : Thread nD τ) arg7 fullShare x6 ∗ owns (c : Thread nD τ) arg8 fullShare x7 ∗ owns (c : Thread nD
    τ) arg9 fullShare x8 ∗ owns (c : Thread nD τ) arg10 fullShare x9 ∗ owns (c : Thread nD τ) arg11 fullShare x10 ∗ owns (c :
    Thread nD τ) arg12 fullShare x11 ∗ owns (c : Thread nD τ) arg13 fullShare x12 ∗ owns (c : Thread nD τ) arg14 fullShare x13 ∗
    owns (c : Thread nD τ) arg15 fullShare x14 ∗ owns (c : Thread nD τ) arg16 fullShare x15 ∗ owns (c : Thread nD τ) arg17
    fullShare x16 ∗ owns (c : Thread nD τ) arg18 fullShare x17 ∗ (∃ d, owns (c : Thread nD τ) arg19 fullShare d) ∗ owns (c :
    Thread nD τ) arg20 fullShare x19 ∗ owns (c : Thread nD τ) arg21 fullShare x20 ∗ owns (c : Thread nD τ) arg22 fullShare x21 ∗
    owns (c : Thread nD τ) arg23 fullShare x22 ∗ owns (c : Thread nD τ) arg24 fullShare x23 ∗ (iprop(owns (c : Thread nD τ) arg1
    fullShare x0 ∗ owns (c : Thread nD τ) arg2 fullShare x1 ∗ owns (c : Thread nD τ) arg3 fullShare x2 ∗ owns (c : Thread nD τ)
    arg4 fullShare x3 ∗ owns (c : Thread nD τ) arg5 fullShare x4 ∗ owns (c : Thread nD τ) arg6 fullShare x5 ∗ owns (c : Thread nD
    τ) arg7 fullShare x6 ∗ owns (c : Thread nD τ) arg8 fullShare x7 ∗ owns (c : Thread nD τ) arg9 fullShare x8 ∗ owns (c : Thread
    nD τ) arg10 fullShare x9 ∗ owns (c : Thread nD τ) arg11 fullShare x10 ∗ owns (c : Thread nD τ) arg12 fullShare x11 ∗ owns (c :
    Thread nD τ) arg13 fullShare x12 ∗ owns (c : Thread nD τ) arg14 fullShare x13 ∗ owns (c : Thread nD τ) arg15 fullShare x14 ∗
    owns (c : Thread nD τ) arg16 fullShare x15 ∗ owns (c : Thread nD τ) arg17 fullShare x16 ∗ owns (c : Thread nD τ) arg18
    fullShare x17 ∗ owns (c : Thread nD τ) arg19 fullShare (gradX (dh x0 x1 x2 x3 x4 x5 x6 x7 x8 x9 x10 x11 x13) x14 x15 x16 x17)
    ∗ owns (c : Thread nD τ) arg20 fullShare (gW (dz x0 x1 x2 x3 x4 x5 x6 x7 x8 x9 x10 x11) x12 x19) ∗ owns (c : Thread nD τ)
    arg21 fullShare (gShift (dh x0 x1 x2 x3 x4 x5 x6 x7 x8 x9 x10 x11 x13) x20) ∗ owns (c : Thread nD τ) arg22 fullShare (gScale
    (dh x0 x1 x2 x3 x4 x5 x6 x7 x8 x9 x10 x11 x13) x14 x17 x21) ∗ owns (c : Thread nD τ) arg23 fullShare (gNorm (dh x0 x1 x2 x3 x4
    x5 x6 x7 x8 x9 x10 x11 x13) x14 x16 x22) ∗ owns (c : Thread nD τ) arg24 fullShare (gKey (keyTerm x1 x7 x9 x10 x11) x23)) -∗ K
    ⟨⟩))
      ⊢ wp frame (wpE (defs₀ (F := F)) Variants.none c none) E (cc0_bwd_in i arg1 harg1 arg2 harg2 arg3 harg3 arg4 harg4 arg5
      harg5 arg6 harg6 arg7 harg7 arg8 harg8 arg9 harg9 arg10 harg10 arg11 harg11 arg12 harg12 arg13 harg13 arg14 harg14 arg15
      harg15 arg16 harg16 arg17 harg17 arg18 harg18 arg19 harg19 arg20 harg20 arg21 harg21 arg22 harg22 arg23 harg23 arg24 harg24)
      K := by
  simp only [cc0_bwd_in_eq_skeleton]; unfold cc0_bwd_in_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
  ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13,
  H13⟩, ⟨%f14, %hf14, H14⟩, ⟨%f15, %hf15, H15⟩, ⟨%f16, %hf16, H16⟩, ⟨%f17, %hf17, H17⟩, ⟨%d18, %f18, -, H18⟩, ⟨%f19, %hf19, H19⟩,
  ⟨%f20, %hf20, H20⟩, ⟨%f21, %hf21, H21⟩, ⟨%f22, %hf22, H22⟩, ⟨%f23, %hf23, H23⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hf10; obtain rfl := harg12.eq_unread hf11
  obtain rfl := harg13.eq_unread hf12; obtain rfl := harg14.eq_unread hf13; obtain rfl := harg15.eq_unread hf14; obtain rfl := harg16.eq_unread hf15
  obtain rfl := harg17.eq_unread hf16; obtain rfl := harg18.eq_unread hf17; obtain rfl := harg20.eq_unread hf19; obtain rfl := harg21.eq_unread hf20
  obtain rfl := harg22.eq_unread hf21; obtain rfl := harg23.eq_unread hf22; obtain rfl := harg24.eq_unread hf23
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; swap; · iexact H18
    ipureintro
    refine (View.read_writes_eq_canon _ _ _ (covers corner _ _ _)).trans ((View.canon_cons_unit_zero corner _ _ _).trans ?_)
    unfold gradX dh cols
    sl_unfold_run_names
    simp only [readAt0, readCov0, View.readAt_eq_ld, Memref.IsWhole.read_unread]
    first | done | simp only [ld0] | (repeat rw [View.ld_unit_zero corner])
  isplitl [H19]
  · iexists _; isplitr; swap; · iexact H19
    ipureintro
    refine (View.read_writes_eq_canon _ _ _ (covers corner _ _ _)).trans ((View.canon_cons_unit_zero corner _ _ _).trans ?_)
    unfold gW dz
    sl_unfold_run_names
    simp only [readAt0, readCov0, View.readAt_eq_ld, Memref.IsWhole.read_unread]
    first | done | simp only [ld0] | (repeat rw [View.ld_unit_zero corner])
  isplitl [H20]
  · iexists _; isplitr; swap; · iexact H20
    ipureintro
    refine (View.read_writes_eq_canon _ _ _ (covers corner _ _ _)).trans ((View.canon_cons_unit_zero corner _ _ _).trans ?_)
    unfold gShift dh
    sl_unfold_run_names
    simp only [readAt0, readCov0, View.readAt_eq_ld, Memref.IsWhole.read_unread]
    first | done | simp only [ld0] | (repeat rw [View.ld_unit_zero corner])
  isplitl [H21]
  · iexists _; isplitr; swap; · iexact H21
    ipureintro
    refine (View.read_writes_eq_canon _ _ _ (covers corner _ _ _)).trans ((View.canon_cons_unit_zero corner _ _ _).trans ?_)
    unfold gScale dh
    sl_unfold_run_names
    simp only [readAt0, readCov0, View.readAt_eq_ld, Memref.IsWhole.read_unread]
    first | done | simp only [ld0] | (repeat rw [View.ld_unit_zero corner])
  isplitl [H22]
  · iexists _; isplitr; swap; · iexact H22
    ipureintro
    refine (View.read_writes_eq_canon _ _ _ (covers corner _ _ _)).trans ((View.canon_cons_unit_zero corner _ _ _).trans ?_)
    unfold gNorm dh cols
    sl_unfold_run_names
    simp only [readAt0, readCov0, View.readAt_eq_ld, Memref.IsWhole.read_unread]
    first | done | simp only [ld0] | (repeat rw [View.ld_unit_zero corner])
  iexists _; isplitr; swap; · iexact H23
  ipureintro
  refine (View.read_writes_eq_canon _ _ _ (covers corner _ _ _)).trans ((View.canon_cons_unit_zero corner _ _ _).trans ?_)
  unfold gKey keyTerm
  sl_unfold_run_names
  simp only [readAt0, readCov0, View.readAt_eq_ld, Memref.IsWhole.read_unread]
  first | done | simp only [ld0] | (repeat rw [View.ld_unit_zero corner])

end Cert.BwdInIdeal.Own

end
-- ==== Proof.BwdIn.Parts.lean ====
/- What `bwd_in` computes from the blocks of a grid point, and the sums it keeps. Hand-written, untrusted. -/
module

public import proofs.«01_k».proof.Proof.BwdIn.Step

@[expose] public section

set_option maxRecDepth 16384

noncomputable section

namespace Cert.BwdInIdeal.Own

open Cert.BwdInIdeal Cert.BwdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The gradient of the projections' results, of tile `t`. -/
def dzAt (c : Dev nD) (t : Fin cfg0.N) : FVec F S256x2816 .bf16 :=
  dz (iblk m c 0 t) (iblk m c 1 t) (iblk m c 2 t) (iblk m c 3 t) (iblk m c 4 t) (iblk m c 5 t) (iblk m c 6 t) (iblk m c 7 t) (iblk m c 8
    t) (iblk m c 9 t) (iblk m c 10 t) (iblk m c 11 t)
/-- The gradient of the projections' argument, of tile `t`. -/
def dhAt (c : Dev nD) (t : Fin cfg0.N) : FVec F S256x1024 .f32 :=
  dh (iblk m c 0 t) (iblk m c 1 t) (iblk m c 2 t) (iblk m c 3 t) (iblk m c 4 t) (iblk m c 5 t) (iblk m c 6 t) (iblk m c 7 t) (iblk m c 8
    t) (iblk m c 9 t) (iblk m c 10 t) (iblk m c 11 t) (iblk m c 13 t)
/-- The key norm's term, of tile `t`. -/
def keyAt (c : Dev nD) (t : Fin cfg0.N) : FVec F S256x128 .f32 := keyTerm (iblk m c 1 t) (iblk m c 7 t) (iblk m c 9 t) (iblk m c 10 t) (iblk m c 11 t)

/-- What the five sums' buffers hold. -/
abbrev Sums (F : FTy → Type) := Vec F S1024x2816 .f32 × Vec F S1x1024 .f32 × Vec F S1x1024 .f32 × Vec F S1x1024 .f32 × Vec F S1x128 .f32

/-- The sums after tile `t`, of the sums before it. -/
def sumStep (c : Dev nD) (t : Fin cfg0.N) (a : Sums F) : Sums F :=
  (gW (dzAt m c t) (iblk m c 12 t) a.1, gShift (dhAt m c t) a.2.1, gScale (dhAt m c t) (iblk m c 14 t) (iblk m c 17 t) a.2.2.1,
    gNorm (dhAt m c t) (iblk m c 14 t) (iblk m c 16 t) a.2.2.2.1, gKey (keyAt m c t) a.2.2.2.2)

/-- The sums at the start. -/
def sumStart : Sums F := (k0_pay4, k0_pay5, k0_pay6, k0_pay7, k0_pay8)

/-- The sums after the tiles `0`, …, `n`. -/
def sumsAt (c : Dev nD) : (n : ℕ) → n < cfg0.N → Sums F
  | 0, h => sumStep m c ⟨0, h⟩ sumStart
  | n + 1, h => sumStep m c ⟨n + 1, h⟩ (sumsAt c n (Nat.lt_of_succ_lt h))

theorem sumsAt_first (c : Dev nD) (t : Fin cfg0.N) (h0 : t.val % 8 = 0) : sumsAt m c t.val t.isLt = sumStep m c t sumStart := by
  have hN : t.val < 8 := lt_of_lt_of_eq t.isLt (show cfg0.N = 8 from N_0)
  obtain ⟨n, hn⟩ := t
  cases n with
  | zero => rfl
  | succ n => exact absurd h0 (by dsimp only at hN ⊢; omega)

theorem sumsAt_later (c : Dev nD) (t : Fin cfg0.N) (h0 : ¬ t.val % 8 = 0) :
    sumsAt m c t.val t.isLt = sumStep m c t (sumsAt m c (t.val - 1) (Nat.lt_of_le_of_lt (Nat.sub_le _ _) t.isLt)) := by
  obtain ⟨n, hn⟩ := t
  cases n with
  | zero => exact absurd (Nat.zero_mod _) h0
  | succ n => rfl

end Cert.BwdInIdeal.Own

end
-- ==== Proof.BwdIn.Run.lean ====
/- The run of `bwd_in`, over any float values. Hand-written, untrusted. -/
module

public import proofs.«01_k».proof.Proof.BwdIn.KernelA
public import proofs.«01_k».proof.Proof.BwdIn.KernelB
public import proofs.«01_k».proof.Proof.BwdIn.Parts
public import Idealize.ShloMosaic.Lib.Claim

@[expose] public section

set_option maxRecDepth 16384

noncomputable section

namespace Cert.BwdInIdeal.Own

open Cert.BwdInIdeal Cert.BwdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer holds after the body: an argument's its block, the first result's the tile's gradient, the others the sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => gradX (dhAt m c t) (iblk m c 14 t) (iblk m c 15 t) (iblk m c 16 t) (iblk m c 17 t)
    | ⟨19, _⟩ => (sumsAt m c t.val t.isLt).1
    | ⟨20, _⟩ => (sumsAt m c t.val t.isLt).2.1
    | ⟨21, _⟩ => (sumsAt m c t.val t.isLt).2.2.1
    | ⟨22, _⟩ => (sumsAt m c t.val t.isLt).2.2.2.1
    | ⟨23, _⟩ => (sumsAt m c t.val t.isLt).2.2.2.2
    | ⟨_ + 24, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-! What the body leaves, window by window. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) :
    (dats m 0 c).after 18 t = gradX (dhAt m c t) (iblk m c 14 t) (iblk m c 15 t) (iblk m c 16 t) (iblk m c 17 t) := by dsimp only [dats]
theorem after_19 (c : Dev nD) (t : Fin cfg0.N) : (dats m 0 c).after 19 t = (sumsAt m c t.val t.isLt).1 := by dsimp only [dats]
theorem after_20 (c : Dev nD) (t : Fin cfg0.N) : (dats m 0 c).after 20 t = (sumsAt m c t.val t.isLt).2.1 := by dsimp only [dats]
theorem after_21 (c : Dev nD) (t : Fin cfg0.N) : (dats m 0 c).after 21 t = (sumsAt m c t.val t.isLt).2.2.1 := by dsimp only [dats]
theorem after_22 (c : Dev nD) (t : Fin cfg0.N) : (dats m 0 c).after 22 t = (sumsAt m c t.val t.isLt).2.2.2.1 := by dsimp only [dats]
theorem after_23 (c : Dev nD) (t : Fin cfg0.N) : (dats m 0 c).after 23 t = (sumsAt m c t.val t.isLt).2.2.2.2 := by dsimp only [dats]

/-! What the body finds: an argument's block, and after the first point the sums of the point before. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_19 (c : Dev nD) (t : Fin cfg0.N) (h0 : ¬ t.val % 8 = 0) (d) :
    (dats m 0 c).before 19 t d = (sumsAt m c (t.val - 1) (Nat.lt_of_le_of_lt (Nat.sub_le _ _) t.isLt)).1 := by
  have hN : t.val < 8 := lt_of_lt_of_eq t.isLt (show cfg0.N = 8 from N_0)
  rw [Dat.before_out_kept _ 19 rfl t (by omega) (Bool.eq_false_iff.mpr fun h => by have := (flush0_19 _).mp h; dsimp only at this; omega)
    (fun _ => rfl) (fun _ _ => rfl)]
  dsimp only [dats]
theorem before_20 (c : Dev nD) (t : Fin cfg0.N) (h0 : ¬ t.val % 8 = 0) (d) :
    (dats m 0 c).before 20 t d = (sumsAt m c (t.val - 1) (Nat.lt_of_le_of_lt (Nat.sub_le _ _) t.isLt)).2.1 := by
  have hN : t.val < 8 := lt_of_lt_of_eq t.isLt (show cfg0.N = 8 from N_0)
  rw [Dat.before_out_kept _ 20 rfl t (by omega) (Bool.eq_false_iff.mpr fun h => by have := (flush0_20 _).mp h; dsimp only at this; omega)
    (fun _ => rfl) (fun _ _ => rfl)]
  dsimp only [dats]
theorem before_21 (c : Dev nD) (t : Fin cfg0.N) (h0 : ¬ t.val % 8 = 0) (d) :
    (dats m 0 c).before 21 t d = (sumsAt m c (t.val - 1) (Nat.lt_of_le_of_lt (Nat.sub_le _ _) t.isLt)).2.2.1 := by
  have hN : t.val < 8 := lt_of_lt_of_eq t.isLt (show cfg0.N = 8 from N_0)
  rw [Dat.before_out_kept _ 21 rfl t (by omega) (Bool.eq_false_iff.mpr fun h => by have := (flush0_21 _).mp h; dsimp only at this; omega)
    (fun _ => rfl) (fun _ _ => rfl)]
  dsimp only [dats]
theorem before_22 (c : Dev nD) (t : Fin cfg0.N) (h0 : ¬ t.val % 8 = 0) (d) :
    (dats m 0 c).before 22 t d = (sumsAt m c (t.val - 1) (Nat.lt_of_le_of_lt (Nat.sub_le _ _) t.isLt)).2.2.2.1 := by
  have hN : t.val < 8 := lt_of_lt_of_eq t.isLt (show cfg0.N = 8 from N_0)
  rw [Dat.before_out_kept _ 22 rfl t (by omega) (Bool.eq_false_iff.mpr fun h => by have := (flush0_22 _).mp h; dsimp only at this; omega)
    (fun _ => rfl) (fun _ _ => rfl)]
  dsimp only [dats]
theorem before_23 (c : Dev nD) (t : Fin cfg0.N) (h0 : ¬ t.val % 8 = 0) (d) :
    (dats m 0 c).before 23 t d = (sumsAt m c (t.val - 1) (Nat.lt_of_le_of_lt (Nat.sub_le _ _) t.isLt)).2.2.2.2 := by
  have hN : t.val < 8 := lt_of_lt_of_eq t.isLt (show cfg0.N = 8 from N_0)
  rw [Dat.before_out_kept _ 23 rfl t (by omega) (Bool.eq_false_iff.mpr fun h => by have := (flush0_23 _).mp h; dsimp only at this; omega)
    (fun _ => rfl) (fun _ _ => rfl)]
  dsimp only [dats]

/-- What the body is called with. -/
def bodyPre (c : Dev nD) (t : Fin cfg0.N) : sProp 𝕄 :=
  iprop((dats m 0 c).Φ t.castSucc ∗ (dats m 0 c).owesAt () t.castSucc ∗
    (∃ d, owns (c : Thread nD τ) (ms0_0 t) fullShare ((dats m 0 c).before 0 t d)) ∗
    (∃ d, owns (c : Thread nD τ) (ms0_1 t) fullShare ((dats m 0 c).before 1 t d)) ∗
    (∃ d, owns (c : Thread nD τ) (ms0_2 t) fullShare ((dats m 0 c).before 2 t d)) ∗
    (∃ d, owns (c : Thread nD τ) (ms0_3 t) fullShare ((dats m 0 c).before 3 t d)) ∗
    (∃ d, owns (c : Thread nD τ) (ms0_4 t) fullShare ((dats m 0 c).before 4 t d)) ∗
    (∃ d, owns (c : Thread nD τ) (ms0_5 t) fullShare ((dats m 0 c).before 5 t d)) ∗
    (∃ d, owns (c : Thread nD τ) (ms0_6 t) fullShare ((dats m 0 c).before 6 t d)) ∗
    (∃ d, owns (c : Thread nD τ) (ms0_7 t) fullShare ((dats m 0 c).before 7 t d)) ∗
    (∃ d, owns (c : Thread nD τ) (ms0_8 t) fullShare ((dats m 0 c).before 8 t d)) ∗
    (∃ d, owns (c : Thread nD τ) (ms0_9 t) fullShare ((dats m 0 c).before 9 t d)) ∗
    (∃ d, owns (c : Thread nD τ) (ms0_10 t) fullShare ((dats m 0 c).before 10 t d)) ∗
    (∃ d, owns (c : Thread nD τ) (ms0_11 t) fullShare ((dats m 0 c).before 11 t d)) ∗
    (∃ d, owns (c : Thread nD τ) (ms0_12 t) fullShare ((dats m 0 c).before 12 t d)) ∗
    (∃ d, owns (c : Thread nD τ) (ms0_13 t) fullShare ((dats m 0 c).before 13 t d)) ∗
    (∃ d, owns (c : Thread nD τ) (ms0_14 t) fullShare ((dats m 0 c).before 14 t d)) ∗
    (∃ d, owns (c : Thread nD τ) (ms0_15 t) fullShare ((dats m 0 c).before 15 t d)) ∗
    (∃ d, owns (c : Thread nD τ) (ms0_16 t) fullShare ((dats m 0 c).before 16 t d)) ∗
    (∃ d, owns (c : Thread nD τ) (ms0_17 t) fullShare ((dats m 0 c).before 17 t d)) ∗
    (∃ d, owns (c : Thread nD τ) (ms0_18 t) fullShare ((dats m 0 c).before 18 t d)) ∗
    (∃ d, owns (c : Thread nD τ) (ms0_19 t) fullShare ((dats m 0 c).before 19 t d)) ∗
    (∃ d, owns (c : Thread nD τ) (ms0_20 t) fullShare ((dats m 0 c).before 20 t d)) ∗
    (∃ d, owns (c : Thread nD τ) (ms0_21 t) fullShare ((dats m 0 c).before 21 t d)) ∗
    (∃ d, owns (c : Thread nD τ) (ms0_22 t) fullShare ((dats m 0 c).before 22 t d)) ∗
    (∃ d, owns (c : Thread nD τ) (ms0_23 t) fullShare ((dats m 0 c).before 23 t d)))

/-- What it is to leave. -/
def bodyPost (c : Dev nD) (t : Fin cfg0.N) : sProp 𝕄 :=
  iprop((dats m 0 c).Φ t.succ ∗ (dats m 0 c).owesAt () t.succ ∗
    owns (c : Thread nD τ) (ms0_0 t) fullShare ((dats m 0 c).after 0 t) ∗
    owns (c : Thread nD τ) (ms0_1 t) fullShare ((dats m 0 c).after 1 t) ∗
    owns (c : Thread nD τ) (ms0_2 t) fullShare ((dats m 0 c).after 2 t) ∗
    owns (c : Thread nD τ) (ms0_3 t) fullShare ((dats m 0 c).after 3 t) ∗
    owns (c : Thread nD τ) (ms0_4 t) fullShare ((dats m 0 c).after 4 t) ∗
    owns (c : Thread nD τ) (ms0_5 t) fullShare ((dats m 0 c).after 5 t) ∗
    owns (c : Thread nD τ) (ms0_6 t) fullShare ((dats m 0 c).after 6 t) ∗
    owns (c : Thread nD τ) (ms0_7 t) fullShare ((dats m 0 c).after 7 t) ∗
    owns (c : Thread nD τ) (ms0_8 t) fullShare ((dats m 0 c).after 8 t) ∗
    owns (c : Thread nD τ) (ms0_9 t) fullShare ((dats m 0 c).after 9 t) ∗
    owns (c : Thread nD τ) (ms0_10 t) fullShare ((dats m 0 c).after 10 t) ∗
    owns (c : Thread nD τ) (ms0_11 t) fullShare ((dats m 0 c).after 11 t) ∗
    owns (c : Thread nD τ) (ms0_12 t) fullShare ((dats m 0 c).after 12 t) ∗
    owns (c : Thread nD τ) (ms0_13 t) fullShare ((dats m 0 c).after 13 t) ∗
    owns (c : Thread nD τ) (ms0_14 t) fullShare ((dats m 0 c).after 14 t) ∗
    owns (c : Thread nD τ) (ms0_15 t) fullShare ((dats m 0 c).after 15 t) ∗
    owns (c : Thread nD τ) (ms0_16 t) fullShare ((dats m 0 c).after 16 t) ∗
    owns (c : Thread nD τ) (ms0_17 t) fullShare ((dats m 0 c).after 17 t) ∗
    owns (c : Thread nD τ) (ms0_18 t) fullShare ((dats m 0 c).after 18 t) ∗
    owns (c : Thread nD τ) (ms0_19 t) fullShare ((dats m 0 c).after 19 t) ∗
    owns (c : Thread nD τ) (ms0_20 t) fullShare ((dats m 0 c).after 20 t) ∗
    owns (c : Thread nD τ) (ms0_21 t) fullShare ((dats m 0 c).after 21 t) ∗
    owns (c : Thread nD τ) (ms0_22 t) fullShare ((dats m 0 c).after 22 t) ∗
    owns (c : Thread nD τ) (ms0_23 t) fullShare ((dats m 0 c).after 23 t))

set_option maxHeartbeats 20000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11,
    before_12, before_13, before_14, before_15, before_16, before_17]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13,
      after_14, after_15, after_16, after_17, after_18, after_19, after_20, after_21, after_22, after_23]
  by_cases h0 : t.val % 8 = 0
  · rw [sumsAt_first m c t h0]
    unfold sumStep dzAt dhAt keyAt sumStart; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10,
      H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩,
      ⟨%d21, H21⟩, ⟨%d22, H22⟩, ⟨%d23, H23⟩⟩
    iapply (kernel_A c Set.univ (grid0.coords t) _ _ _ _ _ _ _ _ _ _ _ _ _ _ _ _ _ _ _ _ _ _ _ _ _ _ _ _ _ _ _ _ _ _ _ _ _ _ _ _ _ _ _ _ _
      _ _ _ ((hcond0_0 t).mpr h0)
      (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (iblk m c 15 t) (iblk m c 16 t) (iblk m
        c 17 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iintro ⟨H0, H1, H2, H3, H4, H5, H6, H7, H8, H9, H10, H11, H12, H13, H14, H15, H16, H17, H18, H19, H20, H21, H22, H23⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · rw [sumsAt_later m c t h0]
    simp only [before_19 m c t h0, before_20 m c t h0, before_21 m c t h0, before_22 m c t h0, before_23 m c t h0]
    unfold sumStep dzAt dhAt keyAt; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10,
      H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩,
      ⟨%d21, H21⟩, ⟨%d22, H22⟩, ⟨%d23, H23⟩⟩
    iapply (kernel_B c Set.univ (grid0.coords t) _ _ _ _ _ _ _ _ _ _ _ _ _ _ _ _ _ _ _ _ _ _ _ _ _ _ _ _ _ _ _ _ _ _ _ _ _ _ _ _ _ _ _ _ _
      _ _ _ (mt (hcond0_0 t).mp h0)
      (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (iblk m c 15 t) (iblk m c 16 t) (iblk m
        c 17 t) (sumsAt m c (t.val - 1) (Nat.lt_of_le_of_lt (Nat.sub_le _ _) t.isLt)).1 (sumsAt m c (t.val - 1) (Nat.lt_of_le_of_lt (Nat.sub_le
        _ _) t.isLt)).2.1 (sumsAt m c (t.val - 1) (Nat.lt_of_le_of_lt (Nat.sub_le _ _) t.isLt)).2.2.1 (sumsAt m c (t.val - 1)
        (Nat.lt_of_le_of_lt (Nat.sub_le _ _) t.isLt)).2.2.2.1 (sumsAt m c (t.val - 1) (Nat.lt_of_le_of_lt (Nat.sub_le _ _) t.isLt)).2.2.2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexact H19
    isplitl [H20]; · iexact H20
    isplitl [H21]; · iexact H21
    isplitl [H22]; · iexact H22
    isplitl [H23]; · iexact H23
    iintro ⟨H0, H1, H2, H3, H4, H5, H6, H7, H8, H9, H10, H11, H12, H13, H14, H15, H16, H17, H18, H19, H20, H21, H22, H23⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

theorem row_eq (t : Fin cfg0.N) : defs₀ (F := F) .tc cfg0.body (cfg0.bodyArgs t (cfg0.slots t)) = bodyAt0 t := by
  unfold defs₀; rw [Defs.onTc_tc]

set_option maxHeartbeats 4000000 in
/-- The body, as the pipeline asks for it. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The run, with every array at what the pipeline computes and every counter at zero. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments at the end of the run are those at the launch. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (dats m) (A_eq m) ((θ_run defs _ _).mono (fun _ h => h.1) (run m ρ))) ((θ_run defs _ _).mono (fun _ h => h.2) (run m ρ))

end Cert.BwdInIdeal.Own

end
-- ==== Proof.BwdIn.Rms.lean ====
/- The derivative of a root-mean-square normalization, in the kernel's form and in the reference's, and that the two
   are one function of a finite row. Hand-written, untrusted. -/
module

public import Idealize.ShloMosaic.Lib.Pipeline.ValueKit
public import Idealize.ShloMosaic.Lib.Pointwise

@[expose] public section

noncomputable section

open Idealize.ShloMosaic
open scoped BigOperators

namespace BwdIn.Rms

/-- A finite extended real. -/
def Finite (x : EReal) : Prop := x ≠ ⊤ ∧ x ≠ ⊥

theorem Finite.coe (r : ℝ) : Finite (r : EReal) := ⟨EReal.coe_ne_top r, EReal.coe_ne_bot r⟩

theorem Finite.exists {x : EReal} (h : Finite x) : ∃ r : ℝ, x = r := ⟨x.toReal, (EReal.coe_toReal h.1 h.2).symm⟩

theorem Finite.zero : Finite 0 := by simpa using Finite.coe 0

theorem Finite.mul {x y : EReal} (hx : Finite x) (hy : Finite y) : Finite (x * y) := by
  obtain ⟨a, rfl⟩ := hx.exists
  obtain ⟨b, rfl⟩ := hy.exists
  rw [← EReal.coe_mul]; exact Finite.coe _

theorem Finite.add {x y : EReal} (hx : Finite x) (hy : Finite y) : Finite (x + y) := by
  obtain ⟨a, rfl⟩ := hx.exists
  obtain ⟨b, rfl⟩ := hy.exists
  rw [← EReal.coe_add]; exact Finite.coe _

theorem Finite.neg {x : EReal} (hx : Finite x) : Finite (-x) := by
  obtain ⟨a, rfl⟩ := hx.exists
  rw [← EReal.coe_neg]; exact Finite.coe _

theorem Finite.sub_self {x : EReal} (hx : Finite x) : x - x = 0 := by
  obtain ⟨a, rfl⟩ := hx.exists
  rw [← EReal.coe_sub, _root_.sub_self]; rfl

theorem Finite.sum {ι : Type} (s : Finset ι) (f : ι → EReal) (h : ∀ i, Finite (f i)) : Finite (∑ i ∈ s, f i) := by
  classical
  induction s using Finset.induction_on with
  | empty => simpa using Finite.zero
  | insert a s ha ih => rw [Finset.sum_insert ha]; exact (h a).add ih

/-- A sum of real numbers among the extended reals. -/
theorem coe_sum {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

variable {n : ℕ} (N e : EReal) (x g : Fin n → EReal)

/-- The mean of the squares plus the smoothing term. -/
def ms : EReal := Ideal.div (∑ j, x j * x j) N + e

/-- The reciprocal of the root mean square. -/
def rs : EReal := Ideal.rsqrt (ms N e x)

/-- The derivative as the kernel has it. -/
def backK (i : Fin n) : EReal := rs N e x * (g i - (x i * rs N e x) * Ideal.div (∑ j, g j * (x j * rs N e x)) N)

/-- The factor the reference multiplies the row by twice. -/
def q (mh : EReal) : EReal := Ideal.div ((∑ j, x j * g j) * (mh * Ideal.div (rs N e x) (ms N e x))) N

/-- The derivative as the reference has it. -/
def backR (mh : EReal) (i : Fin n) : EReal := g i * rs N e x + x i * q N e x g mh + q N e x g mh * x i

section
variable {N e : EReal} {x g : Fin n → EReal}
variable {N' e' : ℝ} (hN : N = (N' : EReal)) (hN0 : 0 < N') (he : e = (e' : EReal)) (he0 : 0 < e')

include hN hN0 he he0 in
/-- What the two terms are on real numbers. -/
theorem ms_coe (y : Fin n → ℝ) (hx : ∀ j, x j = y j) :
    ms N e x = (((∑ j, y j * y j) * (1 / N') + e' : ℝ) : EReal) ∧ 0 < (∑ j, y j * y j) * (1 / N') + e' := by
  have e1 : (∑ j, x j * x j) = ((∑ j, y j * y j : ℝ) : EReal) := by
    rw [← coe_sum]; exact Finset.sum_congr rfl fun j _ => by rw [hx, EReal.coe_mul]
  refine ⟨?_, add_pos_of_nonneg_of_pos (mul_nonneg (Finset.sum_nonneg fun j _ => mul_self_nonneg _) (by positivity)) he0⟩
  unfold ms
  rw [e1, hN, he, Ideal.div_coe hN0.ne', ← EReal.coe_mul, ← EReal.coe_add]

include hN hN0 he he0 in
theorem rs_coe (y : Fin n → ℝ) (hx : ∀ j, x j = y j) :
    rs N e x = (((Real.sqrt ((∑ j, y j * y j) * (1 / N') + e'))⁻¹ : ℝ) : EReal) := by
  obtain ⟨h1, h2⟩ := ms_coe hN hN0 he he0 y hx
  unfold rs
  rw [h1, Ideal.rsqrt_coe, if_neg (not_lt.mpr h2.le), if_neg h2.ne']

include hN hN0 he he0 in
theorem rs_finite (hx : ∀ j, Finite (x j)) : Finite (rs N e x) := by
  choose y hy using fun j => (hx j).exists
  rw [rs_coe hN hN0 he he0 y hy]; exact Finite.coe _

include hN hN0 he he0 in
theorem backK_finite (hx : ∀ j, Finite (x j)) (hg : ∀ j, Finite (g j)) (i : Fin n) : Finite (backK N e x g i) := by
  have hr := rs_finite hN hN0 he he0 hx
  have hs : Finite (∑ j, g j * (x j * rs N e x)) := Finite.sum _ _ fun j => (hg j).mul ((hx j).mul hr)
  unfold backK
  rw [hN, Ideal.div_coe hN0.ne', ← hN, sub_eq_add_neg]
  exact hr.mul ((hg i).add (((hx i).mul hr).mul (hs.mul (Finite.coe _))).neg)

include hN hN0 he he0 in
/-- The two derivatives are one. -/
theorem back_eq (mh : EReal) (hmh : mh = ((-(1 / 2) : ℝ) : EReal)) (hx : ∀ j, Finite (x j)) (hg : ∀ j, Finite (g j)) (i : Fin n) :
    backR N e x g mh i = backK N e x g i := by
  choose y hy using fun j => (hx j).exists
  choose z hz using fun j => (hg j).exists
  obtain ⟨h1, h2⟩ := ms_coe hN hN0 he he0 y hy
  have h3 := rs_coe hN hN0 he he0 y hy
  unfold backR backK q
  rw [h3, h1]
  generalize (∑ j, y j * y j) * (1 / N') + e' = w at h2 ⊢
  set r : ℝ := (Real.sqrt w)⁻¹ with hr
  have hrr : r * r = 1 / w := by
    rw [hr, ← mul_inv, Real.mul_self_sqrt h2.le, one_div]
  have e1 : (∑ j, x j * g j) = ((∑ j, y j * z j : ℝ) : EReal) := by
    rw [← coe_sum]; exact Finset.sum_congr rfl fun j _ => by rw [hy, hz, EReal.coe_mul]
  have e2 : (∑ j, g j * (x j * (r : EReal))) = (((∑ j, y j * z j) * r : ℝ) : EReal) := by
    rw [Finset.sum_mul, ← coe_sum]
    exact Finset.sum_congr rfl fun j _ => by rw [hy, hz, ← EReal.coe_mul, ← EReal.coe_mul]; congr 1; ring
  rw [e1, e2, hN, hmh, hy, hz, Ideal.div_coe hN0.ne', Ideal.div_coe hN0.ne', Ideal.div_coe h2.ne', ← hrr]
  simp only [← EReal.coe_mul, ← EReal.coe_add, ← EReal.coe_sub]
  congr 1
  ring
end

/-- A sum over 128 lanes against a block of a row of the group matrix: the mean over the lane's group. -/
theorem group_mean (a : Fin 128 → EReal) (B : Fin 128 → EReal) (g : Fin 2) (N : EReal) (hN : N = ((64 : ℝ) : EReal))
    (ha : ∀ j, Finite (a j)) (hB : ∀ j : Fin 128, B j = if j.val / 64 = g.val then ((1 / 64 : ℝ) : EReal) else 0) :
    (∑ j, a j * B j) + (∑ j, (a j - a j) * B j) = Ideal.div (∑ d : Fin 64, a ⟨g.val * 64 + d.val, by omega⟩) N := by
  have e0 : (∑ j, (a j - a j) * B j) = 0 := Finset.sum_eq_zero fun j _ => by rw [(ha j).sub_self, zero_mul]
  choose y hy using fun j => (ha j).exists
  have e1 : (∑ j, a j * B j) = ∑ u : Fin 2, ∑ d : Fin 64, if u = g then a ⟨u.val * 64 + d.val, by omega⟩ * ((1 / 64 : ℝ) : EReal) else 0 := by
    rw [Fin.sum_univ_tiles 2 64 rfl]
    refine Finset.sum_congr rfl fun u _ => Finset.sum_congr rfl fun d _ => ?_
    rw [hB]
    have : ((⟨u.val * 64 + d.val, by omega⟩ : Fin 128).val / 64 = g.val) ↔ u = g := by
      rw [Fin.ext_iff]; show (u.val * 64 + d.val) / 64 = g.val ↔ _; omega
    by_cases h : u = g
    · rw [if_pos (this.mpr h), if_pos h]
    · rw [if_neg (fun hh => h (this.mp hh)), if_neg h, mul_zero]
  rw [e0, add_zero, e1, Finset.sum_eq_single g, hN, Ideal.div_coe (by norm_num)]
  · rw [Finset.sum_congr rfl fun d _ => by rw [if_pos rfl, hy, ← EReal.coe_mul], Finset.sum_congr rfl fun d _ => hy _,
      coe_sum, coe_sum, ← EReal.coe_mul, Finset.sum_mul]
  · intro u _ hu; exact Finset.sum_eq_zero fun d _ => by rw [if_neg hu]
  · intro h; exact absurd (Finset.mem_univ _) h

end BwdIn.Rms

end
-- ==== Proof.BwdIn.Spec.lean ====
/- The mathematics of the backward pass through the input projection, the keys' norm and rotation and adaLN, entry by
   entry, over the extended reals: what both the kernel `bwd_in` and its reference are shown to compute.
   Hand-written, untrusted. -/
module

public import proofs.«01_k».proof.Proof.BwdIn.Rms

@[expose] public section

noncomputable section

open Idealize.ShloMosaic
open scoped BigOperators

namespace BwdIn.Spec

open BwdIn.Rms

/-- A matrix of extended reals. -/
abbrev Mat (n m : ℕ) := (⟨2, ![n, m]⟩ : Shape).Idx → EReal

/-- Lane `d` of head `g`. -/
def lane (g : Fin 2) (d : Fin 64) : Fin 128 := ⟨g.val * 64 + d.val, by omega⟩
/-- A lane's head. -/
def head (l : Fin 128) : Fin 2 := ⟨l.val / 64, by omega⟩
/-- A lane's place in its head. -/
def place (l : Fin 128) : Fin 64 := ⟨l.val % 64, by omega⟩

theorem lane_head_place (l : Fin 128) : lane (head l) (place l) = l := Fin.ext (by unfold lane head place; dsimp; omega)
theorem head_lane (g : Fin 2) (d : Fin 64) : head (lane g d) = g := Fin.ext (by unfold lane head; dsimp; omega)
theorem place_lane (g : Fin 2) (d : Fin 64) : place (lane g d) = d := Fin.ext (by unfold lane place; dsimp; omega)

/-- The length of a head, of a row, and the smoothing term, as the words they are. -/
def n64 : EReal := Ideal.ofBits .f32 0x42800000#32
def n1024 : EReal := Ideal.ofBits .f32 0x44800000#32
def eps : EReal := Ideal.ofBits .f32 0x358637BD#32
def one : EReal := Ideal.ofBits .f32 0x3F800000#32
def minusHalf : EReal := Ideal.ofBits .f32 0xBF000000#32

theorem n64_eq : n64 = ((64 : ℝ) : EReal) := by
  unfold n64; simp [Ideal.ofBits, Ideal.ieee, -EReal.coe_mul]; norm_num
theorem n1024_eq : n1024 = ((1024 : ℝ) : EReal) := by
  unfold n1024; simp [Ideal.ofBits, Ideal.ieee, -EReal.coe_mul]; norm_num
theorem one_eq : one = ((1 : ℝ) : EReal) := by
  unfold one; simp [Ideal.ofBits, Ideal.ieee, -EReal.coe_mul]; norm_num
theorem minusHalf_eq : minusHalf = ((-(1 / 2) : ℝ) : EReal) := by
  unfold minusHalf; simp [Ideal.ofBits, Ideal.ieee, -EReal.coe_mul]; norm_num
theorem eps_eq : ∃ e : ℝ, eps = (e : EReal) ∧ 0 < e :=
  ⟨(8796093 : ℝ) / 2 ^ 43, by unfold eps; simp [Ideal.ofBits, Ideal.ieee, -EReal.coe_mul]; norm_num, by positivity⟩

variable (a0 a3 a4 a5 a6 : Mat 2048 512) (a1 a2 a7 : Mat 2048 128) (a8 : Mat 1 128) (a9 a10 : Mat 2048 32) (a11 : Mat 2048 1024)
  (a12 : Mat 1024 2816) (a13 a14 : Mat 2048 1024) (a15 : Mat 1 3072) (a16 : Mat 1 1024)

/-- Back through the rotation. -/
def unrot (r : Fin 2048) (g : Fin 2) (d : Fin 64) : EReal :=
  if h : d.val < 32 then a1 (ix2 r (lane g d)) * a9 (ix2 r ⟨d.val, h⟩) + a1 (ix2 r (lane g ⟨d.val + 32, by omega⟩)) * a10 (ix2 r ⟨d.val, h⟩)
  else a1 (ix2 r (lane g d)) * a9 (ix2 r ⟨d.val - 32, by omega⟩) + a1 (ix2 r (lane g ⟨d.val - 32, by omega⟩)) * -a10 (ix2 r ⟨d.val - 32, by omega⟩)

/-- A head of a row of the keys. -/
def key (r : Fin 2048) (g : Fin 2) (d : Fin 64) : EReal := a7 (ix2 r (lane g d))

/-- The keys' gradient. -/
def dkey (r : Fin 2048) (g : Fin 2) (d : Fin 64) : EReal :=
  backK n64 eps (key a7 r g) (fun e => unrot a1 a9 a10 r g e * a8 (ix2 0 (lane g e))) d

/-- What a row adds to the gradient of the keys' norm. -/
def keyTerm (r : Fin 2048) (g : Fin 2) (d : Fin 64) : EReal := unrot a1 a9 a10 r g d * (key a7 r g d * rs n64 eps (key a7 r g))

/-- The gradient of the projections' results: seven parts side by side. -/
def dz (r : Fin 2048) (n : Fin 2816) : EReal :=
  if h : n.val < 512 then a0 (ix2 r ⟨n.val, h⟩)
  else if h : n.val < 640 then dkey a1 a7 a8 a9 a10 r (head ⟨n.val - 512, by omega⟩) (place ⟨n.val - 512, by omega⟩)
  else if h : n.val < 768 then a2 (ix2 r ⟨n.val - 640, by omega⟩)
  else if h : n.val < 1280 then a3 (ix2 r ⟨n.val - 768, by omega⟩)
  else if h : n.val < 1792 then a4 (ix2 r ⟨n.val - 1280, by omega⟩)
  else if h : n.val < 2304 then a5 (ix2 r ⟨n.val - 1792, by omega⟩)
  else a6 (ix2 r ⟨n.val - 2304, by omega⟩)

/-- The gradient of the projections' argument. -/
def dh (r : Fin 2048) (n : Fin 1024) : EReal := ∑ k : Fin 2816, dz a0 a3 a4 a5 a6 a1 a2 a7 a8 a9 a10 r k * a12 (ix2 n k)

/-- The same before the scale, of a gradient `D`. -/
def du (D : Fin 2048 → Fin 1024 → EReal) (r : Fin 2048) (n : Fin 1024) : EReal := D r n * (one + a15 (ix2 0 ⟨1024 + n.val, by omega⟩))

/-- A row of the layer's input. -/
def xrow (r : Fin 2048) (n : Fin 1024) : EReal := a13 (ix2 r n)

/-- The layer's input, normed. -/
def xhat (r : Fin 2048) (n : Fin 1024) : EReal := xrow a13 r n * rs n1024 eps (xrow a13 r)

variable (D : Fin 2048 → Fin 1024 → EReal)

/-- The gradient of the layer's input. -/
def gx (r : Fin 2048) (n : Fin 1024) : EReal :=
  a14 (ix2 r n) + backK n1024 eps (xrow a13 r) (fun j => du a15 D r j * a16 (ix2 0 j)) n

/-- The weights' gradient. -/
def gw (Z : Fin 2048 → Fin 2816 → EReal) (a : Fin 1024) (n : Fin 2816) : EReal := ∑ r : Fin 2048, a11 (ix2 r a) * Z r n
/-- The shift's gradient. -/
def gshift (n : Fin 1024) : EReal := ∑ r : Fin 2048, D r n
/-- The scale's gradient. -/
def gscale (n : Fin 1024) : EReal := ∑ r : Fin 2048, D r n * (xhat a13 r n * a16 (ix2 0 n))
/-- The norm weight's gradient. -/
def gnorm (n : Fin 1024) : EReal := ∑ r : Fin 2048, du a15 D r n * xhat a13 r n
/-- The gradient of the keys' norm weight. -/
def gkey (l : Fin 128) : EReal := ∑ r : Fin 2048, keyTerm a1 a7 a9 a10 r (head l) (place l)

/-! What is finite when the arguments are. -/

theorem unrot_finite (h1 : ∀ i, Finite (a1 i)) (h9 : ∀ i, Finite (a9 i)) (h10 : ∀ i, Finite (a10 i)) (r g d) :
    Finite (unrot a1 a9 a10 r g d) := by
  unfold unrot
  split
  · exact ((h1 _).mul (h9 _)).add ((h1 _).mul (h10 _))
  · exact ((h1 _).mul (h9 _)).add ((h1 _).mul (h10 _).neg)

theorem dz_finite (h0 : ∀ i, Finite (a0 i)) (h3 : ∀ i, Finite (a3 i)) (h4 : ∀ i, Finite (a4 i)) (h5 : ∀ i, Finite (a5 i)) (h6 : ∀ i, Finite (a6 i))
    (h1 : ∀ i, Finite (a1 i)) (h2 : ∀ i, Finite (a2 i)) (h7 : ∀ i, Finite (a7 i)) (h8 : ∀ i, Finite (a8 i)) (h9 : ∀ i, Finite (a9 i))
    (h10 : ∀ i, Finite (a10 i)) (r n) : Finite (dz a0 a3 a4 a5 a6 a1 a2 a7 a8 a9 a10 r n) := by
  obtain ⟨e, he, he0⟩ := eps_eq
  unfold dz dkey
  repeat' split
  · exact h0 _
  · exact backK_finite n64_eq (by norm_num) he he0 (fun _ => h7 _) (fun _ => (unrot_finite _ _ _ h1 h9 h10 _ _ _).mul (h8 _)) _
  · exact h2 _
  · exact h3 _
  · exact h4 _
  · exact h5 _
  · exact h6 _

theorem du_finite (hD : ∀ r n, Finite (D r n)) (h15 : ∀ n : Fin 1024, Finite (a15 (ix2 0 ⟨1024 + n.val, by omega⟩))) (r n) :
    Finite (du a15 D r n) := by
  unfold du
  refine (hD r n).mul (Finite.add ?_ (h15 n))
  rw [one_eq]; exact Finite.coe _

end BwdIn.Spec

end
-- ==== Proof.BwdIn.Payloads.lean ====
/- The payloads of `bwd_in`, read at an entry. Hand-written, untrusted. -/
module

public import proofs.«01_k».proof.Proof.Gen.BwdInIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.BwdInIdeal.Val

open Cert.BwdInIdeal Cert.BwdInIdeal.Gen

/-- The lane whose rotation partner `l` is. -/
def other (l : Fin 128) : Fin 128 := if h : l.val % 64 < 32 then ⟨l.val + 32, by omega⟩ else ⟨l.val - 32, by omega⟩

theorem low_bit : ∀ l : Fin 128, (IntOp.andi (BitVec.ofNat 32 l.val) 32#32 = 0#32) ↔ l.val % 64 < 32 := by decide +kernel

/-- Back through the rotation. -/
theorem pay9_apply (v3 v6 v8 : FVec Ideal S256x128 .f32) (s : Fin 256) (l : Fin 128) :
    k0_pay9 (F := Ideal) v3 v6 v8 (ix2 s l) = v3 (ix2 s l) * v6 (ix2 s l) + v3 (ix2 s (other l)) * v8 (ix2 s (other l)) := by
  pointwise [k0_pay9]
  unfold other
  by_cases h : l.val % 64 < 32
  · have hb := (low_bit l).mpr h
    rw [dif_pos h]
    have e : (⟨(l.val + 128 - 96) % 128, by omega⟩ : Fin 128) = ⟨l.val + 32, by omega⟩ := Fin.ext (by dsimp; omega)
    rw [← e]
    simp only [hb, Scalar.select, IntOp.cmpi]; rfl
  · have hb := fun hh => h ((low_bit l).mp hh)
    rw [dif_neg h]
    have e : (⟨(l.val + 128 - 32) % 128, by omega⟩ : Fin 128) = ⟨l.val - 32, by omega⟩ := Fin.ext (by dsimp; omega)
    rw [← e]
    simp only [Scalar.select, IntOp.cmpi, beq_eq_false_iff_ne.mpr hb]; rfl

/-- The reciprocal of the keys' root mean square. -/
theorem pay10_apply (v4 : FVec Ideal S256x128 .f32) (B : FVec Ideal S128x128 .bf16) (s : Fin 256) (l : Fin 128) :
    k0_pay10 (F := Ideal) v4 B (ix2 s l)
      = Ideal.rsqrt ((∑ j : Fin 128, (v4 (ix2 s j) * v4 (ix2 s j)) * B (ix2 j l))
          + (∑ j : Fin 128, (v4 (ix2 s j) * v4 (ix2 s j) - v4 (ix2 s j) * v4 (ix2 s j)) * B (ix2 j l)) + Ideal.ofBits .f32 0x358637BD#32) := by
  pointwise! [k0_pay10]

theorem pay11_apply (v4 : FVec Ideal S256x128 .f32) (B : FVec Ideal S128x128 .bf16) (s : Fin 256) (l : Fin 128) :
    k0_pay11 (F := Ideal) v4 B (ix2 s l) = v4 (ix2 s l) * k0_pay10 (F := Ideal) v4 B (ix2 s l) := by
  pointwise! [k0_pay11]

theorem pay12_apply (v3 v4 v6 v8 : FVec Ideal S256x128 .f32) (B : FVec Ideal S128x128 .bf16) (s : Fin 256) (l : Fin 128) :
    k0_pay12 (F := Ideal) v3 v4 v6 v8 B (ix2 s l) = k0_pay9 (F := Ideal) v3 v6 v8 (ix2 s l) * k0_pay11 (F := Ideal) v4 B (ix2 s l) := by
  pointwise! [k0_pay12]

theorem pay13_apply (v35 : FVec Ideal S256x128 .f32) (v53 : FVec Ideal S1x128 .f32) (l : Fin 128) :
    k0_pay13 (F := Ideal) v35 v53 (ix2 0 l) = v53 (ix2 0 l) + ∑ s : Fin 256, v35 (ix2 s l) := by
  pointwise! [k0_pay13]

/-- The keys' part of the concatenation. -/
def keyPart (v5 : FVec Ideal S1x128 .f32) (v20 v33 v34 : FVec Ideal S256x128 .f32) (B : FVec Ideal S128x128 .bf16) (s : Fin 256) (l : Fin 128) : EReal :=
  v33 (ix2 s l) * (v20 (ix2 s l) * v5 (ix2 0 l) - v34 (ix2 s l) *
    ((∑ j : Fin 128, ((v20 (ix2 s j) * v5 (ix2 0 j)) * v34 (ix2 s j)) * B (ix2 j l))
      + ∑ j : Fin 128, ((v20 (ix2 s j) * v5 (ix2 0 j)) * v34 (ix2 s j) - (v20 (ix2 s j) * v5 (ix2 0 j)) * v34 (ix2 s j)) * B (ix2 j l)))

/-- The seven parts side by side. -/
theorem pay14_apply (v5 : FVec Ideal S1x128 .f32) (v20 v33 v34 : FVec Ideal S256x128 .f32) (B : FVec Ideal S128x128 .bf16) (v57 : FVec Ideal S256x512 .f32) (v58 : FVec Ideal S256x128 .f32) (v59 v60 v61 v62 : FVec Ideal S256x512 .f32) (s : Fin 256) (n : Fin 2816) :
    k0_pay14 (F := Ideal) v5 v20 v33 v34 B v57 v58 v59 v60 v61 v62 (ix2 s n)
      = if h : n.val < 512 then v57 (ix2 s ⟨n.val, h⟩)
        else if h : n.val < 640 then keyPart v5 v20 v33 v34 B s ⟨n.val - 512, by omega⟩
        else if h : n.val < 768 then v58 (ix2 s ⟨n.val - 640, by omega⟩)
        else if h : n.val < 1280 then v59 (ix2 s ⟨n.val - 768, by omega⟩)
        else if h : n.val < 1792 then v60 (ix2 s ⟨n.val - 1280, by omega⟩)
        else if h : n.val < 2304 then v61 (ix2 s ⟨n.val - 1792, by omega⟩)
        else v62 (ix2 s ⟨n.val - 2304, by omega⟩) := by
  pointwise [k0_pay14, keyPart]
  by_cases h0 : n.val < 512
  · rw [dif_pos h0, dif_pos h0]
  rw [dif_neg h0, dif_neg h0]
  by_cases h1 : n.val < 640
  · rw [dif_pos (by omega), dif_pos h1]
  rw [dif_neg (by omega), dif_neg h1]
  by_cases h2 : n.val < 768
  · rw [dif_pos (by omega), dif_pos h2]; exact congrArg (fun z => v58 (ix2 s z)) (Fin.ext (by dsimp; omega))
  rw [dif_neg (by omega), dif_neg h2]
  by_cases h3 : n.val < 1280
  · rw [dif_pos (by omega), dif_pos h3]; exact congrArg (fun z => v59 (ix2 s z)) (Fin.ext (by dsimp; omega))
  rw [dif_neg (by omega), dif_neg h3]
  by_cases h4 : n.val < 1792
  · rw [dif_pos (by omega), dif_pos h4]; exact congrArg (fun z => v60 (ix2 s z)) (Fin.ext (by dsimp; omega))
  rw [dif_neg (by omega), dif_neg h4]
  by_cases h5 : n.val < 2304
  · rw [dif_pos (by omega), dif_pos h5]; exact congrArg (fun z => v61 (ix2 s z)) (Fin.ext (by dsimp; omega))
  rw [dif_neg (by omega), dif_neg h5]; exact congrArg (fun z => v62 (ix2 s z)) (Fin.ext (by dsimp; omega))

theorem pay15_apply (v5 : FVec Ideal S1x128 .f32) (v20 v33 v34 : FVec Ideal S256x128 .f32) (B : FVec Ideal S128x128 .bf16) (v57 : FVec Ideal S256x512 .f32) (v58 : FVec Ideal S256x128 .f32) (v59 v60 v61 v62 : FVec Ideal S256x512 .f32) (W : FVec Ideal S1024x2816 .bf16) (s : Fin 256) (n : Fin 1024) :
    k0_pay15 (F := Ideal) v5 v20 v33 v34 B v57 v58 v59 v60 v61 v62 W (ix2 s n) = ∑ k : Fin 2816, k0_pay14 (F := Ideal) v5 v20 v33 v34 B v57 v58 v59 v60 v61 v62 (ix2 s k) * W (ix2 n k) := by
  pointwise! [k0_pay15]

theorem pay17_apply (v64 : FVec Ideal S256x2816 .bf16) (v67 : FVec Ideal S1024x2816 .f32) (v69 : FVec Ideal S256x1024 .bf16) (a : Fin 1024) (n : Fin 2816) :
    k0_pay17 (F := Ideal) v64 (k0_pay16 (F := Ideal) v67) v69 (ix2 a n) = v67 (ix2 a n) + ∑ s : Fin 256, v69 (ix2 s a) * v64 (ix2 s n) := by
  pointwise! [k0_pay17, k0_pay16]

theorem pay18_apply (v73 : FVec Ideal S256x1024 .f32) (s : Fin 256) :
    k0_pay18 (F := Ideal) v73 (ix2 s 0)
      = Ideal.rsqrt (Ideal.div (∑ n : Fin 1024, v73 (ix2 s n) * v73 (ix2 s n)) (Ideal.ofBits .f32 0x44800000#32) + Ideal.ofBits .f32 0x358637BD#32) := by
  pointwise! [k0_pay18]

theorem pay19_apply (v73 : FVec Ideal S256x1024 .f32) (s : Fin 256) (n : Fin 1024) :
    k0_pay19 (F := Ideal) v73 (ix2 s n) = v73 (ix2 s n) * k0_pay18 (F := Ideal) v73 (ix2 s 0) := by
  pointwise! [k0_pay19]

theorem pay20_apply (v66 : FVec Ideal S256x1024 .f32) (v86 : FVec Ideal S1x1024 .f32) (n : Fin 1024) :
    k0_pay20 (F := Ideal) v66 v86 (ix2 0 n) = v86 (ix2 0 n) + ∑ s : Fin 256, v66 (ix2 s n) := by
  pointwise! [k0_pay20]

theorem pay21_apply (v66 v73 : FVec Ideal S256x1024 .f32) (v75 v92 : FVec Ideal S1x1024 .f32) (n : Fin 1024) :
    k0_pay21 (F := Ideal) v66 v73 v75 v92 (ix2 0 n)
      = v92 (ix2 0 n) + ∑ s : Fin 256, v66 (ix2 s n) * (k0_pay19 (F := Ideal) v73 (ix2 s n) * v75 (ix2 0 n)) := by
  pointwise! [k0_pay21]

theorem pay1_apply (v66 : FVec Ideal S256x1024 .f32) (v74 : FVec Ideal S1x1024 .f32) (s : Fin 256) (n : Fin 1024) :
    k0_pay1 (F := Ideal) v66 v74 (k0_pay22 (F := Ideal)) (ix2 s n) = v66 (ix2 s n) * (Ideal.ofBits .f32 0x3F800000#32 + v74 (ix2 0 n)) := by
  pointwise [k0_pay1, k0_pay22]

theorem pay2_apply (v66 v85 : FVec Ideal S256x1024 .f32) (v74 v101 v105 : FVec Ideal S1x1024 .f32) (n : Fin 1024) :
    k0_pay2 (F := Ideal) v66 v74 v85 v101 v105 (ix2 0 n)
      = v105 (ix2 0 n) + ∑ s : Fin 256, k0_pay1 (F := Ideal) v66 v74 v101 (ix2 s n) * v85 (ix2 s n) := by
  pointwise! [k0_pay2]

theorem pay3_apply (v66 v85 v114 : FVec Ideal S256x1024 .f32) (v74 v75 v101 : FVec Ideal S1x1024 .f32) (v83 : FVec Ideal S256x1 .f32) (s : Fin 256) (n : Fin 1024) :
    k0_pay3 (F := Ideal) v66 v74 v75 v83 v85 v101 v114 (ix2 s n)
      = v114 (ix2 s n) + v83 (ix2 s 0) * (k0_pay1 (F := Ideal) v66 v74 v101 (ix2 s n) * v75 (ix2 0 n)
          - v85 (ix2 s n) * Ideal.div (∑ j : Fin 1024, (k0_pay1 (F := Ideal) v66 v74 v101 (ix2 s j) * v75 (ix2 0 j)) * v85 (ix2 s j)) (Ideal.ofBits .f32 0x44800000#32)) := by
  pointwise! [k0_pay3]

/-- The accumulators start at zero. -/
theorem pay4_apply (j : S1024x2816.Idx) : k0_pay4 (F := Ideal) j = 0 := by pointwise! [k0_pay4]
theorem pay5_apply (j : S1x1024.Idx) : k0_pay5 (F := Ideal) j = 0 := by pointwise! [k0_pay5]
theorem pay6_apply (j : S1x1024.Idx) : k0_pay6 (F := Ideal) j = 0 := by pointwise! [k0_pay6]
theorem pay7_apply (j : S1x1024.Idx) : k0_pay7 (F := Ideal) j = 0 := by pointwise! [k0_pay7]
theorem pay8_apply (j : S1x128.Idx) : k0_pay8 (F := Ideal) j = 0 := by pointwise! [k0_pay8]

end Cert.BwdInIdeal.Val

end
-- ==== Proof.BwdIn.Host.lean ====
/- What the operations before `bwd_in` leave: the rotation's tables on the lanes and the group matrix. Hand-written, untrusted. -/
module

public import proofs.«01_k».proof.Proof.Gen.BwdInIdeal.Frame.Runs
public import proofs.«01_k».proof.Proof.BwdIn.Payloads
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.BwdInIdeal.Val

open Cert.BwdInIdeal Cert.BwdInIdeal.Gen

/-- Two halves side by side. -/
def halves (a b : FVec Ideal S2048x32 .f32) : FVec Ideal S2048x64 .f32 :=
  concatenate S2048x64 1 [⟨S2048x32, a⟩, ⟨S2048x32, b⟩] concatenates_S2048x32_S2048x32_S2048x64_d1

/-- The same for both heads. -/
def twice (a : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 a shapeCasts_S2048x64_S1x2048x1x64)) shapeCasts_S1x2048x2x64_S2048x128

theorem halves_apply (a b : FVec Ideal S2048x32 .f32) (r : Fin 2048) (d : Fin 64) :
    halves a b (ix2 r d) = if h : d.val < 32 then a (ix2 r ⟨d.val, h⟩) else b (ix2 r ⟨d.val - 32, by omega⟩) := by
  pointwise [halves]

theorem twice_apply (a : FVec Ideal S2048x64 .f32) (r : Fin 2048) (l : Fin 128) :
    twice a (ix2 r l) = a (ix2 r ⟨l.val % 64, by omega⟩) := by
  pointwise [twice]

/-- The lanes' numbers. -/
def lanes : IVec S128 32 := iotaInDim S128 32 0
/-- A number at every lane. -/
def every (n : BitVec 32) : IVec S128 32 := broadcastInDim S128 ![] bcast_S_S128 (constantI S_ 32 n)

/-- The lanes' heads. -/
def heads : IVec S128 32 :=
  select (andi (cmpi .ne (signi lanes) (broadcastInDim S128 ![] bcast_S_S128 (signi (constantI S_ 32 64#32)))) (cmpi .ne (Host.remsi lanes (every 64#32)) (every 0#32)))
    (subi (Host.divsi lanes (every 64#32)) (every 1#32)) (Host.divsi lanes (every 64#32))

theorem heads_apply (i : Fin 128) : heads (ix1 i) = BitVec.ofNat 32 (i.val / 64) := by
  pointwise [heads, lanes, every]
  revert i
  decide +kernel

/-- The matrix that averages over a head's lanes. -/
def groups : FVec Ideal S128x128 .bf16 :=
  truncf .bf16 (select (cmpi .eq (broadcastInDim S128x128 ![0, 1] bcast_S128x1_S128x128_0_1 (broadcastInDim S128x1 ![0] bcast_S128_S128x1_0 heads))
      (broadcastInDim S128x128 ![0, 1] bcast_S1x128_S128x128_0_1 (broadcastInDim S1x128 ![1] bcast_S128_S1x128_1 heads)))
    (broadcastInDim S128x128 ![] bcast_S_S128x128 (constant S_ .f32 0x3C800000#32))
    (broadcastInDim S128x128 ![] bcast_S_S128x128 (constant S_ .f32 0x00000000#32))) bitsLt_bf16_f32

theorem same_head : ∀ i j : Fin 128, (IntOp.cmpi .eq (BitVec.ofNat 32 (i.val / 64)) (BitVec.ofNat 32 (j.val / 64)) = 1#1) ↔ i.val / 64 = j.val / 64 := by
  intro i j
  simp only [IntOp.cmpi]
  have hi : i.val / 64 = 0 ∨ i.val / 64 = 1 := by omega
  have hj : j.val / 64 = 0 ∨ j.val / 64 = 1 := by omega
  rcases hi with hi | hi <;> rcases hj with hj | hj <;> rw [hi, hj] <;> decide

theorem groups_apply (i j : Fin 128) : groups (ix2 i j) = if i.val / 64 = j.val / 64 then ((1 / 64 : ℝ) : EReal) else 0 := by
  have e1 : Ideal.ofBits .f32 0x3C800000#32 = ((1 / 64 : ℝ) : EReal) := by
    simp [Ideal.ofBits, Ideal.ieee, -EReal.coe_mul]; norm_num
  have e2 : Ideal.ofBits .f32 0x00000000#32 = 0 := Ideal.ofBits_zero .f32
  pointwise [groups, heads_apply]
  rw [e1]
  by_cases h : i.val / 64 = j.val / 64
  · rw [if_pos h]; exact if_pos ((same_head i j).mpr h)
  · rw [if_neg h]; exact if_neg (fun hh => h ((same_head i j).mp hh))

variable (m : (ℓ : Loc nD τ sig) → Buf (Elt Ideal) ℓ)

set_option maxHeartbeats 4000000 in
theorem host_cos (c : Dev nD) : (V m c main_v3 : (⟨S2048x128, .f32⟩ : BufTy).Contents (Elt Ideal))
    = twice (halves (m ((c : Thread nD τ).loc main_arg9)) (m ((c : Thread nD τ).loc main_arg9))) := by
  unfold V
  simp only [hostOps0, hostOps0_1, hostOps0_2, hostOps0_3, hostOps0_4, List.flatten_cons, List.flatten_nil, List.append_nil, List.cons_append,
    List.nil_append]
  after_results
  rfl

set_option maxHeartbeats 4000000 in
theorem host_sin (c : Dev nD) : (V m c main_v8 : (⟨S2048x128, .f32⟩ : BufTy).Contents (Elt Ideal))
    = twice (halves (Host.negf (m ((c : Thread nD τ).loc main_arg10) : FVec Ideal S2048x32 .f32)) (m ((c : Thread nD τ).loc main_arg10))) := by
  unfold V
  simp only [hostOps0, hostOps0_1, hostOps0_2, hostOps0_3, hostOps0_4, List.flatten_cons, List.flatten_nil, List.append_nil, List.cons_append,
    List.nil_append]
  after_results
  rfl

set_option maxHeartbeats 4000000 in
theorem host_groups (c : Dev nD) : (V m c main_v17 : (⟨S128x128, .bf16⟩ : BufTy).Contents (Elt Ideal)) = groups := by
  unfold V
  simp only [hostOps0, hostOps0_1, hostOps0_2, hostOps0_3, hostOps0_4, List.flatten_cons, List.flatten_nil, List.append_nil, List.cons_append,
    List.nil_append]
  after_results
  rfl

end Cert.BwdInIdeal.Val

end
-- ==== Proof.BwdIn.Tile.lean ====
/- What the blocks of `bwd_in` hold at a grid point, and the tile's values over them. Hand-written, untrusted. -/
module

public import proofs.«01_k».proof.Proof.BwdIn.Spec
public import proofs.«01_k».proof.Proof.BwdIn.Payloads
public import proofs.«01_k».proof.Proof.BwdIn.Host
public import proofs.«01_k».proof.Proof.BwdIn.Parts

@[expose] public section

set_option maxRecDepth 16384

noncomputable section

open Idealize.ShloMosaic Idealize.ShloMosaic.TcCoe Idealize.SL.Sem
open Idealize.ShloMosaic.Pipeline (Dat)
open scoped BigOperators

namespace Cert.BwdInIdeal.Val

open Cert.BwdInIdeal Cert.BwdInIdeal.Gen Cert.BwdInIdeal.Own
open BwdIn.Spec BwdIn.Rms

variable (m : (ℓ : Loc nD τ sig) → Buf (Elt Ideal) ℓ)

/-- Every window's block index: the tile's number for a tiled window, zero for a whole one. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![0, 0]
    ∧ win0_9.index t = ![t.val, 0]
    ∧ win0_10.index t = ![t.val, 0]
    ∧ win0_11.index t = ![0, 0]
    ∧ win0_12.index t = ![t.val, 0]
    ∧ win0_13.index t = ![0, 0]
    ∧ win0_14.index t = ![t.val, 0]
    ∧ win0_15.index t = ![t.val, 0]
    ∧ win0_16.index t = ![0, 0]
    ∧ win0_17.index t = ![0, 0]
    ∧ win0_18.index t = ![t.val, 0]
    ∧ win0_19.index t = ![0, 0]
    ∧ win0_20.index t = ![0, 0]
    ∧ win0_21.index t = ![0, 0]
    ∧ win0_22.index t = ![0, 0]
    ∧ win0_23.index t = ![0, 0] :=
  (by decide +kernel : ∀ t : Fin grid0.N, _)

/-! The arguments as arrays of extended reals. -/

abbrev A0 (c : Dev nD) : S2048x512.Idx → EReal := m ((c : Thread nD τ).loc main_arg0)
abbrev A1 (c : Dev nD) : S2048x128.Idx → EReal := m ((c : Thread nD τ).loc main_arg1)
abbrev A2 (c : Dev nD) : S2048x128.Idx → EReal := m ((c : Thread nD τ).loc main_arg2)
abbrev A3 (c : Dev nD) : S2048x512.Idx → EReal := m ((c : Thread nD τ).loc main_arg3)
abbrev A4 (c : Dev nD) : S2048x512.Idx → EReal := m ((c : Thread nD τ).loc main_arg4)
abbrev A5 (c : Dev nD) : S2048x512.Idx → EReal := m ((c : Thread nD τ).loc main_arg5)
abbrev A6 (c : Dev nD) : S2048x512.Idx → EReal := m ((c : Thread nD τ).loc main_arg6)
abbrev A7 (c : Dev nD) : S2048x128.Idx → EReal := m ((c : Thread nD τ).loc main_arg7)
abbrev A8 (c : Dev nD) : S1x128.Idx → EReal := m ((c : Thread nD τ).loc main_arg8)
abbrev A9 (c : Dev nD) : S2048x32.Idx → EReal := m ((c : Thread nD τ).loc main_arg9)
abbrev A10 (c : Dev nD) : S2048x32.Idx → EReal := m ((c : Thread nD τ).loc main_arg10)
abbrev A11 (c : Dev nD) : S2048x1024.Idx → EReal := m ((c : Thread nD τ).loc main_arg11)
abbrev A12 (c : Dev nD) : S1024x2816.Idx → EReal := m ((c : Thread nD τ).loc main_arg12)
abbrev A13 (c : Dev nD) : S2048x1024.Idx → EReal := m ((c : Thread nD τ).loc main_arg13)
abbrev A14 (c : Dev nD) : S2048x1024.Idx → EReal := m ((c : Thread nD τ).loc main_arg14)
abbrev A15 (c : Dev nD) : S1x3072.Idx → EReal := m ((c : Thread nD τ).loc main_arg15)
abbrev A16 (c : Dev nD) : S1x1024.Idx → EReal := m ((c : Thread nD τ).loc main_arg16)

/-- Row `s` of the tile at grid point `t`. -/
def row (t : Fin cfg0.N) (s : Fin 256) : Fin 2048 :=
  ⟨t.val * 256 + s.val, by have := t.isLt; have : cfg0.N = 8 := N_0; omega⟩

/-! The input blocks. -/

theorem rd0 (c : Dev nD) (t : Fin cfg0.N) (s : Fin 256) (k : Fin 512) :
    (iblk m c 0 t : S256x512.Idx → EReal) (ix2 s k) = A0 m c (ix2 (row t s) k) := by
  refine Eq.trans ?_ (congrFun (V_main_arg0 m c) _)
  blk_point [iblk, idx_val t, row]

theorem rd1 (c : Dev nD) (t : Fin cfg0.N) (s : Fin 256) (k : Fin 128) :
    (iblk m c 1 t : S256x128.Idx → EReal) (ix2 s k) = A1 m c (ix2 (row t s) k) := by
  refine Eq.trans ?_ (congrFun (V_main_arg1 m c) _)
  blk_point [iblk, idx_val t, row]

theorem rd2 (c : Dev nD) (t : Fin cfg0.N) (s : Fin 256) (k : Fin 128) :
    (iblk m c 2 t : S256x128.Idx → EReal) (ix2 s k) = A2 m c (ix2 (row t s) k) := by
  refine Eq.trans ?_ (congrFun (V_main_arg2 m c) _)
  blk_point [iblk, idx_val t, row]

theorem rd3 (c : Dev nD) (t : Fin cfg0.N) (s : Fin 256) (k : Fin 512) :
    (iblk m c 3 t : S256x512.Idx → EReal) (ix2 s k) = A3 m c (ix2 (row t s) k) := by
  refine Eq.trans ?_ (congrFun (V_main_arg3 m c) _)
  blk_point [iblk, idx_val t, row]

theorem rd4 (c : Dev nD) (t : Fin cfg0.N) (s : Fin 256) (k : Fin 512) :
    (iblk m c 4 t : S256x512.Idx → EReal) (ix2 s k) = A4 m c (ix2 (row t s) k) := by
  refine Eq.trans ?_ (congrFun (V_main_arg4 m c) _)
  blk_point [iblk, idx_val t, row]

theorem rd5 (c : Dev nD) (t : Fin cfg0.N) (s : Fin 256) (k : Fin 512) :
    (iblk m c 5 t : S256x512.Idx → EReal) (ix2 s k) = A5 m c (ix2 (row t s) k) := by
  refine Eq.trans ?_ (congrFun (V_main_arg5 m c) _)
  blk_point [iblk, idx_val t, row]

theorem rd6 (c : Dev nD) (t : Fin cfg0.N) (s : Fin 256) (k : Fin 512) :
    (iblk m c 6 t : S256x512.Idx → EReal) (ix2 s k) = A6 m c (ix2 (row t s) k) := by
  refine Eq.trans ?_ (congrFun (V_main_arg6 m c) _)
  blk_point [iblk, idx_val t, row]

theorem rd7 (c : Dev nD) (t : Fin cfg0.N) (s : Fin 256) (k : Fin 128) :
    (iblk m c 7 t : S256x128.Idx → EReal) (ix2 s k) = A7 m c (ix2 (row t s) k) := by
  refine Eq.trans ?_ (congrFun (V_main_arg7 m c) _)
  blk_point [iblk, idx_val t, row]

theorem rd8 (c : Dev nD) (t : Fin cfg0.N) (s : Fin 1) (k : Fin 128) :
    (iblk m c 8 t : S1x128.Idx → EReal) (ix2 s k) = A8 m c (ix2 s k) := by
  refine Eq.trans ?_ (congrFun (V_main_arg8 m c) _)
  blk_point [iblk, idx_val t, row]

theorem rd12 (c : Dev nD) (t : Fin cfg0.N) (s : Fin 256) (k : Fin 1024) :
    (iblk m c 12 t : S256x1024.Idx → EReal) (ix2 s k) = A11 m c (ix2 (row t s) k) := by
  refine Eq.trans ?_ (congrFun (V_main_arg11 m c) _)
  blk_point [iblk, idx_val t, row]

theorem rd13 (c : Dev nD) (t : Fin cfg0.N) (s : Fin 1024) (k : Fin 2816) :
    (iblk m c 13 t : S1024x2816.Idx → EReal) (ix2 s k) = A12 m c (ix2 s k) := by
  refine Eq.trans ?_ (congrFun (V_main_arg12 m c) _)
  blk_point [iblk, idx_val t, row]

theorem rd14 (c : Dev nD) (t : Fin cfg0.N) (s : Fin 256) (k : Fin 1024) :
    (iblk m c 14 t : S256x1024.Idx → EReal) (ix2 s k) = A13 m c (ix2 (row t s) k) := by
  refine Eq.trans ?_ (congrFun (V_main_arg13 m c) _)
  blk_point [iblk, idx_val t, row]

theorem rd15 (c : Dev nD) (t : Fin cfg0.N) (s : Fin 256) (k : Fin 1024) :
    (iblk m c 15 t : S256x1024.Idx → EReal) (ix2 s k) = A14 m c (ix2 (row t s) k) := by
  refine Eq.trans ?_ (congrFun (V_main_arg14 m c) _)
  blk_point [iblk, idx_val t, row]

theorem rd17 (c : Dev nD) (t : Fin cfg0.N) (s : Fin 1) (k : Fin 1024) :
    (iblk m c 17 t : S1x1024.Idx → EReal) (ix2 s k) = A16 m c (ix2 s k) := by
  refine Eq.trans ?_ (congrFun (V_main_arg16 m c) _)
  blk_point [iblk, idx_val t, row]

theorem rd9 (c : Dev nD) (t : Fin cfg0.N) (s : Fin 256) (l : Fin 128) :
    (iblk m c 9 t : S256x128.Idx → EReal) (ix2 s l)
      = if h : l.val % 64 < 32 then A9 m c (ix2 (row t s) ⟨l.val % 64, h⟩) else A9 m c (ix2 (row t s) ⟨l.val % 64 - 32, by omega⟩) := by
  refine Eq.trans ?_ ((congrFun (host_cos m c) (ix2 (row t s) l)).trans ((twice_apply _ _ _).trans (halves_apply _ _ _ _)))
  blk_point [iblk, idx_val t, row]

theorem rd10 (c : Dev nD) (t : Fin cfg0.N) (s : Fin 256) (l : Fin 128) :
    (iblk m c 10 t : S256x128.Idx → EReal) (ix2 s l)
      = if h : l.val % 64 < 32 then -A10 m c (ix2 (row t s) ⟨l.val % 64, h⟩) else A10 m c (ix2 (row t s) ⟨l.val % 64 - 32, by omega⟩) := by
  refine Eq.trans ?_ ((congrFun (host_sin m c) (ix2 (row t s) l)).trans ((twice_apply _ _ _).trans (halves_apply _ _ _ _)))
  blk_point [iblk, idx_val t, row]

theorem rd11 (c : Dev nD) (t : Fin cfg0.N) (i j : Fin 128) :
    (iblk m c 11 t : S128x128.Idx → EReal) (ix2 i j) = if i.val / 64 = j.val / 64 then ((1 / 64 : ℝ) : EReal) else 0 := by
  refine Eq.trans ?_ ((congrFun (host_groups m c) (ix2 i j)).trans (groups_apply i j))
  blk_point [iblk, idx_val t, row]

theorem rd16 (c : Dev nD) (t : Fin cfg0.N) (n : Fin 1024) :
    cols (F := Ideal) (iblk m c 16 t) (ix2 0 n) = A15 m c (ix2 0 ⟨1024 + n.val, by omega⟩) := by
  refine Eq.trans ?_ (congrFun (V_main_arg15 m c) _)
  pointwise [cols]
  blk_point [iblk, idx_val t, row]

/-! The tile's values. -/

/-- What the specification's gradients are of the arguments. -/
abbrev sdz (c : Dev nD) : Fin 2048 → Fin 2816 → EReal :=
  BwdIn.Spec.dz (A0 m c) (A3 m c) (A4 m c) (A5 m c) (A6 m c) (A1 m c) (A2 m c) (A7 m c) (A8 m c) (A9 m c) (A10 m c)
abbrev sdh (c : Dev nD) : Fin 2048 → Fin 1024 → EReal :=
  BwdIn.Spec.dh (A0 m c) (A3 m c) (A4 m c) (A5 m c) (A6 m c) (A1 m c) (A2 m c) (A7 m c) (A8 m c) (A9 m c) (A10 m c) (A12 m c)

/-- What the average over a head asks for: the keys, their norm, their gradient and the rotation are finite. -/
structure KeysFinite (c : Dev nD) : Prop where
  f1 : ∀ i, Finite (A1 m c i)
  f7 : ∀ i, Finite (A7 m c i)
  f8 : ∀ i, Finite (A8 m c i)
  f9 : ∀ i, Finite (A9 m c i)
  f10 : ∀ i, Finite (A10 m c i)

theorem unrot_apply (c : Dev nD) (t : Fin cfg0.N) (s : Fin 256) (l : Fin 128) :
    k0_pay9 (F := Ideal) (iblk m c 1 t) (iblk m c 9 t) (iblk m c 10 t) (ix2 s l) = unrot (A1 m c) (A9 m c) (A10 m c) (row t s) (head l) (place l) := by
  rw [pay9_apply, rd1, rd9, rd1, rd10]
  unfold unrot other
  rw [lane_head_place]
  by_cases h : l.val % 64 < 32
  · have e : lane (head l) ⟨(place l).val + 32, by unfold place; dsimp; omega⟩ = ⟨l.val + 32, by omega⟩ := Fin.ext (by unfold lane head place; dsimp; omega)
    have h2 : ¬ (l.val + 32) % 64 < 32 := by omega
    have e3 : (⟨(l.val + 32) % 64 - 32, by omega⟩ : Fin 32) = ⟨l.val % 64, h⟩ := Fin.ext (by dsimp; omega)
    rw [dif_pos h, dif_pos h, dif_neg h2, dif_pos (show (place l).val < 32 from h), e, e3]
    rfl
  · have e : lane (head l) ⟨(place l).val - 32, by unfold place; dsimp; omega⟩ = ⟨l.val - 32, by omega⟩ := Fin.ext (by unfold lane head place; dsimp; omega)
    have h2 : (l.val - 32) % 64 < 32 := by omega
    have e3 : (⟨(l.val - 32) % 64, h2⟩ : Fin 32) = ⟨l.val % 64 - 32, by omega⟩ := Fin.ext (by dsimp; omega)
    rw [dif_neg h, dif_neg h, dif_pos h2, dif_neg (show ¬ (place l).val < 32 from h), e, e3]
    rfl

theorem keyRs_apply (c : Dev nD) (hf : KeysFinite m c) (t : Fin cfg0.N) (s : Fin 256) (l : Fin 128) :
    k0_pay10 (F := Ideal) (iblk m c 7 t) (iblk m c 11 t) (ix2 s l) = rs n64 eps (key (A7 m c) (row t s) (head l)) := by
  rw [pay10_apply]
  simp only [rd7, rd11]
  rw [group_mean (fun j => A7 m c (ix2 (row t s) j) * A7 m c (ix2 (row t s) j))
    (fun j : Fin 128 => if j.val / 64 = l.val / 64 then ((1 / 64 : ℝ) : EReal) else 0) (head l) n64 n64_eq (fun j => (hf.f7 _).mul (hf.f7 _)) (fun j => rfl)]
  rfl

theorem keyHat_apply (c : Dev nD) (hf : KeysFinite m c) (t : Fin cfg0.N) (s : Fin 256) (l : Fin 128) :
    k0_pay11 (F := Ideal) (iblk m c 7 t) (iblk m c 11 t) (ix2 s l)
      = key (A7 m c) (row t s) (head l) (place l) * rs n64 eps (key (A7 m c) (row t s) (head l)) := by
  rw [pay11_apply, keyRs_apply m c hf, rd7]
  unfold key
  rw [lane_head_place]

theorem keyAt_apply (c : Dev nD) (hf : KeysFinite m c) (t : Fin cfg0.N) (s : Fin 256) (l : Fin 128) :
    keyAt (F := Ideal) m c t (ix2 s l) = BwdIn.Spec.keyTerm (A1 m c) (A7 m c) (A9 m c) (A10 m c) (row t s) (head l) (place l) := by
  unfold keyAt Own.keyTerm BwdIn.Spec.keyTerm
  rw [pay12_apply, unrot_apply, keyHat_apply m c hf]

theorem rs_key_finite (c : Dev nD) (hf : KeysFinite m c) (r : Fin 2048) (g : Fin 2) : Finite (rs n64 eps (key (A7 m c) r g)) := by
  obtain ⟨e, he, he0⟩ := eps_eq
  exact rs_finite n64_eq (by norm_num) he he0 (fun _ => hf.f7 _)

theorem keyPart_apply (c : Dev nD) (hf : KeysFinite m c) (t : Fin cfg0.N) (s : Fin 256) (l : Fin 128) :
    keyPart (iblk m c 8 t) (k0_pay9 (F := Ideal) (iblk m c 1 t) (iblk m c 9 t) (iblk m c 10 t)) (k0_pay10 (F := Ideal) (iblk m c 7 t) (iblk m c 11 t))
        (k0_pay11 (F := Ideal) (iblk m c 7 t) (iblk m c 11 t)) (iblk m c 11 t) s l
      = dkey (A1 m c) (A7 m c) (A8 m c) (A9 m c) (A10 m c) (row t s) (head l) (place l) := by
  unfold keyPart
  simp only [unrot_apply, keyRs_apply m c hf, keyHat_apply m c hf, rd8, rd11]
  rw [group_mean (fun j => (unrot (A1 m c) (A9 m c) (A10 m c) (row t s) (head j) (place j) * A8 m c (ix2 0 j))
      * (key (A7 m c) (row t s) (head j) (place j) * rs n64 eps (key (A7 m c) (row t s) (head j))))
    (fun j : Fin 128 => if j.val / 64 = l.val / 64 then ((1 / 64 : ℝ) : EReal) else 0) (head l) n64 n64_eq
    (fun j => ((unrot_finite _ _ _ hf.f1 hf.f9 hf.f10 _ _ _).mul (hf.f8 _)).mul ((hf.f7 _).mul (rs_key_finite m c hf _ _))) (fun j => rfl)]
  unfold dkey backK
  dsimp only
  have e : ∀ d : Fin 64, (⟨(head l).val * 64 + d.val, by have := (head l).isLt; omega⟩ : Fin 128) = lane (head l) d := fun _ => rfl
  simp only [e, head_lane, place_lane, lane_head_place]

theorem dzAt_apply (c : Dev nD) (hf : KeysFinite m c) (t : Fin cfg0.N) (s : Fin 256) (n : Fin 2816) :
    dzAt (F := Ideal) m c t (ix2 s n) = sdz m c (row t s) n := by
  unfold dzAt Own.dz sdz BwdIn.Spec.dz
  rw [pay14_apply]
  by_cases h0 : n.val < 512
  · rw [dif_pos h0, dif_pos h0]; exact rd0 m c t s _
  rw [dif_neg h0, dif_neg h0]
  by_cases h1 : n.val < 640
  · rw [dif_pos h1, dif_pos h1]; exact keyPart_apply m c hf t s _
  rw [dif_neg h1, dif_neg h1]
  by_cases h2 : n.val < 768
  · rw [dif_pos h2, dif_pos h2]; exact rd2 m c t s _
  rw [dif_neg h2, dif_neg h2]
  by_cases h3 : n.val < 1280
  · rw [dif_pos h3, dif_pos h3]; exact rd3 m c t s _
  rw [dif_neg h3, dif_neg h3]
  by_cases h4 : n.val < 1792
  · rw [dif_pos h4, dif_pos h4]; exact rd4 m c t s _
  rw [dif_neg h4, dif_neg h4]
  by_cases h5 : n.val < 2304
  · rw [dif_pos h5, dif_pos h5]; exact rd5 m c t s _
  rw [dif_neg h5, dif_neg h5]; exact rd6 m c t s _

theorem dhAt_apply (c : Dev nD) (hf : KeysFinite m c) (t : Fin cfg0.N) (s : Fin 256) (n : Fin 1024) :
    dhAt (F := Ideal) m c t (ix2 s n) = sdh m c (row t s) n := by
  unfold dhAt Own.dh sdh BwdIn.Spec.dh
  rw [pay15_apply]
  exact Finset.sum_congr rfl fun k _ => by rw [rd13]; exact congrArg (· * A12 m c (ix2 n k)) (dzAt_apply m c hf t s k)

theorem xRs_apply (c : Dev nD) (t : Fin cfg0.N) (s : Fin 256) :
    k0_pay18 (F := Ideal) (iblk m c 14 t) (ix2 s 0) = rs n1024 eps (xrow (A13 m c) (row t s)) := by
  rw [pay18_apply]
  simp only [rd14]
  rfl

theorem xHat_apply (c : Dev nD) (t : Fin cfg0.N) (s : Fin 256) (n : Fin 1024) :
    k0_pay19 (F := Ideal) (iblk m c 14 t) (ix2 s n) = xhat (A13 m c) (row t s) n := by
  rw [pay19_apply, xRs_apply, rd14]
  rfl

theorem du_apply (c : Dev nD) (hf : KeysFinite m c) (t : Fin cfg0.N) (s : Fin 256) (n : Fin 1024) :
    k0_pay1 (F := Ideal) (dhAt (F := Ideal) m c t) (cols (F := Ideal) (iblk m c 16 t)) (k0_pay22 (F := Ideal)) (ix2 s n)
      = du (A15 m c) (sdh m c) (row t s) n := by
  rw [pay1_apply, dhAt_apply m c hf, rd16]
  rfl

theorem gradX_apply (c : Dev nD) (hf : KeysFinite m c) (t : Fin cfg0.N) (s : Fin 256) (n : Fin 1024) :
    gradX (F := Ideal) (dhAt m c t) (iblk m c 14 t) (iblk m c 15 t) (iblk m c 16 t) (iblk m c 17 t) (ix2 s n)
      = gx (A13 m c) (A14 m c) (A15 m c) (A16 m c) (sdh m c) (row t s) n := by
  unfold gradX
  rw [pay3_apply]
  simp only [du_apply m c hf, xRs_apply, xHat_apply, rd15, rd17]
  rfl

/-! What a tile adds to the sums. -/

theorem gW_apply (c : Dev nD) (hf : KeysFinite m c) (t : Fin cfg0.N) (x : FVec Ideal S1024x2816 .f32) (a : Fin 1024) (n : Fin 2816) :
    gW (F := Ideal) (dzAt m c t) (iblk m c 12 t) x (ix2 a n) = x (ix2 a n) + ∑ s : Fin 256, A11 m c (ix2 (row t s) a) * sdz m c (row t s) n := by
  unfold gW
  rw [pay17_apply]
  simp only [rd12, dzAt_apply m c hf]

theorem gShift_apply (c : Dev nD) (hf : KeysFinite m c) (t : Fin cfg0.N) (x : FVec Ideal S1x1024 .f32) (n : Fin 1024) :
    gShift (F := Ideal) (dhAt m c t) x (ix2 0 n) = x (ix2 0 n) + ∑ s : Fin 256, sdh m c (row t s) n := by
  unfold gShift
  rw [pay20_apply]
  simp only [dhAt_apply m c hf]

theorem gScale_apply (c : Dev nD) (hf : KeysFinite m c) (t : Fin cfg0.N) (x : FVec Ideal S1x1024 .f32) (n : Fin 1024) :
    gScale (F := Ideal) (dhAt m c t) (iblk m c 14 t) (iblk m c 17 t) x (ix2 0 n)
      = x (ix2 0 n) + ∑ s : Fin 256, sdh m c (row t s) n * (xhat (A13 m c) (row t s) n * A16 m c (ix2 0 n)) := by
  unfold gScale
  rw [pay21_apply]
  simp only [dhAt_apply m c hf, xHat_apply, rd17]

theorem gNorm_apply (c : Dev nD) (hf : KeysFinite m c) (t : Fin cfg0.N) (x : FVec Ideal S1x1024 .f32) (n : Fin 1024) :
    gNorm (F := Ideal) (dhAt m c t) (iblk m c 14 t) (iblk m c 16 t) x (ix2 0 n)
      = x (ix2 0 n) + ∑ s : Fin 256, du (A15 m c) (sdh m c) (row t s) n * xhat (A13 m c) (row t s) n := by
  unfold gNorm
  rw [pay2_apply]
  simp only [du_apply m c hf, xHat_apply]

theorem gKey_apply (c : Dev nD) (hf : KeysFinite m c) (t : Fin cfg0.N) (x : FVec Ideal S1x128 .f32) (l : Fin 128) :
    gKey (F := Ideal) (keyAt m c t) x (ix2 0 l)
      = x (ix2 0 l) + ∑ s : Fin 256, BwdIn.Spec.keyTerm (A1 m c) (A7 m c) (A9 m c) (A10 m c) (row t s) (head l) (place l) := by
  unfold gKey
  rw [pay13_apply]
  simp only [keyAt_apply m c hf]

end Cert.BwdInIdeal.Val

end
-- ==== Proof.BwdIn.Final.lean ====
/- What the result arrays of `bwd_in` hold after the whole grid. Hand-written, untrusted. -/
module

public import proofs.«01_k».proof.Proof.BwdIn.Run
public import proofs.«01_k».proof.Proof.BwdIn.Tile

@[expose] public section

set_option maxRecDepth 16384

noncomputable section

open Idealize.ShloMosaic Idealize.ShloMosaic.TcCoe Idealize.SL.Sem
open Idealize.ShloMosaic.Pipeline (Dat)
open scoped BigOperators

namespace Cert.BwdInIdeal.Val

open Cert.BwdInIdeal Cert.BwdInIdeal.Gen Cert.BwdInIdeal.Own BwdIn.Spec

variable (m : (ℓ : Loc nD τ sig) → Buf (Elt Ideal) ℓ)

theorem emb18 (t : Fin cfg0.N) (s : Fin 256) (n : Fin 1024) :
    ((cfg0.win 18).blk t).view.emb (ix2 s n) = ix2 (row t s) n := by
  blk_ext [idx_val t, row]

/-- What result 0 holds: the gradient of the layer's input. -/
abbrev G18 (c : Dev nD) : S2048x1024.Idx → EReal := fun i => gx (A13 m c) (A14 m c) (A15 m c) (A16 m c) (sdh m c) (i 0) (i 1)

theorem final_18 (c : Dev nD) (hf : KeysFinite m c) : (Own.dats m 0 c).arrAt 18 cfg0.N = G18 m c := by
  refine (Own.dats m 0 c).arrAt_eq_of_covers 18 _ (by decide +kernel) fun t hfl y => ?_
  obtain ⟨s, n, rfl⟩ : ∃ s n, y = (ix2 s n : S256x1024.Idx) := ⟨y 0, y 1, eq_ix2 y⟩
  rw [emb18, after_18]
  exact gradX_apply m c hf t s n

/-- What tile `t` adds to result 1. -/
def part19 (c : Dev nD) (t : Fin cfg0.N) (j : S1024x2816.Idx) : EReal :=
  ∑ s : Fin 256, A11 m c (ix2 (row t s) (j 0)) * sdz m c (row t s) (j 1)

/-- What result 1 holds: the weights' gradient. -/
abbrev G19 (c : Dev nD) : S1024x2816.Idx → EReal := fun i => gw (A11 m c) (sdz m c) (i 0) (i 1)

/-- The tiles' parts sum to the whole. -/
theorem sum_part19 (c : Dev nD) (j : S1024x2816.Idx) : (∑ t : Fin cfg0.N, part19 m c t j) = G19 m c j := by
  show _ = (∑ r : Fin 2048, A11 m c (ix2 r (j 0)) * sdz m c r (j 1) : EReal)
  rw [Fin.sum_univ_tiles 8 256 rfl]
  rfl

theorem final_19 (c : Dev nD) (hf : KeysFinite m c) : (Own.dats m 0 c).arrAt 19 cfg0.N = G19 m c := by
  refine (Own.dats m 0 c).arrAt_eq_of_after_last 19 t0_7 (by decide +kernel) _ fun j => ?_
  blk_simp
  rw [after_19, Pipeline.eq_sum_fin_of_reset_step_apply_last (fun n h => (sumsAt m c n h).1) 8 (fun _ => 0)
    (part19 m c)
    (fun t h j => by
      obtain ⟨k, n, rfl⟩ : ∃ k n, j = (ix2 k n : S1024x2816.Idx) := ⟨j 0, j 1, eq_ix2 j⟩
      rw [sumsAt_first m c t h]
      refine (gW_apply m c hf t _ k n).trans ?_
      rw [show (sumStart (F := Ideal)).1 = k0_pay4 (F := Ideal) from rfl, pay4_apply]; rfl)
    (fun t h j => by
      obtain ⟨k, n, rfl⟩ : ∃ k n, j = (ix2 k n : S1024x2816.Idx) := ⟨j 0, j 1, eq_ix2 j⟩
      rw [sumsAt_later m c t h]
      exact gW_apply m c hf t _ k n)
    (le_of_eq N_0) t0_7 rfl j, zero_add]
  exact sum_part19 m c j

/-- What tile `t` adds to result 2. -/
def part20 (c : Dev nD) (t : Fin cfg0.N) (j : S1x1024.Idx) : EReal :=
  ∑ s : Fin 256, sdh m c (row t s) (j 1)

/-- What result 2 holds: the shift's gradient. -/
abbrev G20 (c : Dev nD) : S1x1024.Idx → EReal := fun i => gshift (sdh m c) (i 1)

/-- The tiles' parts sum to the whole. -/
theorem sum_part20 (c : Dev nD) (j : S1x1024.Idx) : (∑ t : Fin cfg0.N, part20 m c t j) = G20 m c j := by
  show _ = (∑ r : Fin 2048, sdh m c r (j 1) : EReal)
  rw [Fin.sum_univ_tiles 8 256 rfl]
  rfl

theorem final_20 (c : Dev nD) (hf : KeysFinite m c) : (Own.dats m 0 c).arrAt 20 cfg0.N = G20 m c := by
  refine (Own.dats m 0 c).arrAt_eq_of_after_last 20 t0_7 (by decide +kernel) _ fun j => ?_
  blk_simp
  rw [after_20, Pipeline.eq_sum_fin_of_reset_step_apply_last (fun n h => (sumsAt m c n h).2.1) 8 (fun _ => 0)
    (part20 m c)
    (fun t h j => by
      obtain ⟨k, n, rfl⟩ : ∃ k n, j = (ix2 k n : S1x1024.Idx) := ⟨j 0, j 1, eq_ix2 j⟩
      obtain rfl : k = 0 := Subsingleton.elim _ _
      rw [sumsAt_first m c t h]
      refine (gShift_apply m c hf t _ n).trans ?_
      rw [show (sumStart (F := Ideal)).2.1 = k0_pay5 (F := Ideal) from rfl, pay5_apply]; rfl)
    (fun t h j => by
      obtain ⟨k, n, rfl⟩ : ∃ k n, j = (ix2 k n : S1x1024.Idx) := ⟨j 0, j 1, eq_ix2 j⟩
      obtain rfl : k = 0 := Subsingleton.elim _ _
      rw [sumsAt_later m c t h]
      exact gShift_apply m c hf t _ n)
    (le_of_eq N_0) t0_7 rfl j, zero_add]
  exact sum_part20 m c j

/-- What tile `t` adds to result 3. -/
def part21 (c : Dev nD) (t : Fin cfg0.N) (j : S1x1024.Idx) : EReal :=
  ∑ s : Fin 256, sdh m c (row t s) (j 1) * (xhat (A13 m c) (row t s) (j 1) * A16 m c (ix2 0 (j 1)))

/-- What result 3 holds: the scale's gradient. -/
abbrev G21 (c : Dev nD) : S1x1024.Idx → EReal := fun i => gscale (A13 m c) (A16 m c) (sdh m c) (i 1)

/-- The tiles' parts sum to the whole. -/
theorem sum_part21 (c : Dev nD) (j : S1x1024.Idx) : (∑ t : Fin cfg0.N, part21 m c t j) = G21 m c j := by
  show _ = (∑ r : Fin 2048, sdh m c r (j 1) * (xhat (A13 m c) r (j 1) * A16 m c (ix2 0 (j 1))) : EReal)
  rw [Fin.sum_univ_tiles 8 256 rfl]
  rfl

theorem final_21 (c : Dev nD) (hf : KeysFinite m c) : (Own.dats m 0 c).arrAt 21 cfg0.N = G21 m c := by
  refine (Own.dats m 0 c).arrAt_eq_of_after_last 21 t0_7 (by decide +kernel) _ fun j => ?_
  blk_simp
  rw [after_21, Pipeline.eq_sum_fin_of_reset_step_apply_last (fun n h => (sumsAt m c n h).2.2.1) 8 (fun _ => 0)
    (part21 m c)
    (fun t h j => by
      obtain ⟨k, n, rfl⟩ : ∃ k n, j = (ix2 k n : S1x1024.Idx) := ⟨j 0, j 1, eq_ix2 j⟩
      obtain rfl : k = 0 := Subsingleton.elim _ _
      rw [sumsAt_first m c t h]
      refine (gScale_apply m c hf t _ n).trans ?_
      rw [show (sumStart (F := Ideal)).2.2.1 = k0_pay6 (F := Ideal) from rfl, pay6_apply]; rfl)
    (fun t h j => by
      obtain ⟨k, n, rfl⟩ : ∃ k n, j = (ix2 k n : S1x1024.Idx) := ⟨j 0, j 1, eq_ix2 j⟩
      obtain rfl : k = 0 := Subsingleton.elim _ _
      rw [sumsAt_later m c t h]
      exact gScale_apply m c hf t _ n)
    (le_of_eq N_0) t0_7 rfl j, zero_add]
  exact sum_part21 m c j

/-- What tile `t` adds to result 4. -/
def part22 (c : Dev nD) (t : Fin cfg0.N) (j : S1x1024.Idx) : EReal :=
  ∑ s : Fin 256, du (A15 m c) (sdh m c) (row t s) (j 1) * xhat (A13 m c) (row t s) (j 1)

/-- What result 4 holds: the norm weight's gradient. -/
abbrev G22 (c : Dev nD) : S1x1024.Idx → EReal := fun i => gnorm (A13 m c) (A15 m c) (sdh m c) (i 1)

/-- The tiles' parts sum to the whole. -/
theorem sum_part22 (c : Dev nD) (j : S1x1024.Idx) : (∑ t : Fin cfg0.N, part22 m c t j) = G22 m c j := by
  show _ = (∑ r : Fin 2048, du (A15 m c) (sdh m c) r (j 1) * xhat (A13 m c) r (j 1) : EReal)
  rw [Fin.sum_univ_tiles 8 256 rfl]
  rfl

theorem final_22 (c : Dev nD) (hf : KeysFinite m c) : (Own.dats m 0 c).arrAt 22 cfg0.N = G22 m c := by
  refine (Own.dats m 0 c).arrAt_eq_of_after_last 22 t0_7 (by decide +kernel) _ fun j => ?_
  blk_simp
  rw [after_22, Pipeline.eq_sum_fin_of_reset_step_apply_last (fun n h => (sumsAt m c n h).2.2.2.1) 8 (fun _ => 0)
    (part22 m c)
    (fun t h j => by
      obtain ⟨k, n, rfl⟩ : ∃ k n, j = (ix2 k n : S1x1024.Idx) := ⟨j 0, j 1, eq_ix2 j⟩
      obtain rfl : k = 0 := Subsingleton.elim _ _
      rw [sumsAt_first m c t h]
      refine (gNorm_apply m c hf t _ n).trans ?_
      rw [show (sumStart (F := Ideal)).2.2.2.1 = k0_pay7 (F := Ideal) from rfl, pay7_apply]; rfl)
    (fun t h j => by
      obtain ⟨k, n, rfl⟩ : ∃ k n, j = (ix2 k n : S1x1024.Idx) := ⟨j 0, j 1, eq_ix2 j⟩
      obtain rfl : k = 0 := Subsingleton.elim _ _
      rw [sumsAt_later m c t h]
      exact gNorm_apply m c hf t _ n)
    (le_of_eq N_0) t0_7 rfl j, zero_add]
  exact sum_part22 m c j

/-- What tile `t` adds to result 5. -/
def part23 (c : Dev nD) (t : Fin cfg0.N) (j : S1x128.Idx) : EReal :=
  ∑ s : Fin 256, BwdIn.Spec.keyTerm (A1 m c) (A7 m c) (A9 m c) (A10 m c) (row t s) (head (j 1)) (place (j 1))

/-- What result 5 holds: the gradient of the keys' norm weight. -/
abbrev G23 (c : Dev nD) : S1x128.Idx → EReal := fun i => gkey (A1 m c) (A7 m c) (A9 m c) (A10 m c) (i 1)

/-- The tiles' parts sum to the whole. -/
theorem sum_part23 (c : Dev nD) (j : S1x128.Idx) : (∑ t : Fin cfg0.N, part23 m c t j) = G23 m c j := by
  show _ = (∑ r : Fin 2048, BwdIn.Spec.keyTerm (A1 m c) (A7 m c) (A9 m c) (A10 m c) r (head (j 1)) (place (j 1)) : EReal)
  rw [Fin.sum_univ_tiles 8 256 rfl]
  rfl

theorem final_23 (c : Dev nD) (hf : KeysFinite m c) : (Own.dats m 0 c).arrAt 23 cfg0.N = G23 m c := by
  refine (Own.dats m 0 c).arrAt_eq_of_after_last 23 t0_7 (by decide +kernel) _ fun j => ?_
  blk_simp
  rw [after_23, Pipeline.eq_sum_fin_of_reset_step_apply_last (fun n h => (sumsAt m c n h).2.2.2.2) 8 (fun _ => 0)
    (part23 m c)
    (fun t h j => by
      obtain ⟨k, n, rfl⟩ : ∃ k n, j = (ix2 k n : S1x128.Idx) := ⟨j 0, j 1, eq_ix2 j⟩
      obtain rfl : k = 0 := Subsingleton.elim _ _
      rw [sumsAt_first m c t h]
      refine (gKey_apply m c hf t _ n).trans ?_
      rw [show (sumStart (F := Ideal)).2.2.2.2 = k0_pay8 (F := Ideal) from rfl, pay8_apply]; rfl)
    (fun t h j => by
      obtain ⟨k, n, rfl⟩ : ∃ k n, j = (ix2 k n : S1x128.Idx) := ⟨j 0, j 1, eq_ix2 j⟩
      obtain rfl : k = 0 := Subsingleton.elim _ _
      rw [sumsAt_later m c t h]
      exact gKey_apply m c hf t _ n)
    (le_of_eq N_0) t0_7 rfl j, zero_add]
  exact sum_part23 m c j

end Cert.BwdInIdeal.Val

end
-- ==== Proof.BwdIn.Ref.lean ====
/- What the reference of `bwd_in` holds, read at an entry: the mathematics of Spec.lean. Hand-written, untrusted. -/
module

public import proofs.«01_k».proof.Proof.BwdIn.Spec
public import proofs.«01_k».proof.Proof.Gen.BwdInRefIdeal.Read
public import Idealize.ShloMosaic.Lib.IdealHost
public import Idealize.ShloMosaic.Lib.Pipeline.ValueKit
public import Idealize.ShloMosaic.Lib.Tactic.WordOmega
public import Idealize.ShloMosaic.Lib.Pointwise

@[expose] public section

set_option maxRecDepth 16384

noncomputable section

open Idealize.ShloMosaic Idealize.ShloMosaic.TcCoe Idealize.SL.Sem
open scoped BigOperators

namespace Cert.BwdInRefIdeal.Val

open Cert.BwdInRefIdeal Cert.BwdInRefIdeal.Gen Cert.BwdInRefIdeal.Read BwdIn.Spec BwdIn.Rms

variable (x0 : FVec Ideal S2048x512 .f32)
variable (x1 : FVec Ideal S2048x128 .f32)
variable (x2 : FVec Ideal S2048x128 .f32)
variable (x3 : FVec Ideal S2048x512 .f32)
variable (x4 : FVec Ideal S2048x512 .f32)
variable (x5 : FVec Ideal S2048x512 .f32)
variable (x6 : FVec Ideal S2048x512 .f32)
variable (x7 : FVec Ideal S2048x128 .f32)
variable (x8 : FVec Ideal S1x128 .f32)
variable (x9 : FVec Ideal S2048x32 .f32)
variable (x10 : FVec Ideal S2048x32 .f32)
variable (x11 : FVec Ideal S2048x1024 .bf16)
variable (x12 : FVec Ideal S1024x2816 .bf16)
variable (x13 : FVec Ideal S2048x1024 .f32)
variable (x14 : FVec Ideal S2048x1024 .f32)
variable (x15 : FVec Ideal S1x3072 .f32)
variable (x16 : FVec Ideal S1x1024 .f32)
variable (r : Fin 2048) (g : Fin 2) (d : Fin 64)

theorem v0_apply : val_main_v0 (F := Ideal) x7 (ix3 r g d) = key x7 r g d := by
  pointwise [val_main_v0, key, lane]

theorem v8_apply (i : Fin 1) : val_main_v8 (F := Ideal) x7 (ix3 r g i) = ms n64 eps (key x7 r g) := by
  pointwise [val_main_v8, val_main_v7, val_main_cst_1, val_main_v6, val_main_v5, val_main_cst_0, val_main_v4, val_main_v3, val_main_cst, val_main_v2, v0_apply, ms, n64, eps]

theorem v9_apply (i : Fin 1) : val_main_v9 (F := Ideal) x7 (ix3 r g i) = rs n64 eps (key x7 r g) := by
  pointwise [val_main_v9, v8_apply, rs]

theorem v12_apply (i : Fin 1) : val_main_v12 (F := Ideal) x7 (ix3 r g i) = minusHalf * Ideal.div (rs n64 eps (key x7 r g)) (ms n64 eps (key x7 r g)) := by
  pointwise [val_main_v12, val_main_v11, val_main_cst_2, val_main_v10, v9_apply, v8_apply, minusHalf]

theorem v14_apply : val_main_v14 (F := Ideal) x7 (ix3 r g d) = key x7 r g d * rs n64 eps (key x7 r g) := by
  pointwise [val_main_v14, val_main_v13, v0_apply, v9_apply]

theorem v33_apply : val_main_v33 (F := Ideal) x1 (ix3 r g d) = x1 (ix2 r (lane g d)) := by
  pointwise [val_main_v33, lane]

theorem v34_apply (f : Fin 32) : val_main_v34 (F := Ideal) x1 (ix3 r g f) = x1 (ix2 r (lane g ⟨f.val, by omega⟩)) := by
  pointwise [val_main_v34, v33_apply]

theorem v35_apply (f : Fin 32) : val_main_v35 (F := Ideal) x1 (ix3 r g f) = x1 (ix2 r (lane g ⟨f.val + 32, by omega⟩)) := by
  pointwise [val_main_v35, v33_apply]
  exact congrArg (fun z => x1 (ix2 r (lane g z))) (Fin.ext (Nat.add_comm _ _))

theorem v46_apply (f : Fin 32) : val_main_v46 (F := Ideal) x1 x9 x10 (ix3 r g f) = x1 (ix2 r (lane g ⟨f.val, by omega⟩)) * x9 (ix2 r f) + x1 (ix2 r (lane g ⟨f.val + 32, by omega⟩)) * x10 (ix2 r f) := by
  pointwise [val_main_v46, val_main_v37, val_main_v36, val_main_v19, val_main_v45, val_main_v44, val_main_v18, v34_apply, v35_apply]
  exact add_comm _ _

theorem v43_apply (f : Fin 32) : val_main_v43 (F := Ideal) x1 x9 x10 (ix3 r g f) = x1 (ix2 r (lane g ⟨f.val + 32, by omega⟩)) * x9 (ix2 r f) + x1 (ix2 r (lane g ⟨f.val, by omega⟩)) * -x10 (ix2 r f) := by
  pointwise [val_main_v43, val_main_v39, val_main_v38, val_main_v18, val_main_v42, val_main_v41, val_main_v19, val_main_v40, v34_apply, v35_apply]
  rw [mul_neg]
  exact congrArg (_ + ·) (neg_mul _ _)

theorem v47_apply : val_main_v47 (F := Ideal) x1 x9 x10 (ix3 r g d) = unrot x1 x9 x10 r g d := by
  unfold unrot
  by_cases h : d.val < 32
  · rw [dif_pos h]
    have e := v46_apply x1 x9 x10 r g ⟨d.val, h⟩
    rw [← e]
    generalize hy : val_main_v46 (F := Ideal) x1 x9 x10 = y
    generalize hz : val_main_v43 (F := Ideal) x1 x9 x10 = z
    unfold val_main_v47
    rw [hy, hz]
    pointwise []
    rw [dif_pos h]
  · rw [dif_neg h]
    have e := v43_apply x1 x9 x10 r g ⟨d.val - 32, by omega⟩
    have e' : (⟨d.val - 32 + 32, by omega⟩ : Fin 64) = d := Fin.ext (by dsimp; omega)
    dsimp only at e
    rw [e'] at e
    rw [← e]
    generalize hy : val_main_v46 (F := Ideal) x1 x9 x10 = y
    generalize hz : val_main_v43 (F := Ideal) x1 x9 x10 = z
    unfold val_main_v47
    rw [hy, hz]
    pointwise []
    rw [dif_neg h]

theorem v49_apply : val_main_v49 (F := Ideal) x1 x7 x9 x10 (ix2 g d) = ∑ r : Fin 2048, keyTerm x1 x7 x9 x10 r g d := by
  pointwise [val_main_v49, val_main_cst_3, val_main_v48, v14_apply, v47_apply, keyTerm]
  exact Finset.sum_congr rfl fun r _ => mul_comm _ _

theorem v53_apply : val_main_v53 (F := Ideal) x1 x7 x9 x10 (ix2 g d) = ∑ r : Fin 2048, keyTerm x1 x7 x9 x10 r g d := by
  pointwise [val_main_v53, val_main_cst_4, val_main_v50, v49_apply]
  exact Fin.sum_univ_one _

theorem v68_apply (i : Fin 1) (l : Fin 128) : val_main_v68 (F := Ideal) x1 x7 x9 x10 (ix2 i l) = gkey x1 x7 x9 x10 l := by
  obtain rfl : i = 0 := Subsingleton.elim _ _
  pointwise [val_main_v68, v53_apply, gkey]
  rfl

theorem v52_apply : val_main_v52 (F := Ideal) x1 x8 x9 x10 (ix3 r g d) = unrot x1 x9 x10 r g d * x8 (ix2 0 (lane g d)) := by
  pointwise [val_main_v52, v47_apply, val_main_v51, val_main_v15, val_main_v1, lane]

theorem v62_apply : val_main_v62 (F := Ideal) x1 x7 x8 x9 x10 (ix2 r g) = q n64 eps (key x7 r g) (fun e => unrot x1 x9 x10 r g e * x8 (ix2 0 (lane g e))) minusHalf := by
  pointwise [val_main_v62, val_main_cst_7, val_main_v61, val_main_v60, val_main_cst_6, val_main_v59, v12_apply, val_main_v56, val_main_v55, val_main_cst_5, val_main_v54, v52_apply, v0_apply, q, n64]
  exact Fin.sum_univ_one _

theorem v67_apply : val_main_v67 (F := Ideal) x1 x7 x8 x9 x10 (ix3 r g d) = backR n64 eps (key x7 r g) (fun e => unrot x1 x9 x10 r g e * x8 (ix2 0 (lane g e))) minusHalf d := by
  pointwise [val_main_v67, val_main_v66, val_main_v65, val_main_v64, val_main_v63, v62_apply, val_main_v58, val_main_v57, v52_apply, v9_apply, v0_apply, backR]

/-- The keys and what they are multiplied by are finite. -/
structure KeysFinite : Prop where
  f1 : ∀ i, Finite (x1 i)
  f7 : ∀ i, Finite (x7 i)
  f8 : ∀ i, Finite (x8 i)
  f9 : ∀ i, Finite (x9 i)
  f10 : ∀ i, Finite (x10 i)

variable (hf : KeysFinite x1 x7 x8 x9 x10)

include hf in
theorem v67_dkey : val_main_v67 (F := Ideal) x1 x7 x8 x9 x10 (ix3 r g d) = dkey x1 x7 x8 x9 x10 r g d := by
  obtain ⟨e, he, he0⟩ := eps_eq
  rw [v67_apply]
  exact back_eq n64_eq (by norm_num) he he0 _ minusHalf_eq (fun _ => hf.f7 _)
    (fun _ => (unrot_finite _ _ _ hf.f1 hf.f9 hf.f10 _ _ _).mul (hf.f8 _)) _

include hf in
theorem v69_apply (l : Fin 128) : val_main_v69 (F := Ideal) x1 x7 x8 x9 x10 (ix2 r l) = dkey x1 x7 x8 x9 x10 r (head l) (place l) := by
  rw [← v67_dkey x1 x7 x8 x9 x10 r (head l) (place l) hf]
  generalize hy : val_main_v67 (F := Ideal) x1 x7 x8 x9 x10 = y
  unfold val_main_v69
  rw [hy]
  pointwise []
  rfl

include hf in
theorem v70_apply (n : Fin 2816) : val_main_v70 (F := Ideal) x0 x1 x2 x3 x4 x5 x6 x7 x8 x9 x10 (ix2 r n) = dz x0 x3 x4 x5 x6 x1 x2 x7 x8 x9 x10 r n := by
  unfold dz
  have e := fun l => v69_apply x1 x7 x8 x9 x10 r hf l
  simp only [← e]
  generalize hy : val_main_v69 (F := Ideal) x1 x7 x8 x9 x10 = y
  unfold val_main_v70
  rw [hy]
  pointwise []
  by_cases h0 : n.val < 512
  · rw [dif_pos h0, dif_pos h0]
  rw [dif_neg h0, dif_neg h0]
  by_cases h1 : n.val < 640
  · rw [dif_pos h1, dif_pos (by omega)]
  rw [dif_neg h1, dif_neg (by omega)]
  simp only [Nat.sub_sub, Nat.reduceAdd]
  by_cases h2 : n.val < 768
  · rw [dif_pos h2, dif_pos (by omega)]
  rw [dif_neg h2, dif_neg (by omega)]
  by_cases h3 : n.val < 1280
  · rw [dif_pos h3, dif_pos (by omega)]
  rw [dif_neg h3, dif_neg (by omega)]
  by_cases h4 : n.val < 1792
  · rw [dif_pos h4, dif_pos (by omega)]
  rw [dif_neg h4, dif_neg (by omega)]
  by_cases h5 : n.val < 2304
  · rw [dif_pos h5, dif_pos (by omega)]
  rw [dif_neg h5, dif_neg (by omega)]

include hf in
theorem v75_apply (a : Fin 1024) (n : Fin 2816) : val_main_v75 (F := Ideal) x0 x1 x2 x3 x4 x5 x6 x7 x8 x9 x10 x11 (ix2 a n) = gw x11 (dz x0 x3 x4 x5 x6 x1 x2 x7 x8 x9 x10) a n := by
  unfold gw
  have e := fun r => v70_apply x0 x1 x2 x3 x4 x5 x6 x7 x8 x9 x10 r hf n
  simp only [← e]
  generalize hy : val_main_v70 (F := Ideal) x0 x1 x2 x3 x4 x5 x6 x7 x8 x9 x10 = y
  unfold val_main_v75 val_main_v74
  rw [hy]
  pointwise [val_main_v71]
  exact Finset.sum_congr rfl fun r _ => mul_comm _ _

include hf in
theorem v76_apply (n : Fin 1024) : val_main_v76 (F := Ideal) x0 x1 x2 x3 x4 x5 x6 x7 x8 x9 x10 x12 (ix2 r n) = dh x0 x3 x4 x5 x6 x1 x2 x7 x8 x9 x10 x12 r n := by
  unfold dh
  have e := fun k => v70_apply x0 x1 x2 x3 x4 x5 x6 x7 x8 x9 x10 r hf k
  simp only [← e]
  generalize hy : val_main_v70 (F := Ideal) x0 x1 x2 x3 x4 x5 x6 x7 x8 x9 x10 = y
  unfold val_main_v76
  rw [hy]
  pointwise [val_main_v72]

include hf in
theorem v102_apply (i : Fin 1) (n : Fin 1024) : val_main_v102 (F := Ideal) x0 x1 x2 x3 x4 x5 x6 x7 x8 x9 x10 x12 (ix2 i n) = gshift (dh x0 x3 x4 x5 x6 x1 x2 x7 x8 x9 x10 x12) n := by
  have e := fun r n => v76_apply x0 x1 x2 x3 x4 x5 x6 x7 x8 x9 x10 x12 r hf n
  unfold gshift
  simp only [← e]
  generalize hy : val_main_v76 (F := Ideal) x0 x1 x2 x3 x4 x5 x6 x7 x8 x9 x10 x12 = y
  unfold val_main_v102 val_main_v101
  rw [hy]
  pointwise [val_main_cst_13]

theorem v86_apply (i : Fin 1) : val_main_v86 (F := Ideal) x13 (ix2 r i) = ms n1024 eps (xrow x13 r) := by
  pointwise [val_main_v86, val_main_v85, val_main_cst_10, val_main_v84, val_main_v83, val_main_cst_9, val_main_v82, val_main_v81, val_main_cst_8, val_main_v80, ms, xrow, n1024, eps]

theorem v87_apply (i : Fin 1) : val_main_v87 (F := Ideal) x13 (ix2 r i) = rs n1024 eps (xrow x13 r) := by
  pointwise [val_main_v87, v86_apply, rs]

theorem v90_apply (i : Fin 1) : val_main_v90 (F := Ideal) x13 (ix2 r i) = minusHalf * Ideal.div (rs n1024 eps (xrow x13 r)) (ms n1024 eps (xrow x13 r)) := by
  pointwise [val_main_v90, val_main_v89, val_main_cst_11, val_main_v88, v87_apply, v86_apply, minusHalf]

theorem v92_apply (n : Fin 1024) : val_main_v92 (F := Ideal) x13 (ix2 r n) = xhat x13 r n := by
  pointwise [val_main_v92, val_main_v91, v87_apply, xhat, xrow]

theorem v96_apply (i : Fin 1) (n : Fin 1024) : val_main_v96 (F := Ideal) x15 (ix2 i n) = one + x15 (ix2 0 ⟨1024 + n.val, by omega⟩) := by
  obtain rfl : i = 0 := Subsingleton.elim _ _
  pointwise [val_main_v96, val_main_v95, val_main_cst_12, val_main_v78, one]

include hf in
theorem v105_apply (i : Fin 1) (n : Fin 1024) : val_main_v105 (F := Ideal) x0 x1 x2 x3 x4 x5 x6 x7 x8 x9 x10 x12 x13 x16 (ix2 i n) = gscale x13 x16 (dh x0 x3 x4 x5 x6 x1 x2 x7 x8 x9 x10 x12) n := by
  have e := fun r n => v76_apply x0 x1 x2 x3 x4 x5 x6 x7 x8 x9 x10 x12 r hf n
  unfold gscale
  simp only [← e]
  generalize hy : val_main_v76 (F := Ideal) x0 x1 x2 x3 x4 x5 x6 x7 x8 x9 x10 x12 = y
  unfold val_main_v105 val_main_v104 val_main_v103
  rw [hy]
  pointwise [val_main_cst_14, val_main_v94, val_main_v93, v92_apply]
  exact Finset.sum_congr rfl fun r _ => mul_comm _ _

include hf in
theorem v107_apply (n : Fin 1024) : val_main_v107 (F := Ideal) x0 x1 x2 x3 x4 x5 x6 x7 x8 x9 x10 x12 x15 (ix2 r n) = du x15 (dh x0 x3 x4 x5 x6 x1 x2 x7 x8 x9 x10 x12) r n := by
  have e := fun r n => v76_apply x0 x1 x2 x3 x4 x5 x6 x7 x8 x9 x10 x12 r hf n
  unfold du
  simp only [← e]
  generalize hy : val_main_v76 (F := Ideal) x0 x1 x2 x3 x4 x5 x6 x7 x8 x9 x10 x12 = y
  unfold val_main_v107
  rw [hy]
  pointwise [val_main_v106, v96_apply]

include hf in
theorem v110_apply (i : Fin 1) (n : Fin 1024) : val_main_v110 (F := Ideal) x0 x1 x2 x3 x4 x5 x6 x7 x8 x9 x10 x12 x13 x15 (ix2 i n) = gnorm x13 x15 (dh x0 x3 x4 x5 x6 x1 x2 x7 x8 x9 x10 x12) n := by
  have e := fun r n => v107_apply x0 x1 x2 x3 x4 x5 x6 x7 x8 x9 x10 x12 x15 r hf n
  unfold gnorm
  simp only [← e]
  generalize hy : val_main_v107 (F := Ideal) x0 x1 x2 x3 x4 x5 x6 x7 x8 x9 x10 x12 x15 = y
  unfold val_main_v110 val_main_v109 val_main_v108
  rw [hy]
  pointwise [val_main_cst_15, v92_apply]
  exact Finset.sum_congr rfl fun r _ => mul_comm _ _

include hf in
theorem v112_apply (n : Fin 1024) : val_main_v112 (F := Ideal) x0 x1 x2 x3 x4 x5 x6 x7 x8 x9 x10 x12 x15 x16 (ix2 r n) = du x15 (dh x0 x3 x4 x5 x6 x1 x2 x7 x8 x9 x10 x12) r n * x16 (ix2 0 n) := by
  rw [← v107_apply x0 x1 x2 x3 x4 x5 x6 x7 x8 x9 x10 x12 x15 r hf n]
  generalize hy : val_main_v107 (F := Ideal) x0 x1 x2 x3 x4 x5 x6 x7 x8 x9 x10 x12 x15 = y
  unfold val_main_v112
  rw [hy]
  pointwise [val_main_v111]

include hf in
theorem v126_apply (n : Fin 1024) : val_main_v126 (F := Ideal) x0 x1 x2 x3 x4 x5 x6 x7 x8 x9 x10 x12 x13 x15 x16 (ix2 r n) = backR n1024 eps (xrow x13 r) (fun j => du x15 (dh x0 x3 x4 x5 x6 x1 x2 x7 x8 x9 x10 x12) r j * x16 (ix2 0 j)) minusHalf n := by
  have e := fun n => v112_apply x0 x1 x2 x3 x4 x5 x6 x7 x8 x9 x10 x12 x15 x16 r hf n
  simp only [← e]
  generalize hy : val_main_v112 (F := Ideal) x0 x1 x2 x3 x4 x5 x6 x7 x8 x9 x10 x12 x15 x16 = y
  unfold val_main_v126 val_main_v125 val_main_v124 val_main_v123 val_main_v122 val_main_v121 val_main_v120 val_main_v118 val_main_v117 val_main_v115 val_main_v114 val_main_v113
  rw [hy]
  pointwise [val_main_cst_18, val_main_v119, val_main_cst_17, v90_apply, val_main_cst_16, val_main_v116, v87_apply, backR, q, xrow, n1024]
  simp only [Fin.sum_univ_one]

include hf in
theorem v127_apply (hx : ∀ i, Finite (x13 i)) (hD : ∀ r n, Finite (dh x0 x3 x4 x5 x6 x1 x2 x7 x8 x9 x10 x12 r n))
    (hs : ∀ n : Fin 1024, Finite (x15 (ix2 0 ⟨1024 + n.val, by omega⟩))) (hw : ∀ i, Finite (x16 i)) (n : Fin 1024) : val_main_v127 (F := Ideal) x0 x1 x2 x3 x4 x5 x6 x7 x8 x9 x10 x12 x13 x14 x15 x16 (ix2 r n) = gx x13 x14 x15 x16 (dh x0 x3 x4 x5 x6 x1 x2 x7 x8 x9 x10 x12) r n := by
  obtain ⟨e, he, he0⟩ := eps_eq
  unfold gx
  have hb := back_eq (x := xrow x13 r) (g := fun j => du x15 (dh x0 x3 x4 x5 x6 x1 x2 x7 x8 x9 x10 x12) r j * x16 (ix2 0 j)) n1024_eq (by norm_num) he he0 _ minusHalf_eq
    (fun _ => hx _) (fun _ => (du_finite _ _ hD hs _ _).mul (hw _)) n
  rw [← hb, ← v126_apply x0 x1 x2 x3 x4 x5 x6 x7 x8 x9 x10 x12 x13 x15 x16 r hf n]
  rfl

end Cert.BwdInRefIdeal.Val

end
-- ==== Proof.BwdIn.Claim.lean ====
/- `bwd_in`: the kernel's results are the reference's wherever the arguments are finite. Hand-written, untrusted. -/
module

public import proofs.«01_k».proof.Defs
public import proofs.«01_k».proof.Proof.BwdIn.Final
public import proofs.«01_k».proof.Proof.BwdIn.Ref
public import proofs.«01_k».proof.Proof.Gen.BwdInRefIdeal.Run
public import proofs.«01_k».proof.Proof.Gen.BwdInRefIdeal.Read
public import Idealize.ShloMosaic.Lib.Claim

@[expose] public section

set_option maxRecDepth 16384

noncomputable section

open Idealize.ShloMosaic Idealize.ShloMosaic.TcCoe Idealize.SL.Sem

namespace Cert.Proof.BwdInClaim

open Cert.BwdInRefIdeal.Read Cert.BwdInRefIdeal.Val
open Cert.BwdInIdeal.Val BwdIn.Spec BwdIn.Rms

local instance : Cert.BwdInIdeal.Facts := Cert.BwdInIdeal.Gen.facts
local instance : Cert.BwdInRefIdeal.Facts := Cert.BwdInRefIdeal.Gen.facts

/-- The shape facts of the precondition. -/
theorem pre_facts : Cert.Pre_finite_bwd.Facts :=
  ⟨by decide, by decide, by decide, by decide, by decide, by decide, by decide, by decide, by decide⟩

local instance : Cert.Pre_finite_bwd.Facts := pre_facts

/-- The idealized kernel's frame. -/
theorem frame_ideal : Cert.quiescent_BwdInIdeal := fun m ρ _ => Cert.BwdInIdeal.Own.frame (F := Ideal) m ρ

/-- The reference's frame: its arguments are kept, and it declares no semaphore. -/
theorem frame_ref : Cert.quiescent_BwdInRefIdeal := fun m ρ _ =>
  (θ_run Cert.BwdInRefIdeal.defs _ _).mono (fun r h => ⟨fun c => (h c).2.2.2.2.2.2,
      Idealize.ShloMosaic.sem_eq_zero_of_no_sems (by decide) r.2⟩)
    (Cert.BwdInRefIdeal.Value.run (F := Ideal) m ρ)

theorem ofBits_inf : Ideal.ofBits .f32 0x7F800000#32 = ⊤ := by
  simp [Ideal.ofBits, Ideal.ieee]

/-- A value whose magnitude lies below infinity is finite. -/
theorem finite_of_lt (x : EReal) (h : BitVec.ofBool (decide (max x (-x) < Ideal.ofBits .f32 0x7F800000#32)) = 1#1) : Finite x := by
  rw [ofBits_inf] at h
  have h' : max x (-x) < ⊤ := by
    by_contra hn
    rw [decide_eq_false hn] at h
    exact absurd h (by decide)
  refine ⟨(lt_of_le_of_lt (le_max_left _ _) h').ne, fun e => ?_⟩
  rw [e] at h'
  exact absurd h' (by simp)

section
open Cert.BwdInIdeal
variable (m : (ℓ : Loc nD τ sig) → Buf (Elt Ideal) ℓ)

/-- Every argument the gradient of the layer's input is made of is finite. -/
structure ArgsFinite (c : Dev nD) : Prop where
  f0 : ∀ i, Finite (A0 m c i)
  f1 : ∀ i, Finite (A1 m c i)
  f2 : ∀ i, Finite (A2 m c i)
  f3 : ∀ i, Finite (A3 m c i)
  f4 : ∀ i, Finite (A4 m c i)
  f5 : ∀ i, Finite (A5 m c i)
  f6 : ∀ i, Finite (A6 m c i)
  f7 : ∀ i, Finite (A7 m c i)
  f8 : ∀ i, Finite (A8 m c i)
  f9 : ∀ i, Finite (A9 m c i)
  f10 : ∀ i, Finite (A10 m c i)
  f12 : ∀ i, Finite (A12 m c i)
  f13 : ∀ i, Finite (A13 m c i)
  f15 : ∀ n : Fin 1024, Finite (A15 m c (ix2 0 ⟨1024 + n.val, by omega⟩))
  f16 : ∀ i, Finite (A16 m c i)

/-- The middle third of the modulation. -/
def scales (c : Dev nD) : Cert.Pre_finite_bwd.S1x1024.Idx → EReal :=
  extractStridedSlice Cert.Pre_finite_bwd.S1x1024 ![0, 1024] (A15 m c) Cert.Pre_finite_bwd.Facts.slices_S1x3072_S1x1024_0_1024

theorem scales_apply (c : Dev nD) (n : Fin 1024) : scales m c (ix2 0 n) = A15 m c (ix2 0 ⟨1024 + n.val, by omega⟩) :=
  extractStridedSlice_apply _ _ _ _ _ (fun a => match a with
    | ⟨0, _⟩ => rfl
    | ⟨1, _⟩ => rfl)

/-- The precondition says so. -/
theorem args_finite (hpre : Cert.Pre_BwdInIdeal_finite_bwd m) (c : Dev nD) : ArgsFinite m c := by
  obtain ⟨p0, p1, p2, p3, p4, p5, p6, p7, p8, p9, p10, p12, p13, p15, p16⟩ := hpre c
  exact ⟨fun i => finite_of_lt _ (congrFun p0 i),
    fun i => finite_of_lt _ (congrFun p1 i),
    fun i => finite_of_lt _ (congrFun p2 i),
    fun i => finite_of_lt _ (congrFun p3 i),
    fun i => finite_of_lt _ (congrFun p4 i),
    fun i => finite_of_lt _ (congrFun p5 i),
    fun i => finite_of_lt _ (congrFun p6 i),
    fun i => finite_of_lt _ (congrFun p7 i),
    fun i => finite_of_lt _ (congrFun p8 i),
    fun i => finite_of_lt _ (congrFun p9 i),
    fun i => finite_of_lt _ (congrFun p10 i),
    fun i => finite_of_lt _ (congrFun p12 i),
    fun i => finite_of_lt _ (congrFun p13 i),
    fun n => (scales_apply m c n).subst (motive := fun x : EReal => BwdIn.Rms.Finite x)
      (finite_of_lt (scales m c (ix2 0 n)) (congrFun p15 (ix2 0 n : Cert.Pre_finite_bwd.S1x1024.Idx))), fun i => finite_of_lt _ (congrFun p16 i)⟩

variable {m} {c : Dev nD} (h : ArgsFinite m c)
include h

theorem ArgsFinite.keys : Cert.BwdInIdeal.Val.KeysFinite m c := ⟨h.f1, h.f7, h.f8, h.f9, h.f10⟩

/-- The gradient of the projections' argument is finite. -/
theorem ArgsFinite.dh (r n) : Finite (sdh m c r n) := by
  unfold sdh BwdIn.Spec.dh
  exact Finite.sum _ _ fun k => (dz_finite _ _ _ _ _ _ _ _ _ _ _ h.f0 h.f3 h.f4 h.f5 h.f6 h.f1 h.f2 h.f7 h.f8 h.f9 h.f10 r k).mul (h.f12 _)

end

set_option maxHeartbeats 4000000 in
/-- On the same arguments the results agree. -/
theorem algebraic : Cert.algebraic_BwdInIdeal_BwdInRefIdeal_pre_finite_bwd := by
  intro m g m' g' hpre hagree
  refine ⟨G18 m, G19 m, G20 m, G21 m, G22 m, G23 m,
    (θ_run Cert.BwdInIdeal.defs _ _).mono (fun r h c => ?_)
      (θ_run_and (Cert.BwdInIdeal.Own.run (F := Ideal) m g) (Cert.BwdInIdeal.Own.frame (F := Ideal) m g)),
    (θ_run Cert.BwdInRefIdeal.defs _ _).mono (fun r h c => ?_) (Cert.BwdInRefIdeal.Value.run (F := Ideal) m' g')⟩
  · have hf := (args_finite m hpre c).keys
    exact ⟨((h.1.1 c).1 18).trans (final_18 m c hf), ((h.1.1 c).1 19).trans (final_19 m c hf), ((h.1.1 c).1 20).trans (final_20 m c hf),
      ((h.1.1 c).1 21).trans (final_21 m c hf), ((h.1.1 c).1 22).trans (final_22 m c hf), ((h.1.1 c).1 23).trans (final_23 m c hf), h.2.1 c⟩
  · have ha := args_finite m hpre c
    have hf : Cert.BwdInRefIdeal.Val.KeysFinite (A1 m c) (A7 m c) (A8 m c) (A9 m c) (A10 m c) := ⟨ha.f1, ha.f7, ha.f8, ha.f9, ha.f10⟩
    obtain ⟨h0, h1, h2, h3, h4, h5, hk⟩ := h c
    obtain ⟨a0, a1, a2, a3, a4, a5, a6, a7, a8, a9, a10, a11, a12, a13, a14, a15, a16⟩ := hagree c
    refine ⟨?_, ?_, ?_, ?_, ?_, ?_, hk⟩
    · refine (h0.trans (val_main_v127_eq ..)).trans ?_
      rw [a0, a1, a2, a3, a4, a5, a6, a7, a8, a9, a10, a12, a13, a14, a15, a16]; funext j; rw [eq_ix2 j]
      exact v127_apply (A0 m c) (A1 m c) (A2 m c) (A3 m c) (A4 m c) (A5 m c) (A6 m c) (A7 m c) (A8 m c) (A9 m c) (A10 m c) (A12 m c) (A13 m c) (A14 m c) (A15 m c) (A16 m c) (j 0) hf ha.f13 ha.dh ha.f15 ha.f16 (j 1)
    · refine (h1.trans (val_main_v75_eq ..)).trans ?_
      rw [a0, a1, a2, a3, a4, a5, a6, a7, a8, a9, a10, a11]; funext j; rw [eq_ix2 j]
      exact v75_apply (A0 m c) (A1 m c) (A2 m c) (A3 m c) (A4 m c) (A5 m c) (A6 m c) (A7 m c) (A8 m c) (A9 m c) (A10 m c) (A11 m c) hf (j 0) (j 1)
    · refine (h2.trans (val_main_v102_eq ..)).trans ?_
      rw [a0, a1, a2, a3, a4, a5, a6, a7, a8, a9, a10, a12]; funext j; rw [eq_ix2 j]
      exact v102_apply (A0 m c) (A1 m c) (A2 m c) (A3 m c) (A4 m c) (A5 m c) (A6 m c) (A7 m c) (A8 m c) (A9 m c) (A10 m c) (A12 m c) hf (j 0) (j 1)
    · refine (h3.trans (val_main_v105_eq ..)).trans ?_
      rw [a0, a1, a2, a3, a4, a5, a6, a7, a8, a9, a10, a12, a13, a16]; funext j; rw [eq_ix2 j]
      exact v105_apply (A0 m c) (A1 m c) (A2 m c) (A3 m c) (A4 m c) (A5 m c) (A6 m c) (A7 m c) (A8 m c) (A9 m c) (A10 m c) (A12 m c) (A13 m c) (A16 m c) hf (j 0) (j 1)
    · refine (h4.trans (val_main_v110_eq ..)).trans ?_
      rw [a0, a1, a2, a3, a4, a5, a6, a7, a8, a9, a10, a12, a13, a15]; funext j; rw [eq_ix2 j]
      exact v110_apply (A0 m c) (A1 m c) (A2 m c) (A3 m c) (A4 m c) (A5 m c) (A6 m c) (A7 m c) (A8 m c) (A9 m c) (A10 m c) (A12 m c) (A13 m c) (A15 m c) hf (j 0) (j 1)
    · refine (h5.trans (val_main_v68_eq ..)).trans ?_
      rw [a1, a7, a9, a10]; funext j; rw [eq_ix2 j]
      exact v68_apply (A1 m c) (A7 m c) (A9 m c) (A10 m c) (j 0) (j 1)

end Cert.Proof.BwdInClaim

end
-- ==== Proof.lean ====
module

public import proofs.«01_k».proof.Defs
public import proofs.«01_k».proof.Proof.Gen.OutLoss.Frame
public import proofs.«01_k».proof.Proof.Gen.OutLossIdeal.Frame
public import proofs.«01_k».proof.Proof.Gen.AttnFwd.Frame
public import proofs.«01_k».proof.Proof.Gen.AttnFwdIdeal.Frame
public import proofs.«01_k».proof.Proof.Gen.ConvFwd.Frame
public import proofs.«01_k».proof.Proof.Gen.ConvFwdIdeal.Frame
public import proofs.«01_k».proof.Proof.OutLoss.Claim
public import proofs.«01_k».proof.Proof.AttnFwd.Claim
public import proofs.«01_k».proof.Proof.ConvFwd.Claim
public import proofs.«01_k».proof.Proof.AdamBits.Frames
public import proofs.«01_k».proof.Proof.Adam.Claim
public import proofs.«01_k».proof.Proof.BwdInBits.Frames
public import proofs.«01_k».proof.Proof.BwdIn.Claim
public import Idealize.ShloMosaic.Adequacy
public import Idealize.ShloMosaic.Init

@[expose] public section

noncomputable section

namespace Cert.Proof

open Idealize.ShloMosaic Idealize.SL.Sem

theorem claim : Cert.Claim :=
  ⟨Cert.OutLoss.Gen.facts, Cert.OutLossIdeal.Gen.facts, Cert.OutLossRefIdeal.Gen.facts,
    Cert.AttnFwd.Gen.facts, Cert.AttnFwdIdeal.Gen.facts, Cert.AttnFwdRefIdeal.Gen.facts,
    Cert.ConvFwd.Gen.facts, Cert.ConvFwdIdeal.Gen.facts, Cert.ConvFwdRefIdeal.Gen.facts,
    Cert.Adam.Gen.facts, Cert.AdamIdeal.Gen.facts, Cert.AdamRefIdeal.Gen.facts,
    Cert.BwdIn.Gen.facts, Cert.BwdInIdeal.Gen.facts, Cert.BwdInRefIdeal.Gen.facts, AttnFwdClaim.pre_facts, BwdInClaim.pre_facts,
    fun m ρ _ => Cert.OutLoss.Gen.frame m ρ, fun m ρ _ => Cert.OutLossIdeal.Gen.frame m ρ, OutLossClaim.frame_ref,
    fun m ρ _ => Cert.AttnFwd.Gen.frame m ρ, fun m ρ _ => Cert.AttnFwdIdeal.Gen.frame m ρ, fun m ρ _ => Cert.AttnFwdIdeal.Gen.frame m ρ,
    AttnFwdClaim.frame_ref, fun m ρ _ => AttnFwdClaim.frame_ref m ρ trivial,
    fun m ρ _ => Cert.ConvFwd.Gen.frame m ρ, fun m ρ _ => Cert.ConvFwdIdeal.Gen.frame m ρ, ConvFwdClaim.frame_ref,
    AdamBitsClaim.frame_kernel, AdamClaim.frame_ideal, AdamClaim.frame_ref,
    BwdInBitsClaim.frame_kernel, BwdInClaim.frame_ideal, fun m ρ _ => BwdInClaim.frame_ideal m ρ trivial,
    BwdInClaim.frame_ref, fun m ρ _ => BwdInClaim.frame_ref m ρ trivial,
    trivial, OutLossClaim.algebraic, AttnFwdClaim.preserves, AttnFwdClaim.algebraic,
    trivial, ConvFwdClaim.algebraic, trivial, AdamClaim.algebraic,
    trivial, BwdInClaim.algebraic⟩

end Cert.Proof

end
